-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 [hPre_tables_ok : Cert.Pre_tables_ok.Facts] (m : (ℓ : Loc Cert.Kernel2.nD Cert.Kernel2.τ Cert.Kernel2.sig) → Buf (Elt Bits) ℓ) : Prop :=
  ∀ c : Dev Cert.Kernel2.nD,
    (Cert.Pre_tables_ok.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_tables_ok : Cert.Pre_tables_ok.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_ok [hPre_tables_ok : Cert.Pre_tables_ok.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_y_finite [hPre_y_finite : Cert.Pre_y_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_y_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18)) (m ((c.tc : Thread Cert.Kernel4Ideal.nD Cert.Kernel4Ideal.τ).loc Cert.Kernel4Ideal.main_arg19)) (m ((c.tc : Thread Cert.Kernel4Ideal.nD Cert.Kernel4Ideal.τ).loc Cert.Kernel4Ideal.main_arg20))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_y_finite [hPre_y_finite : Cert.Pre_y_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_y_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18)) (m ((c.tc : Thread Cert.Reference4Ideal.nD Cert.Reference4Ideal.τ).loc Cert.Reference4Ideal.main_arg19)) (m ((c.tc : Thread Cert.Reference4Ideal.nD Cert.Reference4Ideal.τ).loc Cert.Reference4Ideal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] [hPre_tables_ok : Cert.Pre_tables_ok.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tables_ok : Cert.Pre_tables_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tables_ok [hReference2Ideal : Cert.Reference2Ideal.Facts] [hPre_tables_ok : Cert.Pre_tables_ok.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_ok m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19)
      ∧ r.2.mem ((c.tc : Thread Cert.Kernel4.nD Cert.Kernel4.τ).loc Cert.Kernel4.main_arg20) = m ((c.tc : Thread Cert.Kernel4.nD Cert.Kernel4.τ).loc Cert.Kernel4.main_arg20))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20))
      ∧ r.2.sem = fun _ => 0)

def quiescent_Kernel4Ideal_pre_y_finite [hKernel4Ideal : Cert.Kernel4Ideal.Facts] [hPre_y_finite : Cert.Pre_y_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_y_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20))
      ∧ r.2.sem = fun _ => 0)

def quiescent_Reference4Ideal_pre_y_finite [hReference4Ideal : Cert.Reference4Ideal.Facts] [hPre_y_finite : Cert.Pre_y_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_y_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] [hPre_tables_ok : Cert.Pre_tables_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_y_finite [hKernel4Ideal : Cert.Kernel4Ideal.Facts] [hReference4Ideal : Cert.Reference4Ideal.Facts] [hPre_y_finite : Cert.Pre_y_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_y_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)
      ∧ m' ((c.tc : Thread Cert.Reference4Ideal.nD Cert.Reference4Ideal.τ).loc Cert.Reference4Ideal.main_arg20) = m ((c.tc : Thread Cert.Kernel4Ideal.nD Cert.Kernel4Ideal.τ).loc Cert.Kernel4Ideal.main_arg20)) →
    ∃ (v0 : (c : Dev Cert.Kernel4Ideal.nD) → Buf (Elt Ideal) ((c.tc : Thread Cert.Kernel4Ideal.nD Cert.Kernel4Ideal.τ).loc Cert.Kernel4Ideal.main_v27_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
          ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v162) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19)
          ∧ r.2.mem ((c.tc : Thread Cert.Reference4Ideal.nD Cert.Reference4Ideal.τ).loc Cert.Reference4Ideal.main_arg20) = m' ((c.tc : Thread Cert.Reference4Ideal.nD Cert.Reference4Ideal.τ).loc Cert.Reference4Ideal.main_arg20))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_tables_ok : Cert.Pre_tables_ok.Facts) (hPre_y_finite : Cert.Pre_y_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tables_ok := hPre_tables_ok)
    ∧ quiescent_Kernel2Ideal (hKernel2Ideal := hKernel2Ideal) (hPre_tables_ok := hPre_tables_ok)
    ∧ quiescent_Reference2Ideal (hReference2Ideal := hReference2Ideal)
    ∧ quiescent_Reference2Ideal_pre_tables_ok (hReference2Ideal := hReference2Ideal) (hPre_tables_ok := hPre_tables_ok)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_y_finite (hKernel4Ideal := hKernel4Ideal) (hPre_y_finite := hPre_y_finite)
    ∧ quiescent_Reference4Ideal (hReference4Ideal := hReference4Ideal)
    ∧ quiescent_Reference4Ideal_pre_y_finite (hReference4Ideal := hReference4Ideal) (hPre_y_finite := hPre_y_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_tables_ok := hPre_tables_ok)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_y_finite (hKernel4Ideal := hKernel4Ideal) (hReference4Ideal := hReference4Ideal) (hPre_y_finite := hPre_y_finite)
-- ==== Pre_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn_part2 {F : FTy → Type} [FloatOps F] (main_arg9 : FVec F S8192x512 .f32) (main_v33 : IVec S_ 1) : IVec S_ 1 :=
  let main_v34 : FVec F S8192x512 .f32 := Host.absf main_arg9
  let main_cst_12 : FVec F S_ .f32 := constant S_ .f32 0x7F800000#32
  let main_v35 : FVec F S8192x512 .f32 := broadcastInDim S8192x512 ![] bcast_S_S8192x512 main_cst_12
  let main_v36 : IVec S8192x512 1 := cmpf .olt main_v34 main_v35
  let main_c_13 : IVec S_ 1 := constantI S_ 1 1#1
  let main_v37 : IVec S_ 1 := (fun x v => Host.reduce IntOp.andi x v reducesTo_S8192x512_S_d0_1 h_S_) main_v36 main_c_13
  let main_v38 : IVec S_ 1 := andi main_v33 main_v37
  main_v38

def fn_part1 {F : FTy → Type} [FloatOps F] (main_arg6 : FVec F S8192x512 .f32) (main_arg7 : FVec F S8192x512 .f32) (main_arg8 : FVec F S8192x512 .f32) (main_arg9 : FVec F S8192x512 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x512 .f32 := Host.absf main_arg6
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S8192x512 .f32 := Host.absf main_arg7
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  let main_v29 : FVec F S8192x512 .f32 := Host.absf main_arg8
  let main_cst_10 : FVec F S_ .f32 := constant S_ .f32 0x7F800000#32
  let main_v30 : FVec F S8192x512 .f32 := broadcastInDim S8192x512 ![] bcast_S_S8192x512 main_cst_10
  let main_v31 : IVec S8192x512 1 := cmpf .olt main_v29 main_v30
  let main_c_11 : IVec S_ 1 := constantI S_ 1 1#1
  let main_v32 : IVec S_ 1 := (fun x v => Host.reduce IntOp.andi x v reducesTo_S8192x512_S_d0_1 h_S_) main_v31 main_c_11
  let main_v33 : IVec S_ 1 := andi main_v28 main_v32
  fn_part2 (F := F) main_arg9 main_v33

def fn {F : FTy → Type} [FloatOps F] (main_arg0 : FVec F S8192x512 .f32) (main_arg1 : FVec F S8192x512 .f32) (main_arg2 : FVec F S8192x512 .f32) (main_arg3 : FVec F S8192x512 .f32) (main_arg4 : FVec F S8192x512 .f32) (main_arg5 : FVec F S8192x512 .f32) (main_arg6 : FVec F S8192x512 .f32) (main_arg7 : FVec F S8192x512 .f32) (main_arg8 : FVec F S8192x512 .f32) (main_arg9 : FVec F S8192x512 .f32) : IVec S_ 1 :=
  let main_v0 : FVec F S8192x512 .f32 := Host.absf main_arg1
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg2
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg4
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg5
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg6 main_arg7 main_arg8 main_arg9 main_v13 main_v16
-- ==== Pre_tables_ok.lean ====
abbrev S128 : Shape := ⟨1, ![128]⟩
abbrev S65536x1024 : Shape := ⟨2, ![65536, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩
abbrev S1 : Shape := ⟨1, ![1]⟩

class Facts : Prop where
  bcast_S_S128 : S_.BroadcastsInDim S128 (![] : Fin 0 → Fin S128.rank)
  reducesTo_S128_S_d0 : S128.ReducesTo [0] S_
  h_S_ : 0 < S_.numel
  slices_S128_S1_32 : S128.Slices ![32] S1
  shapeCasts_S1_S_ : S1.ShapeCasts S_

variable [Facts]

def fn {F : FTy → Type} [FloatOps F] (main_arg0 : IVec S128 32) (main_arg1 : IVec S128 32) (main_arg2 : FVec F S65536x1024 .f32) (main_arg3 : FVec F S32x1024x2048 .f32) (main_arg4 : FVec F S32x1x2048 .f32) (main_arg5 : FVec F S32x1024x1024 .f32) (main_arg6 : FVec F S32x1x1024 .f32) : IVec S_ 1 :=
  let main_c : IVec S_ 32 := constantI S_ 32 0#32
  let main_v0 : IVec S128 32 := broadcastInDim S128 ![] bcast_S_S128 main_c
  let main_v1 : IVec S128 1 := cmpi .sge main_arg0 main_v0
  let main_c_0 : IVec S_ 32 := constantI S_ 32 32#32
  let main_v2 : IVec S128 32 := broadcastInDim S128 ![] bcast_S_S128 main_c_0
  let main_v3 : IVec S128 1 := cmpi .slt main_arg0 main_v2
  let main_v4 : IVec S128 1 := andi main_v1 main_v3
  let main_c_1 : IVec S_ 1 := constantI S_ 1 1#1
  let main_v5 : IVec S_ 1 := (fun x v => Host.reduce IntOp.andi x v reducesTo_S128_S_d0 h_S_) main_v4 main_c_1
  let main_v6 : IVec S1 32 := (extractStridedSlice S1 ![32] · slices_S128_S1_32) main_arg1
  let main_v7 : IVec S_ 32 := shapeCast S_ main_v6 shapeCasts_S1_S_
  let main_c_2 : IVec S_ 32 := constantI S_ 32 1#32
  let main_v8 : IVec S_ 1 := cmpi .sge main_v7 main_c_2
  let main_v9 : IVec S_ 1 := andi main_v5 main_v8
  let main_v10 : IVec S1 32 := (extractStridedSlice S1 ![32] · slices_S128_S1_32) main_arg1
  let main_v11 : IVec S_ 32 := shapeCast S_ main_v10 shapeCasts_S1_S_
  let main_c_3 : IVec S_ 32 := constantI S_ 32 128#32
  let main_v12 : IVec S_ 1 := cmpi .sle main_v11 main_c_3
  let main_v13 : IVec S_ 1 := andi main_v9 main_v12
  main_v13
-- ==== Pre_y_finite.lean ====
abbrev S32x256x1024 : Shape := ⟨3, ![32, 256, 1024]⟩
abbrev S4x1024x1024 : Shape := ⟨3, ![4, 1024, 1024]⟩
abbrev S8x6144 : Shape := ⟨2, ![8, 6144]⟩
abbrev S8192x512 : Shape := ⟨2, ![8192, 512]⟩
abbrev S4096x512 : Shape := ⟨2, ![4096, 512]⟩
abbrev S8192x128 : Shape := ⟨2, ![8192, 128]⟩
abbrev S4096x128 : Shape := ⟨2, ![4096, 128]⟩
abbrev S1024 : Shape := ⟨1, ![1024]⟩
abbrev S1024x4480 : Shape := ⟨2, ![1024, 4480]⟩
abbrev S2048 : Shape := ⟨1, ![2048]⟩
abbrev S512x1024 : Shape := ⟨2, ![512, 1024]⟩
abbrev S512 : Shape := ⟨1, ![512]⟩
abbrev S128x512 : Shape := ⟨2, ![128, 512]⟩
abbrev S1024x1024 : Shape := ⟨2, ![1024, 1024]⟩
abbrev S1024x32 : Shape := ⟨2, ![1024, 32]⟩
abbrev S32 : Shape := ⟨1, ![32]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S32x256x1024 .f32) (main_arg1 : FVec F S4x1024x1024 .f32) (main_arg2 : FVec F S8x6144 .f32) (main_arg3 : FVec F S8192x512 .bf16) (main_arg4 : FVec F S4096x512 .bf16) (main_arg5 : FVec F S8192x128 .bf16) (main_arg6 : FVec F S4096x128 .bf16) (main_arg7 : FVec F S8192x512 .f32) (main_arg8 : FVec F S4096x512 .f32) (main_arg9 : FVec F S1024 .f32) (main_arg10 : FVec F S1024x4480 .f32) (main_arg11 : FVec F S2048 .f32) (main_arg12 : FVec F S512x1024 .f32) (main_arg13 : FVec F S512 .f32) (main_arg14 : FVec F S512 .f32) (main_arg15 : FVec F S128x512 .f32) (main_arg16 : FVec F S512x1024 .f32) (main_arg17 : FVec F S1024x1024 .f32) (main_arg18 : FVec F S1024 .f32) (main_arg19 : FVec F S1024x32 .f32) (main_arg20 : FVec F S32 .f32) : IVec S_ 1 :=
  let main_v0 : FVec F S8192x512 .f32 := Host.absf main_arg7
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S4096x512 .f32 := Host.absf main_arg8
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S8192x512 : Shape := ⟨2, ![8192, 512]⟩
abbrev S32x4x128x128 : Shape := ⟨4, ![32, 4, 128, 128]⟩
abbrev S512x512 : Shape := ⟨2, ![512, 512]⟩
abbrev S2x4x128x128 : Shape := ⟨4, ![2, 4, 128, 128]⟩
abbrev S128x128 : Shape := ⟨2, ![128, 128]⟩
abbrev S64x64 : Shape := ⟨2, ![64, 64]⟩
abbrev S64x128 : Shape := ⟨2, ![64, 128]⟩
abbrev S256x128 : Shape := ⟨2, ![256, 128]⟩
abbrev S1x1x128x128 : Shape := ⟨4, ![1, 1, 128, 128]⟩
abbrev S256x256 : Shape := ⟨2, ![256, 256]⟩
abbrev S128x256 : Shape := ⟨2, ![128, 256]⟩
abbrev S1x128 : Shape := ⟨2, ![1, 128]⟩
abbrev S32x4x64x64 : Shape := ⟨4, ![32, 4, 64, 64]⟩
abbrev S32x4x1x64x64 : Shape := ⟨5, ![32, 4, 1, 64, 64]⟩
abbrev S32x4x2x64x64 : Shape := ⟨5, ![32, 4, 2, 64, 64]⟩
abbrev S32x1x8x64x64 : Shape := ⟨5, ![32, 1, 8, 64, 64]⟩

abbrev nBuf : Space → Nat
  | .hbm => 25
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S32x4x128x128, .f32⟩
  | .hbm, ⟨12, _⟩ => ⟨S32x4x128x128, .f32⟩
  | .hbm, ⟨13, _⟩ => ⟨S32x4x64x64, .f32⟩
  | .hbm, ⟨14, _⟩ => ⟨S32x4x64x64, .f32⟩
  | .hbm, ⟨15, _⟩ => ⟨S32x4x1x64x64, .f32⟩
  | .hbm, ⟨16, _⟩ => ⟨S32x4x1x64x64, .f32⟩
  | .hbm, ⟨17, _⟩ => ⟨S32x4x2x64x64, .f32⟩
  | .hbm, ⟨18, _⟩ => ⟨S32x1x8x64x64, .f32⟩
  | .hbm, ⟨19, _⟩ => ⟨S32x4x64x64, .f32⟩
  | .hbm, ⟨20, _⟩ => ⟨S32x4x64x64, .f32⟩
  | .hbm, ⟨21, _⟩ => ⟨S32x4x1x64x64, .f32⟩
  | .hbm, ⟨22, _⟩ => ⟨S32x4x1x64x64, .f32⟩
  | .hbm, ⟨23, _⟩ => ⟨S32x4x2x64x64, .f32⟩
  | .hbm, ⟨24, _⟩ => ⟨S32x1x8x64x64, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S2x4x128x128, .f32⟩
  | .local _ .vmem, ⟨23, _⟩ => ⟨S2x4x128x128, .f32⟩
  | .local _ .vmem, ⟨24, _⟩ => ⟨S2x4x128x128, .f32⟩
  | .local _ .vmem, ⟨25, _⟩ => ⟨S2x4x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_89 : BitVec 32 := 0#32
  let c4_i32 : BitVec 32 := 4#32
  let v293 : BitVec 32 := Scalar.addi c0_i32_89 c4_i32
  let c1_i32_90 : BitVec 32 := 1#32
  ⟨c0_i32_89, v293, c1_i32_90⟩
def k0_mult1 (k0_t1 : Fin k0_t1_loop.trips) : BitVec 32 :=
  let c0_i32_93 : BitVec 32 := 0#32
  let c0_i32_89 : BitVec 32 := 0#32
  let c1_i32_90 : BitVec 32 := 1#32
  let arg14 : BitVec 32 := Scf.iv c0_i32_89 c1_i32_90 k0_t1
  let c64_i32_92 : BitVec 32 := 64#32
  let v294 : BitVec 32 := Scalar.muli arg14 c64_i32_92
  let v295 : BitVec 32 := Scalar.addi c0_i32_93 v294
  v295
def k0_mult2 (k0_t1 : Fin k0_t1_loop.trips) : BitVec 32 :=
  let c0_i32_95 : BitVec 32 := 0#32
  let c3_i32 : BitVec 32 := 3#32
  let c0_i32_89 : BitVec 32 := 0#32
  let c1_i32_90 : BitVec 32 := 1#32
  let arg14 : BitVec 32 := Scf.iv c0_i32_89 c1_i32_90 k0_t1
  let v297 : BitVec 32 := Scalar.subi c3_i32 arg14
  let c64_i32_94 : BitVec 32 := 64#32
  let v298 : BitVec 32 := Scalar.muli v297 c64_i32_94
  let v299 : BitVec 32 := Scalar.addi c0_i32_95 v298
  v299
def k0_mult3 (k0_t1 : Fin k0_t1_loop.trips) : BitVec 32 :=
  let c256_i32 : BitVec 32 := 256#32
  let c0_i32_89 : BitVec 32 := 0#32
  let c1_i32_90 : BitVec 32 := 1#32
  let arg14 : BitVec 32 := Scf.iv c0_i32_89 c1_i32_90 k0_t1
  let c64_i32_96 : BitVec 32 := 64#32
  let v301 : BitVec 32 := Scalar.muli arg14 c64_i32_96
  let v302 : BitVec 32 := Scalar.addi c256_i32 v301
  v302
def k0_mult4 (k0_t1 : Fin k0_t1_loop.trips) : BitVec 32 :=
  let c256_i32_99 : BitVec 32 := 256#32
  let c3_i32_97 : BitVec 32 := 3#32
  let c0_i32_89 : BitVec 32 := 0#32
  let c1_i32_90 : BitVec 32 := 1#32
  let arg14 : BitVec 32 := Scf.iv c0_i32_89 c1_i32_90 k0_t1
  let v304 : BitVec 32 := Scalar.subi c3_i32_97 arg14
  let c64_i32_98 : BitVec 32 := 64#32
  let v305 : BitVec 32 := Scalar.muli v304 c64_i32_98
  let v306 : BitVec 32 := Scalar.addi c256_i32_99 v305
  v306
def k0_off1 (k0_t1 : Fin k0_t1_loop.trips) (c0_i32_93 : BitVec 32) : Fin 2 → Nat :=
  let c0_i32_89 : BitVec 32 := 0#32
  let c1_i32_90 : BitVec 32 := 1#32
  let arg14 : BitVec 32 := Scf.iv c0_i32_89 c1_i32_90 k0_t1
  let c64_i32_92 : BitVec 32 := 64#32
  let v294 : BitVec 32 := Scalar.muli arg14 c64_i32_92
  let v295 : BitVec 32 := Scalar.addi c0_i32_93 v294
  let v296 : BitVec 32 := v295
  let v388 : Index := Scalar.indexCast v296
  let c0_100 : Index := 0#32
  ![v388.toNat, 0]
def k0_off2 (k0_t1 : Fin k0_t1_loop.trips) (c0_i32_95 : BitVec 32) : Fin 2 → Nat :=
  let c3_i32 : BitVec 32 := 3#32
  let c0_i32_89 : BitVec 32 := 0#32
  let c1_i32_90 : BitVec 32 := 1#32
  let arg14 : BitVec 32 := Scf.iv c0_i32_89 c1_i32_90 k0_t1
  let v297 : BitVec 32 := Scalar.subi c3_i32 arg14
  let c64_i32_94 : BitVec 32 := 64#32
  let v298 : BitVec 32 := Scalar.muli v297 c64_i32_94
  let v299 : BitVec 32 := Scalar.addi c0_i32_95 v298
  let v300 : BitVec 32 := v299
  let v390 : Index := Scalar.indexCast v300
  let c0_101 : Index := 0#32
  ![v390.toNat, 0]
def k0_off3 (k0_t1 : Fin k0_t1_loop.trips) (c0_i32_93 : BitVec 32) : Fin 2 → Nat :=
  let c0_i32_89 : BitVec 32 := 0#32
  let c1_i32_90 : BitVec 32 := 1#32
  let arg14 : BitVec 32 := Scf.iv c0_i32_89 c1_i32_90 k0_t1
  let c64_i32_92 : BitVec 32 := 64#32
  let v294 : BitVec 32 := Scalar.muli arg14 c64_i32_92
  let v295 : BitVec 32 := Scalar.addi c0_i32_93 v294
  let v296 : BitVec 32 := v295
  let v392 : Index := Scalar.indexCast v296
  let c128 : Index := 128#32
  ![v392.toNat, 128]
def k0_off4 (k0_t1 : Fin k0_t1_loop.trips) (c0_i32_95 : BitVec 32) : Fin 2 → Nat :=
  let c3_i32 : BitVec 32 := 3#32
  let c0_i32_89 : BitVec 32 := 0#32
  let c1_i32_90 : BitVec 32 := 1#32
  let arg14 : BitVec 32 := Scf.iv c0_i32_89 c1_i32_90 k0_t1
  let v297 : BitVec 32 := Scalar.subi c3_i32 arg14
  let c64_i32_94 : BitVec 32 := 64#32
  let v298 : BitVec 32 := Scalar.muli v297 c64_i32_94
  let v299 : BitVec 32 := Scalar.addi c0_i32_95 v298
  let v300 : BitVec 32 := v299
  let v394 : Index := Scalar.indexCast v300
  let c128_102 : Index := 128#32
  ![v394.toNat, 128]
def k0_off5 (k0_t1 : Fin k0_t1_loop.trips) (c0_i32_93 : BitVec 32) : Fin 2 → Nat :=
  let c0_i32_89 : BitVec 32 := 0#32
  let c1_i32_90 : BitVec 32 := 1#32
  let arg14 : BitVec 32 := Scf.iv c0_i32_89 c1_i32_90 k0_t1
  let c64_i32_92 : BitVec 32 := 64#32
  let v294 : BitVec 32 := Scalar.muli arg14 c64_i32_92
  let v295 : BitVec 32 := Scalar.addi c0_i32_93 v294
  let v296 : BitVec 32 := v295
  let v396 : Index := Scalar.indexCast v296
  let c256 : Index := 256#32
  ![v396.toNat, 256]
def k0_off6 (k0_t1 : Fin k0_t1_loop.trips) (c0_i32_95 : BitVec 32) : Fin 2 → Nat :=
  let c3_i32 : BitVec 32 := 3#32
  let c0_i32_89 : BitVec 32 := 0#32
  let c1_i32_90 : BitVec 32 := 1#32
  let arg14 : BitVec 32 := Scf.iv c0_i32_89 c1_i32_90 k0_t1
  let v297 : BitVec 32 := Scalar.subi c3_i32 arg14
  let c64_i32_94 : BitVec 32 := 64#32
  let v298 : BitVec 32 := Scalar.muli v297 c64_i32_94
  let v299 : BitVec 32 := Scalar.addi c0_i32_95 v298
  let v300 : BitVec 32 := v299
  let v398 : Index := Scalar.indexCast v300
  let c256_103 : Index := 256#32
  ![v398.toNat, 256]
def k0_off7 (k0_t1 : Fin k0_t1_loop.trips) (c0_i32_93 : BitVec 32) : Fin 2 → Nat :=
  let c0_i32_89 : BitVec 32 := 0#32
  let c1_i32_90 : BitVec 32 := 1#32
  let arg14 : BitVec 32 := Scf.iv c0_i32_89 c1_i32_90 k0_t1
  let c64_i32_92 : BitVec 32 := 64#32
  let v294 : BitVec 32 := Scalar.muli arg14 c64_i32_92
  let v295 : BitVec 32 := Scalar.addi c0_i32_93 v294
  let v296 : BitVec 32 := v295
  let v400 : Index := Scalar.indexCast v296
  let c384 : Index := 384#32
  ![v400.toNat, 384]
def k0_off8 (k0_t1 : Fin k0_t1_loop.trips) (c0_i32_95 : BitVec 32) : Fin 2 → Nat :=
  let c3_i32 : BitVec 32 := 3#32
  let c0_i32_89 : BitVec 32 := 0#32
  let c1_i32_90 : BitVec 32 := 1#32
  let arg14 : BitVec 32 := Scf.iv c0_i32_89 c1_i32_90 k0_t1
  let v297 : BitVec 32 := Scalar.subi c3_i32 arg14
  let c64_i32_94 : BitVec 32 := 64#32
  let v298 : BitVec 32 := Scalar.muli v297 c64_i32_94
  let v299 : BitVec 32 := Scalar.addi c0_i32_95 v298
  let v300 : BitVec 32 := v299
  let v402 : Index := Scalar.indexCast v300
  let c384_104 : Index := 384#32
  ![v402.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8192x512 : Shape := ⟨2, ![8192, 512]⟩
abbrev S_ : Shape := ⟨0, ![]⟩
abbrev S32x8x64x64 : Shape := ⟨4, ![32, 8, 64, 64]⟩
abbrev S32x256x8x64 : Shape := ⟨4, ![32, 256, 8, 64]⟩
abbrev S256x32x8x64 : Shape := ⟨4, ![256, 32, 8, 64]⟩
abbrev S1x32x8x64 : Shape := ⟨4, ![1, 32, 8, 64]⟩
abbrev S32x8x64 : Shape := ⟨3, ![32, 8, 64]⟩
abbrev S32x8x1x64 : Shape := ⟨4, ![32, 8, 1, 64]⟩
abbrev S32x8x64x1 : Shape := ⟨4, ![32, 8, 64, 1]⟩
abbrev S32x1x8x64x64 : Shape := ⟨5, ![32, 1, 8, 64, 64]⟩

abbrev nBuf : Space → Nat
  | .hbm => 143
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S_, .f32⟩
  | 11 => ⟨S32x8x64x64, .f32⟩
  | 12 => ⟨S32x256x8x64, .f32⟩
  | 13 => ⟨S256x32x8x64, .f32⟩
  | 14 => ⟨S256x32x8x64, .f32⟩
  | 15 => ⟨S32x256x8x64, .f32⟩
  | 16 => ⟨S256x32x8x64, .f32⟩
  | 17 => ⟨S32x256x8x64, .f32⟩
  | 18 => ⟨S256x32x8x64, .f32⟩
  | 19 => ⟨S32x256x8x64, .f32⟩
  | 20 => ⟨S256x32x8x64, .f32⟩
  | 21 => ⟨S32x256x8x64, .f32⟩
  | 22 => ⟨S256x32x8x64, .f32⟩
  | 23 => ⟨S32x256x8x64, .f32⟩
  | 24 => ⟨S256x32x8x64, .f32⟩
  | 25 => ⟨S256x32x8x64, .f32⟩
  | 26 => ⟨S32x256x8x64, .f32⟩
  | 27 => ⟨S256x32x8x64, .f32⟩
  | 28 => ⟨S32x256x8x64, .f32⟩
  | 29 => ⟨S256x32x8x64, .f32⟩
  | 30 => ⟨S32x256x8x64, .f32⟩
  | 31 => ⟨S256x32x8x64, .f32⟩
  | 32 => ⟨S32x256x8x64, .f32⟩
  | 33 => ⟨S256x32x8x64, .f32⟩
  | 34 => ⟨S256x32x8x64, .f32⟩
  | 35 => ⟨S256x32x8x64, .f32⟩
  | 36 => ⟨S256x32x8x64, .f32⟩
  | 37 => ⟨S256x32x8x64, .f32⟩
  | 38 => ⟨S256x32x8x64, .f32⟩
  | 39 => ⟨S_, .i32⟩
  | 40 => ⟨S256x32x8x64, .f32⟩
  | 41 => ⟨S256x32x8x64, .f32⟩
  | 42 => ⟨S256x32x8x64, .f32⟩
  | 43 => ⟨S256x32x8x64, .f32⟩
  | 44 => ⟨S256x32x8x64, .f32⟩
  | 45 => ⟨S256x32x8x64, .f32⟩
  | 46 => ⟨S256x32x8x64, .f32⟩
  | 47 => ⟨S256x32x8x64, .f32⟩
  | 48 => ⟨S256x32x8x64, .f32⟩
  | 49 => ⟨S256x32x8x64, .f32⟩
  | 50 => ⟨S_, .i32⟩
  | 51 => ⟨S32x8x64x64, .f32⟩
  | 52 => ⟨S32x8x64x64, .f32⟩
  | 53 => ⟨S_, .i32⟩
  | 54 => ⟨S_, .i1⟩
  | 55 => ⟨S_, .i32⟩
  | 56 => ⟨S_, .i32⟩
  | 57 => ⟨S_, .i32⟩
  | 58 => ⟨S1x32x8x64, .f32⟩
  | 59 => ⟨S32x8x64, .f32⟩
  | 60 => ⟨S_, .i32⟩
  | 61 => ⟨S_, .i32⟩
  | 62 => ⟨S_, .i32⟩
  | 63 => ⟨S1x32x8x64, .f32⟩
  | 64 => ⟨S32x8x64, .f32⟩
  | 65 => ⟨S_, .i32⟩
  | 66 => ⟨S_, .i32⟩
  | 67 => ⟨S_, .i32⟩
  | 68 => ⟨S1x32x8x64, .f32⟩
  | 69 => ⟨S32x8x64, .f32⟩
  | 70 => ⟨S_, .i32⟩
  | 71 => ⟨S_, .i32⟩
  | 72 => ⟨S_, .i32⟩
  | 73 => ⟨S1x32x8x64, .f32⟩
  | 74 => ⟨S32x8x64, .f32⟩
  | 75 => ⟨S_, .i32⟩
  | 76 => ⟨S_, .i32⟩
  | 77 => ⟨S_, .i32⟩
  | 78 => ⟨S1x32x8x64, .f32⟩
  | 79 => ⟨S32x8x64, .f32⟩
  | 80 => ⟨S_, .i32⟩
  | 81 => ⟨S_, .i32⟩
  | 82 => ⟨S_, .i32⟩
  | 83 => ⟨S1x32x8x64, .f32⟩
  | 84 => ⟨S32x8x64, .f32⟩
  | 85 => ⟨S_, .i32⟩
  | 86 => ⟨S_, .i32⟩
  | 87 => ⟨S_, .i32⟩
  | 88 => ⟨S1x32x8x64, .f32⟩
  | 89 => ⟨S32x8x64, .f32⟩
  | 90 => ⟨S_, .i32⟩
  | 91 => ⟨S_, .i32⟩
  | 92 => ⟨S_, .i32⟩
  | 93 => ⟨S1x32x8x64, .f32⟩
  | 94 => ⟨S32x8x64, .f32⟩
  | 95 => ⟨S_, .i32⟩
  | 96 => ⟨S_, .i32⟩
  | 97 => ⟨S_, .i32⟩
  | 98 => ⟨S1x32x8x64, .f32⟩
  | 99 => ⟨S32x8x64, .f32⟩
  | 100 => ⟨S_, .i32⟩
  | 101 => ⟨S_, .i32⟩
  | 102 => ⟨S_, .i32⟩
  | 103 => ⟨S1x32x8x64, .f32⟩
  | 104 => ⟨S32x8x64, .f32⟩
  | 105 => ⟨S32x8x64, .f32⟩
  | 106 => ⟨S32x8x64, .f32⟩
  | 107 => ⟨S32x8x1x64, .f32⟩
  | 108 => ⟨S32x8x64x64, .f32⟩
  | 109 => ⟨S32x8x64x64, .f32⟩
  | 110 => ⟨S32x8x64x1, .f32⟩
  | 111 => ⟨S32x8x1x64, .f32⟩
  | 112 => ⟨S32x8x64x64, .f32⟩
  | 113 => ⟨S32x8x64x64, .f32⟩
  | 114 => ⟨S32x8x64x64, .f32⟩
  | 115 => ⟨S32x8x64x64, .f32⟩
  | 116 => ⟨S32x8x64x1, .f32⟩
  | 117 => ⟨S32x8x1x64, .f32⟩
  | 118 => ⟨S32x8x64x64, .f32⟩
  | 119 => ⟨S32x8x64x64, .f32⟩
  | 120 => ⟨S32x8x64x64, .f32⟩
  | 121 => ⟨S32x8x64x64, .f32⟩
  | 122 => ⟨S32x8x64, .f32⟩
  | 123 => ⟨S32x8x64, .f32⟩
  | 124 => ⟨S32x8x1x64, .f32⟩
  | 125 => ⟨S32x8x64x64, .f32⟩
  | 126 => ⟨S32x8x64x64, .f32⟩
  | 127 => ⟨S32x8x64x1, .f32⟩
  | _ => ⟨S8192x512, .f32⟩

abbrev hbmTy0_1 (i : Nat) : BufTy := match i % 128 with
  | 0 => ⟨S32x8x1x64, .f32⟩
  | 1 => ⟨S32x8x64x64, .f32⟩
  | 2 => ⟨S32x8x64x64, .f32⟩
  | 3 => ⟨S32x8x64x64, .f32⟩
  | 4 => ⟨S32x8x64x64, .f32⟩
  | 5 => ⟨S32x8x64x1, .f32⟩
  | 6 => ⟨S32x8x1x64, .f32⟩
  | 7 => ⟨S32x8x64x64, .f32⟩
  | 8 => ⟨S32x8x64x64, .f32⟩
  | 9 => ⟨S32x8x64x64, .f32⟩
  | 10 => ⟨S32x8x64x64, .f32⟩
  | 11 => ⟨S_, .i32⟩
  | 12 => ⟨S_, .i32⟩
  | 13 => ⟨S32x1x8x64x64, .f32⟩
  | 14 => ⟨S32x1x8x64x64, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_v28_4 : Ref sig .tc := ⟨.hbm, 44, rfl⟩
abbrev main_v28_5 : Ref sig .tc := ⟨.hbm, 45, rfl⟩
abbrev main_v28_6 : Ref sig .tc := ⟨.hbm, 46, rfl⟩
abbrev main_v28_7 : Ref sig .tc := ⟨.hbm, 47, rfl⟩
abbrev main_v28_8 : Ref sig .tc := ⟨.hbm, 48, rfl⟩
abbrev main_v28_9 : Ref sig .tc := ⟨.hbm, 49, rfl⟩
abbrev main_v28_10 : Ref sig .tc := ⟨.hbm, 50, rfl⟩
abbrev main_v28_11 : Ref sig .tc := ⟨.hbm, 51, rfl⟩
abbrev main_v28_12 : Ref sig .tc := ⟨.hbm, 52, rfl⟩
abbrev main_while0c_c_12 : Ref sig .tc := ⟨.hbm, 53, rfl⟩
abbrev main_while0c_v31 : Ref sig .tc := ⟨.hbm, 54, rfl⟩
abbrev main_while0b_call5_c : Ref sig .tc := ⟨.hbm, 55, rfl⟩
abbrev main_while0b_call5_c_0 : Ref sig .tc := ⟨.hbm, 56, rfl⟩
abbrev main_while0b_call5_c_1 : Ref sig .tc := ⟨.hbm, 57, rfl⟩
abbrev main_while0b_call5_v0 : Ref sig .tc := ⟨.hbm, 58, rfl⟩
abbrev main_while0b_v31 : Ref sig .tc := ⟨.hbm, 59, rfl⟩
abbrev main_while0b_call6_c : Ref sig .tc := ⟨.hbm, 60, rfl⟩
abbrev main_while0b_call6_c_0 : Ref sig .tc := ⟨.hbm, 61, rfl⟩
abbrev main_while0b_call6_c_1 : Ref sig .tc := ⟨.hbm, 62, rfl⟩
abbrev main_while0b_call6_v0 : Ref sig .tc := ⟨.hbm, 63, rfl⟩
abbrev main_while0b_v32 : Ref sig .tc := ⟨.hbm, 64, rfl⟩
abbrev main_while0b_call7_c : Ref sig .tc := ⟨.hbm, 65, rfl⟩
abbrev main_while0b_call7_c_0 : Ref sig .tc := ⟨.hbm, 66, rfl⟩
abbrev main_while0b_call7_c_1 : Ref sig .tc := ⟨.hbm, 67, rfl⟩
abbrev main_while0b_call7_v0 : Ref sig .tc := ⟨.hbm, 68, rfl⟩
abbrev main_while0b_v33 : Ref sig .tc := ⟨.hbm, 69, rfl⟩
abbrev main_while0b_call8_c : Ref sig .tc := ⟨.hbm, 70, rfl⟩
abbrev main_while0b_call8_c_0 : Ref sig .tc := ⟨.hbm, 71, rfl⟩
abbrev main_while0b_call8_c_1 : Ref sig .tc := ⟨.hbm, 72, rfl⟩
abbrev main_while0b_call8_v0 : Ref sig .tc := ⟨.hbm, 73, rfl⟩
abbrev main_while0b_v34 : Ref sig .tc := ⟨.hbm, 74, rfl⟩
abbrev main_while0b_call9_c : Ref sig .tc := ⟨.hbm, 75, rfl⟩
abbrev main_while0b_call9_c_0 : Ref sig .tc := ⟨.hbm, 76, rfl⟩
abbrev main_while0b_call9_c_1 : Ref sig .tc := ⟨.hbm, 77, rfl⟩
abbrev main_while0b_call9_v0 : Ref sig .tc := ⟨.hbm, 78, rfl⟩
abbrev main_while0b_v35 : Ref sig .tc := ⟨.hbm, 79, rfl⟩
abbrev main_while0b_call10_c : Ref sig .tc := ⟨.hbm, 80, rfl⟩
abbrev main_while0b_call10_c_0 : Ref sig .tc := ⟨.hbm, 81, rfl⟩
abbrev main_while0b_call10_c_1 : Ref sig .tc := ⟨.hbm, 82, rfl⟩
abbrev main_while0b_call10_v0 : Ref sig .tc := ⟨.hbm, 83, rfl⟩
abbrev main_while0b_v36 : Ref sig .tc := ⟨.hbm, 84, rfl⟩
abbrev main_while0b_call11_c : Ref sig .tc := ⟨.hbm, 85, rfl⟩
abbrev main_while0b_call11_c_0 : Ref sig .tc := ⟨.hbm, 86, rfl⟩
abbrev main_while0b_call11_c_1 : Ref sig .tc := ⟨.hbm, 87, rfl⟩
abbrev main_while0b_call11_v0 : Ref sig .tc := ⟨.hbm, 88, rfl⟩
abbrev main_while0b_v37 : Ref sig .tc := ⟨.hbm, 89, rfl⟩
abbrev main_while0b_call12_c : Ref sig .tc := ⟨.hbm, 90, rfl⟩
abbrev main_while0b_call12_c_0 : Ref sig .tc := ⟨.hbm, 91, rfl⟩
abbrev main_while0b_call12_c_1 : Ref sig .tc := ⟨.hbm, 92, rfl⟩
abbrev main_while0b_call12_v0 : Ref sig .tc := ⟨.hbm, 93, rfl⟩
abbrev main_while0b_v38 : Ref sig .tc := ⟨.hbm, 94, rfl⟩
abbrev main_while0b_call13_c : Ref sig .tc := ⟨.hbm, 95, rfl⟩
abbrev main_while0b_call13_c_0 : Ref sig .tc := ⟨.hbm, 96, rfl⟩
abbrev main_while0b_call13_c_1 : Ref sig .tc := ⟨.hbm, 97, rfl⟩
abbrev main_while0b_call13_v0 : Ref sig .tc := ⟨.hbm, 98, rfl⟩
abbrev main_while0b_v39 : Ref sig .tc := ⟨.hbm, 99, rfl⟩
abbrev main_while0b_call14_c : Ref sig .tc := ⟨.hbm, 100, rfl⟩
abbrev main_while0b_call14_c_0 : Ref sig .tc := ⟨.hbm, 101, rfl⟩
abbrev main_while0b_call14_c_1 : Ref sig .tc := ⟨.hbm, 102, rfl⟩
abbrev main_while0b_call14_v0 : Ref sig .tc := ⟨.hbm, 103, rfl⟩
abbrev main_while0b_v40 : Ref sig .tc := ⟨.hbm, 104, rfl⟩
abbrev main_while0b_v41 : Ref sig .tc := ⟨.hbm, 105, rfl⟩
abbrev main_while0b_v42 : Ref sig .tc := ⟨.hbm, 106, rfl⟩
abbrev main_while0b_v43 : Ref sig .tc := ⟨.hbm, 107, rfl⟩
abbrev main_while0b_v44 : Ref sig .tc := ⟨.hbm, 108, rfl⟩
abbrev main_while0b_v45 : Ref sig .tc := ⟨.hbm, 109, rfl⟩
abbrev main_while0b_v46 : Ref sig .tc := ⟨.hbm, 110, rfl⟩
abbrev main_while0b_v47 : Ref sig .tc := ⟨.hbm, 111, rfl⟩
abbrev main_while0b_v48 : Ref sig .tc := ⟨.hbm, 112, rfl⟩
abbrev main_while0b_v49 : Ref sig .tc := ⟨.hbm, 113, rfl⟩
abbrev main_while0b_v50 : Ref sig .tc := ⟨.hbm, 114, rfl⟩
abbrev main_while0b_v51 : Ref sig .tc := ⟨.hbm, 115, rfl⟩
abbrev main_while0b_v52 : Ref sig .tc := ⟨.hbm, 116, rfl⟩
abbrev main_while0b_v53 : Ref sig .tc := ⟨.hbm, 117, rfl⟩
abbrev main_while0b_v54 : Ref sig .tc := ⟨.hbm, 118, rfl⟩
abbrev main_while0b_v55 : Ref sig .tc := ⟨.hbm, 119, rfl⟩
abbrev main_while0b_v56 : Ref sig .tc := ⟨.hbm, 120, rfl⟩
abbrev main_while0b_v57 : Ref sig .tc := ⟨.hbm, 121, rfl⟩
abbrev main_while0b_v58 : Ref sig .tc := ⟨.hbm, 122, rfl⟩
abbrev main_while0b_v59 : Ref sig .tc := ⟨.hbm, 123, rfl⟩
abbrev main_while0b_v60 : Ref sig .tc := ⟨.hbm, 124, rfl⟩
abbrev main_while0b_v61 : Ref sig .tc := ⟨.hbm, 125, rfl⟩
abbrev main_while0b_v62 : Ref sig .tc := ⟨.hbm, 126, rfl⟩
abbrev main_while0b_v63 : Ref sig .tc := ⟨.hbm, 127, rfl⟩
abbrev main_while0b_v64 : Ref sig .tc := ⟨.hbm, 128, rfl⟩
abbrev main_while0b_v65 : Ref sig .tc := ⟨.hbm, 129, rfl⟩
abbrev main_while0b_v66 : Ref sig .tc := ⟨.hbm, 130, rfl⟩
abbrev main_while0b_v67 : Ref sig .tc := ⟨.hbm, 131, rfl⟩
abbrev main_while0b_v68 : Ref sig .tc := ⟨.hbm, 132, rfl⟩
abbrev main_while0b_v69 : Ref sig .tc := ⟨.hbm, 133, rfl⟩
abbrev main_while0b_v70 : Ref sig .tc := ⟨.hbm, 134, rfl⟩
abbrev main_while0b_v71 : Ref sig .tc := ⟨.hbm, 135, rfl⟩
abbrev main_while0b_v72 : Ref sig .tc := ⟨.hbm, 136, rfl⟩
abbrev main_while0b_v73 : Ref sig .tc := ⟨.hbm, 137, rfl⟩
abbrev main_while0b_v74 : Ref sig .tc := ⟨.hbm, 138, rfl⟩
abbrev main_while0b_c_12 : Ref sig .tc := ⟨.hbm, 139, rfl⟩
abbrev main_while0b_v75 : Ref sig .tc := ⟨.hbm, 140, rfl⟩
abbrev main_v29 : Ref sig .tc := ⟨.hbm, 141, rfl⟩
abbrev main_v30 : Ref sig .tc := ⟨.hbm, 142, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S128 : Shape := ⟨1, ![128]⟩
abbrev S65536x1024 : Shape := ⟨2, ![65536, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S512x1024 : Shape := ⟨2, ![512, 1024]⟩
abbrev S1 : Shape := ⟨1, ![1]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S65536x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S128, .i32⟩
  | .local _ .smem, ⟨1, _⟩ => ⟨S128, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S128_S1_32 : ∀ a, (![32] : Fin 1 → Nat) a + S1.size a ≤ S128.size a) (numel1_S1 : S1.numel = 1) (pf : pre0.Contents (Elt F)) (i : grid0.Coords) : Fin 2 → Nat :=
  let arg0 : BitVec 32 := BitVec.ofNat 32 (i 0).val
  let c32 : Index := 32#32
  let v0 : BitVec 32 := pf.at 1 (Rect.unit (s := S128) ![32] S1.size inb_S128_S1_32) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S128 : Shape := ⟨1, ![128]⟩
abbrev S65536x1024 : Shape := ⟨2, ![65536, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S65536 : Shape := ⟨1, ![65536]⟩
abbrev S128x512 : Shape := ⟨2, ![128, 512]⟩
abbrev S65536x1 : Shape := ⟨2, ![65536, 1]⟩
abbrev S1x32 : Shape := ⟨2, ![1, 32]⟩
abbrev S65536x32 : Shape := ⟨2, ![65536, 32]⟩
abbrev S1 : Shape := ⟨1, ![1]⟩
abbrev S_ : Shape := ⟨0, ![]⟩
abbrev S32x2048x65536 : Shape := ⟨3, ![32, 2048, 65536]⟩
abbrev S32x65536x2048 : Shape := ⟨3, ![32, 65536, 2048]⟩
abbrev S32x65536x1024 : Shape := ⟨3, ![32, 65536, 1024]⟩
abbrev S32x65536 : Shape := ⟨2, ![32, 65536]⟩
abbrev S32x65536x1 : Shape := ⟨3, ![32, 65536, 1]⟩

abbrev nBuf : Space → Nat
  | .hbm => 70
  | .vmem => 0
  | .smem => 0
  | _ => 0

abbrev bufTy : (tb : Table) → Fin (tcTables nBuf tb) → BufTy
  | .hbm, ⟨0, _⟩ => ⟨S128, .i32⟩
  | .hbm, ⟨1, _⟩ => ⟨S128, .i32⟩
  | .hbm, ⟨2, _⟩ => ⟨S65536x1024, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S65536, .i32⟩
  | .hbm, ⟨8, _⟩ => ⟨S128x512, .i32⟩
  | .hbm, ⟨9, _⟩ => ⟨S65536, .i32⟩
  | .hbm, ⟨10, _⟩ => ⟨S65536x1, .i32⟩
  | .hbm, ⟨11, _⟩ => ⟨S1x32, .i32⟩
  | .hbm, ⟨12, _⟩ => ⟨S65536x32, .i32⟩
  | .hbm, ⟨13, _⟩ => ⟨S65536x32, .i32⟩
  | .hbm, ⟨14, _⟩ => ⟨S65536x32, .i1⟩
  | .hbm, ⟨15, _⟩ => ⟨S65536x32, .f32⟩
  | .hbm, ⟨16, _⟩ => ⟨S1, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S65536x1, .i1⟩
  | .hbm, ⟨23, _⟩ => ⟨S_, .f32⟩
  | .hbm, ⟨24, _⟩ => ⟨S_, .f32⟩
  | .hbm, ⟨25, _⟩ => ⟨S65536x32, .i1⟩
  | .hbm, ⟨26, _⟩ => ⟨S65536x32, .f32⟩
  | .hbm, ⟨27, _⟩ => ⟨S65536x32, .f32⟩
  | .hbm, ⟨28, _⟩ => ⟨S32x2048x65536, .f32⟩
  | .hbm, ⟨29, _⟩ => ⟨S32x65536x2048, .f32⟩
  | .hbm, ⟨30, _⟩ => ⟨S32x65536x2048, .f32⟩
  | .hbm, ⟨31, _⟩ => ⟨S32x65536x2048, .f32⟩
  | .hbm, ⟨32, _⟩ => ⟨S32x65536x1024, .f32⟩
  | .hbm, ⟨33, _⟩ => ⟨S_, .f32⟩
  | .hbm, ⟨34, _⟩ => ⟨S32x65536x1024, .f32⟩
  | .hbm, ⟨35, _⟩ => ⟨S32x65536x1024, .f32⟩
  | .hbm, ⟨36, _⟩ => ⟨S32x65536x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S32x65536x1024, .f32⟩
  | .hbm, ⟨41, _⟩ => ⟨S32x65536x1024, .f32⟩
  | .hbm, ⟨42, _⟩ => ⟨S_, .f32⟩
  | .hbm, ⟨43, _⟩ => ⟨S32x65536x1024, .f32⟩
  | .hbm, ⟨44, _⟩ => ⟨S32x65536x1024, .f32⟩
  | .hbm, ⟨45, _⟩ => ⟨S_, .f32⟩
  | .hbm, ⟨46, _⟩ => ⟨S32x65536x1024, .f32⟩
  | .hbm, ⟨47, _⟩ => ⟨S32x65536x1024, .f32⟩
  | .hbm, ⟨48, _⟩ => ⟨S32x65536x1024, .f32⟩
  | .hbm, ⟨49, _⟩ => ⟨S32x65536x1024, .f32⟩
  | .hbm, ⟨50, _⟩ => ⟨S_, .f32⟩
  | .hbm, ⟨51, _⟩ => ⟨S32x65536x1024, .f32⟩
  | .hbm, ⟨52, _⟩ => ⟨S32x65536x1024, .f32⟩
  | .hbm, ⟨53, _⟩ => ⟨S_, .f32⟩
  | .hbm, ⟨54, _⟩ => ⟨S32x65536x1024, .f32⟩
  | .hbm, ⟨55, _⟩ => ⟨S32x65536x1024, .f32⟩
  | .hbm, ⟨56, _⟩ => ⟨S32x65536x1024, .f32⟩
  | .hbm, ⟨57, _⟩ => ⟨S_, .f32⟩
  | .hbm, ⟨58, _⟩ => ⟨S32x65536x1024, .f32⟩
  | .hbm, ⟨59, _⟩ => ⟨S32x65536x1024, .f32⟩
  | .hbm, ⟨60, _⟩ => ⟨S32x65536x1024, .f32⟩
  | .hbm, ⟨61, _⟩ => ⟨S32x65536x1024, .f32⟩
  | .hbm, ⟨62, _⟩ => ⟨S32x65536x1024, .f32⟩
  | .hbm, ⟨63, _⟩ => ⟨S32x65536x1024, .f32⟩
  | .hbm, ⟨64, _⟩ => ⟨S32x65536, .f32⟩
  | .hbm, ⟨65, _⟩ => ⟨S32x65536x1, .f32⟩
  | .hbm, ⟨66, _⟩ => ⟨S32x65536x1024, .f32⟩
  | .hbm, ⟨67, _⟩ => ⟨S32x65536x1024, .f32⟩
  | .hbm, ⟨68, _⟩ => ⟨S_, .f32⟩
  | .hbm, ⟨69, _⟩ => ⟨S65536x1024, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_cst_2 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v19 : Ref sig .tc := ⟨.hbm, 44, rfl⟩
abbrev main_cst_3 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_4 : Ref sig .tc := ⟨.hbm, 50, rfl⟩
abbrev main_v24 : Ref sig .tc := ⟨.hbm, 51, rfl⟩
abbrev main_v25 : Ref sig .tc := ⟨.hbm, 52, rfl⟩
abbrev main_cst_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_6 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩

abbrev nD : Nat := 1
abbrev τ : Topo := Topo.v7x

variable {F : FTy → Type} [FloatOps F]
-- ==== Kernel3.lean ====
abbrev S32x256x1024 : Shape := ⟨3, ![32, 256, 1024]⟩
abbrev S4x1024x1024 : Shape := ⟨3, ![4, 1024, 1024]⟩
abbrev S8x6144 : Shape := ⟨2, ![8, 6144]⟩
abbrev S1024 : Shape := ⟨1, ![1024]⟩
abbrev S1024x4480 : Shape := ⟨2, ![1024, 4480]⟩
abbrev S8192x1024 : Shape := ⟨2, ![8192, 1024]⟩
abbrev S4096x1024 : Shape := ⟨2, ![4096, 1024]⟩
abbrev S8x1x6144 : Shape := ⟨3, ![8, 1, 6144]⟩
abbrev S1x1024 : Shape := ⟨2, ![1, 1024]⟩
abbrev S1024x2432 : Shape := ⟨2, ![1024, 2432]⟩
abbrev S12288x2432 : Shape := ⟨2, ![12288, 2432]⟩
abbrev S512x1024 : Shape := ⟨2, ![512, 1024]⟩
abbrev S1x1x6144 : Shape := ⟨3, ![1, 1, 6144]⟩
abbrev S512x2432 : Shape := ⟨2, ![512, 2432]⟩
abbrev S1x6144 : Shape := ⟨2, ![1, 6144]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S32x256x1024, .f32⟩
  | .hbm, ⟨1, _⟩ => ⟨S4x1024x1024, .f32⟩
  | .hbm, ⟨2, _⟩ => ⟨S8x6144, .f32⟩
  | .hbm, ⟨3, _⟩ => ⟨S1024, .f32⟩
  | .hbm, ⟨4, _⟩ => ⟨S1024x4480, .f32⟩
  | .hbm, ⟨5, _⟩ => ⟨S8192x1024, .f32⟩
  | .hbm, ⟨6, _⟩ => ⟨S4096x1024, .f32⟩
  | .hbm, ⟨7, _⟩ => ⟨S8x1x6144, .f32⟩
  | .hbm, ⟨8, _⟩ => ⟨S1x1024, .f32⟩
  | .hbm, ⟨9, _⟩ => ⟨S1024x2432, .f32⟩
  | .hbm, ⟨10, _⟩ => ⟨S1024x2432, .bf16⟩
  | .hbm, ⟨11, _⟩ => ⟨S12288x2432, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x6144, .f32⟩
  | .local _ .vmem, ⟨5, _⟩ => ⟨S1x1x6144, .f32⟩
  | .local _ .vmem, ⟨6, _⟩ => ⟨S1x1024, .f32⟩
  | .local _ .vmem, ⟨7, _⟩ => ⟨S1024x2432, .bf16⟩
  | .local _ .vmem, ⟨8, _⟩ => ⟨S512x2432, .f32⟩
  | .local _ .vmem, ⟨9, _⟩ => ⟨S512x2432, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2432 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32x256x1024 : Shape := ⟨3, ![32, 256, 1024]⟩
abbrev S4x1024x1024 : Shape := ⟨3, ![4, 1024, 1024]⟩
abbrev S8x6144 : Shape := ⟨2, ![8, 6144]⟩
abbrev S1024 : Shape := ⟨1, ![1024]⟩
abbrev S1024x4480 : Shape := ⟨2, ![1024, 4480]⟩
abbrev S1x6144 : Shape := ⟨2, ![1, 6144]⟩
abbrev S1x1024 : Shape := ⟨2, ![1, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x4480 : Shape := ⟨3, ![32, 256, 4480]⟩
abbrev S32x256x2432 : Shape := ⟨3, ![32, 256, 2432]⟩
abbrev S8192x2432 : Shape := ⟨2, ![8192, 2432]⟩
abbrev S4x6144 : Shape := ⟨2, ![4, 6144]⟩
abbrev S4x1024 : Shape := ⟨2, ![4, 1024]⟩
abbrev S4x1x1024 : Shape := ⟨3, ![4, 1, 1024]⟩
abbrev S4x1024x1 : Shape := ⟨3, ![4, 1024, 1]⟩
abbrev S4x1024x4480 : Shape := ⟨3, ![4, 1024, 4480]⟩
abbrev S4x1024x2432 : Shape := ⟨3, ![4, 1024, 2432]⟩
abbrev S4096x2432 : Shape := ⟨2, ![4096, 2432]⟩
abbrev S12288x2432 : Shape := ⟨2, ![12288, 2432]⟩

abbrev nBuf : Space → Nat
  | .hbm => 68
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S4x1024x1024, .f32⟩
  | .hbm, ⟨2, _⟩ => ⟨S8x6144, .f32⟩
  | .hbm, ⟨3, _⟩ => ⟨S1024, .f32⟩
  | .hbm, ⟨4, _⟩ => ⟨S1024x4480, .f32⟩
  | .hbm, ⟨5, _⟩ => ⟨S1x6144, .f32⟩
  | .hbm, ⟨6, _⟩ => ⟨S1x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S32x256x1024, .f32⟩
  | .hbm, ⟨11, _⟩ => ⟨S_, .f32⟩
  | .hbm, ⟨12, _⟩ => ⟨S32x256, .f32⟩
  | .hbm, ⟨13, _⟩ => ⟨S32x256x1, .f32⟩
  | .hbm, ⟨14, _⟩ => ⟨S_, .f32⟩
  | .hbm, ⟨15, _⟩ => ⟨S32x256x1, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S32x256x1, .f32⟩
  | .hbm, ⟨21, _⟩ => ⟨S32x256x1024, .f32⟩
  | .hbm, ⟨22, _⟩ => ⟨S32x256x1024, .f32⟩
  | .hbm, ⟨23, _⟩ => ⟨S1x1x1024, .f32⟩
  | .hbm, ⟨24, _⟩ => ⟨S32x256x1024, .f32⟩
  | .hbm, ⟨25, _⟩ => ⟨S32x256x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S32x256x4480, .f32⟩
  | .hbm, ⟨34, _⟩ => ⟨S32x256x2432, .f32⟩
  | .hbm, ⟨35, _⟩ => ⟨S8192x2432, .f32⟩
  | .hbm, ⟨36, _⟩ => ⟨S4x6144, .f32⟩
  | .hbm, ⟨37, _⟩ => ⟨S4x1024, .f32⟩
  | .hbm, ⟨38, _⟩ => ⟨S4x1x1024, .f32⟩
  | .hbm, ⟨39, _⟩ => ⟨S4x1024, .f32⟩
  | .hbm, ⟨40, _⟩ => ⟨S4x1x1024, .f32⟩
  | .hbm, ⟨41, _⟩ => ⟨S4x1024x1024, .f32⟩
  | .hbm, ⟨42, _⟩ => ⟨S_, .f32⟩
  | .hbm, ⟨43, _⟩ => ⟨S4x1024, .f32⟩
  | .hbm, ⟨44, _⟩ => ⟨S4x1024x1, .f32⟩
  | .hbm, ⟨45, _⟩ => ⟨S_, .f32⟩
  | .hbm, ⟨46, _⟩ => ⟨S4x1024x1, .f32⟩
  | .hbm, ⟨47, _⟩ => ⟨S4x1024x1, .f32⟩
  | .hbm, ⟨48, _⟩ => ⟨S_, .f32⟩
  | .hbm, ⟨49, _⟩ => ⟨S4x1024x1, .f32⟩
  | .hbm, ⟨50, _⟩ => ⟨S4x1024x1, .f32⟩
  | .hbm, ⟨51, _⟩ => ⟨S4x1024x1, .f32⟩
  | .hbm, ⟨52, _⟩ => ⟨S4x1024x1024, .f32⟩
  | .hbm, ⟨53, _⟩ => ⟨S4x1024x1024, .f32⟩
  | .hbm, ⟨54, _⟩ => ⟨S1x1x1024, .f32⟩
  | .hbm, ⟨55, _⟩ => ⟨S4x1024x1024, .f32⟩
  | .hbm, ⟨56, _⟩ => ⟨S4x1024x1024, .f32⟩
  | .hbm, ⟨57, _⟩ => ⟨S_, .f32⟩
  | .hbm, ⟨58, _⟩ => ⟨S4x1x1024, .f32⟩
  | .hbm, ⟨59, _⟩ => ⟨S4x1x1024, .f32⟩
  | .hbm, ⟨60, _⟩ => ⟨S4x1024x1024, .f32⟩
  | .hbm, ⟨61, _⟩ => ⟨S4x1024x1024, .f32⟩
  | .hbm, ⟨62, _⟩ => ⟨S4x1024x1024, .f32⟩
  | .hbm, ⟨63, _⟩ => ⟨S4x1024x1024, .f32⟩
  | .hbm, ⟨64, _⟩ => ⟨S4x1024x4480, .f32⟩
  | .hbm, ⟨65, _⟩ => ⟨S4x1024x2432, .f32⟩
  | .hbm, ⟨66, _⟩ => ⟨S4096x2432, .f32⟩
  | .hbm, ⟨67, _⟩ => ⟨S12288x2432, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Kernel4.lean ====
abbrev S32x256x1024 : Shape := ⟨3, ![32, 256, 1024]⟩
abbrev S4x1024x1024 : Shape := ⟨3, ![4, 1024, 1024]⟩
abbrev S8x6144 : Shape := ⟨2, ![8, 6144]⟩
abbrev S8192x512 : Shape := ⟨2, ![8192, 512]⟩
abbrev S4096x512 : Shape := ⟨2, ![4096, 512]⟩
abbrev S8192x128 : Shape := ⟨2, ![8192, 128]⟩
abbrev S4096x128 : Shape := ⟨2, ![4096, 128]⟩
abbrev S1024 : Shape := ⟨1, ![1024]⟩
abbrev S1024x4480 : Shape := ⟨2, ![1024, 4480]⟩
abbrev S2048 : Shape := ⟨1, ![2048]⟩
abbrev S512x1024 : Shape := ⟨2, ![512, 1024]⟩
abbrev S512 : Shape := ⟨1, ![512]⟩
abbrev S128x512 : Shape := ⟨2, ![128, 512]⟩
abbrev S1024x1024 : Shape := ⟨2, ![1024, 1024]⟩
abbrev S1024x32 : Shape := ⟨2, ![1024, 32]⟩
abbrev S32 : Shape := ⟨1, ![32]⟩
abbrev S8192x1024 : Shape := ⟨2, ![8192, 1024]⟩
abbrev S4096x1024 : Shape := ⟨2, ![4096, 1024]⟩
abbrev S8x1x6144 : Shape := ⟨3, ![8, 1, 6144]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1024x96 : Shape := ⟨2, ![1024, 96]⟩
abbrev S1024x128 : Shape := ⟨2, ![1024, 128]⟩
abbrev S96 : Shape := ⟨1, ![96]⟩
abbrev S128 : Shape := ⟨1, ![128]⟩
abbrev S1x128 : Shape := ⟨2, ![1, 128]⟩
abbrev S1x1024 : Shape := ⟨2, ![1, 1024]⟩
abbrev S1024x2048 : Shape := ⟨2, ![1024, 2048]⟩
abbrev S1x2048 : Shape := ⟨2, ![1, 2048]⟩
abbrev S12288x1024 : Shape := ⟨2, ![12288, 1024]⟩
abbrev S12288x128 : Shape := ⟨2, ![12288, 128]⟩
abbrev S128x128 : Shape := ⟨2, ![128, 128]⟩
abbrev S1x1x6144 : Shape := ⟨3, ![1, 1, 6144]⟩
abbrev S512x128 : Shape := ⟨2, ![512, 128]⟩
abbrev S1x6144 : Shape := ⟨2, ![1, 6144]⟩
abbrev S512x2048 : Shape := ⟨2, ![512, 2048]⟩
abbrev S8x128 : Shape := ⟨2, ![8, 128]⟩
abbrev S1 : Shape := ⟨1, ![1]⟩
abbrev S1x1 : Shape := ⟨2, ![1, 1]⟩
abbrev S128x1 : Shape := ⟨2, ![128, 1]⟩

abbrev nBuf : Space → Nat
  | .hbm => 73
  | .vmem => 42
  | .smem => 0
  | _ => 0

abbrev bufTy : (tb : Table) → Fin (tcTables nBuf tb) → BufTy
  | .hbm, ⟨0, _⟩ => ⟨S32x256x1024, .f32⟩
  | .hbm, ⟨1, _⟩ => ⟨S4x1024x1024, .f32⟩
  | .hbm, ⟨2, _⟩ => ⟨S8x6144, .f32⟩
  | .hbm, ⟨3, _⟩ => ⟨S8192x512, .bf16⟩
  | .hbm, ⟨4, _⟩ => ⟨S4096x512, .bf16⟩
  | .hbm, ⟨5, _⟩ => ⟨S8192x128, .bf16⟩
  | .hbm, ⟨6, _⟩ => ⟨S4096x128, .bf16⟩
  | .hbm, ⟨7, _⟩ => ⟨S8192x512, .f32⟩
  | .hbm, ⟨8, _⟩ => ⟨S4096x512, .f32⟩
  | .hbm, ⟨9, _⟩ => ⟨S1024, .f32⟩
  | .hbm, ⟨10, _⟩ => ⟨S1024x4480, .f32⟩
  | .hbm, ⟨11, _⟩ => ⟨S2048, .f32⟩
  | .hbm, ⟨12, _⟩ => ⟨S512x1024, .f32⟩
  | .hbm, ⟨13, _⟩ => ⟨S512, .f32⟩
  | .hbm, ⟨14, _⟩ => ⟨S512, .f32⟩
  | .hbm, ⟨15, _⟩ => ⟨S128x512, .f32⟩
  | .hbm, ⟨16, _⟩ => ⟨S512x1024, .f32⟩
  | .hbm, ⟨17, _⟩ => ⟨S1024x1024, .f32⟩
  | .hbm, ⟨18, _⟩ => ⟨S1024, .f32⟩
  | .hbm, ⟨19, _⟩ => ⟨S1024x32, .f32⟩
  | .hbm, ⟨20, _⟩ => ⟨S32, .f32⟩
  | .hbm, ⟨21, _⟩ => ⟨S8192x1024, .f32⟩
  | .hbm, ⟨22, _⟩ => ⟨S4096x1024, .f32⟩
  | .hbm, ⟨23, _⟩ => ⟨S8x1x6144, .f32⟩
  | .hbm, ⟨24, _⟩ => ⟨S512, .i32⟩
  | .hbm, ⟨25, _⟩ => ⟨S_, .i32⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S512, .i32⟩
  | .hbm, ⟨34, _⟩ => ⟨S512, .i32⟩
  | .hbm, ⟨35, _⟩ => ⟨S_, .i32⟩
  | .hbm, ⟨36, _⟩ => ⟨S512, .i32⟩
  | .hbm, ⟨37, _⟩ => ⟨S512, .i1⟩
  | .hbm, ⟨38, _⟩ => ⟨S512, .i1⟩
  | .hbm, ⟨39, _⟩ => ⟨S_, .i32⟩
  | .hbm, ⟨40, _⟩ => ⟨S512, .i32⟩
  | .hbm, ⟨41, _⟩ => ⟨S512, .i32⟩
  | .hbm, ⟨42, _⟩ => ⟨S512, .i32⟩
  | .hbm, ⟨43, _⟩ => ⟨S512x1, .i32⟩
  | .hbm, ⟨44, _⟩ => ⟨S1x512, .i32⟩
  | .hbm, ⟨45, _⟩ => ⟨S512x512, .i32⟩
  | .hbm, ⟨46, _⟩ => ⟨S512x512, .i32⟩
  | .hbm, ⟨47, _⟩ => ⟨S512x512, .i1⟩
  | .hbm, ⟨48, _⟩ => ⟨S512x512, .bf16⟩
  | .hbm, ⟨49, _⟩ => ⟨S_, .f32⟩
  | .hbm, ⟨50, _⟩ => ⟨S1024x96, .f32⟩
  | .hbm, ⟨51, _⟩ => ⟨S1024x128, .f32⟩
  | .hbm, ⟨52, _⟩ => ⟨S_, .f32⟩
  | .hbm, ⟨53, _⟩ => ⟨S96, .f32⟩
  | .hbm, ⟨54, _⟩ => ⟨S128, .f32⟩
  | .hbm, ⟨55, _⟩ => ⟨S1x128, .f32⟩
  | .hbm, ⟨56, _⟩ => ⟨S1x1024, .f32⟩
  | .hbm, ⟨57, _⟩ => ⟨S1024x2048, .f32⟩
  | .hbm, ⟨58, _⟩ => ⟨S1024x2048, .bf16⟩
  | .hbm, ⟨59, _⟩ => ⟨S1x2048, .f32⟩
  | .hbm, ⟨60, _⟩ => ⟨S512x1024, .bf16⟩
  | .hbm, ⟨61, _⟩ => ⟨S1x512, .f32⟩
  | .hbm, ⟨62, _⟩ => ⟨S1x512, .f32⟩
  | .hbm, ⟨63, _⟩ => ⟨S128x512, .bf16⟩
  | .hbm, ⟨64, _⟩ => ⟨S512x1024, .bf16⟩
  | .hbm, ⟨65, _⟩ => ⟨S1024x1024, .bf16⟩
  | .hbm, ⟨66, _⟩ => ⟨S1x1024, .f32⟩
  | .hbm, ⟨67, _⟩ => ⟨S12288x1024, .f32⟩
  | .hbm, ⟨68, _⟩ => ⟨S12288x1024, .f32⟩
  | .hbm, ⟨69, _⟩ => ⟨S12288x128, .i32⟩
  | .hbm, ⟨70, _⟩ => ⟨S12288x128, .f32⟩
  | .hbm, ⟨71, _⟩ => ⟨S1x128, .i32⟩
  | .hbm, ⟨72, _⟩ => ⟨S128x128, .i32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x6144, .f32⟩
  | .local _ .vmem, ⟨5, _⟩ => ⟨S1x1x6144, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S1x1024, .f32⟩
  | .local _ .vmem, ⟨19, _⟩ => ⟨S1024x2048, .bf16⟩
  | .local _ .vmem, ⟨20, _⟩ => ⟨S1x2048, .f32⟩
  | .local _ .vmem, ⟨21, _⟩ => ⟨S512x1024, .bf16⟩
  | .local _ .vmem, ⟨22, _⟩ => ⟨S512x512, .bf16⟩
  | .local _ .vmem, ⟨23, _⟩ => ⟨S1x512, .f32⟩
  | .local _ .vmem, ⟨24, _⟩ => ⟨S1x512, .f32⟩
  | .local _ .vmem, ⟨25, _⟩ => ⟨S128x512, .bf16⟩
  | .local _ .vmem, ⟨26, _⟩ => ⟨S512x1024, .bf16⟩
  | .local _ .vmem, ⟨27, _⟩ => ⟨S1024x1024, .bf16⟩
  | .local _ .vmem, ⟨28, _⟩ => ⟨S1x1024, .f32⟩
  | .local _ .vmem, ⟨29, _⟩ => ⟨S1024x128, .f32⟩
  | .local _ .vmem, ⟨30, _⟩ => ⟨S1x128, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x128, .i32⟩
  | .local _ .vmem, ⟨36, _⟩ => ⟨S512x128, .i32⟩
  | .local _ .vmem, ⟨37, _⟩ => ⟨S512x128, .f32⟩
  | .local _ .vmem, ⟨38, _⟩ => ⟨S512x128, .f32⟩
  | .local _ .vmem, ⟨39, _⟩ => ⟨S1x128, .i32⟩
  | .local _ .vmem, ⟨40, _⟩ => ⟨S128x128, .i32⟩
  | .local _ .vmem, ⟨41, _⟩ => ⟨S1x128, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst : Ref sig .tc := ⟨.hbm, 49, rfl⟩
abbrev main_v11 : Ref sig .tc := ⟨.hbm, 50, rfl⟩
abbrev main_v12 : Ref sig .tc := ⟨.hbm, 51, rfl⟩
abbrev main_cst_0 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27_0 : Ref sig .tc := ⟨.hbm, 67, rfl⟩
abbrev main_v27_1 : Ref sig .tc := ⟨.hbm, 68, rfl⟩
abbrev main_v27_2 : Ref sig .tc := ⟨.hbm, 69, rfl⟩
abbrev main_v27_3 : Ref sig .tc := ⟨.hbm, 70, rfl⟩
abbrev main_v27_4 : Ref sig .tc := ⟨.hbm, 71, rfl⟩
abbrev main_v27_5 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg27_0 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38
abbrev cc0_sem26_0 : DmaSem sig := 39
abbrev cc0_sem27_0 : DmaSem sig := 40

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x128 .i32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S1x128 .i32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S128x128 .i32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== Reference4Ideal.lean ====
abbrev S32x256x1024 : Shape := ⟨3, ![32, 256, 1024]⟩
abbrev S4x1024x1024 : Shape := ⟨3, ![4, 1024, 1024]⟩
abbrev S8x6144 : Shape := ⟨2, ![8, 6144]⟩
abbrev S8192x512 : Shape := ⟨2, ![8192, 512]⟩
abbrev S4096x512 : Shape := ⟨2, ![4096, 512]⟩
abbrev S8192x128 : Shape := ⟨2, ![8192, 128]⟩
abbrev S4096x128 : Shape := ⟨2, ![4096, 128]⟩
abbrev S1024 : Shape := ⟨1, ![1024]⟩
abbrev S1024x4480 : Shape := ⟨2, ![1024, 4480]⟩
abbrev S2048 : Shape := ⟨1, ![2048]⟩
abbrev S512x1024 : Shape := ⟨2, ![512, 1024]⟩
abbrev S512 : Shape := ⟨1, ![512]⟩
abbrev S128x512 : Shape := ⟨2, ![128, 512]⟩
abbrev S1024x1024 : Shape := ⟨2, ![1024, 1024]⟩
abbrev S1024x32 : Shape := ⟨2, ![1024, 32]⟩
abbrev S32 : Shape := ⟨1, ![32]⟩
abbrev S1x6144 : Shape := ⟨2, ![1, 6144]⟩
abbrev S1x1024 : Shape := ⟨2, ![1, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x4480 : Shape := ⟨3, ![32, 256, 4480]⟩
abbrev S32x256x2048 : Shape := ⟨3, ![32, 256, 2048]⟩
abbrev S1x1x2048 : Shape := ⟨3, ![1, 1, 2048]⟩
abbrev S32x256x512 : Shape := ⟨3, ![32, 256, 512]⟩
abbrev S32x256x128 : Shape := ⟨3, ![32, 256, 128]⟩
abbrev S32x256x8x64 : Shape := ⟨4, ![32, 256, 8, 64]⟩
abbrev S32x256x8 : Shape := ⟨3, ![32, 256, 8]⟩
abbrev S32x256x8x1 : Shape := ⟨4, ![32, 256, 8, 1]⟩
abbrev S1x1x512 : Shape := ⟨3, ![1, 1, 512]⟩
abbrev S8192x1024 : Shape := ⟨2, ![8192, 1024]⟩
abbrev S4x6144 : Shape := ⟨2, ![4, 6144]⟩
abbrev S4x1024 : Shape := ⟨2, ![4, 1024]⟩
abbrev S4x1x1024 : Shape := ⟨3, ![4, 1, 1024]⟩
abbrev S4x1024x1 : Shape := ⟨3, ![4, 1024, 1]⟩
abbrev S4x1024x4480 : Shape := ⟨3, ![4, 1024, 4480]⟩
abbrev S4x1024x2048 : Shape := ⟨3, ![4, 1024, 2048]⟩
abbrev S4x1024x512 : Shape := ⟨3, ![4, 1024, 512]⟩
abbrev S4x1024x128 : Shape := ⟨3, ![4, 1024, 128]⟩
abbrev S4x1024x8x64 : Shape := ⟨4, ![4, 1024, 8, 64]⟩
abbrev S4x1024x8 : Shape := ⟨3, ![4, 1024, 8]⟩
abbrev S4x1024x8x1 : Shape := ⟨4, ![4, 1024, 8, 1]⟩
abbrev S4096x1024 : Shape := ⟨2, ![4096, 1024]⟩
abbrev S12288x1024 : Shape := ⟨2, ![12288, 1024]⟩

abbrev nBuf : Space → Nat
  | .hbm => 206
  | .vmem => 0
  | .smem => 0
  | _ => 0

abbrev hbmTy0_0 (i : Nat) : BufTy := match i % 128 with
  | 0 => ⟨S32x256x1024, .f32⟩
  | 1 => ⟨S4x1024x1024, .f32⟩
  | 2 => ⟨S8x6144, .f32⟩
  | 3 => ⟨S8192x512, .bf16⟩
  | 4 => ⟨S4096x512, .bf16⟩
  | 5 => ⟨S8192x128, .bf16⟩
  | 6 => ⟨S4096x128, .bf16⟩
  | 7 => ⟨S8192x512, .f32⟩
  | 8 => ⟨S4096x512, .f32⟩
  | 9 => ⟨S1024, .f32⟩
  | 10 => ⟨S1024x4480, .f32⟩
  | 11 => ⟨S2048, .f32⟩
  | 12 => ⟨S512x1024, .f32⟩
  | 13 => ⟨S512, .f32⟩
  | 14 => ⟨S512, .f32⟩
  | 15 => ⟨S128x512, .f32⟩
  | 16 => ⟨S512x1024, .f32⟩
  | 17 => ⟨S1024x1024, .f32⟩
  | 18 => ⟨S1024, .f32⟩
  | 19 => ⟨S1024x32, .f32⟩
  | 20 => ⟨S32, .f32⟩
  | 21 => ⟨S1x6144, .f32⟩
  | 22 => ⟨S1x1024, .f32⟩
  | 23 => ⟨S1x1x1024, .f32⟩
  | 24 => ⟨S1x1024, .f32⟩
  | 25 => ⟨S1x1x1024, .f32⟩
  | 26 => ⟨S1x1024, .f32⟩
  | 27 => ⟨S1x1x1024, .f32⟩
  | 28 => ⟨S32x256x1024, .f32⟩
  | 29 => ⟨S_, .f32⟩
  | 30 => ⟨S32x256, .f32⟩
  | 31 => ⟨S32x256x1, .f32⟩
  | 32 => ⟨S_, .f32⟩
  | 33 => ⟨S32x256x1, .f32⟩
  | 34 => ⟨S32x256x1, .f32⟩
  | 35 => ⟨S_, .f32⟩
  | 36 => ⟨S32x256x1, .f32⟩
  | 37 => ⟨S32x256x1, .f32⟩
  | 38 => ⟨S32x256x1, .f32⟩
  | 39 => ⟨S32x256x1024, .f32⟩
  | 40 => ⟨S32x256x1024, .f32⟩
  | 41 => ⟨S1x1x1024, .f32⟩
  | 42 => ⟨S32x256x1024, .f32⟩
  | 43 => ⟨S32x256x1024, .f32⟩
  | 44 => ⟨S_, .f32⟩
  | 45 => ⟨S1x1x1024, .f32⟩
  | 46 => ⟨S1x1x1024, .f32⟩
  | 47 => ⟨S32x256x1024, .f32⟩
  | 48 => ⟨S32x256x1024, .f32⟩
  | 49 => ⟨S32x256x1024, .f32⟩
  | 50 => ⟨S32x256x1024, .f32⟩
  | 51 => ⟨S32x256x4480, .f32⟩
  | 52 => ⟨S32x256x2048, .f32⟩
  | 53 => ⟨S1x1x2048, .f32⟩
  | 54 => ⟨S32x256x2048, .f32⟩
  | 55 => ⟨S32x256x2048, .f32⟩
  | 56 => ⟨S32x256x2048, .f32⟩
  | 57 => ⟨S32x256x2048, .f32⟩
  | 58 => ⟨S_, .f32⟩
  | 59 => ⟨S32x256x2048, .f32⟩
  | 60 => ⟨S32x256x2048, .f32⟩
  | 61 => ⟨S_, .f32⟩
  | 62 => ⟨S32x256x2048, .f32⟩
  | 63 => ⟨S32x256x2048, .f32⟩
  | 64 => ⟨S8192x512, .f32⟩
  | 65 => ⟨S32x256x512, .f32⟩
  | 66 => ⟨S32x256x1024, .f32⟩
  | 67 => ⟨S8192x128, .f32⟩
  | 68 => ⟨S32x256x128, .f32⟩
  | 69 => ⟨S32x256x512, .f32⟩
  | 70 => ⟨S32x256x8x64, .f32⟩
  | 71 => ⟨S_, .f32⟩
  | 72 => ⟨S32x256x8, .f32⟩
  | 73 => ⟨S32x256x8x1, .f32⟩
  | 74 => ⟨S_, .f32⟩
  | 75 => ⟨S32x256x8x1, .f32⟩
  | 76 => ⟨S32x256x8x1, .f32⟩
  | 77 => ⟨S32x256x8x64, .f32⟩
  | 78 => ⟨S32x256x8x64, .f32⟩
  | 79 => ⟨S32x256x8x64, .f32⟩
  | 80 => ⟨S_, .f32⟩
  | 81 => ⟨S32x256x8, .f32⟩
  | 82 => ⟨S32x256x8x1, .f32⟩
  | 83 => ⟨S_, .f32⟩
  | 84 => ⟨S32x256x8x1, .f32⟩
  | 85 => ⟨S32x256x8x1, .f32⟩
  | 86 => ⟨S32x256x8x64, .f32⟩
  | 87 => ⟨S32x256x8x64, .f32⟩
  | 88 => ⟨S_, .f32⟩
  | 89 => ⟨S32x256x8x1, .f32⟩
  | 90 => ⟨S32x256x8x1, .f32⟩
  | 91 => ⟨S32x256x8x1, .f32⟩
  | 92 => ⟨S32x256x8x64, .f32⟩
  | 93 => ⟨S32x256x8x64, .f32⟩
  | 94 => ⟨S32x256x512, .f32⟩
  | 95 => ⟨S1x1x512, .f32⟩
  | 96 => ⟨S32x256x512, .f32⟩
  | 97 => ⟨S32x256x512, .f32⟩
  | 98 => ⟨S1x1x512, .f32⟩
  | 99 => ⟨S32x256x512, .f32⟩
  | 100 => ⟨S32x256x512, .f32⟩
  | 101 => ⟨S32x256x512, .f32⟩
  | 102 => ⟨S32x256x1024, .f32⟩
  | 103 => ⟨S32x256x1024, .f32⟩
  | 104 => ⟨S32x256x1024, .f32⟩
  | 105 => ⟨S32x256x1024, .f32⟩
  | 106 => ⟨S32x256x1024, .f32⟩
  | 107 => ⟨S32x256x1024, .f32⟩
  | 108 => ⟨S32x256x1024, .f32⟩
  | 109 => ⟨S32x256x1024, .f32⟩
  | 110 => ⟨S32x256x1024, .f32⟩
  | 111 => ⟨S32x256x1024, .f32⟩
  | 112 => ⟨S8192x1024, .f32⟩
  | 113 => ⟨S4x6144, .f32⟩
  | 114 => ⟨S4x1024, .f32⟩
  | 115 => ⟨S4x1x1024, .f32⟩
  | 116 => ⟨S4x1024, .f32⟩
  | 117 => ⟨S4x1x1024, .f32⟩
  | 118 => ⟨S4x1024, .f32⟩
  | 119 => ⟨S4x1x1024, .f32⟩
  | 120 => ⟨S4x1024x1024, .f32⟩
  | 121 => ⟨S_, .f32⟩
  | 122 => ⟨S4x1024, .f32⟩
  | 123 => ⟨S4x1024x1, .f32⟩
  | 124 => ⟨S_, .f32⟩
  | 125 => ⟨S4x1024x1, .f32⟩
  | 126 => ⟨S4x1024x1, .f32⟩
  | 127 => ⟨S_, .f32⟩
  | _ => ⟨S32x256x1024, .f32⟩

abbrev hbmTy0_1 (i : Nat) : BufTy := match i % 128 with
  | 0 => ⟨S4x1024x1, .f32⟩
  | 1 => ⟨S4x1024x1, .f32⟩
  | 2 => ⟨S4x1024x1, .f32⟩
  | 3 => ⟨S4x1024x1024, .f32⟩
  | 4 => ⟨S4x1024x1024, .f32⟩
  | 5 => ⟨S1x1x1024, .f32⟩
  | 6 => ⟨S4x1024x1024, .f32⟩
  | 7 => ⟨S4x1024x1024, .f32⟩
  | 8 => ⟨S_, .f32⟩
  | 9 => ⟨S4x1x1024, .f32⟩
  | 10 => ⟨S4x1x1024, .f32⟩
  | 11 => ⟨S4x1024x1024, .f32⟩
  | 12 => ⟨S4x1024x1024, .f32⟩
  | 13 => ⟨S4x1024x1024, .f32⟩
  | 14 => ⟨S4x1024x1024, .f32⟩
  | 15 => ⟨S4x1024x4480, .f32⟩
  | 16 => ⟨S4x1024x2048, .f32⟩
  | 17 => ⟨S1x1x2048, .f32⟩
  | 18 => ⟨S4x1024x2048, .f32⟩
  | 19 => ⟨S4x1024x2048, .f32⟩
  | 20 => ⟨S4x1024x2048, .f32⟩
  | 21 => ⟨S4x1024x2048, .f32⟩
  | 22 => ⟨S_, .f32⟩
  | 23 => ⟨S4x1024x2048, .f32⟩
  | 24 => ⟨S4x1024x2048, .f32⟩
  | 25 => ⟨S_, .f32⟩
  | 26 => ⟨S4x1024x2048, .f32⟩
  | 27 => ⟨S4x1024x2048, .f32⟩
  | 28 => ⟨S4096x512, .f32⟩
  | 29 => ⟨S4x1024x512, .f32⟩
  | 30 => ⟨S4x1024x1024, .f32⟩
  | 31 => ⟨S4096x128, .f32⟩
  | 32 => ⟨S4x1024x128, .f32⟩
  | 33 => ⟨S4x1024x512, .f32⟩
  | 34 => ⟨S4x1024x8x64, .f32⟩
  | 35 => ⟨S_, .f32⟩
  | 36 => ⟨S4x1024x8, .f32⟩
  | 37 => ⟨S4x1024x8x1, .f32⟩
  | 38 => ⟨S_, .f32⟩
  | 39 => ⟨S4x1024x8x1, .f32⟩
  | 40 => ⟨S4x1024x8x1, .f32⟩
  | 41 => ⟨S4x1024x8x64, .f32⟩
  | 42 => ⟨S4x1024x8x64, .f32⟩
  | 43 => ⟨S4x1024x8x64, .f32⟩
  | 44 => ⟨S_, .f32⟩
  | 45 => ⟨S4x1024x8, .f32⟩
  | 46 => ⟨S4x1024x8x1, .f32⟩
  | 47 => ⟨S_, .f32⟩
  | 48 => ⟨S4x1024x8x1, .f32⟩
  | 49 => ⟨S4x1024x8x1, .f32⟩
  | 50 => ⟨S4x1024x8x64, .f32⟩
  | 51 => ⟨S4x1024x8x64, .f32⟩
  | 52 => ⟨S_, .f32⟩
  | 53 => ⟨S4x1024x8x1, .f32⟩
  | 54 => ⟨S4x1024x8x1, .f32⟩
  | 55 => ⟨S4x1024x8x1, .f32⟩
  | 56 => ⟨S4x1024x8x64, .f32⟩
  | 57 => ⟨S4x1024x8x64, .f32⟩
  | 58 => ⟨S4x1024x512, .f32⟩
  | 59 => ⟨S1x1x512, .f32⟩
  | 60 => ⟨S4x1024x512, .f32⟩
  | 61 => ⟨S4x1024x512, .f32⟩
  | 62 => ⟨S1x1x512, .f32⟩
  | 63 => ⟨S4x1024x512, .f32⟩
  | 64 => ⟨S4x1024x512, .f32⟩
  | 65 => ⟨S4x1024x512, .f32⟩
  | 66 => ⟨S4x1024x1024, .f32⟩
  | 67 => ⟨S4x1024x1024, .f32⟩
  | 68 => ⟨S4x1024x1024, .f32⟩
  | 69 => ⟨S4x1024x1024, .f32⟩
  | 70 => ⟨S4x1024x1024, .f32⟩
  | 71 => ⟨S4x1024x1024, .f32⟩
  | 72 => ⟨S4x1024x1024, .f32⟩
  | 73 => ⟨S4x1024x1024, .f32⟩
  | 74 => ⟨S4x1024x1024, .f32⟩
  | 75 => ⟨S4x1024x1024, .f32⟩
  | 76 => ⟨S4096x1024, .f32⟩
  | 77 => ⟨S12288x1024, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_5 : Ref sig .tc := ⟨.hbm, 71, rfl⟩
abbrev main_v44 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_10 : Ref sig .tc := ⟨.hbm, 121, rfl⟩
abbrev main_v89 : Ref sig .tc := ⟨.hbm, 122, rfl⟩
abbrev main_v90 : Ref sig .tc := ⟨.hbm, 123, rfl⟩
abbrev main_cst_11 : Ref sig .tc := ⟨.hbm, 124, rfl⟩
abbrev main_v91 : Ref sig .tc := ⟨.hbm, 125, rfl⟩
abbrev main_v92 : Ref sig .tc := ⟨.hbm, 126, rfl⟩
abbrev main_cst_12 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_13 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_14 : Ref sig .tc := ⟨.hbm, 150, rfl⟩
abbrev main_v114 : Ref sig .tc := ⟨.hbm, 151, rfl⟩
abbrev main_v115 : Ref sig .tc := ⟨.hbm, 152, rfl⟩
abbrev main_cst_15 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_16 : Ref sig .tc := ⟨.hbm, 163, rfl⟩
abbrev main_v125 : Ref sig .tc := ⟨.hbm, 164, rfl⟩
abbrev main_v126 : Ref sig .tc := ⟨.hbm, 165, rfl⟩
abbrev main_cst_17 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_18 : Ref sig .tc := ⟨.hbm, 172, rfl⟩
abbrev main_v132 : Ref sig .tc := ⟨.hbm, 173, rfl⟩
abbrev main_v133 : Ref sig .tc := ⟨.hbm, 174, rfl⟩
abbrev main_cst_19 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_20 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩

abbrev nD : Nat := 1
abbrev τ : Topo := Topo.v7x

variable {F : FTy → Type} [FloatOps F]
-- ==== Proof.FfnRunB.lean ====
/- The body of the grouped expert MLP, run once per control path: first tile of an expert (weights are narrowed into the
   scratch buffers, then used), later tile of the same expert (the scratch buffers are used as they are), tile past the end
   (zeros are stored). -/
module

public import proofs.«01_k».proof.Proof.Gen.Kernel2.Skeleton
public import proofs.«01_k».proof.Proof.Gen.Kernel2.Launch
public import Idealize.ShloMosaic.Lib.Pipeline.FrameBody
public import Idealize.ShloMosaic.Lib.Pipeline.Value
public import Idealize.ShloMosaic.Lib.VecWindow
public import Idealize.ShloMosaic.Lib.Exec
public import Idealize.ShloMosaic.Lib.Tactic
public import Idealize.ShloMosaic.Lib.Ring
public import Idealize.ShloMosaic.Lib.Affine
public import Idealize.ShloMosaic.PureOps.Ideal
public import Idealize.ShloMosaic.PureOps.BitExact

@[expose] public section

set_option maxRecDepth 16384
set_option Elab.async false

noncomputable section

namespace Cert.Kernel2.Ffn

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The expert table and the counters table as the kernel is handed them, and the two weight caches. -/
abbrev tbE : Memref sig .tc .smem S128 .i32 := Memref.whole main_arg0
abbrev tbN : Memref sig .tc .smem S128 .i32 := Memref.whole main_arg1
abbrev scU : Memref sig .tc .vmem S1024x2048 .bf16 := Memref.whole cc0_scratch0
abbrev scD : Memref sig .tc .vmem S1024x1024 .bf16 := Memref.whole cc0_scratch1

/-- The word of the counters table that counts the tiles in use. -/
abbrev wN (T1 : S128.Idx → Elt Bits .i32) : BitVec 32 :=
  View.readAt (Elt Bits) tbN.view (Rect.unit (s := S128) ![32] S1.size inb_S128_S1_32).toLoadRect T1 (Shape.Idx.first (numel1_S1.symm ▸ Nat.one_pos))
/-- The expert of tile `i`, and that of the tile before it. -/
abbrev wE (T0 : S128.Idx → Elt Bits .i32) (i : grid0.Coords) : BitVec 32 :=
  View.readAt (Elt Bits) tbE.view (Rect.unit (s := S128) (k0_off1 i) S1.size (k0_off1_inb i)).toLoadRect T0 (Shape.Idx.first (numel1_S1.symm ▸ Nat.one_pos))
abbrev wP (T0 : S128.Idx → Elt Bits .i32) (i : grid0.Coords) : BitVec 32 :=
  View.readAt (Elt Bits) tbE.view (Rect.unit (s := S128) (k0_off2 i) S1.size (k0_off2_inb i)).toLoadRect T0 (Shape.Idx.first (numel1_S1.symm ▸ Nat.one_pos))
/-- The body's first test: the tile is in use, and it is the first one or its expert differs from the one before. -/
abbrev isFresh (T0 T1 : S128.Idx → Elt Bits .i32) (i : grid0.Coords) : Prop :=
  Scalar.cmpi .ne (Scalar.extui (Scalar.andi (Scalar.cmpi .slt (BitVec.ofNat 32 (i 0).val) (wN T1)) (Scalar.ori (Scalar.cmpi .eq (BitVec.ofNat 32 (i 0).val) 0#32) (Scalar.cmpi .ne (wE T0 i) (wP T0 i))))) 0#32 = 1#1

section Runs

variable (c : Dev nD) (i : grid0.Coords)
  (arg3 : Memref sig .tc .vmem S512x1024 .f32) (harg3 : arg3.IsWhole) (arg4 : Memref sig .tc .vmem S1x1024x2048 .f32) (harg4 : arg4.IsWhole)
  (arg5 : Memref sig .tc .vmem S1x1x2048 .f32) (harg5 : arg5.IsWhole) (arg6 : Memref sig .tc .vmem S1x1024x1024 .f32) (harg6 : arg6.IsWhole)
  (arg7 : Memref sig .tc .vmem S1x1x1024 .f32) (harg7 : arg7.IsWhole) (arg8 : Memref sig .tc .vmem S512x1024 .f32) (harg8 : arg8.IsWhole)
  (T0 T1 : S128.Idx → Elt Bits .i32)
  (x0 : S512x1024.Idx → Elt Bits .f32) (x1 : S1x1024x2048.Idx → Elt Bits .f32) (x2 : S1x1x2048.Idx → Elt Bits .f32)
  (x3 : S1x1024x1024.Idx → Elt Bits .f32) (x4 : S1x1x1024.Idx → Elt Bits .f32)

/-- The five input windows at given blocks, and the two tables. -/
def held : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (tbE.view.loc (c : Thread nD τ) ↦{fullShare.right} T0)
    ∗ (tbN.view.loc (c : Thread nD τ) ↦{fullShare.right} T1))

set_option backward.proofsInPublic true in
set_option maxHeartbeats 8000000 in
/-- The first tile of an expert: what the output window and the two caches are left holding. -/
noncomputable def runFresh (hc0 : isFresh T0 T1 i) (k0_h2 : k0_cond2 i (wN T1) = 1#1) (k0_h3 : ¬(k0_cond3 i (wN T1) = 1#1)) :
    Σ' (out0 : List (View.Piece (Elt Bits) S512x1024 .f32)) (out1 : Buf (Elt Bits) ((c : Thread nD τ).loc cc0_scratch0)), { out2 : Buf (Elt Bits) ((c : Thread nD τ).loc cc0_scratch1) //
      ∀ (xa0 : Buf (Elt Bits) ((c : Thread nD τ).loc cc0_scratch0)) (xa1 : Buf (Elt Bits) ((c : Thread nD τ).loc cc0_scratch1)) (K : PUnit → sProp 𝕄),
        iprop(held c arg3 arg4 arg5 arg6 arg7 T0 T1 x0 x1 x2 x3 x4
          ∗ (∃ d, owns (c : Thread nD τ) arg8 fullShare d)
          ∗ (scU.view.loc (c : Thread nD τ) ↦{fullShare} xa0)
          ∗ (scD.view.loc (c : Thread nD τ) ↦{fullShare} xa1)
          ∗ (iprop(held c arg3 arg4 arg5 arg6 arg7 T0 T1 x0 x1 x2 x3 x4
              ∗ (∃ f, arg8.view.loc (c : Thread nD τ) ↦[arg8.view.set]{fullShare} arg8.view.writes (Elt Bits) f out0)
              ∗ (scU.view.loc (c : Thread nD τ) ↦{fullShare} out1)
              ∗ (scD.view.loc (c : Thread nD τ) ↦{fullShare} out2)) -∗ K ⟨⟩))
          ⊢ wp frame (wpE (defs₀ (F := Bits)) Variants.none c none) Set.univ (cc0_ffn i tbE (Memref.isWhole_whole _) tbN (Memref.isWhole_whole _) arg3 harg3 arg4 harg4 arg5 harg5 arg6 harg6 arg7 harg7 arg8 harg8 scU (Memref.isWhole_whole _) scD (Memref.isWhole_whole _)) K } :=
  ⟨_, _, _, fun (xa0 : Buf (Elt Bits) ((c : Thread nD τ).loc cc0_scratch0)) (xa1 : Buf (Elt Bits) ((c : Thread nD τ).loc cc0_scratch1)) K => by
    unfold owns held
    rw [cc0_ffn_eq_skeleton]; unfold cc0_ffn_skel
    iintro ⟨⟨H0, H1, H2, H3, H4, HT0, HT1⟩, ⟨%d5, %f5, -, HO5⟩, HS0, HS1, Hk⟩
    have hS0 : scU.IsWhole := Memref.isWhole_whole _
    have hS1 : scD.IsWhole := Memref.isWhole_whole _
    have hT0 : tbE.IsWhole := Memref.isWhole_whole _
    have hT1 : tbN.IsWhole := Memref.isWhole_whole _
    sl_exec! (disch := first | (guard_target = Scalar.cmpi = _; exact hc0) | (guard_target = k0_cond2 _ _ = _; exact k0_h2) | (guard_target = ¬(k0_cond3 _ _ = _); exact k0_h3))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

set_option backward.proofsInPublic true in
set_option maxHeartbeats 8000000 in
/-- A later tile of the same expert: the caches are read and left alone. -/
noncomputable def runKept (xa0 : Buf (Elt Bits) ((c : Thread nD τ).loc cc0_scratch0)) (xa1 : Buf (Elt Bits) ((c : Thread nD τ).loc cc0_scratch1))
    (hc0 : ¬isFresh T0 T1 i) (k0_h2 : k0_cond2 i (wN T1) = 1#1) (k0_h3 : ¬(k0_cond3 i (wN T1) = 1#1)) :
    { out0 : List (View.Piece (Elt Bits) S512x1024 .f32) //
      ∀ (K : PUnit → sProp 𝕄),
        iprop(held c arg3 arg4 arg5 arg6 arg7 T0 T1 x0 x1 x2 x3 x4
          ∗ (∃ d, owns (c : Thread nD τ) arg8 fullShare d)
          ∗ (scU.view.loc (c : Thread nD τ) ↦{fullShare} xa0)
          ∗ (scD.view.loc (c : Thread nD τ) ↦{fullShare} xa1)
          ∗ (iprop(held c arg3 arg4 arg5 arg6 arg7 T0 T1 x0 x1 x2 x3 x4
              ∗ (∃ f, arg8.view.loc (c : Thread nD τ) ↦[arg8.view.set]{fullShare} arg8.view.writes (Elt Bits) f out0)
              ∗ (scU.view.loc (c : Thread nD τ) ↦{fullShare} xa0)
              ∗ (scD.view.loc (c : Thread nD τ) ↦{fullShare} xa1)) -∗ K ⟨⟩))
          ⊢ wp frame (wpE (defs₀ (F := Bits)) Variants.none c none) Set.univ (cc0_ffn i tbE (Memref.isWhole_whole _) tbN (Memref.isWhole_whole _) arg3 harg3 arg4 harg4 arg5 harg5 arg6 harg6 arg7 harg7 arg8 harg8 scU (Memref.isWhole_whole _) scD (Memref.isWhole_whole _)) K } :=
  ⟨_, fun K => by
    unfold owns held
    rw [cc0_ffn_eq_skeleton]; unfold cc0_ffn_skel
    iintro ⟨⟨H0, H1, H2, H3, H4, HT0, HT1⟩, ⟨%d5, %f5, -, HO5⟩, HS0, HS1, Hk⟩
    have hS0 : scU.IsWhole := Memref.isWhole_whole _
    have hS1 : scD.IsWhole := Memref.isWhole_whole _
    have hT0 : tbE.IsWhole := Memref.isWhole_whole _
    have hT1 : tbN.IsWhole := Memref.isWhole_whole _
    sl_exec! (disch := first | (guard_target = ¬(Scalar.cmpi = _); exact hc0) | (guard_target = k0_cond2 _ _ = _; exact k0_h2) | (guard_target = ¬(k0_cond3 _ _ = _); exact k0_h3))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

set_option backward.proofsInPublic true in
set_option maxHeartbeats 8000000 in
/-- A tile past the end: zeros are stored, the caches left alone. -/
noncomputable def runPast (hc0 : ¬isFresh T0 T1 i) (k0_h2 : ¬(k0_cond2 i (wN T1) = 1#1)) (k0_h3 : k0_cond3 i (wN T1) = 1#1) :
    { out0 : List (View.Piece (Elt Bits) S512x1024 .f32) //
      ∀ (xa0 : Buf (Elt Bits) ((c : Thread nD τ).loc cc0_scratch0)) (xa1 : Buf (Elt Bits) ((c : Thread nD τ).loc cc0_scratch1)) (K : PUnit → sProp 𝕄),
        iprop(held c arg3 arg4 arg5 arg6 arg7 T0 T1 x0 x1 x2 x3 x4
          ∗ (∃ d, owns (c : Thread nD τ) arg8 fullShare d)
          ∗ (scU.view.loc (c : Thread nD τ) ↦{fullShare} xa0)
          ∗ (scD.view.loc (c : Thread nD τ) ↦{fullShare} xa1)
          ∗ (iprop(held c arg3 arg4 arg5 arg6 arg7 T0 T1 x0 x1 x2 x3 x4
              ∗ (∃ f, arg8.view.loc (c : Thread nD τ) ↦[arg8.view.set]{fullShare} arg8.view.writes (Elt Bits) f out0)
              ∗ (scU.view.loc (c : Thread nD τ) ↦{fullShare} xa0)
              ∗ (scD.view.loc (c : Thread nD τ) ↦{fullShare} xa1)) -∗ K ⟨⟩))
          ⊢ wp frame (wpE (defs₀ (F := Bits)) Variants.none c none) Set.univ (cc0_ffn i tbE (Memref.isWhole_whole _) tbN (Memref.isWhole_whole _) arg3 harg3 arg4 harg4 arg5 harg5 arg6 harg6 arg7 harg7 arg8 harg8 scU (Memref.isWhole_whole _) scD (Memref.isWhole_whole _)) K } :=
  ⟨_, fun xa0 xa1 K => by
    unfold owns held
    rw [cc0_ffn_eq_skeleton]; unfold cc0_ffn_skel
    iintro ⟨⟨H0, H1, H2, H3, H4, HT0, HT1⟩, ⟨%d5, %f5, -, HO5⟩, HS0, HS1, Hk⟩
    have hS0 : scU.IsWhole := Memref.isWhole_whole _
    have hS1 : scD.IsWhole := Memref.isWhole_whole _
    have hT0 : tbE.IsWhole := Memref.isWhole_whole _
    have hT1 : tbN.IsWhole := Memref.isWhole_whole _
    sl_exec! (disch := first | (guard_target = ¬(Scalar.cmpi = _); exact hc0) | (guard_target = ¬(k0_cond2 _ _ = _); exact k0_h2) | (guard_target = k0_cond3 _ _ = _; exact k0_h3))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

/-! ### What the three runs leave, in closed form -/

/-- The whole MLP of one tile: the narrowed weights, the gate and up products, the activation, the down product. -/
abbrev tileVal : S512x1024.Idx → Elt Bits .f32 := k0_pay4 x0 (k0_pay1 x1) x2 (k0_pay2 x3) x4

theorem runFresh_up (hc0 : isFresh T0 T1 i) (k0_h2 : k0_cond2 i (wN T1) = 1#1) (k0_h3 : ¬(k0_cond3 i (wN T1) = 1#1)) :
    scU.view.read (Elt Bits) ((runFresh c i arg3 harg3 arg4 harg4 arg5 harg5 arg6 harg6 arg7 harg7 arg8 harg8 T0 T1 x0 x1 x2 x3 x4 hc0 k0_h2 k0_h3).2.1) = k0_pay1 (F := Bits) x1 := by
  have e := congrArg (k0_pay1 (F := Bits)) (View.readAt_rep_full arg4.view x1 inb_S1x1024x2048_S1x1024x2048_0_0_0)
  unfold runFresh
  dsimp only
  unfold runFresh.sl.HS0_1
  exact (View.read_writes_full (Val := Elt Bits) scU.view scU.view.junk inb_S1024x2048_S1024x2048_0_0 _ []).trans e

theorem runFresh_down (hc0 : isFresh T0 T1 i) (k0_h2 : k0_cond2 i (wN T1) = 1#1) (k0_h3 : ¬(k0_cond3 i (wN T1) = 1#1)) :
    scD.view.read (Elt Bits) ((runFresh c i arg3 harg3 arg4 harg4 arg5 harg5 arg6 harg6 arg7 harg7 arg8 harg8 T0 T1 x0 x1 x2 x3 x4 hc0 k0_h2 k0_h3).2.2.1) = k0_pay2 (F := Bits) x3 := by
  have e := congrArg (k0_pay2 (F := Bits)) (View.readAt_rep_full arg6.view x3 inb_S1x1024x1024_S1x1024x1024_0_0_0)
  unfold runFresh
  dsimp only
  unfold runFresh.sl.HS1_1
  exact (View.read_writes_full (Val := Elt Bits) scD.view scD.view.junk inb_S1024x1024_S1024x1024_0_0 _ []).trans e

theorem runFresh_out (hc0 : isFresh T0 T1 i) (k0_h2 : k0_cond2 i (wN T1) = 1#1) (k0_h3 : ¬(k0_cond3 i (wN T1) = 1#1)) (f) :
    arg8.view.read (Elt Bits) (arg8.view.writes (Elt Bits) f (runFresh c i arg3 harg3 arg4 harg4 arg5 harg5 arg6 harg6 arg7 harg7 arg8 harg8 T0 T1 x0 x1 x2 x3 x4 hc0 k0_h2 k0_h3).1)
      = tileVal x0 x1 x2 x3 x4 := by
  unfold runFresh
  dsimp only
  unfold runFresh.sl.HO5_1
  erw [View.read_writes_full]
  unfold runFresh.sl.r_3 runFresh.sl.v21 runFresh.sl.v49
  rw [View.readAt_rep_full, View.readAt_rep_full, View.readAt_rep_full]
  have eu : scU.view.readCov (runFresh.sl.HS0_1 arg4 x1) (Rect.unit ![0, 0] S1024x2048.size inb_S1024x2048_S1024x2048_0_0).toLoadRect = k0_pay1 (F := Bits) x1 := by
    unfold runFresh.sl.HS0_1
    have e := congrArg (k0_pay1 (F := Bits)) (View.readAt_rep_full arg4.view x1 inb_S1x1024x2048_S1x1024x2048_0_0_0)
    exact (View.readCov_full (Val := Elt Bits) scU.view inb_S1024x2048_S1024x2048_0_0 inb_S1024x2048_S1024x2048_0_0 _ []).trans e
  have ed : scD.view.readCov (runFresh.sl.HS1_1 arg6 x3) (Rect.unit ![0, 0] S1024x1024.size inb_S1024x1024_S1024x1024_0_0).toLoadRect = k0_pay2 (F := Bits) x3 := by
    unfold runFresh.sl.HS1_1
    have e := congrArg (k0_pay2 (F := Bits)) (View.readAt_rep_full arg6.view x3 inb_S1x1024x1024_S1x1024x1024_0_0_0)
    exact (View.readCov_full (Val := Elt Bits) scD.view inb_S1024x1024_S1024x1024_0_0 inb_S1024x1024_S1024x1024_0_0 _ []).trans e
  rw [eu, ed]

theorem runKept_out (xa0 : Buf (Elt Bits) ((c : Thread nD τ).loc cc0_scratch0)) (xa1 : Buf (Elt Bits) ((c : Thread nD τ).loc cc0_scratch1))
    (hc0 : ¬isFresh T0 T1 i) (k0_h2 : k0_cond2 i (wN T1) = 1#1) (k0_h3 : ¬(k0_cond3 i (wN T1) = 1#1)) (f) :
    arg8.view.read (Elt Bits) (arg8.view.writes (Elt Bits) f (runKept c i arg3 harg3 arg4 harg4 arg5 harg5 arg6 harg6 arg7 harg7 arg8 harg8 T0 T1 x0 x1 x2 x3 x4 xa0 xa1 hc0 k0_h2 k0_h3).1)
      = k0_pay4 x0 (scU.view.read (Elt Bits) xa0) x2 (scD.view.read (Elt Bits) xa1) x4 := by
  unfold runKept
  dsimp only
  unfold runKept.sl.HO5_1
  erw [View.read_writes_full]
  unfold runKept.sl.r_3
  rw [View.readAt_rep_full, View.readAt_rep_full, View.readAt_rep_full]
  have eu : View.readAt (Elt Bits) scU.view (Rect.unit ![0, 0] S1024x2048.size inb_S1024x2048_S1024x2048_0_0).toLoadRect xa0 = scU.view.read (Elt Bits) xa0 :=
    View.readAt_full (Val := Elt Bits) scU.view xa0 inb_S1024x2048_S1024x2048_0_0
  have ed : View.readAt (Elt Bits) scD.view (Rect.unit ![0, 0] S1024x1024.size inb_S1024x1024_S1024x1024_0_0).toLoadRect xa1 = scD.view.read (Elt Bits) xa1 :=
    View.readAt_full (Val := Elt Bits) scD.view xa1 inb_S1024x1024_S1024x1024_0_0
  rw [eu, ed]

theorem runPast_out (hc0 : ¬isFresh T0 T1 i) (k0_h2 : ¬(k0_cond2 i (wN T1) = 1#1)) (k0_h3 : k0_cond3 i (wN T1) = 1#1) (f) :
    arg8.view.read (Elt Bits) (arg8.view.writes (Elt Bits) f (runPast c i arg3 harg3 arg4 harg4 arg5 harg5 arg6 harg6 arg7 harg7 arg8 harg8 T0 T1 x0 x1 x2 x3 x4 hc0 k0_h2 k0_h3).1)
      = k0_pay3 (F := Bits) := by
  unfold runPast
  dsimp only
  unfold runPast.sl.HO5_1
  erw [View.read_writes_full]

end Runs

end Cert.Kernel2.Ffn

end
-- ==== Proof.FfnRunI.lean ====
/- The body of the grouped expert MLP, run once per control path: first tile of an expert (weights are narrowed into the
   scratch buffers, then used), later tile of the same expert (the scratch buffers are used as they are), tile past the end
   (zeros are stored). -/
module

public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Pipeline.Value
public import Idealize.ShloMosaic.Lib.VecWindow
public import Idealize.ShloMosaic.Lib.Exec
public import Idealize.ShloMosaic.Lib.Tactic
public import Idealize.ShloMosaic.Lib.Ring
public import Idealize.ShloMosaic.Lib.Affine
public import Idealize.ShloMosaic.PureOps.Ideal
public import Idealize.ShloMosaic.PureOps.BitExact

@[expose] public section

set_option maxRecDepth 16384
set_option Elab.async false

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The expert table and the counters table as the kernel is handed them, and the two weight caches. -/
abbrev tbE : Memref sig .tc .smem S128 .i32 := Memref.whole main_arg0
abbrev tbN : Memref sig .tc .smem S128 .i32 := Memref.whole main_arg1
abbrev scU : Memref sig .tc .vmem S1024x2048 .bf16 := Memref.whole cc0_scratch0
abbrev scD : Memref sig .tc .vmem S1024x1024 .bf16 := Memref.whole cc0_scratch1

/-- The word of the counters table that counts the tiles in use. -/
abbrev wN (T1 : S128.Idx → Elt Ideal .i32) : BitVec 32 :=
  View.readAt (Elt Ideal) tbN.view (Rect.unit (s := S128) ![32] S1.size inb_S128_S1_32).toLoadRect T1 (Shape.Idx.first (numel1_S1.symm ▸ Nat.one_pos))
/-- The expert of tile `i`, and that of the tile before it. -/
abbrev wE (T0 : S128.Idx → Elt Ideal .i32) (i : grid0.Coords) : BitVec 32 :=
  View.readAt (Elt Ideal) tbE.view (Rect.unit (s := S128) (k0_off1 i) S1.size (k0_off1_inb i)).toLoadRect T0 (Shape.Idx.first (numel1_S1.symm ▸ Nat.one_pos))
abbrev wP (T0 : S128.Idx → Elt Ideal .i32) (i : grid0.Coords) : BitVec 32 :=
  View.readAt (Elt Ideal) tbE.view (Rect.unit (s := S128) (k0_off2 i) S1.size (k0_off2_inb i)).toLoadRect T0 (Shape.Idx.first (numel1_S1.symm ▸ Nat.one_pos))
/-- The body's first test: the tile is in use, and it is the first one or its expert differs from the one before. -/
abbrev isFresh (T0 T1 : S128.Idx → Elt Ideal .i32) (i : grid0.Coords) : Prop :=
  Scalar.cmpi .ne (Scalar.extui (Scalar.andi (Scalar.cmpi .slt (BitVec.ofNat 32 (i 0).val) (wN T1)) (Scalar.ori (Scalar.cmpi .eq (BitVec.ofNat 32 (i 0).val) 0#32) (Scalar.cmpi .ne (wE T0 i) (wP T0 i))))) 0#32 = 1#1

section Runs

variable (c : Dev nD) (i : grid0.Coords)
  (arg3 : Memref sig .tc .vmem S512x1024 .f32) (harg3 : arg3.IsWhole) (arg4 : Memref sig .tc .vmem S1x1024x2048 .f32) (harg4 : arg4.IsWhole)
  (arg5 : Memref sig .tc .vmem S1x1x2048 .f32) (harg5 : arg5.IsWhole) (arg6 : Memref sig .tc .vmem S1x1024x1024 .f32) (harg6 : arg6.IsWhole)
  (arg7 : Memref sig .tc .vmem S1x1x1024 .f32) (harg7 : arg7.IsWhole) (arg8 : Memref sig .tc .vmem S512x1024 .f32) (harg8 : arg8.IsWhole)
  (T0 T1 : S128.Idx → Elt Ideal .i32)
  (x0 : S512x1024.Idx → Elt Ideal .f32) (x1 : S1x1024x2048.Idx → Elt Ideal .f32) (x2 : S1x1x2048.Idx → Elt Ideal .f32)
  (x3 : S1x1024x1024.Idx → Elt Ideal .f32) (x4 : S1x1x1024.Idx → Elt Ideal .f32)

/-- The five input windows at given blocks, and the two tables. -/
def held : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (tbE.view.loc (c : Thread nD τ) ↦{fullShare.right} T0)
    ∗ (tbN.view.loc (c : Thread nD τ) ↦{fullShare.right} T1))

set_option backward.proofsInPublic true in
set_option maxHeartbeats 8000000 in
/-- The first tile of an expert: what the output window and the two caches are left holding. -/
noncomputable def runFresh (hc0 : isFresh T0 T1 i) (k0_h2 : k0_cond2 i (wN T1) = 1#1) (k0_h3 : ¬(k0_cond3 i (wN T1) = 1#1)) :
    Σ' (out0 : List (View.Piece (Elt Ideal) S512x1024 .f32)) (out1 : Buf (Elt Ideal) ((c : Thread nD τ).loc cc0_scratch0)), { out2 : Buf (Elt Ideal) ((c : Thread nD τ).loc cc0_scratch1) //
      ∀ (xa0 : Buf (Elt Ideal) ((c : Thread nD τ).loc cc0_scratch0)) (xa1 : Buf (Elt Ideal) ((c : Thread nD τ).loc cc0_scratch1)) (K : PUnit → sProp 𝕄),
        iprop(held c arg3 arg4 arg5 arg6 arg7 T0 T1 x0 x1 x2 x3 x4
          ∗ (∃ d, owns (c : Thread nD τ) arg8 fullShare d)
          ∗ (scU.view.loc (c : Thread nD τ) ↦{fullShare} xa0)
          ∗ (scD.view.loc (c : Thread nD τ) ↦{fullShare} xa1)
          ∗ (iprop(held c arg3 arg4 arg5 arg6 arg7 T0 T1 x0 x1 x2 x3 x4
              ∗ (∃ f, arg8.view.loc (c : Thread nD τ) ↦[arg8.view.set]{fullShare} arg8.view.writes (Elt Ideal) f out0)
              ∗ (scU.view.loc (c : Thread nD τ) ↦{fullShare} out1)
              ∗ (scD.view.loc (c : Thread nD τ) ↦{fullShare} out2)) -∗ K ⟨⟩))
          ⊢ wp frame (wpE (defs₀ (F := Ideal)) Variants.none c none) Set.univ (cc0_ffn i tbE (Memref.isWhole_whole _) tbN (Memref.isWhole_whole _) arg3 harg3 arg4 harg4 arg5 harg5 arg6 harg6 arg7 harg7 arg8 harg8 scU (Memref.isWhole_whole _) scD (Memref.isWhole_whole _)) K } :=
  ⟨_, _, _, fun (xa0 : Buf (Elt Ideal) ((c : Thread nD τ).loc cc0_scratch0)) (xa1 : Buf (Elt Ideal) ((c : Thread nD τ).loc cc0_scratch1)) K => by
    unfold owns held
    rw [cc0_ffn_eq_skeleton]; unfold cc0_ffn_skel
    iintro ⟨⟨H0, H1, H2, H3, H4, HT0, HT1⟩, ⟨%d5, %f5, -, HO5⟩, HS0, HS1, Hk⟩
    have hS0 : scU.IsWhole := Memref.isWhole_whole _
    have hS1 : scD.IsWhole := Memref.isWhole_whole _
    have hT0 : tbE.IsWhole := Memref.isWhole_whole _
    have hT1 : tbN.IsWhole := Memref.isWhole_whole _
    sl_exec! (disch := first | (guard_target = Scalar.cmpi = _; exact hc0) | (guard_target = k0_cond2 _ _ = _; exact k0_h2) | (guard_target = ¬(k0_cond3 _ _ = _); exact k0_h3))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

set_option backward.proofsInPublic true in
set_option maxHeartbeats 8000000 in
/-- A later tile of the same expert: the caches are read and left alone. -/
noncomputable def runKept (xa0 : Buf (Elt Ideal) ((c : Thread nD τ).loc cc0_scratch0)) (xa1 : Buf (Elt Ideal) ((c : Thread nD τ).loc cc0_scratch1))
    (hc0 : ¬isFresh T0 T1 i) (k0_h2 : k0_cond2 i (wN T1) = 1#1) (k0_h3 : ¬(k0_cond3 i (wN T1) = 1#1)) :
    { out0 : List (View.Piece (Elt Ideal) S512x1024 .f32) //
      ∀ (K : PUnit → sProp 𝕄),
        iprop(held c arg3 arg4 arg5 arg6 arg7 T0 T1 x0 x1 x2 x3 x4
          ∗ (∃ d, owns (c : Thread nD τ) arg8 fullShare d)
          ∗ (scU.view.loc (c : Thread nD τ) ↦{fullShare} xa0)
          ∗ (scD.view.loc (c : Thread nD τ) ↦{fullShare} xa1)
          ∗ (iprop(held c arg3 arg4 arg5 arg6 arg7 T0 T1 x0 x1 x2 x3 x4
              ∗ (∃ f, arg8.view.loc (c : Thread nD τ) ↦[arg8.view.set]{fullShare} arg8.view.writes (Elt Ideal) f out0)
              ∗ (scU.view.loc (c : Thread nD τ) ↦{fullShare} xa0)
              ∗ (scD.view.loc (c : Thread nD τ) ↦{fullShare} xa1)) -∗ K ⟨⟩))
          ⊢ wp frame (wpE (defs₀ (F := Ideal)) Variants.none c none) Set.univ (cc0_ffn i tbE (Memref.isWhole_whole _) tbN (Memref.isWhole_whole _) arg3 harg3 arg4 harg4 arg5 harg5 arg6 harg6 arg7 harg7 arg8 harg8 scU (Memref.isWhole_whole _) scD (Memref.isWhole_whole _)) K } :=
  ⟨_, fun K => by
    unfold owns held
    rw [cc0_ffn_eq_skeleton]; unfold cc0_ffn_skel
    iintro ⟨⟨H0, H1, H2, H3, H4, HT0, HT1⟩, ⟨%d5, %f5, -, HO5⟩, HS0, HS1, Hk⟩
    have hS0 : scU.IsWhole := Memref.isWhole_whole _
    have hS1 : scD.IsWhole := Memref.isWhole_whole _
    have hT0 : tbE.IsWhole := Memref.isWhole_whole _
    have hT1 : tbN.IsWhole := Memref.isWhole_whole _
    sl_exec! (disch := first | (guard_target = ¬(Scalar.cmpi = _); exact hc0) | (guard_target = k0_cond2 _ _ = _; exact k0_h2) | (guard_target = ¬(k0_cond3 _ _ = _); exact k0_h3))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

set_option backward.proofsInPublic true in
set_option maxHeartbeats 8000000 in
/-- A tile past the end: zeros are stored, the caches left alone. -/
noncomputable def runPast (hc0 : ¬isFresh T0 T1 i) (k0_h2 : ¬(k0_cond2 i (wN T1) = 1#1)) (k0_h3 : k0_cond3 i (wN T1) = 1#1) :
    { out0 : List (View.Piece (Elt Ideal) S512x1024 .f32) //
      ∀ (xa0 : Buf (Elt Ideal) ((c : Thread nD τ).loc cc0_scratch0)) (xa1 : Buf (Elt Ideal) ((c : Thread nD τ).loc cc0_scratch1)) (K : PUnit → sProp 𝕄),
        iprop(held c arg3 arg4 arg5 arg6 arg7 T0 T1 x0 x1 x2 x3 x4
          ∗ (∃ d, owns (c : Thread nD τ) arg8 fullShare d)
          ∗ (scU.view.loc (c : Thread nD τ) ↦{fullShare} xa0)
          ∗ (scD.view.loc (c : Thread nD τ) ↦{fullShare} xa1)
          ∗ (iprop(held c arg3 arg4 arg5 arg6 arg7 T0 T1 x0 x1 x2 x3 x4
              ∗ (∃ f, arg8.view.loc (c : Thread nD τ) ↦[arg8.view.set]{fullShare} arg8.view.writes (Elt Ideal) f out0)
              ∗ (scU.view.loc (c : Thread nD τ) ↦{fullShare} xa0)
              ∗ (scD.view.loc (c : Thread nD τ) ↦{fullShare} xa1)) -∗ K ⟨⟩))
          ⊢ wp frame (wpE (defs₀ (F := Ideal)) Variants.none c none) Set.univ (cc0_ffn i tbE (Memref.isWhole_whole _) tbN (Memref.isWhole_whole _) arg3 harg3 arg4 harg4 arg5 harg5 arg6 harg6 arg7 harg7 arg8 harg8 scU (Memref.isWhole_whole _) scD (Memref.isWhole_whole _)) K } :=
  ⟨_, fun xa0 xa1 K => by
    unfold owns held
    rw [cc0_ffn_eq_skeleton]; unfold cc0_ffn_skel
    iintro ⟨⟨H0, H1, H2, H3, H4, HT0, HT1⟩, ⟨%d5, %f5, -, HO5⟩, HS0, HS1, Hk⟩
    have hS0 : scU.IsWhole := Memref.isWhole_whole _
    have hS1 : scD.IsWhole := Memref.isWhole_whole _
    have hT0 : tbE.IsWhole := Memref.isWhole_whole _
    have hT1 : tbN.IsWhole := Memref.isWhole_whole _
    sl_exec! (disch := first | (guard_target = ¬(Scalar.cmpi = _); exact hc0) | (guard_target = ¬(k0_cond2 _ _ = _); exact k0_h2) | (guard_target = k0_cond3 _ _ = _; exact k0_h3))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

/-! ### What the three runs leave, in closed form -/

/-- The whole MLP of one tile: the narrowed weights, the gate and up products, the activation, the down product. -/
abbrev tileVal : S512x1024.Idx → Elt Ideal .f32 := k0_pay4 x0 (k0_pay1 x1) x2 (k0_pay2 x3) x4

theorem runFresh_up (hc0 : isFresh T0 T1 i) (k0_h2 : k0_cond2 i (wN T1) = 1#1) (k0_h3 : ¬(k0_cond3 i (wN T1) = 1#1)) :
    scU.view.read (Elt Ideal) ((runFresh c i arg3 harg3 arg4 harg4 arg5 harg5 arg6 harg6 arg7 harg7 arg8 harg8 T0 T1 x0 x1 x2 x3 x4 hc0 k0_h2 k0_h3).2.1) = k0_pay1 (F := Ideal) x1 := by
  have e := congrArg (k0_pay1 (F := Ideal)) (View.readAt_rep_full arg4.view x1 inb_S1x1024x2048_S1x1024x2048_0_0_0)
  unfold runFresh
  dsimp only
  unfold runFresh.sl.HS0_1
  exact (View.read_writes_full (Val := Elt Ideal) scU.view scU.view.junk inb_S1024x2048_S1024x2048_0_0 _ []).trans e

theorem runFresh_down (hc0 : isFresh T0 T1 i) (k0_h2 : k0_cond2 i (wN T1) = 1#1) (k0_h3 : ¬(k0_cond3 i (wN T1) = 1#1)) :
    scD.view.read (Elt Ideal) ((runFresh c i arg3 harg3 arg4 harg4 arg5 harg5 arg6 harg6 arg7 harg7 arg8 harg8 T0 T1 x0 x1 x2 x3 x4 hc0 k0_h2 k0_h3).2.2.1) = k0_pay2 (F := Ideal) x3 := by
  have e := congrArg (k0_pay2 (F := Ideal)) (View.readAt_rep_full arg6.view x3 inb_S1x1024x1024_S1x1024x1024_0_0_0)
  unfold runFresh
  dsimp only
  unfold runFresh.sl.HS1_1
  exact (View.read_writes_full (Val := Elt Ideal) scD.view scD.view.junk inb_S1024x1024_S1024x1024_0_0 _ []).trans e

theorem runFresh_out (hc0 : isFresh T0 T1 i) (k0_h2 : k0_cond2 i (wN T1) = 1#1) (k0_h3 : ¬(k0_cond3 i (wN T1) = 1#1)) (f) :
    arg8.view.read (Elt Ideal) (arg8.view.writes (Elt Ideal) f (runFresh c i arg3 harg3 arg4 harg4 arg5 harg5 arg6 harg6 arg7 harg7 arg8 harg8 T0 T1 x0 x1 x2 x3 x4 hc0 k0_h2 k0_h3).1)
      = tileVal x0 x1 x2 x3 x4 := by
  unfold runFresh
  dsimp only
  unfold runFresh.sl.HO5_1
  erw [View.read_writes_full]
  unfold runFresh.sl.r_3 runFresh.sl.v21 runFresh.sl.v49
  rw [View.readAt_rep_full, View.readAt_rep_full, View.readAt_rep_full]
  have eu : scU.view.readCov (runFresh.sl.HS0_1 arg4 x1) (Rect.unit ![0, 0] S1024x2048.size inb_S1024x2048_S1024x2048_0_0).toLoadRect = k0_pay1 (F := Ideal) x1 := by
    unfold runFresh.sl.HS0_1
    have e := congrArg (k0_pay1 (F := Ideal)) (View.readAt_rep_full arg4.view x1 inb_S1x1024x2048_S1x1024x2048_0_0_0)
    exact (View.readCov_full (Val := Elt Ideal) scU.view inb_S1024x2048_S1024x2048_0_0 inb_S1024x2048_S1024x2048_0_0 _ []).trans e
  have ed : scD.view.readCov (runFresh.sl.HS1_1 arg6 x3) (Rect.unit ![0, 0] S1024x1024.size inb_S1024x1024_S1024x1024_0_0).toLoadRect = k0_pay2 (F := Ideal) x3 := by
    unfold runFresh.sl.HS1_1
    have e := congrArg (k0_pay2 (F := Ideal)) (View.readAt_rep_full arg6.view x3 inb_S1x1024x1024_S1x1024x1024_0_0_0)
    exact (View.readCov_full (Val := Elt Ideal) scD.view inb_S1024x1024_S1024x1024_0_0 inb_S1024x1024_S1024x1024_0_0 _ []).trans e
  rw [eu, ed]

theorem runKept_out (xa0 : Buf (Elt Ideal) ((c : Thread nD τ).loc cc0_scratch0)) (xa1 : Buf (Elt Ideal) ((c : Thread nD τ).loc cc0_scratch1))
    (hc0 : ¬isFresh T0 T1 i) (k0_h2 : k0_cond2 i (wN T1) = 1#1) (k0_h3 : ¬(k0_cond3 i (wN T1) = 1#1)) (f) :
    arg8.view.read (Elt Ideal) (arg8.view.writes (Elt Ideal) f (runKept c i arg3 harg3 arg4 harg4 arg5 harg5 arg6 harg6 arg7 harg7 arg8 harg8 T0 T1 x0 x1 x2 x3 x4 xa0 xa1 hc0 k0_h2 k0_h3).1)
      = k0_pay4 x0 (scU.view.read (Elt Ideal) xa0) x2 (scD.view.read (Elt Ideal) xa1) x4 := by
  unfold runKept
  dsimp only
  unfold runKept.sl.HO5_1
  erw [View.read_writes_full]
  unfold runKept.sl.r_3
  rw [View.readAt_rep_full, View.readAt_rep_full, View.readAt_rep_full]
  have eu : View.readAt (Elt Ideal) scU.view (Rect.unit ![0, 0] S1024x2048.size inb_S1024x2048_S1024x2048_0_0).toLoadRect xa0 = scU.view.read (Elt Ideal) xa0 :=
    View.readAt_full (Val := Elt Ideal) scU.view xa0 inb_S1024x2048_S1024x2048_0_0
  have ed : View.readAt (Elt Ideal) scD.view (Rect.unit ![0, 0] S1024x1024.size inb_S1024x1024_S1024x1024_0_0).toLoadRect xa1 = scD.view.read (Elt Ideal) xa1 :=
    View.readAt_full (Val := Elt Ideal) scD.view xa1 inb_S1024x1024_S1024x1024_0_0
  rw [eu, ed]

theorem runPast_out (hc0 : ¬isFresh T0 T1 i) (k0_h2 : ¬(k0_cond2 i (wN T1) = 1#1)) (k0_h3 : k0_cond3 i (wN T1) = 1#1) (f) :
    arg8.view.read (Elt Ideal) (arg8.view.writes (Elt Ideal) f (runPast c i arg3 harg3 arg4 harg4 arg5 harg5 arg6 harg6 arg7 harg7 arg8 harg8 T0 T1 x0 x1 x2 x3 x4 hc0 k0_h2 k0_h3).1)
      = k0_pay3 (F := Ideal) := by
  unfold runPast
  dsimp only
  unfold runPast.sl.HO5_1
  erw [View.read_writes_full]

end Runs

end Cert.Kernel2Ideal.Ffn

end
-- ==== Proof.FfnTablesI.lean ====
/- What the words of the two tables say: the body's three tests, and the blocks the index maps name. -/
module

public import proofs.«01_k».proof.Proof.FfnRunI
public import Idealize.ShloMosaic.Lib.WordCmp
public import Idealize.ShloMosaic.Lib.ValueIdxCore

@[expose] public section

set_option maxRecDepth 16384

noncomputable section

namespace Cert.Kernel2Ideal.Ffn

open Cert.Kernel2Ideal Cert.Kernel2Ideal.Gen
open Idealize.ShloMosaic
open Idealize.ShloMosaic.TcCoe Idealize.ShloMosaic.WordCmp

/-- Every tile names one of the 32 experts, and between 1 and 128 tiles are in use. -/
structure Good (T0 T1 : S128.Idx → Elt Ideal .i32) : Prop where
  expert : ∀ j : Fin 128, BitVec.toNat (w := 32) (T0 (ValueIdx.ix1 j)) < 32
  lo : 1 ≤ BitVec.toNat (w := 32) (T1 (ValueIdx.ix1 (32 : Fin 128)))
  hi : BitVec.toNat (w := 32) (T1 (ValueIdx.ix1 (32 : Fin 128))) ≤ 128

/-- The number of tiles in use. -/
def used (T1 : S128.Idx → Elt Ideal .i32) : ℕ := BitVec.toNat (w := 32) (T1 (ValueIdx.ix1 (32 : Fin 128)))
/-- The expert of tile `j`. -/
def expertOf (T0 : S128.Idx → Elt Ideal .i32) (j : Fin 128) : ℕ := BitVec.toNat (w := 32) (T0 (ValueIdx.ix1 j))

theorem idx1_ext (a b : S128.Idx) (h : (a 0).val = (b 0).val) : a = b := by
  funext d
  match d with
  | ⟨0, _⟩ => exact Fin.ext h

theorem wN_eq (T1 : S128.Idx → Elt Ideal .i32) : wN T1 = T1 (ValueIdx.ix1 (32 : Fin 128)) :=
  congrArg T1 (idx1_ext _ _ rfl)

theorem coord_lt (i : grid0.Coords) : (i 0).val < 128 := (i 0).isLt

theorem off1_eq : ∀ k : Fin 128, (BitVec.ofNat 32 k.val).toNat = k.val := by decide +kernel
theorem off2_eq : ∀ k : Fin 128, (Scalar.maxsi (Scalar.subi (BitVec.ofNat 32 k.val) 1#32) 0#32).toNat = k.val - 1 := by decide +kernel

theorem wE_eq (T0 : S128.Idx → Elt Ideal .i32) (i : grid0.Coords) : wE T0 i = T0 (ValueIdx.ix1 (⟨(i 0).val, coord_lt i⟩ : Fin 128)) :=
  congrArg T0 (idx1_ext _ _ (by
    show (BitVec.ofNat 32 (i 0).val).toNat + 1 * 0 = (i 0).val
    exact off1_eq ⟨(i 0).val, coord_lt i⟩))

theorem wP_eq (T0 : S128.Idx → Elt Ideal .i32) (i : grid0.Coords) :
    wP T0 i = T0 (ValueIdx.ix1 (⟨(i 0).val - 1, by have := coord_lt i; omega⟩ : Fin 128)) :=
  congrArg T0 (idx1_ext _ _ (by
    show (Scalar.maxsi (Scalar.subi (BitVec.ofNat 32 (i 0).val) 1#32) 0#32).toNat + 1 * 0 = (i 0).val - 1
    exact off2_eq ⟨(i 0).val, coord_lt i⟩))

theorem slt_eq {k : ℕ} (hk : k < 128) {n : BitVec 32} (hn : n.toNat ≤ 128) :
    Scalar.cmpi .slt (BitVec.ofNat 32 k) n = BitVec.ofBool (decide (k < n.toNat)) := by
  have e : (BitVec.ofNat 32 k).toNat = k := off1_eq ⟨k, hk⟩
  have h := cmpi_slt_of_lt (x := BitVec.ofNat 32 k) (y := n) (by rw [e]; omega) (by omega)
  rw [e] at h
  exact h

theorem cond2_iff (i : grid0.Coords) {n : BitVec 32} (hn : n.toNat ≤ 128) : k0_cond2 i n = 1#1 ↔ (i 0).val < n.toNat := by
  unfold k0_cond2
  dsimp only
  rw [slt_eq (coord_lt i) hn]
  by_cases h : (i 0).val < n.toNat
  · simp only [h, decide_true, iff_true]; decide
  · simp only [h, decide_false, iff_false]; decide

theorem cond3_iff (i : grid0.Coords) {n : BitVec 32} (hn : n.toNat ≤ 128) : k0_cond3 i n = 1#1 ↔ ¬ (i 0).val < n.toNat := by
  unfold k0_cond3
  dsimp only
  rw [slt_eq (coord_lt i) hn]
  by_cases h : (i 0).val < n.toNat
  · simp only [h, decide_true, not_true_eq_false, iff_false]; decide
  · simp only [h, decide_false, not_false_eq_true, iff_true]; decide

theorem isFresh_iff (T0 T1 : S128.Idx → Elt Ideal .i32) (i : grid0.Coords) (hn : (wN T1).toNat ≤ 128) :
    isFresh T0 T1 i ↔ (i 0).val < (wN T1).toNat ∧ ((i 0).val = 0 ∨ wE T0 i ≠ wP T0 i) := by
  have e0 : Scalar.cmpi .eq (BitVec.ofNat 32 (i 0).val) 0#32 = BitVec.ofBool (decide ((i 0).val = 0)) := by
    have h := cmpi_eq_eq (BitVec.ofNat 32 (i 0).val) 0#32
    refine h.trans (congrArg _ (decide_eq_decide.mpr ⟨fun h => ?_, fun h => by rw [h]⟩))
    have := congrArg BitVec.toNat h
    rwa [off1_eq ⟨(i 0).val, coord_lt i⟩] at this
  have e1 : Scalar.cmpi .ne (wE T0 i) (wP T0 i) = BitVec.ofBool (decide (wE T0 i ≠ wP T0 i)) := cmpi_ne_eq _ _
  unfold isFresh
  rw [slt_eq (coord_lt i) hn, e0, e1]
  have key : ∀ a b d : Bool, (Scalar.cmpi .ne (Scalar.extui (Scalar.andi (BitVec.ofBool a) (Scalar.ori (BitVec.ofBool b) (BitVec.ofBool d)))) 0#32 = 1#1)
      ↔ (a = true ∧ (b = true ∨ d = true)) := by decide
  rw [key]
  simp only [decide_eq_true_eq]

theorem minsi_eq {k : ℕ} (hk : k < 128) {n : BitVec 32} (hl : 1 ≤ n.toNat) (hn : n.toNat ≤ 128) :
    (Scalar.minsi (BitVec.ofNat 32 k) (Scalar.subi n 1#32)).toNat = min k (n.toNat - 1) := by
  have ek : (BitVec.ofNat 32 k).toNat = k := off1_eq ⟨k, hk⟩
  have es : (Scalar.subi n 1#32).toNat = n.toNat - 1 := by
    show (n - 1#32).toNat = _
    rw [BitVec.toNat_sub]
    have : (1#32).toNat = 1 := rfl
    omega
  rw [Scalar.minsi, IntOp.minsi]
  have e := slt_eq hk (n := Scalar.subi n 1#32) (by omega)
  have e' : (BitVec.ofNat 32 k).slt (Scalar.subi n 1#32) = decide (k < (Scalar.subi n 1#32).toNat) := by
    have : BitVec.ofBool ((BitVec.ofNat 32 k).slt (Scalar.subi n 1#32)) = BitVec.ofBool (decide (k < (Scalar.subi n 1#32).toNat)) := e
    revert this
    generalize (BitVec.ofNat 32 k).slt (Scalar.subi n 1#32) = a
    generalize decide (k < (Scalar.subi n 1#32).toNat) = b
    revert a b; decide
  rw [e', es]
  by_cases h : k < n.toNat - 1
  · simp only [h, decide_true, if_true]; omega
  · simp only [h, decide_false, Bool.false_eq_true, if_false]; omega

/-- The pipeline's tables. -/
abbrev tabs (T0 T1 : S128.Idx → Elt Ideal .i32) : pre0.Contents (Elt Ideal) := fun
  | ⟨0, _⟩ => T0
  | ⟨1, _⟩ => T1
  | ⟨_ + 2, h⟩ => absurd h (by simp)

section

variable {T0 T1 : S128.Idx → Elt Ideal .i32} (hg : Good T0 T1)
include hg

theorem wN_le : (wN T1).toNat ≤ 128 := by rw [wN_eq]; exact hg.hi

theorem ix0_apply (i : grid0.Coords) : cc0_transform_0 inb_S128_S1_32 numel1_S1 (tabs T0 T1) i = ![min (i 0).val (used T1 - 1), 0] := by
  have h : cc0_transform_0 inb_S128_S1_32 numel1_S1 (tabs T0 T1) i = ![(Scalar.minsi (BitVec.ofNat 32 (i 0).val) (Scalar.subi (wN T1) 1#32)).toNat, 0] := rfl
  rw [h, minsi_eq (coord_lt i) (by rw [wN_eq]; exact hg.lo) (wN_le hg), wN_eq]; rfl

omit hg in
theorem ix1_apply (i : grid0.Coords) : cc0_transform_1 k0_off1_inb numel1_S1 (tabs T0 T1) i = ![expertOf T0 ⟨(i 0).val, coord_lt i⟩, 0, 0] := by
  have h : cc0_transform_1 k0_off1_inb numel1_S1 (tabs T0 T1) i = ![(wE T0 i).toNat, 0, 0] := rfl
  rw [h, wE_eq]; rfl

/-- Every block the index maps name lies inside its array. -/
theorem ok_tabs : ok0 (F := Ideal) (tabs T0 T1) := by
  have he : ∀ i : grid0.Coords, expertOf T0 ⟨(i 0).val, coord_lt i⟩ < 32 := fun i => hg.expert _
  have h1 := hg.lo
  have h2 := hg.hi
  refine ⟨fun i => ⟨?_, .inl rfl⟩, fun i => ⟨?_, .inl rfl⟩, fun i => ⟨?_, .inl rfl⟩, fun i => ⟨?_, .inl rfl⟩, fun i => ⟨?_, .inl rfl⟩⟩
  · rw [ix0_apply hg]
    have := coord_lt i
    intro a
    fin_cases a
    · show (min (i 0).val (used T1 - 1) + 1) * 512 ≤ 65536
      unfold used; omega
    · show (0 + 1) * 1024 ≤ 1024; omega
  · have e : cc0_transform_1 k0_off1_inb numel1_S1 (tabs T0 T1) i = _ := ix1_apply i
    rw [e]
    have := he i
    intro a
    fin_cases a
    · show (expertOf T0 ⟨(i 0).val, coord_lt i⟩ + 1) * 1 ≤ 32; omega
    · show (0 + 1) * 1024 ≤ 1024; omega
    · show (0 + 1) * 2048 ≤ 2048; omega
  · have e : cc0_transform_2 k0_off1_inb numel1_S1 (tabs T0 T1) i = _ := ix1_apply i
    rw [e]
    have := he i
    intro a
    fin_cases a
    · show (expertOf T0 ⟨(i 0).val, coord_lt i⟩ + 1) * 1 ≤ 32; omega
    · show (0 + 1) * 1 ≤ 1; omega
    · show (0 + 1) * 2048 ≤ 2048; omega
  · have e : cc0_transform_3 k0_off1_inb numel1_S1 (tabs T0 T1) i = _ := ix1_apply i
    rw [e]
    have := he i
    intro a
    fin_cases a
    · show (expertOf T0 ⟨(i 0).val, coord_lt i⟩ + 1) * 1 ≤ 32; omega
    · show (0 + 1) * 1024 ≤ 1024; omega
    · show (0 + 1) * 1024 ≤ 1024; omega
  · have e : cc0_transform_4 k0_off1_inb numel1_S1 (tabs T0 T1) i = _ := ix1_apply i
    rw [e]
    have := he i
    intro a
    fin_cases a
    · show (expertOf T0 ⟨(i 0).val, coord_lt i⟩ + 1) * 1 ≤ 32; omega
    · show (0 + 1) * 1 ≤ 1; omega
    · show (0 + 1) * 1024 ≤ 1024; omega

/-- No point leaves the output window idle: a tile is in use or past the end. -/
theorem idle5 (i : grid0.Coords) : idle0 (tabs T0 T1) 5 i = false := by
  have e : (tabs T0 T1).atD 1 ![32] = wN T1 := rfl
  show (!(k0_cond2 i ((tabs T0 T1).atD 1 ![32]) == 1#1) && !(k0_cond3 i ((tabs T0 T1).atD 1 ![32]) == 1#1)) = false
  rw [e]
  by_cases h : (i 0).val < (wN T1).toNat
  · rw [(cond2_iff i (wN_le hg)).mpr h]; rfl
  · rw [(cond3_iff i (wN_le hg)).mpr h]; simp

end

end Cert.Kernel2Ideal.Ffn

end
-- ==== Proof.FfnPreI.lean ====
/- The precondition on the tables, read as plain bounds. -/
module

public import proofs.«01_k».proof.Proof.FfnTablesI
public import proofs.«01_k».proof.Proof.Gen.Pre_tables_ok
public import Idealize.ShloMosaic.Lib.ReduceAll

@[expose] public section

noncomputable section

namespace Cert.Kernel2Ideal.Ffn

open Cert.Kernel2Ideal Cert.Kernel2Ideal.Gen
open Idealize.ShloMosaic

/-- A conjunction bit is set only if both bits are. -/
theorem and_one {a b : BitVec 1} (h : IntOp.andi a b = 1#1) : a = 1#1 ∧ b = 1#1 := by
  revert h; revert a b; decide

theorem bit_one {p : Prop} [Decidable p] (h : BitVec.ofBool (decide p) = 1#1) : p := by
  by_contra hp
  rw [decide_eq_false hp] at h
  exact absurd h (by decide)

/-- Signed bounds within the positive half are bounds of the word as a number. -/
theorem nat_bounds (x : BitVec 32) (a b : ℕ) (ha : (a : ℤ) ≤ x.toInt) (hb : x.toInt ≤ b) : a ≤ x.toNat ∧ x.toNat ≤ b := by
  have := BitVec.toInt_eq_toNat_cond x
  have := x.isLt
  split at * <;> omega

/-- The word the precondition reads off the second table. -/
theorem count_word (T1 : S128.Idx → Elt Ideal .i32) (d : Cert.Pre_tables_ok.S_.Idx) :
    shapeCast Cert.Pre_tables_ok.S_ (extractStridedSlice Cert.Pre_tables_ok.S1 ![32] T1 Cert.Pre_tables_ok.Gen.slices_S128_S1_32) Cert.Pre_tables_ok.Gen.shapeCasts_S1_S_ d
      = T1 (ValueIdx.ix1 (32 : Fin 128)) := by
  refine congrArg T1 (idx1_ext _ _ ?_)
  have h0 : ∀ (y : Cert.Pre_tables_ok.S1.Idx) (a : Fin 1), (y a).val = 0 := fun y a => by
    have := (y a).isLt
    match a with
    | ⟨0, _⟩ => exact Nat.lt_one_iff.mp this
  exact congrArg (32 + ·) (h0 _ _)

theorem good_of_pre (T0 T1 : S128.Idx → Elt Ideal .i32) (a2 a3 a4 a5 a6)
    (h : Cert.Pre_tables_ok.fn (F := Ideal) T0 T1 a2 a3 a4 a5 a6 = fun _ => 1#1) : Good T0 T1 := by
  have e := congrFun h (fun d => d.elim0)
  unfold Cert.Pre_tables_ok.fn at e
  obtain ⟨e, hhi⟩ := and_one e
  obtain ⟨e, hlo⟩ := and_one e
  have hall := fun i => Host.reduce_andi_all _ _ _ _ _ e i
  have hcount : 1 ≤ BitVec.toNat (w := 32) (T1 (ValueIdx.ix1 (32 : Fin 128))) ∧ BitVec.toNat (w := 32) (T1 (ValueIdx.ix1 (32 : Fin 128))) ≤ 128 := by
    have hl' : (1 : ℤ) ≤ BitVec.toInt (n := 32) (T1 (ValueIdx.ix1 (32 : Fin 128))) := by
      have := bit_one hlo
      rwa [count_word] at this
    have hr' : BitVec.toInt (n := 32) (T1 (ValueIdx.ix1 (32 : Fin 128))) ≤ 128 := by
      have := bit_one hhi
      rwa [count_word] at this
    exact nat_bounds _ 1 128 hl' hr'
  refine ⟨fun j => ?_, hcount.1, hcount.2⟩
  · obtain ⟨hl, hr⟩ := and_one (hall (ValueIdx.ix1 j))
    have hl' : (0 : ℤ) ≤ BitVec.toInt (n := 32) (T0 (ValueIdx.ix1 j)) := bit_one hl
    have hr' : BitVec.toInt (n := 32) (T0 (ValueIdx.ix1 j)) < 32 := bit_one hr
    have := (nat_bounds _ 0 31 hl' (by omega)).2
    omega

end Cert.Kernel2Ideal.Ffn

end
-- ==== Proof.FfnFrameB.lean ====
/- The grouped expert MLP as a pipeline at any good tables: what every window holds at every tile, the caches carried from
   tile to tile, the body's obligation by its three paths, the launch, and the frame. -/
module

public import proofs.«01_k».proof.Proof.FfnTablesB
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Writes
public import Idealize.ShloMosaic.Adequacy
public import Idealize.ShloMosaic.Init

@[expose] public section

set_option maxRecDepth 16384

noncomputable section

namespace Cert.Kernel2.Ffn

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The pipeline's own resources. -/
abbrev EP : Emb (UR sig nD τ) 𝕄 := emb₁

variable {T0 T1 : S128.Idx → Elt Bits .i32} (hg : Good T0 T1)

/-- The tables as admitted contents, and the pipeline at them. -/
def adm : (pcfg0 (F := Bits)).Adm := ⟨tabs T0 T1, ok_tabs hg⟩
abbrev cfgA : Pipeline.Cfg sig Λ₀ := cfg0 (F := Bits) (adm hg)
abbrev pcs : Fin 1 → Pipeline.Cfg sig Λ₀ := Pipeline.pin (pcfgs (F := Bits)) fun _ => adm hg

variable (m : (ℓ : Loc nD τ sig) → Buf (Elt Bits) ℓ) (ρ : Dev nD → PrngReg)

/-- Tile `t`'s grid point. -/
abbrev crd (t : Fin (cfgA hg).N) : (cfgA hg).grid.Coords := (cfgA hg).grid.coords t

theorem crd_val : ∀ t : Fin grid0.N, ((grid0.coords t) 0).val = t.val := by decide +kernel

abbrev ms0 (t : Fin (cfgA hg).N) : Memref sig .tc .vmem S512x1024 .f32 := spec0_0.stage ((cfgA hg).slots t (0 : Fin 6))
abbrev hs0 (t : Fin (cfgA hg).N) : (ms0 hg t).IsWhole := hstage0_0 (((cfgA hg).slots t (0 : Fin 6)).cast nbuf0_0)
abbrev ms1 (t : Fin (cfgA hg).N) : Memref sig .tc .vmem S1x1024x2048 .f32 := spec0_1.stage ((cfgA hg).slots t (1 : Fin 6))
abbrev hs1 (t : Fin (cfgA hg).N) : (ms1 hg t).IsWhole := hstage0_1 (((cfgA hg).slots t (1 : Fin 6)).cast nbuf0_1)
abbrev ms2 (t : Fin (cfgA hg).N) : Memref sig .tc .vmem S1x1x2048 .f32 := spec0_2.stage ((cfgA hg).slots t (2 : Fin 6))
abbrev hs2 (t : Fin (cfgA hg).N) : (ms2 hg t).IsWhole := hstage0_2 (((cfgA hg).slots t (2 : Fin 6)).cast nbuf0_2)
abbrev ms3 (t : Fin (cfgA hg).N) : Memref sig .tc .vmem S1x1024x1024 .f32 := spec0_3.stage ((cfgA hg).slots t (3 : Fin 6))
abbrev hs3 (t : Fin (cfgA hg).N) : (ms3 hg t).IsWhole := hstage0_3 (((cfgA hg).slots t (3 : Fin 6)).cast nbuf0_3)
abbrev ms4 (t : Fin (cfgA hg).N) : Memref sig .tc .vmem S1x1x1024 .f32 := spec0_4.stage ((cfgA hg).slots t (4 : Fin 6))
abbrev hs4 (t : Fin (cfgA hg).N) : (ms4 hg t).IsWhole := hstage0_4 (((cfgA hg).slots t (4 : Fin 6)).cast nbuf0_4)
abbrev ms5 (t : Fin (cfgA hg).N) : Memref sig .tc .vmem S512x1024 .f32 := spec0_5.stage ((cfgA hg).slots t (5 : Fin 6))
abbrev hs5 (t : Fin (cfgA hg).N) : (ms5 hg t).IsWhole := hstage0_5 (((cfgA hg).slots t (5 : Fin 6)).cast nbuf0_5)

/-- Window `w`'s block at tile `t`, read off its array at launch. -/
def iblk (c : Dev nD) (w : Fin (cfgA hg).W) (t : Fin (cfgA hg).N) : (((cfgA hg).win w).xblock (crd hg t)).Idx → Elt Bits ((cfgA hg).win w).elt :=
  (((cfgA hg).win w).blk t).view.read (Elt Bits) ((s₀ m ρ).mem (((cfgA hg).win w).arr.view.loc (c : Thread nD τ)))

/-- A weight block is the same wherever the tile's expert is the same. -/
theorem iblk1_congr (c : Dev nD) (t s : Fin (cfgA hg).N)
    (h : expertOf T0 ⟨(crd hg t 0).val, coord_lt _⟩ = expertOf T0 ⟨(crd hg s 0).val, coord_lt _⟩) :
    (iblk hg m ρ c (1 : Fin 6) t : S1x1024x2048.Idx → Elt Bits .f32) = iblk hg m ρ c (1 : Fin 6) s := by
  have e : cc0_transform_1 k0_off1_inb numel1_S1 (tabs T0 T1) (crd hg t) = cc0_transform_1 k0_off1_inb numel1_S1 (tabs T0 T1) (crd hg s) := by
    rw [ix1_apply, ix1_apply, h]
  funext y
  refine congrArg ((s₀ m ρ).mem ((c : Thread nD τ).loc main_arg3)) (funext fun a => Fin.ext ?_)
  show cc0_transform_1 k0_off1_inb numel1_S1 (tabs T0 T1) (crd hg t) a * S1x1024x2048.size a + 1 * (y a).val
    = cc0_transform_1 k0_off1_inb numel1_S1 (tabs T0 T1) (crd hg s) a * S1x1024x2048.size a + 1 * (y a).val
  rw [e]

theorem iblk3_congr (c : Dev nD) (t s : Fin (cfgA hg).N)
    (h : expertOf T0 ⟨(crd hg t 0).val, coord_lt _⟩ = expertOf T0 ⟨(crd hg s 0).val, coord_lt _⟩) :
    (iblk hg m ρ c (3 : Fin 6) t : S1x1024x1024.Idx → Elt Bits .f32) = iblk hg m ρ c (3 : Fin 6) s := by
  have e : cc0_transform_3 k0_off1_inb numel1_S1 (tabs T0 T1) (crd hg t) = cc0_transform_3 k0_off1_inb numel1_S1 (tabs T0 T1) (crd hg s) := by
    have e1 : cc0_transform_3 k0_off1_inb numel1_S1 (tabs T0 T1) (crd hg t) = _ := ix1_apply (T0 := T0) (T1 := T1) (crd hg t)
    have e2 : cc0_transform_3 k0_off1_inb numel1_S1 (tabs T0 T1) (crd hg s) = _ := ix1_apply (T0 := T0) (T1 := T1) (crd hg s)
    rw [e1, e2, h]
  funext y
  refine congrArg ((s₀ m ρ).mem ((c : Thread nD τ).loc main_arg5)) (funext fun a => Fin.ext ?_)
  show cc0_transform_3 k0_off1_inb numel1_S1 (tabs T0 T1) (crd hg t) a * S1x1024x1024.size a + 1 * (y a).val
    = cc0_transform_3 k0_off1_inb numel1_S1 (tabs T0 T1) (crd hg s) a * S1x1024x1024.size a + 1 * (y a).val
  rw [e]

/-- What tile `t` leaves in the output window: its MLP if it is in use, zeros otherwise. -/
def outVal (c : Dev nD) (t : Fin (cfgA hg).N) : S512x1024.Idx → Elt Bits .f32 :=
  if t.val < used T1 then
    tileVal (iblk hg m ρ c (0 : Fin 6) t) (iblk hg m ρ c (1 : Fin 6) t) (iblk hg m ρ c (2 : Fin 6) t) (iblk hg m ρ c (3 : Fin 6) t) (iblk hg m ρ c (4 : Fin 6) t)
  else k0_pay3 (F := Bits)

/-- The caches hold the narrowed weights of tile `s`'s expert. -/
def Cached (c : Dev nD) (s : Fin (cfgA hg).N) (a0 : Buf (Elt Bits) ((c : Thread nD τ).loc cc0_scratch0)) (a1 : Buf (Elt Bits) ((c : Thread nD τ).loc cc0_scratch1)) : Prop :=
  scU.view.read (Elt Bits) a0 = k0_pay1 (F := Bits) (iblk hg m ρ c (1 : Fin 6) s) ∧ scD.view.read (Elt Bits) a1 = k0_pay2 (F := Bits) (iblk hg m ρ c (3 : Fin 6) s)

/-- Between tiles: the tables, and the caches, which after a tile in use hold its expert's weights. -/
def Phi (c : Dev nD) (n : ℕ) : sProp 𝕄 :=
  iprop((∃ a0, ∃ a1, ⌜∀ s : Fin (cfgA hg).N, s.val + 1 = n → s.val < used T1 → Cached hg m ρ c s a0 a1⌝
      ∗ (scU.view.loc (c : Thread nD τ) ↦{fullShare} a0) ∗ (scD.view.loc (c : Thread nD τ) ↦{fullShare} a1))
    ∗ (tbE.view.loc (c : Thread nD τ) ↦{fullShare.right} T0) ∗ (tbN.view.loc (c : Thread nD τ) ↦{fullShare.right} T1))

/-- The proof data of the one pipeline on core `c`. -/
def dats (_ : Fin 1) (c : Dev nD) : Dat τ (Elt Bits) Unit ℕ (UR sig nD τ) ℕ (cfgA hg) c where
  A w := (s₀ m ρ).mem (((cfgA hg).win w).arr.view.loc (c : Thread nD τ))
  after w t := match w with
    | ⟨0, _⟩ => iblk hg m ρ c (0 : Fin 6) t
    | ⟨1, _⟩ => iblk hg m ρ c (1 : Fin 6) t
    | ⟨2, _⟩ => iblk hg m ρ c (2 : Fin 6) t
    | ⟨3, _⟩ => iblk hg m ρ c (3 : Fin 6) t
    | ⟨4, _⟩ => iblk hg m ρ c (4 : Fin 6) t
    | ⟨5, _⟩ => outVal hg m ρ c t
  Φ t := Phi hg m ρ c t.val
  q _ := fullShare
  owed _ := 0

theorem after_0 (c : Dev nD) (t : Fin (cfgA hg).N) : (dats hg m ρ 0 c).after (0 : Fin 6) t = iblk hg m ρ c (0 : Fin 6) t := rfl
theorem after_1 (c : Dev nD) (t : Fin (cfgA hg).N) : (dats hg m ρ 0 c).after (1 : Fin 6) t = iblk hg m ρ c (1 : Fin 6) t := rfl
theorem after_2 (c : Dev nD) (t : Fin (cfgA hg).N) : (dats hg m ρ 0 c).after (2 : Fin 6) t = iblk hg m ρ c (2 : Fin 6) t := rfl
theorem after_3 (c : Dev nD) (t : Fin (cfgA hg).N) : (dats hg m ρ 0 c).after (3 : Fin 6) t = iblk hg m ρ c (3 : Fin 6) t := rfl
theorem after_4 (c : Dev nD) (t : Fin (cfgA hg).N) : (dats hg m ρ 0 c).after (4 : Fin 6) t = iblk hg m ρ c (4 : Fin 6) t := rfl
theorem after_5 (c : Dev nD) (t : Fin (cfgA hg).N) : (dats hg m ρ 0 c).after (5 : Fin 6) t = outVal hg m ρ c t := rfl

theorem before_0 (c : Dev nD) (t : Fin (cfgA hg).N) (d) : (dats hg m ρ 0 c).before (0 : Fin 6) t d = iblk hg m ρ c (0 : Fin 6) t :=
  ((dats hg m ρ 0 c).before_in_eq_fetched (0 : Fin 6) rfl (fun _ => rfl) (fun _ _ _ => rfl) (fun t => by rw [after_0]; unfold Dat.blockOf iblk; rfl) t d).trans
    (by unfold Dat.fetched Dat.blockOf iblk; rfl)
theorem before_1 (c : Dev nD) (t : Fin (cfgA hg).N) (d) : (dats hg m ρ 0 c).before (1 : Fin 6) t d = iblk hg m ρ c (1 : Fin 6) t :=
  ((dats hg m ρ 0 c).before_in_eq_fetched (1 : Fin 6) rfl (fun _ => rfl) (fun _ _ _ => rfl) (fun t => by rw [after_1]; unfold Dat.blockOf iblk; rfl) t d).trans
    (by unfold Dat.fetched Dat.blockOf iblk; rfl)
theorem before_2 (c : Dev nD) (t : Fin (cfgA hg).N) (d) : (dats hg m ρ 0 c).before (2 : Fin 6) t d = iblk hg m ρ c (2 : Fin 6) t :=
  ((dats hg m ρ 0 c).before_in_eq_fetched (2 : Fin 6) rfl (fun _ => rfl) (fun _ _ _ => rfl) (fun t => by rw [after_2]; unfold Dat.blockOf iblk; rfl) t d).trans
    (by unfold Dat.fetched Dat.blockOf iblk; rfl)
theorem before_3 (c : Dev nD) (t : Fin (cfgA hg).N) (d) : (dats hg m ρ 0 c).before (3 : Fin 6) t d = iblk hg m ρ c (3 : Fin 6) t :=
  ((dats hg m ρ 0 c).before_in_eq_fetched (3 : Fin 6) rfl (fun _ => rfl) (fun _ _ _ => rfl) (fun t => by rw [after_3]; unfold Dat.blockOf iblk; rfl) t d).trans
    (by unfold Dat.fetched Dat.blockOf iblk; rfl)
theorem before_4 (c : Dev nD) (t : Fin (cfgA hg).N) (d) : (dats hg m ρ 0 c).before (4 : Fin 6) t d = iblk hg m ρ c (4 : Fin 6) t :=
  ((dats hg m ρ 0 c).before_in_eq_fetched (4 : Fin 6) rfl (fun _ => rfl) (fun _ _ _ => rfl) (fun t => by rw [after_4]; unfold Dat.blockOf iblk; rfl) t d).trans
    (by unfold Dat.fetched Dat.blockOf iblk; rfl)

theorem idle_5 (t : Fin (cfgA hg).N) : (cfgA hg).idle (5 : Fin 6) ((cfgA hg).grid.coords t) = false := idle5 hg (crd hg t)

/-- The body at tile `t` as the pipeline calls it. -/
abbrev bodyAt (t : Fin (cfgA hg).N) : Prog (TpuEff nD τ sig (Elt Bits) Λ₀ .tc) PUnit :=
  cc0_ffn (crd hg t) (Memref.whole main_arg0) (Memref.isWhole_whole _) (Memref.whole main_arg1) (Memref.isWhole_whole _) (ms0 hg t) (hs0 hg t) (ms1 hg t) (hs1 hg t) (ms2 hg t) (hs2 hg t) (ms3 hg t) (hs3 hg t) (ms4 hg t) (hs4 hg t) (ms5 hg t) (hs5 hg t) (Memref.whole cc0_scratch0) (Memref.isWhole_whole _) (Memref.whole cc0_scratch1) (Memref.isWhole_whole _)

/-- The five input windows and the tables, as the runs hold them at tile `t`. -/
abbrev heldAt (c : Dev nD) (t : Fin (cfgA hg).N) : sProp 𝕄 :=
  held c (ms0 hg t) (ms1 hg t) (ms2 hg t) (ms3 hg t) (ms4 hg t) T0 T1
    (iblk hg m ρ c (0 : Fin 6) t) (iblk hg m ρ c (1 : Fin 6) t) (iblk hg m ρ c (2 : Fin 6) t) (iblk hg m ρ c (3 : Fin 6) t) (iblk hg m ρ c (4 : Fin 6) t)

/-- One run of the body at tile `t`, whichever path it takes: from the windows, any output buffer and caches that hold the
    previous tile's weights, to the output at its closed form and the caches at this tile's weights if it is in use. -/
theorem body_run (c : Dev nD) (t : Fin (cfgA hg).N)
    (a0 : Buf (Elt Bits) ((c : Thread nD τ).loc cc0_scratch0)) (a1 : Buf (Elt Bits) ((c : Thread nD τ).loc cc0_scratch1))
    (ha : ∀ s : Fin (cfgA hg).N, s.val + 1 = t.val → s.val < used T1 → Cached hg m ρ c s a0 a1) (K : PUnit → sProp 𝕄) :
    iprop(heldAt hg m ρ c t ∗ (∃ d, owns (c : Thread nD τ) (ms5 hg t) fullShare d)
        ∗ (scU.view.loc (c : Thread nD τ) ↦{fullShare} a0) ∗ (scD.view.loc (c : Thread nD τ) ↦{fullShare} a1)
        ∗ (iprop(heldAt hg m ρ c t ∗ owns (c : Thread nD τ) (ms5 hg t) fullShare (outVal hg m ρ c t)
            ∗ (∃ b0, ∃ b1, ⌜t.val < used T1 → Cached hg m ρ c t b0 b1⌝
              ∗ (scU.view.loc (c : Thread nD τ) ↦{fullShare} b0) ∗ (scD.view.loc (c : Thread nD τ) ↦{fullShare} b1))) -∗ K ⟨⟩))
      ⊢ wp frame (wpE (defs₀ (F := Bits)) Variants.none c none) Set.univ (bodyAt hg t) K := by
  have hle := wN_le hg
  have hu : (wN T1).toNat = used T1 := by rw [wN_eq]; rfl
  have hc : (crd hg t 0).val = t.val := crd_val t
  by_cases hv : t.val < used T1
  · have h2 : k0_cond2 (crd hg t) (wN T1) = 1#1 := (cond2_iff _ hle).mpr (by rw [hu, hc]; exact hv)
    have h3 : ¬(k0_cond3 (crd hg t) (wN T1) = 1#1) := fun h => (cond3_iff _ hle).mp h (by rw [hu, hc]; exact hv)
    have eo : outVal hg m ρ c t = tileVal (iblk hg m ρ c (0 : Fin 6) t) (iblk hg m ρ c (1 : Fin 6) t) (iblk hg m ρ c (2 : Fin 6) t) (iblk hg m ρ c (3 : Fin 6) t) (iblk hg m ρ c (4 : Fin 6) t) := if_pos hv
    by_cases hf : isFresh T0 T1 (crd hg t)
    · iintro ⟨Hh, Ho, HS0, HS1, Hk⟩
      iapply ((runFresh c (crd hg t) (ms0 hg t) (hs0 hg t) (ms1 hg t) (hs1 hg t) (ms2 hg t) (hs2 hg t) (ms3 hg t) (hs3 hg t) (ms4 hg t) (hs4 hg t) (ms5 hg t) (hs5 hg t) T0 T1
        (iblk hg m ρ c (0 : Fin 6) t) (iblk hg m ρ c (1 : Fin 6) t) (iblk hg m ρ c (2 : Fin 6) t) (iblk hg m ρ c (3 : Fin 6) t) (iblk hg m ρ c (4 : Fin 6) t) hf h2 h3).2.2.2 a0 a1 _)
      isplitl [Hh]; · iexact Hh
      isplitl [Ho]; · iexact Ho
      isplitl [HS0]; · iexact HS0
      isplitl [HS1]; · iexact HS1
      iintro ⟨Hh, ⟨%e5, Ho⟩, HS0, HS1⟩
      iapply Hk
      isplitl [Hh]; · iexact Hh
      isplitl [Ho]
      · unfold owns; iexists _; isplitr; swap
        · iexact Ho
        · ipureintro; rw [eo]; exact runFresh_out c (crd hg t) _ _ _ _ _ _ _ _ _ _ _ _ T0 T1 _ _ _ _ _ hf h2 h3 e5
      iexists _; iexists _; isplitr; swap
      · isplitl [HS0]
        · iexact HS0
        iexact HS1
      · ipureintro; intro _
        exact ⟨runFresh_up c (crd hg t) _ _ _ _ _ _ _ _ _ _ _ _ T0 T1 _ _ _ _ _ hf h2 h3, runFresh_down c (crd hg t) _ _ _ _ _ _ _ _ _ _ _ _ T0 T1 _ _ _ _ _ hf h2 h3⟩
    · have hn := (not_congr (isFresh_iff T0 T1 (crd hg t) hle)).mp hf
      rw [hu, hc] at hn
      have ht0 : t.val ≠ 0 := fun h => hn ⟨hv, .inl h⟩
      have hee : wE T0 (crd hg t) = wP T0 (crd hg t) := by
        by_contra h; exact hn ⟨hv, .inr h⟩
      have htl : t.val - 1 < (cfgA hg).N := by have := t.isLt; omega
      have hs := ha ⟨t.val - 1, htl⟩ (by show t.val - 1 + 1 = t.val; omega) (by show t.val - 1 < used T1; omega)
      have hc' : (crd hg ⟨t.val - 1, htl⟩ 0).val = t.val - 1 := crd_val _
      have hex : expertOf T0 ⟨(crd hg t 0).val, coord_lt _⟩ = expertOf T0 ⟨(crd hg ⟨t.val - 1, htl⟩ 0).val, coord_lt _⟩ := by
        rw [wE_eq, wP_eq] at hee
        have := congrArg (BitVec.toNat (w := 32)) hee
        refine Eq.trans this ?_
        unfold expertOf
        congr 3
        exact Fin.ext (by show (crd hg t 0).val - 1 = _; rw [hc]; exact hc'.symm)
      have hcache : Cached hg m ρ c t a0 a1 := by
        refine ⟨hs.1.trans ?_, hs.2.trans ?_⟩
        · exact congrArg (k0_pay1 (F := Bits)) (iblk1_congr hg m ρ c t ⟨t.val - 1, htl⟩ hex).symm
        · exact congrArg (k0_pay2 (F := Bits)) (iblk3_congr hg m ρ c t ⟨t.val - 1, htl⟩ hex).symm
      iintro ⟨Hh, Ho, HS0, HS1, Hk⟩
      iapply ((runKept c (crd hg t) (ms0 hg t) (hs0 hg t) (ms1 hg t) (hs1 hg t) (ms2 hg t) (hs2 hg t) (ms3 hg t) (hs3 hg t) (ms4 hg t) (hs4 hg t) (ms5 hg t) (hs5 hg t) T0 T1
        (iblk hg m ρ c (0 : Fin 6) t) (iblk hg m ρ c (1 : Fin 6) t) (iblk hg m ρ c (2 : Fin 6) t) (iblk hg m ρ c (3 : Fin 6) t) (iblk hg m ρ c (4 : Fin 6) t) a0 a1 hf h2 h3).2 _)
      isplitl [Hh]; · iexact Hh
      isplitl [Ho]; · iexact Ho
      isplitl [HS0]; · iexact HS0
      isplitl [HS1]; · iexact HS1
      iintro ⟨Hh, ⟨%e5, Ho⟩, HS0, HS1⟩
      iapply Hk
      isplitl [Hh]; · iexact Hh
      isplitl [Ho]
      · unfold owns; iexists _; isplitr; swap
        · iexact Ho
        · ipureintro; rw [eo]
          refine (runKept_out c (crd hg t) _ _ _ _ _ _ _ _ _ _ _ _ T0 T1 _ _ _ _ _ a0 a1 hf h2 h3 e5).trans ?_
          rw [hcache.1, hcache.2]
      iexists a0; iexists a1; isplitr; swap
      · isplitl [HS0]
        · iexact HS0
        iexact HS1
      · ipureintro; intro _; exact hcache
  · have h2 : ¬k0_cond2 (crd hg t) (wN T1) = 1#1 := fun h => hv (by have := (cond2_iff _ hle).mp h; rwa [hu, hc] at this)
    have h3 : k0_cond3 (crd hg t) (wN T1) = 1#1 := (cond3_iff _ hle).mpr (by rw [hu, hc]; exact hv)
    have hf : ¬isFresh T0 T1 (crd hg t) := fun h => hv (by have := ((isFresh_iff T0 T1 (crd hg t) hle).mp h).1; rwa [hu, hc] at this)
    have eo : outVal hg m ρ c t = k0_pay3 (F := Bits) := if_neg hv
    iintro ⟨Hh, Ho, HS0, HS1, Hk⟩
    iapply ((runPast c (crd hg t) (ms0 hg t) (hs0 hg t) (ms1 hg t) (hs1 hg t) (ms2 hg t) (hs2 hg t) (ms3 hg t) (hs3 hg t) (ms4 hg t) (hs4 hg t) (ms5 hg t) (hs5 hg t) T0 T1
      (iblk hg m ρ c (0 : Fin 6) t) (iblk hg m ρ c (1 : Fin 6) t) (iblk hg m ρ c (2 : Fin 6) t) (iblk hg m ρ c (3 : Fin 6) t) (iblk hg m ρ c (4 : Fin 6) t) hf h2 h3).2 a0 a1 _)
    isplitl [Hh]; · iexact Hh
    isplitl [Ho]; · iexact Ho
    isplitl [HS0]; · iexact HS0
    isplitl [HS1]; · iexact HS1
    iintro ⟨Hh, ⟨%e5, Ho⟩, HS0, HS1⟩
    iapply Hk
    isplitl [Hh]; · iexact Hh
    isplitl [Ho]
    · unfold owns; iexists _; isplitr; swap
      · iexact Ho
      · ipureintro; rw [eo]; exact runPast_out c (crd hg t) _ _ _ _ _ _ _ _ _ _ _ _ T0 T1 _ _ _ _ _ hf h2 h3 e5
    iexists a0; iexists a1; isplitr; swap
    · isplitl [HS0]
      · iexact HS0
      iexact HS1
    · ipureintro; intro h; exact absurd h hv

set_option maxHeartbeats 4000000 in
/-- The body's obligation at tile `t`. -/
theorem sound_body (c : Dev nD) (t : Fin (cfgA hg).N) :
    iprop((dats hg m ρ 0 c).Φ t.castSucc ∗ (dats hg m ρ 0 c).owesAt () t.castSucc
        ∗ (∃ d, owns (c : Thread nD τ) (ms0 hg t) fullShare ((dats hg m ρ 0 c).before (0 : Fin 6) t d))
        ∗ (∃ d, owns (c : Thread nD τ) (ms1 hg t) fullShare ((dats hg m ρ 0 c).before (1 : Fin 6) t d))
        ∗ (∃ d, owns (c : Thread nD τ) (ms2 hg t) fullShare ((dats hg m ρ 0 c).before (2 : Fin 6) t d))
        ∗ (∃ d, owns (c : Thread nD τ) (ms3 hg t) fullShare ((dats hg m ρ 0 c).before (3 : Fin 6) t d))
        ∗ (∃ d, owns (c : Thread nD τ) (ms4 hg t) fullShare ((dats hg m ρ 0 c).before (4 : Fin 6) t d))
        ∗ (∃ d, owns (c : Thread nD τ) (ms5 hg t) fullShare ((dats hg m ρ 0 c).before (5 : Fin 6) t d)))
      ⊢ wp frame (wpE (defs₀ (F := Bits)) Variants.none c none) Set.univ (bodyAt hg t) fun _ =>
          iprop((dats hg m ρ 0 c).Φ t.succ ∗ (dats hg m ρ 0 c).owesAt () t.succ
            ∗ bigSep Finset.univ fun w : Fin (cfgA hg).W =>
                match (cfgA hg).idle w ((cfgA hg).grid.coords t) with
                | true =>
                  match ((cfgA hg).win w).flush t with
                  | false => iprop(∃ d, owns (c : Thread nD τ) (((cfgA hg).win w).stage ((cfgA hg).slots t w)) fullShare ((dats hg m ρ 0 c).before w t d))
                  | true => owns (c : Thread nD τ) (((cfgA hg).win w).stage ((cfgA hg).slots t w)) fullShare ((dats hg m ρ 0 c).after w t)
                | false => owns (c : Thread nD τ) (((cfgA hg).win w).stage ((cfgA hg).slots t w)) fullShare ((dats hg m ρ 0 c).after w t)) := by
  rw [bigSep_W0]
  rewrite [idle_5 hg t]
  simp only [before_0, before_1, before_2, before_3, before_4, after_0, after_1, after_2, after_3, after_4, after_5]
  rewrite [show (dats hg m ρ 0 c).Φ t.succ = Phi hg m ρ c (t.val + 1) from rfl, show (dats hg m ρ 0 c).Φ t.castSucc = Phi hg m ρ c t.val from rfl,
    show (dats hg m ρ 0 c).owesAt () t.succ = (dats hg m ρ 0 c).owesAt () t.castSucc from rfl]
  unfold Phi
  iintro ⟨⟨⟨%a0, %a1, %ha, HS0, HS1⟩, HT0, HT1⟩, Ho, ⟨%d0, H0⟩, ⟨%d1, H1⟩, ⟨%d2, H2⟩, ⟨%d3, H3⟩, ⟨%d4, H4⟩, ⟨%d5, H5⟩⟩
  iapply (body_run hg m ρ c t a0 a1 ha _)
  isplitl [H0 H1 H2 H3 H4 HT0 HT1]
  · unfold heldAt held
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    iexact HT1
  isplitl [H5]; · iexists _; iexact H5
  isplitl [HS0]; · iexact HS0
  isplitl [HS1]; · iexact HS1
  unfold heldAt held
  iintro ⟨⟨H0, H1, H2, H3, H4, HT0, HT1⟩, H5, ⟨%b0, %b1, %hb, HS0, HS1⟩⟩
  isplitl [HS0 HS1 HT0 HT1]
  · isplitl [HS0 HS1]
    · iexists b0; iexists b1; isplitr; swap
      · isplitl [HS0]
        · iexact HS0
        iexact HS1
      · ipureintro
        intro s hs hu
        have : s = t := Fin.ext (by omega)
        subst this
        exact hb hu
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  iexact H5

/-- The library's body obligation, at every point. -/
theorem body_obligation (c : Dev nD) : BodyObligation (dats hg m ρ 0 c) (defs₀ (F := Bits)) Variants.none () Set.univ := fun t => by
  rw [bigSep_W0]
  exact sound_body hg m ρ c t

/-! ## The launch -/

/-- The launch element of the pipeline's resources. -/
def u₀ : UR sig nD τ :=
  initOf (Pipeline.cells (pcs hg) ((launch0 (F := Bits)).cellOf_inj fun _ => adm hg))
    (Pipeline.launchToks (pcs hg) ((launch0 (F := Bits)).cellOf_inj fun _ => adm hg))

theorem share_eq (c : Dev nD) (w : Fin (cfgA hg).W) : (dats hg m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm hg).1 ∗ Pipeline.scopedRest spec0 c) ⊢ (dats hg m ρ 0 c).Φ 0 := by
  rw [prefHeld_eq, scopedRest0_eq, show (dats hg m ρ 0 c).Φ 0 = Phi hg m ρ c 0 from rfl]
  unfold Phi
  iintro ⟨-, ⟨HT0, HT1⟩, ⟨%a0, HS0⟩, ⟨%a1, HS1⟩⟩
  isplitl [HS0 HS1]
  · iexists a0; iexists a1; isplitr; swap
    · isplitl [HS0]
      · iexact HS0
      iexact HS1
    · ipureintro; intro s hs; exact absurd hs (Nat.succ_ne_zero _)
  isplitl [HT0]
  · iexact HT0
  iexact HT1

theorem phi_last (c : Dev nD) : (dats hg m ρ 0 c).Φ (Fin.last (cfgA hg).N) ⊢ iprop(BI.emp ∗ Pipeline.scopedRest spec0 c) := by
  rw [scopedRest0_eq, show (dats hg m ρ 0 c).Φ (Fin.last (cfgA hg).N) = Phi hg m ρ c (cfgA hg).N from rfl]
  unfold Phi
  iintro ⟨⟨%a0, %a1, -, HS0, HS1⟩, -, -⟩
  isplitr; · iempintro
  isplitl [HS0]
  · iexists a0; iexact HS0
  iexists a1; iexact HS1

/-- After the run: every array as the pipeline computes it, every table as it was. -/
def QC : PUnit × MemSt nD τ sig (Elt Bits) → Prop := fun r =>
  ∀ c : Dev nD, (∀ w : Fin (cfgA hg).W, r.2.mem (((cfgA hg).win w).arr.view.loc (c : Thread nD τ)) = (dats hg m ρ 0 c).arrAt w (cfgA hg).N)
    ∧ ∀ j, r.2.mem ((c : Thread nD τ).loc (pre0.ref j)) = (adm hg).1 j

/-- The launch memory holds these tables. -/
def Pinned (T0 T1 : S128.Idx → Elt Bits .i32) : Prop :=
  ∀ c : Dev nD, m ((c : Thread nD τ).loc main_arg0) = T0 ∧ m ((c : Thread nD τ).loc main_arg1) = T1

theorem tables_pinned (hp : Pinned m T0 T1) (c : Dev nD) (j : Fin 2) : m ((c : Thread nD τ).loc (pre0.ref j)) = (adm hg).1 j := by
  fin_cases j
  · exact (hp c).1
  · exact (hp c).2

set_option backward.isDefEq.respectTransparency.types false in
set_option maxHeartbeats 4000000 in
/-- Every execution terminates with the arrays as computed and the counters at zero. -/
theorem run_main (hp : Pinned m T0 T1) : θ_run (defs (F := Bits)) (onTc (τ := τ) (main (F := Bits))) (s₀ m ρ) (fun r => QC hg m ρ r ∧ r.2.sem = fun _ => 0) :=
  Pipeline.θ_run_region_noSem_pf_quiescent pcfgs (fun _ => adm hg) (dats hg m ρ) () ((launch0 (F := Bits)).cellOf_inj fun _ => adm hg) (0 : Fin 1)
    (launch0 (F := Bits)).win.to₀ (launch0 (F := Bits)).pre EP defs₀ Variants.none m ρ main
    (hbody := fun c => (body_obligation hg m ρ c).loose) (hne := (launch0 (F := Bits)).block_pos)
    (harr := (launch0 (F := Bits)).arr_whole) (hstage := (launch0 (F := Bits)).stage_whole) (howed := fun _ _ => rfl)
    (u₀ := u₀ hg) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hg) (dats hg m ρ) 0 (launch0 (F := Bits)).win.arr_inj c (launch0 (F := Bits)).arr_whole
      (share_eq hg m ρ c) _ _ fun _ => rfl)
    (hpf := tables_pinned hg m hp)
    (X := fun _ => iprop(emp)) (Y := fun _ => iprop(emp)) (Z := fun _ => iprop(emp))
    (hX := fun c => by rw [unscopedRestP0_eq]; iintro -; isplitr <;> iempintro)
    (hin := phi_first hg m ρ)
    (hout := phi_last hg m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame: every argument array ends unchanged and every counter at zero; and the result array is the computed one. -/
theorem frame_run (hp : Pinned m T0 T1) :
    θ_run (defs (F := Bits)) (onTc (τ := τ) (main (F := Bits))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
      ∧ ∀ c : Dev nD, r.2.mem ((c.tc : Thread nD τ).loc main_v0) = (dats hg m ρ 0 c).arrAt (5 : Fin 6) (cfgA hg).N) :=
  (θ_run defs _ _).mono (fun _ h => ⟨⟨fun c => ⟨((h.1 c).2 0).trans (hp c).1.symm, ((h.1 c).2 1).trans (hp c).2.symm,
    ((h.1 c).1 (0 : Fin 6)).trans ((dats hg m ρ 0 c).arrAt_in (0 : Fin 6) rfl _), ((h.1 c).1 (1 : Fin 6)).trans ((dats hg m ρ 0 c).arrAt_in (1 : Fin 6) rfl _),
    ((h.1 c).1 (2 : Fin 6)).trans ((dats hg m ρ 0 c).arrAt_in (2 : Fin 6) rfl _), ((h.1 c).1 (3 : Fin 6)).trans ((dats hg m ρ 0 c).arrAt_in (3 : Fin 6) rfl _),
    ((h.1 c).1 (4 : Fin 6)).trans ((dats hg m ρ 0 c).arrAt_in (4 : Fin 6) rfl _)⟩, h.2⟩, fun c => (h.1 c).1 (5 : Fin 6)⟩) (run_main hg m ρ hp)

end Cert.Kernel2.Ffn

end
-- ==== Proof.FfnFrameI.lean ====
/- The grouped expert MLP as a pipeline at any good tables: what every window holds at every tile, the caches carried from
   tile to tile, the body's obligation by its three paths, the launch, and the frame. -/
module

public import proofs.«01_k».proof.Proof.FfnTablesI
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Writes
public import Idealize.ShloMosaic.Adequacy
public import Idealize.ShloMosaic.Init

@[expose] public section

set_option maxRecDepth 16384

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The pipeline's own resources. -/
abbrev EP : Emb (UR sig nD τ) 𝕄 := emb₁

variable {T0 T1 : S128.Idx → Elt Ideal .i32} (hg : Good T0 T1)

/-- The tables as admitted contents, and the pipeline at them. -/
def adm : (pcfg0 (F := Ideal)).Adm := ⟨tabs T0 T1, ok_tabs hg⟩
abbrev cfgA : Pipeline.Cfg sig Λ₀ := cfg0 (F := Ideal) (adm hg)
abbrev pcs : Fin 1 → Pipeline.Cfg sig Λ₀ := Pipeline.pin (pcfgs (F := Ideal)) fun _ => adm hg

variable (m : (ℓ : Loc nD τ sig) → Buf (Elt Ideal) ℓ) (ρ : Dev nD → PrngReg)

/-- Tile `t`'s grid point. -/
abbrev crd (t : Fin (cfgA hg).N) : (cfgA hg).grid.Coords := (cfgA hg).grid.coords t

theorem crd_val : ∀ t : Fin grid0.N, ((grid0.coords t) 0).val = t.val := by decide +kernel

abbrev ms0 (t : Fin (cfgA hg).N) : Memref sig .tc .vmem S512x1024 .f32 := spec0_0.stage ((cfgA hg).slots t (0 : Fin 6))
abbrev hs0 (t : Fin (cfgA hg).N) : (ms0 hg t).IsWhole := hstage0_0 (((cfgA hg).slots t (0 : Fin 6)).cast nbuf0_0)
abbrev ms1 (t : Fin (cfgA hg).N) : Memref sig .tc .vmem S1x1024x2048 .f32 := spec0_1.stage ((cfgA hg).slots t (1 : Fin 6))
abbrev hs1 (t : Fin (cfgA hg).N) : (ms1 hg t).IsWhole := hstage0_1 (((cfgA hg).slots t (1 : Fin 6)).cast nbuf0_1)
abbrev ms2 (t : Fin (cfgA hg).N) : Memref sig .tc .vmem S1x1x2048 .f32 := spec0_2.stage ((cfgA hg).slots t (2 : Fin 6))
abbrev hs2 (t : Fin (cfgA hg).N) : (ms2 hg t).IsWhole := hstage0_2 (((cfgA hg).slots t (2 : Fin 6)).cast nbuf0_2)
abbrev ms3 (t : Fin (cfgA hg).N) : Memref sig .tc .vmem S1x1024x1024 .f32 := spec0_3.stage ((cfgA hg).slots t (3 : Fin 6))
abbrev hs3 (t : Fin (cfgA hg).N) : (ms3 hg t).IsWhole := hstage0_3 (((cfgA hg).slots t (3 : Fin 6)).cast nbuf0_3)
abbrev ms4 (t : Fin (cfgA hg).N) : Memref sig .tc .vmem S1x1x1024 .f32 := spec0_4.stage ((cfgA hg).slots t (4 : Fin 6))
abbrev hs4 (t : Fin (cfgA hg).N) : (ms4 hg t).IsWhole := hstage0_4 (((cfgA hg).slots t (4 : Fin 6)).cast nbuf0_4)
abbrev ms5 (t : Fin (cfgA hg).N) : Memref sig .tc .vmem S512x1024 .f32 := spec0_5.stage ((cfgA hg).slots t (5 : Fin 6))
abbrev hs5 (t : Fin (cfgA hg).N) : (ms5 hg t).IsWhole := hstage0_5 (((cfgA hg).slots t (5 : Fin 6)).cast nbuf0_5)

/-- Window `w`'s block at tile `t`, read off its array at launch. -/
def iblk (c : Dev nD) (w : Fin (cfgA hg).W) (t : Fin (cfgA hg).N) : (((cfgA hg).win w).xblock (crd hg t)).Idx → Elt Ideal ((cfgA hg).win w).elt :=
  (((cfgA hg).win w).blk t).view.read (Elt Ideal) ((s₀ m ρ).mem (((cfgA hg).win w).arr.view.loc (c : Thread nD τ)))

/-- A weight block is the same wherever the tile's expert is the same. -/
theorem iblk1_congr (c : Dev nD) (t s : Fin (cfgA hg).N)
    (h : expertOf T0 ⟨(crd hg t 0).val, coord_lt _⟩ = expertOf T0 ⟨(crd hg s 0).val, coord_lt _⟩) :
    (iblk hg m ρ c (1 : Fin 6) t : S1x1024x2048.Idx → Elt Ideal .f32) = iblk hg m ρ c (1 : Fin 6) s := by
  have e : cc0_transform_1 k0_off1_inb numel1_S1 (tabs T0 T1) (crd hg t) = cc0_transform_1 k0_off1_inb numel1_S1 (tabs T0 T1) (crd hg s) := by
    rw [ix1_apply, ix1_apply, h]
  funext y
  refine congrArg ((s₀ m ρ).mem ((c : Thread nD τ).loc main_arg3)) (funext fun a => Fin.ext ?_)
  show cc0_transform_1 k0_off1_inb numel1_S1 (tabs T0 T1) (crd hg t) a * S1x1024x2048.size a + 1 * (y a).val
    = cc0_transform_1 k0_off1_inb numel1_S1 (tabs T0 T1) (crd hg s) a * S1x1024x2048.size a + 1 * (y a).val
  rw [e]

theorem iblk3_congr (c : Dev nD) (t s : Fin (cfgA hg).N)
    (h : expertOf T0 ⟨(crd hg t 0).val, coord_lt _⟩ = expertOf T0 ⟨(crd hg s 0).val, coord_lt _⟩) :
    (iblk hg m ρ c (3 : Fin 6) t : S1x1024x1024.Idx → Elt Ideal .f32) = iblk hg m ρ c (3 : Fin 6) s := by
  have e : cc0_transform_3 k0_off1_inb numel1_S1 (tabs T0 T1) (crd hg t) = cc0_transform_3 k0_off1_inb numel1_S1 (tabs T0 T1) (crd hg s) := by
    have e1 : cc0_transform_3 k0_off1_inb numel1_S1 (tabs T0 T1) (crd hg t) = _ := ix1_apply (T0 := T0) (T1 := T1) (crd hg t)
    have e2 : cc0_transform_3 k0_off1_inb numel1_S1 (tabs T0 T1) (crd hg s) = _ := ix1_apply (T0 := T0) (T1 := T1) (crd hg s)
    rw [e1, e2, h]
  funext y
  refine congrArg ((s₀ m ρ).mem ((c : Thread nD τ).loc main_arg5)) (funext fun a => Fin.ext ?_)
  show cc0_transform_3 k0_off1_inb numel1_S1 (tabs T0 T1) (crd hg t) a * S1x1024x1024.size a + 1 * (y a).val
    = cc0_transform_3 k0_off1_inb numel1_S1 (tabs T0 T1) (crd hg s) a * S1x1024x1024.size a + 1 * (y a).val
  rw [e]

/-- What tile `t` leaves in the output window: its MLP if it is in use, zeros otherwise. -/
def outVal (c : Dev nD) (t : Fin (cfgA hg).N) : S512x1024.Idx → Elt Ideal .f32 :=
  if t.val < used T1 then
    tileVal (iblk hg m ρ c (0 : Fin 6) t) (iblk hg m ρ c (1 : Fin 6) t) (iblk hg m ρ c (2 : Fin 6) t) (iblk hg m ρ c (3 : Fin 6) t) (iblk hg m ρ c (4 : Fin 6) t)
  else k0_pay3 (F := Ideal)

/-- The caches hold the narrowed weights of tile `s`'s expert. -/
def Cached (c : Dev nD) (s : Fin (cfgA hg).N) (a0 : Buf (Elt Ideal) ((c : Thread nD τ).loc cc0_scratch0)) (a1 : Buf (Elt Ideal) ((c : Thread nD τ).loc cc0_scratch1)) : Prop :=
  scU.view.read (Elt Ideal) a0 = k0_pay1 (F := Ideal) (iblk hg m ρ c (1 : Fin 6) s) ∧ scD.view.read (Elt Ideal) a1 = k0_pay2 (F := Ideal) (iblk hg m ρ c (3 : Fin 6) s)

/-- Between tiles: the tables, and the caches, which after a tile in use hold its expert's weights. -/
def Phi (c : Dev nD) (n : ℕ) : sProp 𝕄 :=
  iprop((∃ a0, ∃ a1, ⌜∀ s : Fin (cfgA hg).N, s.val + 1 = n → s.val < used T1 → Cached hg m ρ c s a0 a1⌝
      ∗ (scU.view.loc (c : Thread nD τ) ↦{fullShare} a0) ∗ (scD.view.loc (c : Thread nD τ) ↦{fullShare} a1))
    ∗ (tbE.view.loc (c : Thread nD τ) ↦{fullShare.right} T0) ∗ (tbN.view.loc (c : Thread nD τ) ↦{fullShare.right} T1))

/-- The proof data of the one pipeline on core `c`. -/
def dats (_ : Fin 1) (c : Dev nD) : Dat τ (Elt Ideal) Unit ℕ (UR sig nD τ) ℕ (cfgA hg) c where
  A w := (s₀ m ρ).mem (((cfgA hg).win w).arr.view.loc (c : Thread nD τ))
  after w t := match w with
    | ⟨0, _⟩ => iblk hg m ρ c (0 : Fin 6) t
    | ⟨1, _⟩ => iblk hg m ρ c (1 : Fin 6) t
    | ⟨2, _⟩ => iblk hg m ρ c (2 : Fin 6) t
    | ⟨3, _⟩ => iblk hg m ρ c (3 : Fin 6) t
    | ⟨4, _⟩ => iblk hg m ρ c (4 : Fin 6) t
    | ⟨5, _⟩ => outVal hg m ρ c t
  Φ t := Phi hg m ρ c t.val
  q _ := fullShare
  owed _ := 0

theorem after_0 (c : Dev nD) (t : Fin (cfgA hg).N) : (dats hg m ρ 0 c).after (0 : Fin 6) t = iblk hg m ρ c (0 : Fin 6) t := rfl
theorem after_1 (c : Dev nD) (t : Fin (cfgA hg).N) : (dats hg m ρ 0 c).after (1 : Fin 6) t = iblk hg m ρ c (1 : Fin 6) t := rfl
theorem after_2 (c : Dev nD) (t : Fin (cfgA hg).N) : (dats hg m ρ 0 c).after (2 : Fin 6) t = iblk hg m ρ c (2 : Fin 6) t := rfl
theorem after_3 (c : Dev nD) (t : Fin (cfgA hg).N) : (dats hg m ρ 0 c).after (3 : Fin 6) t = iblk hg m ρ c (3 : Fin 6) t := rfl
theorem after_4 (c : Dev nD) (t : Fin (cfgA hg).N) : (dats hg m ρ 0 c).after (4 : Fin 6) t = iblk hg m ρ c (4 : Fin 6) t := rfl
theorem after_5 (c : Dev nD) (t : Fin (cfgA hg).N) : (dats hg m ρ 0 c).after (5 : Fin 6) t = outVal hg m ρ c t := rfl

theorem before_0 (c : Dev nD) (t : Fin (cfgA hg).N) (d) : (dats hg m ρ 0 c).before (0 : Fin 6) t d = iblk hg m ρ c (0 : Fin 6) t :=
  ((dats hg m ρ 0 c).before_in_eq_fetched (0 : Fin 6) rfl (fun _ => rfl) (fun _ _ _ => rfl) (fun t => by rw [after_0]; unfold Dat.blockOf iblk; rfl) t d).trans
    (by unfold Dat.fetched Dat.blockOf iblk; rfl)
theorem before_1 (c : Dev nD) (t : Fin (cfgA hg).N) (d) : (dats hg m ρ 0 c).before (1 : Fin 6) t d = iblk hg m ρ c (1 : Fin 6) t :=
  ((dats hg m ρ 0 c).before_in_eq_fetched (1 : Fin 6) rfl (fun _ => rfl) (fun _ _ _ => rfl) (fun t => by rw [after_1]; unfold Dat.blockOf iblk; rfl) t d).trans
    (by unfold Dat.fetched Dat.blockOf iblk; rfl)
theorem before_2 (c : Dev nD) (t : Fin (cfgA hg).N) (d) : (dats hg m ρ 0 c).before (2 : Fin 6) t d = iblk hg m ρ c (2 : Fin 6) t :=
  ((dats hg m ρ 0 c).before_in_eq_fetched (2 : Fin 6) rfl (fun _ => rfl) (fun _ _ _ => rfl) (fun t => by rw [after_2]; unfold Dat.blockOf iblk; rfl) t d).trans
    (by unfold Dat.fetched Dat.blockOf iblk; rfl)
theorem before_3 (c : Dev nD) (t : Fin (cfgA hg).N) (d) : (dats hg m ρ 0 c).before (3 : Fin 6) t d = iblk hg m ρ c (3 : Fin 6) t :=
  ((dats hg m ρ 0 c).before_in_eq_fetched (3 : Fin 6) rfl (fun _ => rfl) (fun _ _ _ => rfl) (fun t => by rw [after_3]; unfold Dat.blockOf iblk; rfl) t d).trans
    (by unfold Dat.fetched Dat.blockOf iblk; rfl)
theorem before_4 (c : Dev nD) (t : Fin (cfgA hg).N) (d) : (dats hg m ρ 0 c).before (4 : Fin 6) t d = iblk hg m ρ c (4 : Fin 6) t :=
  ((dats hg m ρ 0 c).before_in_eq_fetched (4 : Fin 6) rfl (fun _ => rfl) (fun _ _ _ => rfl) (fun t => by rw [after_4]; unfold Dat.blockOf iblk; rfl) t d).trans
    (by unfold Dat.fetched Dat.blockOf iblk; rfl)

theorem idle_5 (t : Fin (cfgA hg).N) : (cfgA hg).idle (5 : Fin 6) ((cfgA hg).grid.coords t) = false := idle5 hg (crd hg t)

/-- The body at tile `t` as the pipeline calls it. -/
abbrev bodyAt (t : Fin (cfgA hg).N) : Prog (TpuEff nD τ sig (Elt Ideal) Λ₀ .tc) PUnit :=
  cc0_ffn (crd hg t) (Memref.whole main_arg0) (Memref.isWhole_whole _) (Memref.whole main_arg1) (Memref.isWhole_whole _) (ms0 hg t) (hs0 hg t) (ms1 hg t) (hs1 hg t) (ms2 hg t) (hs2 hg t) (ms3 hg t) (hs3 hg t) (ms4 hg t) (hs4 hg t) (ms5 hg t) (hs5 hg t) (Memref.whole cc0_scratch0) (Memref.isWhole_whole _) (Memref.whole cc0_scratch1) (Memref.isWhole_whole _)

/-- The five input windows and the tables, as the runs hold them at tile `t`. -/
abbrev heldAt (c : Dev nD) (t : Fin (cfgA hg).N) : sProp 𝕄 :=
  held c (ms0 hg t) (ms1 hg t) (ms2 hg t) (ms3 hg t) (ms4 hg t) T0 T1
    (iblk hg m ρ c (0 : Fin 6) t) (iblk hg m ρ c (1 : Fin 6) t) (iblk hg m ρ c (2 : Fin 6) t) (iblk hg m ρ c (3 : Fin 6) t) (iblk hg m ρ c (4 : Fin 6) t)

/-- One run of the body at tile `t`, whichever path it takes: from the windows, any output buffer and caches that hold the
    previous tile's weights, to the output at its closed form and the caches at this tile's weights if it is in use. -/
theorem body_run (c : Dev nD) (t : Fin (cfgA hg).N)
    (a0 : Buf (Elt Ideal) ((c : Thread nD τ).loc cc0_scratch0)) (a1 : Buf (Elt Ideal) ((c : Thread nD τ).loc cc0_scratch1))
    (ha : ∀ s : Fin (cfgA hg).N, s.val + 1 = t.val → s.val < used T1 → Cached hg m ρ c s a0 a1) (K : PUnit → sProp 𝕄) :
    iprop(heldAt hg m ρ c t ∗ (∃ d, owns (c : Thread nD τ) (ms5 hg t) fullShare d)
        ∗ (scU.view.loc (c : Thread nD τ) ↦{fullShare} a0) ∗ (scD.view.loc (c : Thread nD τ) ↦{fullShare} a1)
        ∗ (iprop(heldAt hg m ρ c t ∗ owns (c : Thread nD τ) (ms5 hg t) fullShare (outVal hg m ρ c t)
            ∗ (∃ b0, ∃ b1, ⌜t.val < used T1 → Cached hg m ρ c t b0 b1⌝
              ∗ (scU.view.loc (c : Thread nD τ) ↦{fullShare} b0) ∗ (scD.view.loc (c : Thread nD τ) ↦{fullShare} b1))) -∗ K ⟨⟩))
      ⊢ wp frame (wpE (defs₀ (F := Ideal)) Variants.none c none) Set.univ (bodyAt hg t) K := by
  have hle := wN_le hg
  have hu : (wN T1).toNat = used T1 := by rw [wN_eq]; rfl
  have hc : (crd hg t 0).val = t.val := crd_val t
  by_cases hv : t.val < used T1
  · have h2 : k0_cond2 (crd hg t) (wN T1) = 1#1 := (cond2_iff _ hle).mpr (by rw [hu, hc]; exact hv)
    have h3 : ¬(k0_cond3 (crd hg t) (wN T1) = 1#1) := fun h => (cond3_iff _ hle).mp h (by rw [hu, hc]; exact hv)
    have eo : outVal hg m ρ c t = tileVal (iblk hg m ρ c (0 : Fin 6) t) (iblk hg m ρ c (1 : Fin 6) t) (iblk hg m ρ c (2 : Fin 6) t) (iblk hg m ρ c (3 : Fin 6) t) (iblk hg m ρ c (4 : Fin 6) t) := if_pos hv
    by_cases hf : isFresh T0 T1 (crd hg t)
    · iintro ⟨Hh, Ho, HS0, HS1, Hk⟩
      iapply ((runFresh c (crd hg t) (ms0 hg t) (hs0 hg t) (ms1 hg t) (hs1 hg t) (ms2 hg t) (hs2 hg t) (ms3 hg t) (hs3 hg t) (ms4 hg t) (hs4 hg t) (ms5 hg t) (hs5 hg t) T0 T1
        (iblk hg m ρ c (0 : Fin 6) t) (iblk hg m ρ c (1 : Fin 6) t) (iblk hg m ρ c (2 : Fin 6) t) (iblk hg m ρ c (3 : Fin 6) t) (iblk hg m ρ c (4 : Fin 6) t) hf h2 h3).2.2.2 a0 a1 _)
      isplitl [Hh]; · iexact Hh
      isplitl [Ho]; · iexact Ho
      isplitl [HS0]; · iexact HS0
      isplitl [HS1]; · iexact HS1
      iintro ⟨Hh, ⟨%e5, Ho⟩, HS0, HS1⟩
      iapply Hk
      isplitl [Hh]; · iexact Hh
      isplitl [Ho]
      · unfold owns; iexists _; isplitr; swap
        · iexact Ho
        · ipureintro; rw [eo]; exact runFresh_out c (crd hg t) _ _ _ _ _ _ _ _ _ _ _ _ T0 T1 _ _ _ _ _ hf h2 h3 e5
      iexists _; iexists _; isplitr; swap
      · isplitl [HS0]
        · iexact HS0
        iexact HS1
      · ipureintro; intro _
        exact ⟨runFresh_up c (crd hg t) _ _ _ _ _ _ _ _ _ _ _ _ T0 T1 _ _ _ _ _ hf h2 h3, runFresh_down c (crd hg t) _ _ _ _ _ _ _ _ _ _ _ _ T0 T1 _ _ _ _ _ hf h2 h3⟩
    · have hn := (not_congr (isFresh_iff T0 T1 (crd hg t) hle)).mp hf
      rw [hu, hc] at hn
      have ht0 : t.val ≠ 0 := fun h => hn ⟨hv, .inl h⟩
      have hee : wE T0 (crd hg t) = wP T0 (crd hg t) := by
        by_contra h; exact hn ⟨hv, .inr h⟩
      have htl : t.val - 1 < (cfgA hg).N := by have := t.isLt; omega
      have hs := ha ⟨t.val - 1, htl⟩ (by show t.val - 1 + 1 = t.val; omega) (by show t.val - 1 < used T1; omega)
      have hc' : (crd hg ⟨t.val - 1, htl⟩ 0).val = t.val - 1 := crd_val _
      have hex : expertOf T0 ⟨(crd hg t 0).val, coord_lt _⟩ = expertOf T0 ⟨(crd hg ⟨t.val - 1, htl⟩ 0).val, coord_lt _⟩ := by
        rw [wE_eq, wP_eq] at hee
        have := congrArg (BitVec.toNat (w := 32)) hee
        refine Eq.trans this ?_
        unfold expertOf
        congr 3
        exact Fin.ext (by show (crd hg t 0).val - 1 = _; rw [hc]; exact hc'.symm)
      have hcache : Cached hg m ρ c t a0 a1 := by
        refine ⟨hs.1.trans ?_, hs.2.trans ?_⟩
        · exact congrArg (k0_pay1 (F := Ideal)) (iblk1_congr hg m ρ c t ⟨t.val - 1, htl⟩ hex).symm
        · exact congrArg (k0_pay2 (F := Ideal)) (iblk3_congr hg m ρ c t ⟨t.val - 1, htl⟩ hex).symm
      iintro ⟨Hh, Ho, HS0, HS1, Hk⟩
      iapply ((runKept c (crd hg t) (ms0 hg t) (hs0 hg t) (ms1 hg t) (hs1 hg t) (ms2 hg t) (hs2 hg t) (ms3 hg t) (hs3 hg t) (ms4 hg t) (hs4 hg t) (ms5 hg t) (hs5 hg t) T0 T1
        (iblk hg m ρ c (0 : Fin 6) t) (iblk hg m ρ c (1 : Fin 6) t) (iblk hg m ρ c (2 : Fin 6) t) (iblk hg m ρ c (3 : Fin 6) t) (iblk hg m ρ c (4 : Fin 6) t) a0 a1 hf h2 h3).2 _)
      isplitl [Hh]; · iexact Hh
      isplitl [Ho]; · iexact Ho
      isplitl [HS0]; · iexact HS0
      isplitl [HS1]; · iexact HS1
      iintro ⟨Hh, ⟨%e5, Ho⟩, HS0, HS1⟩
      iapply Hk
      isplitl [Hh]; · iexact Hh
      isplitl [Ho]
      · unfold owns; iexists _; isplitr; swap
        · iexact Ho
        · ipureintro; rw [eo]
          refine (runKept_out c (crd hg t) _ _ _ _ _ _ _ _ _ _ _ _ T0 T1 _ _ _ _ _ a0 a1 hf h2 h3 e5).trans ?_
          rw [hcache.1, hcache.2]
      iexists a0; iexists a1; isplitr; swap
      · isplitl [HS0]
        · iexact HS0
        iexact HS1
      · ipureintro; intro _; exact hcache
  · have h2 : ¬k0_cond2 (crd hg t) (wN T1) = 1#1 := fun h => hv (by have := (cond2_iff _ hle).mp h; rwa [hu, hc] at this)
    have h3 : k0_cond3 (crd hg t) (wN T1) = 1#1 := (cond3_iff _ hle).mpr (by rw [hu, hc]; exact hv)
    have hf : ¬isFresh T0 T1 (crd hg t) := fun h => hv (by have := ((isFresh_iff T0 T1 (crd hg t) hle).mp h).1; rwa [hu, hc] at this)
    have eo : outVal hg m ρ c t = k0_pay3 (F := Ideal) := if_neg hv
    iintro ⟨Hh, Ho, HS0, HS1, Hk⟩
    iapply ((runPast c (crd hg t) (ms0 hg t) (hs0 hg t) (ms1 hg t) (hs1 hg t) (ms2 hg t) (hs2 hg t) (ms3 hg t) (hs3 hg t) (ms4 hg t) (hs4 hg t) (ms5 hg t) (hs5 hg t) T0 T1
      (iblk hg m ρ c (0 : Fin 6) t) (iblk hg m ρ c (1 : Fin 6) t) (iblk hg m ρ c (2 : Fin 6) t) (iblk hg m ρ c (3 : Fin 6) t) (iblk hg m ρ c (4 : Fin 6) t) hf h2 h3).2 a0 a1 _)
    isplitl [Hh]; · iexact Hh
    isplitl [Ho]; · iexact Ho
    isplitl [HS0]; · iexact HS0
    isplitl [HS1]; · iexact HS1
    iintro ⟨Hh, ⟨%e5, Ho⟩, HS0, HS1⟩
    iapply Hk
    isplitl [Hh]; · iexact Hh
    isplitl [Ho]
    · unfold owns; iexists _; isplitr; swap
      · iexact Ho
      · ipureintro; rw [eo]; exact runPast_out c (crd hg t) _ _ _ _ _ _ _ _ _ _ _ _ T0 T1 _ _ _ _ _ hf h2 h3 e5
    iexists a0; iexists a1; isplitr; swap
    · isplitl [HS0]
      · iexact HS0
      iexact HS1
    · ipureintro; intro h; exact absurd h hv

set_option maxHeartbeats 4000000 in
/-- The body's obligation at tile `t`. -/
theorem sound_body (c : Dev nD) (t : Fin (cfgA hg).N) :
    iprop((dats hg m ρ 0 c).Φ t.castSucc ∗ (dats hg m ρ 0 c).owesAt () t.castSucc
        ∗ (∃ d, owns (c : Thread nD τ) (ms0 hg t) fullShare ((dats hg m ρ 0 c).before (0 : Fin 6) t d))
        ∗ (∃ d, owns (c : Thread nD τ) (ms1 hg t) fullShare ((dats hg m ρ 0 c).before (1 : Fin 6) t d))
        ∗ (∃ d, owns (c : Thread nD τ) (ms2 hg t) fullShare ((dats hg m ρ 0 c).before (2 : Fin 6) t d))
        ∗ (∃ d, owns (c : Thread nD τ) (ms3 hg t) fullShare ((dats hg m ρ 0 c).before (3 : Fin 6) t d))
        ∗ (∃ d, owns (c : Thread nD τ) (ms4 hg t) fullShare ((dats hg m ρ 0 c).before (4 : Fin 6) t d))
        ∗ (∃ d, owns (c : Thread nD τ) (ms5 hg t) fullShare ((dats hg m ρ 0 c).before (5 : Fin 6) t d)))
      ⊢ wp frame (wpE (defs₀ (F := Ideal)) Variants.none c none) Set.univ (bodyAt hg t) fun _ =>
          iprop((dats hg m ρ 0 c).Φ t.succ ∗ (dats hg m ρ 0 c).owesAt () t.succ
            ∗ bigSep Finset.univ fun w : Fin (cfgA hg).W =>
                match (cfgA hg).idle w ((cfgA hg).grid.coords t) with
                | true =>
                  match ((cfgA hg).win w).flush t with
                  | false => iprop(∃ d, owns (c : Thread nD τ) (((cfgA hg).win w).stage ((cfgA hg).slots t w)) fullShare ((dats hg m ρ 0 c).before w t d))
                  | true => owns (c : Thread nD τ) (((cfgA hg).win w).stage ((cfgA hg).slots t w)) fullShare ((dats hg m ρ 0 c).after w t)
                | false => owns (c : Thread nD τ) (((cfgA hg).win w).stage ((cfgA hg).slots t w)) fullShare ((dats hg m ρ 0 c).after w t)) := by
  rw [bigSep_W0]
  rewrite [idle_5 hg t]
  simp only [before_0, before_1, before_2, before_3, before_4, after_0, after_1, after_2, after_3, after_4, after_5]
  rewrite [show (dats hg m ρ 0 c).Φ t.succ = Phi hg m ρ c (t.val + 1) from rfl, show (dats hg m ρ 0 c).Φ t.castSucc = Phi hg m ρ c t.val from rfl,
    show (dats hg m ρ 0 c).owesAt () t.succ = (dats hg m ρ 0 c).owesAt () t.castSucc from rfl]
  unfold Phi
  iintro ⟨⟨⟨%a0, %a1, %ha, HS0, HS1⟩, HT0, HT1⟩, Ho, ⟨%d0, H0⟩, ⟨%d1, H1⟩, ⟨%d2, H2⟩, ⟨%d3, H3⟩, ⟨%d4, H4⟩, ⟨%d5, H5⟩⟩
  iapply (body_run hg m ρ c t a0 a1 ha _)
  isplitl [H0 H1 H2 H3 H4 HT0 HT1]
  · unfold heldAt held
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    iexact HT1
  isplitl [H5]; · iexists _; iexact H5
  isplitl [HS0]; · iexact HS0
  isplitl [HS1]; · iexact HS1
  unfold heldAt held
  iintro ⟨⟨H0, H1, H2, H3, H4, HT0, HT1⟩, H5, ⟨%b0, %b1, %hb, HS0, HS1⟩⟩
  isplitl [HS0 HS1 HT0 HT1]
  · isplitl [HS0 HS1]
    · iexists b0; iexists b1; isplitr; swap
      · isplitl [HS0]
        · iexact HS0
        iexact HS1
      · ipureintro
        intro s hs hu
        have : s = t := Fin.ext (by omega)
        subst this
        exact hb hu
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  iexact H5

/-- The library's body obligation, at every point. -/
theorem body_obligation (c : Dev nD) : BodyObligation (dats hg m ρ 0 c) (defs₀ (F := Ideal)) Variants.none () Set.univ := fun t => by
  rw [bigSep_W0]
  exact sound_body hg m ρ c t

/-! ## The launch -/

/-- The launch element of the pipeline's resources. -/
def u₀ : UR sig nD τ :=
  initOf (Pipeline.cells (pcs hg) ((launch0 (F := Ideal)).cellOf_inj fun _ => adm hg))
    (Pipeline.launchToks (pcs hg) ((launch0 (F := Ideal)).cellOf_inj fun _ => adm hg))

theorem share_eq (c : Dev nD) (w : Fin (cfgA hg).W) : (dats hg m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm hg).1 ∗ Pipeline.scopedRest spec0 c) ⊢ (dats hg m ρ 0 c).Φ 0 := by
  rw [prefHeld_eq, scopedRest0_eq, show (dats hg m ρ 0 c).Φ 0 = Phi hg m ρ c 0 from rfl]
  unfold Phi
  iintro ⟨-, ⟨HT0, HT1⟩, ⟨%a0, HS0⟩, ⟨%a1, HS1⟩⟩
  isplitl [HS0 HS1]
  · iexists a0; iexists a1; isplitr; swap
    · isplitl [HS0]
      · iexact HS0
      iexact HS1
    · ipureintro; intro s hs; exact absurd hs (Nat.succ_ne_zero _)
  isplitl [HT0]
  · iexact HT0
  iexact HT1

theorem phi_last (c : Dev nD) : (dats hg m ρ 0 c).Φ (Fin.last (cfgA hg).N) ⊢ iprop(BI.emp ∗ Pipeline.scopedRest spec0 c) := by
  rw [scopedRest0_eq, show (dats hg m ρ 0 c).Φ (Fin.last (cfgA hg).N) = Phi hg m ρ c (cfgA hg).N from rfl]
  unfold Phi
  iintro ⟨⟨%a0, %a1, -, HS0, HS1⟩, -, -⟩
  isplitr; · iempintro
  isplitl [HS0]
  · iexists a0; iexact HS0
  iexists a1; iexact HS1

/-- After the run: every array as the pipeline computes it, every table as it was. -/
def QC : PUnit × MemSt nD τ sig (Elt Ideal) → Prop := fun r =>
  ∀ c : Dev nD, (∀ w : Fin (cfgA hg).W, r.2.mem (((cfgA hg).win w).arr.view.loc (c : Thread nD τ)) = (dats hg m ρ 0 c).arrAt w (cfgA hg).N)
    ∧ ∀ j, r.2.mem ((c : Thread nD τ).loc (pre0.ref j)) = (adm hg).1 j

/-- The launch memory holds these tables. -/
def Pinned (T0 T1 : S128.Idx → Elt Ideal .i32) : Prop :=
  ∀ c : Dev nD, m ((c : Thread nD τ).loc main_arg0) = T0 ∧ m ((c : Thread nD τ).loc main_arg1) = T1

theorem tables_pinned (hp : Pinned m T0 T1) (c : Dev nD) (j : Fin 2) : m ((c : Thread nD τ).loc (pre0.ref j)) = (adm hg).1 j := by
  fin_cases j
  · exact (hp c).1
  · exact (hp c).2

set_option backward.isDefEq.respectTransparency.types false in
set_option maxHeartbeats 4000000 in
/-- Every execution terminates with the arrays as computed and the counters at zero. -/
theorem run_main (hp : Pinned m T0 T1) : θ_run (defs (F := Ideal)) (onTc (τ := τ) (main (F := Ideal))) (s₀ m ρ) (fun r => QC hg m ρ r ∧ r.2.sem = fun _ => 0) :=
  Pipeline.θ_run_region_noSem_pf_quiescent pcfgs (fun _ => adm hg) (dats hg m ρ) () ((launch0 (F := Ideal)).cellOf_inj fun _ => adm hg) (0 : Fin 1)
    (launch0 (F := Ideal)).win.to₀ (launch0 (F := Ideal)).pre EP defs₀ Variants.none m ρ main
    (hbody := fun c => (body_obligation hg m ρ c).loose) (hne := (launch0 (F := Ideal)).block_pos)
    (harr := (launch0 (F := Ideal)).arr_whole) (hstage := (launch0 (F := Ideal)).stage_whole) (howed := fun _ _ => rfl)
    (u₀ := u₀ hg) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hg) (dats hg m ρ) 0 (launch0 (F := Ideal)).win.arr_inj c (launch0 (F := Ideal)).arr_whole
      (share_eq hg m ρ c) _ _ fun _ => rfl)
    (hpf := tables_pinned hg m hp)
    (X := fun _ => iprop(emp)) (Y := fun _ => iprop(emp)) (Z := fun _ => iprop(emp))
    (hX := fun c => by rw [unscopedRestP0_eq]; iintro -; isplitr <;> iempintro)
    (hin := phi_first hg m ρ)
    (hout := phi_last hg m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame: every argument array ends unchanged and every counter at zero; and the result array is the computed one. -/
theorem frame_run (hp : Pinned m T0 T1) :
    θ_run (defs (F := Ideal)) (onTc (τ := τ) (main (F := Ideal))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
      ∧ ∀ c : Dev nD, r.2.mem ((c.tc : Thread nD τ).loc main_v0) = (dats hg m ρ 0 c).arrAt (5 : Fin 6) (cfgA hg).N) :=
  (θ_run defs _ _).mono (fun _ h => ⟨⟨fun c => ⟨((h.1 c).2 0).trans (hp c).1.symm, ((h.1 c).2 1).trans (hp c).2.symm,
    ((h.1 c).1 (0 : Fin 6)).trans ((dats hg m ρ 0 c).arrAt_in (0 : Fin 6) rfl _), ((h.1 c).1 (1 : Fin 6)).trans ((dats hg m ρ 0 c).arrAt_in (1 : Fin 6) rfl _),
    ((h.1 c).1 (2 : Fin 6)).trans ((dats hg m ρ 0 c).arrAt_in (2 : Fin 6) rfl _), ((h.1 c).1 (3 : Fin 6)).trans ((dats hg m ρ 0 c).arrAt_in (3 : Fin 6) rfl _),
    ((h.1 c).1 (4 : Fin 6)).trans ((dats hg m ρ 0 c).arrAt_in (4 : Fin 6) rfl _)⟩, h.2⟩, fun c => (h.1 c).1 (5 : Fin 6)⟩) (run_main hg m ρ hp)

end Cert.Kernel2Ideal.Ffn

end
-- ==== Proof.FfnMath.lean ====
/- The value of the grouped expert MLP at the ideal numbers: one tile's output element and one element of the reference are
   the same expert's feed-forward of the same row. -/
module

public import proofs.«01_k».proof.Proof.FfnTablesI
public import proofs.«01_k».proof.Proof.Gen.Reference2Ideal.Run
public import Idealize.ShloMosaic.Lib.Pointwise

@[expose] public section

set_option maxRecDepth 16384

noncomputable section

namespace Cert.Kernel2Ideal.Ffn

open Idealize.ShloMosaic

/-- The gate and up projections of one row, before the activation. -/
def pre (X : Fin 1024 → EReal) (W : Fin 1024 → Fin 2048 → EReal) (B : Fin 2048 → EReal) (f : Fin 2048) : EReal :=
  ∑ k, X k * W k f + B f

/-- The activation of hidden unit `f`: the clamped gate, its sigmoid, and the clamped linear half plus one. -/
def act (X : Fin 1024 → EReal) (W : Fin 1024 → Fin 2048 → EReal) (B : Fin 2048 → EReal) (f : Fin 1024) : EReal :=
  min (pre X W B ⟨f.val, by omega⟩) (Ideal.ofBits FTy.f32 1088421888#32) *
      Ideal.div 1 (1 + Ideal.exp (-(Ideal.ofBits FTy.f32 1071242019#32 * min (pre X W B ⟨f.val, by omega⟩) (Ideal.ofBits FTy.f32 1088421888#32)))) *
    (min (Ideal.ofBits FTy.f32 1088421888#32) (max (Ideal.ofBits FTy.f32 3235905536#32) (pre X W B ⟨1024 + f.val, by omega⟩)) + 1)

/-- One element of one expert's feed-forward of one row. -/
def mlp (X : Fin 1024 → EReal) (W : Fin 1024 → Fin 2048 → EReal) (B : Fin 2048 → EReal) (D : Fin 1024 → Fin 1024 → EReal) (b : Fin 1024 → EReal)
    (d : Fin 1024) : EReal :=
  ∑ f, act X W B f * D f d + b d

section
open Cert.Kernel2Ideal Cert.Kernel2Ideal.Gen

theorem tile_apply (x0 : Vec Ideal S512x1024 .f32) (x1 : Vec Ideal S1x1024x2048 .f32) (x2 : Vec Ideal S1x1x2048 .f32) (x3 : Vec Ideal S1x1024x1024 .f32)
    (x4 : Vec Ideal S1x1x1024 .f32) (r : Fin 512) (d : Fin 1024) :
    tileVal x0 x1 x2 x3 x4 (ix2 r d)
      = mlp (fun k => x0 (ix2 r k)) (fun k f => x1 (ix3 0 k f)) (fun f => x2 (ix3 0 0 f)) (fun f d => x3 (ix3 0 f d)) (fun d => x4 (ix3 0 0 d)) d := by
  pointwise [tileVal, k0_pay4, k0_pay1, k0_pay2]
  simp only [zero_sub]
  rfl

theorem past_apply (j : S512x1024.Idx) : k0_pay3 (F := Ideal) j = (0 : EReal) := by
  pointwise [k0_pay3]
end

section
open Cert.Reference2Ideal Cert.Reference2Ideal.Gen

/-- The reference's result as one term of its arguments. -/
def refVal (a0 a1 : S128.Idx → BitVec 32) (a2 : FVec Ideal S65536x1024 .f32) (a3 : FVec Ideal S32x1024x2048 .f32) (a4 : FVec Ideal S32x1x2048 .f32)
    (a5 : FVec Ideal S32x1024x1024 .f32) (a6 : FVec Ideal S32x1x1024 .f32) : FVec Ideal S65536x1024 .f32 :=
  Host.reduceAdd (mulf (broadcastInDim S32x65536x1024 ![0, 1, 2] bcast_S32x65536x1_S32x65536x1024_0_1_2 (broadcastInDim S32x65536x1 ![0, 1] bcast_S32x65536_S32x65536x1_0_1 (transpose S32x65536 [1, 0] (select (broadcastInDim S65536x32 ![0, 1] bcast_S65536x1_S65536x32_0_1 (broadcastInDim S65536x1 ![0] bcast_S65536_S65536x1_0 (cmpi .slt (iotaInDim S65536 32 0) (broadcastInDim S65536 ![] bcast_S_S65536 (muli (shapeCast _ (extractStridedSlice S1 ![32] a1 slices_S128_S1_32) shapeCasts_S1_S_) (constantI S_ 32 512#32)))))) (uitofp .f32 (cmpi .eq (broadcastInDim S65536x32 ![0, 1] bcast_S65536x1_S65536x32_0_1 (broadcastInDim S65536x1 ![0] bcast_S65536_S65536x1_0 (shapeCast _ (broadcastInDim S128x512 ![0] bcast_S128_S128x512_0 a0) shapeCasts_S128x512_S65536))) (broadcastInDim S65536x32 ![0, 1] bcast_S1x32_S65536x32_0_1 (iotaInDim S1x32 32 1)))) (broadcastInDim S65536x32 ![] bcast_S_S65536x32 (id (constant S_ .f32 0x00000000#32)))) transposes_S65536x32_S32x65536_1_0))) (addf (Host.dotGeneral dot_S32x65536x1024_S32x1024x1024_S32x65536x1024_2_1_1_2_0_0 none (mulf (mulf (minimumf (extractStridedSlice S32x65536x1024 ![0, 0, 0] (addf (transpose S32x65536x2048 [0, 2, 1] (Host.dotGeneral dot_S32x1024x2048_S65536x1024_S32x2048x65536_1_1_02_0_n_n none a3 a2) transposes_S32x2048x65536_S32x65536x2048_0_2_1) (broadcastInDim S32x65536x2048 ![0, 1, 2] bcast_S32x1x2048_S32x65536x2048_0_1_2 a4)) slices_S32x65536x2048_S32x65536x1024_0_0_0) (broadcastInDim S32x65536x1024 ![] bcast_S_S32x65536x1024 (constant S_ .f32 0x40E00000#32))) (Host.divf (broadcastInDim S32x65536x1024 ![] bcast_S_S32x65536x1024 (constant S_ .f32 0x3F800000#32)) (addf (broadcastInDim S32x65536x1024 ![] bcast_S_S32x65536x1024 (constant S_ .f32 0x3F800000#32)) (Host.exp (Host.negf (mulf (broadcastInDim S32x65536x1024 ![] bcast_S_S32x65536x1024 (constant S_ .f32 0x3FD9DB23#32)) (minimumf (extractStridedSlice S32x65536x1024 ![0, 0, 0] (addf (transpose S32x65536x2048 [0, 2, 1] (Host.dotGeneral dot_S32x1024x2048_S65536x1024_S32x2048x65536_1_1_02_0_n_n none a3 a2) transposes_S32x2048x65536_S32x65536x2048_0_2_1) (broadcastInDim S32x65536x2048 ![0, 1, 2] bcast_S32x1x2048_S32x65536x2048_0_1_2 a4)) slices_S32x65536x2048_S32x65536x1024_0_0_0) (broadcastInDim S32x65536x1024 ![] bcast_S_S32x65536x1024 (constant S_ .f32 0x40E00000#32))))))))) (addf (minimumf (broadcastInDim S32x65536x1024 ![] bcast_S_S32x65536x1024 (id (constant S_ .f32 0x40E00000#32))) (maximumf (broadcastInDim S32x65536x1024 ![] bcast_S_S32x65536x1024 (id (constant S_ .f32 0xC0E00000#32))) (extractStridedSlice S32x65536x1024 ![0, 0, 1024] (addf (transpose S32x65536x2048 [0, 2, 1] (Host.dotGeneral dot_S32x1024x2048_S65536x1024_S32x2048x65536_1_1_02_0_n_n none a3 a2) transposes_S32x2048x65536_S32x65536x2048_0_2_1) (broadcastInDim S32x65536x2048 ![0, 1, 2] bcast_S32x1x2048_S32x65536x2048_0_1_2 a4)) slices_S32x65536x2048_S32x65536x1024_0_0_1024))) (broadcastInDim S32x65536x1024 ![] bcast_S_S32x65536x1024 (constant S_ .f32 0x3F800000#32)))) a5) (broadcastInDim S32x65536x1024 ![0, 1, 2] bcast_S32x1x1024_S32x65536x1024_0_1_2 a6))) (constant S_ .f32 0x00000000#32) reducesTo_S32x65536x1024_S65536x1024_d0 h_S_

/-- The one-hot weight of expert `e` for slot `n`. -/
def hot (a0 a1 : S128.Idx → BitVec 32) (n : Fin 65536) (e : Fin 32) : EReal :=
  Scalar.select (IntOp.cmpi CmpIPredicate.slt (BitVec.ofNat 32 n.val) (IntOp.muli (a1 (ix1 32)) 512#32))
    (FloatOps.uitofp (F := Ideal) FTy.f32 (IntOp.cmpi CmpIPredicate.eq (a0 (ix1 ⟨n.val / 512, by omega⟩)) (BitVec.ofNat 32 e.val))) (0 : EReal)

theorem ref_apply (a0 a1 : S128.Idx → BitVec 32) (a2 : FVec Ideal S65536x1024 .f32) (a3 : FVec Ideal S32x1024x2048 .f32) (a4 : FVec Ideal S32x1x2048 .f32)
    (a5 : FVec Ideal S32x1024x1024 .f32) (a6 : FVec Ideal S32x1x1024 .f32) (n : Fin 65536) (d : Fin 1024) :
    refVal a0 a1 a2 a3 a4 a5 a6 (ix2 n d)
      = ∑ e : Fin 32, hot a0 a1 n e
          * mlp (fun k => a2 (ix2 n k)) (fun k f => a3 (ix3 e k f)) (fun f => a4 (ix3 e 0 f)) (fun f d => a5 (ix3 e f d)) (fun d => a6 (ix3 e 0 d)) d := by
  have z : id (constant (F := Ideal) S_ FTy.f32 0#32) Idealize.ShloMosaic.ix0 = (0 : EReal) := by pointwise [id]
  pointwise [refVal]
  simp only [z]
  refine Finset.sum_congr rfl fun e _ => congrArg₂ (· * ·) rfl ?_
  unfold mlp act pre
  simp only [mul_comm (a2 _)]
  rfl

/-- In a used tile, the weight picks the tile's expert. -/
theorem hot_used (a0 a1 : S128.Idx → BitVec 32) (n : Fin 65536) (e : Fin 32) (hu : (a1 (ix1 32)).toNat ≤ 128) (h0 : (a0 (ix1 ⟨n.val / 512, by omega⟩)).toNat < 32) :
    hot a0 a1 n e = if n.val / 512 < (a1 (ix1 32)).toNat ∧ (a0 (ix1 ⟨n.val / 512, by omega⟩)).toNat = e.val then 1 else 0 := by
  unfold hot
  generalize a0 (ix1 ⟨n.val / 512, _⟩) = x at *
  generalize a1 (ix1 32) = y at *
  have hy : IntOp.muli y 512#32 = BitVec.ofNat 32 (y.toNat * 512) := by
    apply BitVec.eq_of_toNat_eq
    simp [IntOp.muli, BitVec.toNat_mul]
  have hx : x = BitVec.ofNat 32 x.toNat := by simp
  rw [hy]
  by_cases h1 : n.val / 512 < y.toNat
  · rw [WordCmp.select_of_eq_one ((WordCmp.cmpi_slt_ofNat_eq_one_iff (by omega) (by omega)).mpr (by omega))]
    by_cases h2 : x.toNat = e.val
    · rw [if_pos ⟨h1, h2⟩]
      have : IntOp.cmpi CmpIPredicate.eq x (BitVec.ofNat 32 e.val) = 1#1 := by
        rw [hx, h2]; exact (WordCmp.cmpi_eq_ofNat_eq_one_iff (by omega) (by omega)).mpr rfl
      rw [this]
      show ((((1#1 : BitVec 1).toNat : ℕ) : ℝ) : EReal) = 1
      simp
    · rw [if_neg fun h => h2 h.2]
      have : IntOp.cmpi CmpIPredicate.eq x (BitVec.ofNat 32 e.val) = 0#1 := by
        rw [hx]; exact (WordCmp.cmpi_eq_ofNat_eq_zero_iff (by omega) (by omega)).mpr h2
      rw [this]
      show ((((0#1 : BitVec 1).toNat : ℕ) : ℝ) : EReal) = 0
      simp
  · rw [WordCmp.select_of_eq_zero ((WordCmp.cmpi_slt_ofNat_eq_zero_iff (by omega) (by omega)).mpr (by omega)), if_neg fun h => h1 h.1]

/-- One element of the reference: the tile's expert's feed-forward where the tile is in use, zero past it. -/
theorem ref_value (a0 a1 : S128.Idx → BitVec 32) (a2 : FVec Ideal S65536x1024 .f32) (a3 : FVec Ideal S32x1024x2048 .f32) (a4 : FVec Ideal S32x1x2048 .f32)
    (a5 : FVec Ideal S32x1024x1024 .f32) (a6 : FVec Ideal S32x1x1024 .f32) (n : Fin 65536) (d : Fin 1024)
    (hu : (a1 (ix1 32)).toNat ≤ 128) (e : Fin 32) (he : (a0 (ix1 ⟨n.val / 512, by omega⟩)).toNat = e.val) :
    refVal a0 a1 a2 a3 a4 a5 a6 (ix2 n d)
      = if n.val / 512 < (a1 (ix1 32)).toNat then
          mlp (fun k => a2 (ix2 n k)) (fun k f => a3 (ix3 e k f)) (fun f => a4 (ix3 e 0 f)) (fun f d => a5 (ix3 e f d)) (fun d => a6 (ix3 e 0 d)) d
        else 0 := by
  rw [ref_apply]
  simp only [hot_used a0 a1 n _ hu (by rw [he]; exact e.isLt), he]
  split
  · rename_i h
    rw [Finset.sum_eq_single e]
    · rw [if_pos ⟨h, rfl⟩, one_mul]
    · intro e' _ hne
      rw [if_neg fun hh => hne (Fin.ext hh.2.symm), zero_mul]
    · exact fun hh => absurd (Finset.mem_univ _) hh
  · rename_i h
    exact Finset.sum_eq_zero fun e' _ => by rw [if_neg fun hh => h hh.1, zero_mul]
end

end Cert.Kernel2Ideal.Ffn

end
-- ==== Proof.FfnValue.lean ====
/- The grouped expert MLP's result array at the ideal numbers is the reference's. -/
module

public import proofs.«01_k».proof.Proof.FfnFrameI
public import proofs.«01_k».proof.Proof.FfnMath

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Idealize.ShloMosaic.Pipeline (Dat Window)

variable {T0 T1 : S128.Idx → Elt Ideal .i32} (hg : Good T0 T1)
variable (m : (ℓ : Loc nD τ sig) → Buf (Elt Ideal) ℓ) (ρ : Dev nD → PrngReg)

/-- Tile `t`'s expert. -/
def expert (t : Fin (cfgA hg).N) : Fin 32 := ⟨expertOf T0 ⟨(crd hg t 0).val, coord_lt _⟩, hg.expert _⟩

theorem index0 (t : Fin (cfgA hg).N) : cc0_transform_0 inb_S128_S1_32 numel1_S1 (tabs T0 T1) (crd hg t) = ![min t.val (used T1 - 1), 0] := by
  rw [ix0_apply hg, show (crd hg t 0).val = t.val from crd_val t]

theorem index1 (t : Fin (cfgA hg).N) : cc0_transform_1 k0_off1_inb numel1_S1 (tabs T0 T1) (crd hg t) = ![(expert hg t).val, 0, 0] := ix1_apply _

/-- The row window's element. -/
theorem iblk0_apply (c : Dev nD) (t : Fin (cfgA hg).N) (ht : t.val < used T1) (r : Fin 512) (k : Fin 1024) (n : Fin 65536) (hn : n.val = t.val * 512 + r.val) :
    (iblk hg m ρ c (0 : Fin 6) t : Vec Ideal S512x1024 .f32) (ix2 r k) = m ((c : Thread nD τ).loc main_arg2) (ix2 n k) := by
  have e := index0 hg t
  refine congrArg (m ((c : Thread nD τ).loc main_arg2)) (funext fun a => Fin.ext ?_)
  show cc0_transform_0 inb_S128_S1_32 numel1_S1 (tabs T0 T1) (crd hg t) a * S512x1024.size a + 1 * ((ix2 r k : S512x1024.Idx) a).val = ((ix2 n k : S65536x1024.Idx) a).val
  rw [e]
  match a with
  | ⟨0, _⟩ => show min t.val (used T1 - 1) * 512 + 1 * r.val = n.val; rw [hn]; omega
  | ⟨1, _⟩ => show 0 * 1024 + 1 * k.val = k.val; omega

theorem iblk1_apply (c : Dev nD) (t : Fin (cfgA hg).N) (k : Fin 1024) (f : Fin 2048) :
    (iblk hg m ρ c (1 : Fin 6) t : Vec Ideal S1x1024x2048 .f32) (ix3 0 k f) = m ((c : Thread nD τ).loc main_arg3) (ix3 (expert hg t) k f) := by
  have e := index1 hg t
  refine congrArg (m ((c : Thread nD τ).loc main_arg3)) (funext fun a => Fin.ext ?_)
  show cc0_transform_1 k0_off1_inb numel1_S1 (tabs T0 T1) (crd hg t) a * S1x1024x2048.size a + 1 * ((ix3 0 k f : S1x1024x2048.Idx) a).val = ((ix3 (expert hg t) k f : S32x1024x2048.Idx) a).val
  rw [e]
  match a with
  | ⟨0, _⟩ => show (expert hg t).val * 1 + 1 * 0 = (expert hg t).val; omega
  | ⟨1, _⟩ => show 0 * 1024 + 1 * k.val = k.val; omega
  | ⟨2, _⟩ => show 0 * 2048 + 1 * f.val = f.val; omega

theorem iblk2_apply (c : Dev nD) (t : Fin (cfgA hg).N) (f : Fin 2048) :
    (iblk hg m ρ c (2 : Fin 6) t : Vec Ideal S1x1x2048 .f32) (ix3 0 0 f) = m ((c : Thread nD τ).loc main_arg4) (ix3 (expert hg t) 0 f) := by
  have e : cc0_transform_2 k0_off1_inb numel1_S1 (tabs T0 T1) (crd hg t) = ![(expert hg t).val, 0, 0] := index1 hg t
  refine congrArg (m ((c : Thread nD τ).loc main_arg4)) (funext fun a => Fin.ext ?_)
  show cc0_transform_2 k0_off1_inb numel1_S1 (tabs T0 T1) (crd hg t) a * S1x1x2048.size a + 1 * ((ix3 0 0 f : S1x1x2048.Idx) a).val = ((ix3 (expert hg t) 0 f : S32x1x2048.Idx) a).val
  rw [e]
  match a with
  | ⟨0, _⟩ => show (expert hg t).val * 1 + 1 * 0 = (expert hg t).val; omega
  | ⟨1, _⟩ => rfl
  | ⟨2, _⟩ => show 0 * 2048 + 1 * f.val = f.val; omega

theorem iblk3_apply (c : Dev nD) (t : Fin (cfgA hg).N) (k : Fin 1024) (d : Fin 1024) :
    (iblk hg m ρ c (3 : Fin 6) t : Vec Ideal S1x1024x1024 .f32) (ix3 0 k d) = m ((c : Thread nD τ).loc main_arg5) (ix3 (expert hg t) k d) := by
  have e : cc0_transform_3 k0_off1_inb numel1_S1 (tabs T0 T1) (crd hg t) = ![(expert hg t).val, 0, 0] := index1 hg t
  refine congrArg (m ((c : Thread nD τ).loc main_arg5)) (funext fun a => Fin.ext ?_)
  show cc0_transform_3 k0_off1_inb numel1_S1 (tabs T0 T1) (crd hg t) a * S1x1024x1024.size a + 1 * ((ix3 0 k d : S1x1024x1024.Idx) a).val = ((ix3 (expert hg t) k d : S32x1024x1024.Idx) a).val
  rw [e]
  match a with
  | ⟨0, _⟩ => show (expert hg t).val * 1 + 1 * 0 = (expert hg t).val; omega
  | ⟨1, _⟩ => show 0 * 1024 + 1 * k.val = k.val; omega
  | ⟨2, _⟩ => show 0 * 1024 + 1 * d.val = d.val; omega

theorem iblk4_apply (c : Dev nD) (t : Fin (cfgA hg).N) (d : Fin 1024) :
    (iblk hg m ρ c (4 : Fin 6) t : Vec Ideal S1x1x1024 .f32) (ix3 0 0 d) = m ((c : Thread nD τ).loc main_arg6) (ix3 (expert hg t) 0 d) := by
  have e : cc0_transform_4 k0_off1_inb numel1_S1 (tabs T0 T1) (crd hg t) = ![(expert hg t).val, 0, 0] := index1 hg t
  refine congrArg (m ((c : Thread nD τ).loc main_arg6)) (funext fun a => Fin.ext ?_)
  show cc0_transform_4 k0_off1_inb numel1_S1 (tabs T0 T1) (crd hg t) a * S1x1x1024.size a + 1 * ((ix3 0 0 d : S1x1x1024.Idx) a).val = ((ix3 (expert hg t) 0 d : S32x1x1024.Idx) a).val
  rw [e]
  match a with
  | ⟨0, _⟩ => show (expert hg t).val * 1 + 1 * 0 = (expert hg t).val; omega
  | ⟨1, _⟩ => rfl
  | ⟨2, _⟩ => show 0 * 1024 + 1 * d.val = d.val; omega

/-- The reference's result at the launch memory's arguments and these tables. -/
def goal (T0 T1 : S128.Idx → Elt Ideal .i32) (c : Dev nD) : FVec Ideal S65536x1024 .f32 :=
  refVal T0 T1 (m ((c : Thread nD τ).loc main_arg2)) (m ((c : Thread nD τ).loc main_arg3)) (m ((c : Thread nD τ).loc main_arg4)) (m ((c : Thread nD τ).loc main_arg5)) (m ((c : Thread nD τ).loc main_arg6))

/-- What a tile leaves is its rows of the reference. -/
theorem outVal_apply (c : Dev nD) (t : Fin (cfgA hg).N) (r : Fin 512) (d : Fin 1024) (n : Fin 65536) (hn : n.val = t.val * 512 + r.val) :
    outVal hg m ρ c t (ix2 r d) = goal m T0 T1 c (ix2 n d) := by
  have hq : n.val / 512 = t.val := by omega
  have h1 : (T1 (ix1 32)) = T1 (ValueIdx.ix1 (32 : Fin 128)) := congrArg T1 (idx1_ext _ _ rfl)
  have h0 : (T0 (ix1 ⟨n.val / 512, by omega⟩)) = T0 (ValueIdx.ix1 (⟨(crd hg t 0).val, coord_lt _⟩ : Fin 128)) :=
    congrArg T0 (idx1_ext _ _ (hq.trans (crd_val t).symm))
  have key := ref_value T0 T1 (m ((c : Thread nD τ).loc main_arg2)) (m ((c : Thread nD τ).loc main_arg3)) (m ((c : Thread nD τ).loc main_arg4)) (m ((c : Thread nD τ).loc main_arg5)) (m ((c : Thread nD τ).loc main_arg6))
    n d (by rw [h1]; exact hg.hi) (expert hg t) (by rw [h0]; rfl)
  rw [goal, key, hq, h1]
  unfold outVal
  by_cases ht : t.val < used T1
  · rw [if_pos ht, if_pos (show t.val < BitVec.toNat (w := 32) (T1 (ValueIdx.ix1 (32 : Fin 128))) from ht), tile_apply]
    simp only [iblk1_apply, iblk2_apply, iblk3_apply, iblk4_apply]
    exact congrArg (fun X => mlp X _ _ _ _ d) (funext fun k => iblk0_apply hg m ρ c t ht r k n hn)
  · rw [if_neg ht, if_neg (show ¬t.val < BitVec.toNat (w := 32) (T1 (ValueIdx.ix1 (32 : Fin 128))) from ht), past_apply]

theorem index5_table : ∀ t : Fin grid0.N, ∀ a, cc0_transform_5 (grid0.coords t) a = (![t.val, 0] : Fin 2 → ℕ) a := by decide +kernel
theorem flush5_table : ∀ t : Fin grid0.N, Window.flushOf grid0 true cc0_transform_5 t = true := by decide +kernel

theorem index5 (t : Fin (cfgA hg).N) (a : Fin 2) : ((cfgA hg).win (5 : Fin 6)).index t a = (![t.val, 0] : Fin 2 → ℕ) a := index5_table t a

theorem flush5 (t : Fin (cfgA hg).N) : ((cfgA hg).win (5 : Fin 6)).flush t = true := flush5_table t

/-- The result array. -/
theorem final (c : Dev nD) : (dats hg m ρ 0 c).arrAt (5 : Fin 6) (cfgA hg).N = goal m T0 T1 c := by
  refine (dats hg m ρ 0 c).arrAt_eq_of_cover (5 : Fin 6) (goal m T0 T1 c) (fun t _ => ?_) fun i => ?_
  · show outVal hg m ρ c t = _
    funext y
    obtain ⟨r, d, rfl⟩ : ∃ (r : Fin 512) (d : Fin 1024), y = ix2 r d := ⟨y 0, y 1, eq_ix2 y⟩
    have hlt : t.val * 512 + r.val < 65536 := by have : t.val < 128 := t.isLt; omega
    rw [outVal_apply hg m ρ c t r d ⟨t.val * 512 + r.val, hlt⟩ rfl]
    refine congrArg (goal m T0 T1 c) (funext fun a => Fin.ext ?_)
    show _ = ((cfgA hg).win (5 : Fin 6)).index t a * S512x1024.size a + 1 * ((ix2 r d : S512x1024.Idx) a).val
    rw [index5]
    match a with
    | ⟨0, _⟩ => show t.val * 512 + r.val = t.val * 512 + 1 * r.val; omega
    | ⟨1, _⟩ => show d.val = 0 * 1024 + 1 * d.val; omega
  · have h0 : (i 0 : ℕ) < 65536 := (i 0).isLt
    have h1 : (i 1 : ℕ) < 1024 := (i 1).isLt
    have hN : (cfgA hg).N = 128 := N_0
    refine ⟨⟨(i 0).val / 512, by rw [hN]; omega⟩, flush5 hg _, ?_⟩
    generalize hd : (⟨(i 0).val / 512, _⟩ : Fin (cfgA hg).N) = t
    have htv : t.val = (i 0).val / 512 := by rw [← hd]
    show i ∈ ((View.whole main_v0).slice (((cfgA hg).win (5 : Fin 6)).rect t)).set
    rw [View.set_slice_whole, Rect.mem_set_unit]
    intro a
    match a with
    | ⟨0, _⟩ =>
      show ((cfgA hg).win (5 : Fin 6)).index t 0 * 512 ≤ (i 0 : Nat) ∧ (i 0 : Nat) < ((cfgA hg).win (5 : Fin 6)).index t 0 * 512 + 512
      rw [index5]
      show t.val * 512 ≤ _ ∧ _ < t.val * 512 + 512
      omega
    | ⟨1, _⟩ =>
      show ((cfgA hg).win (5 : Fin 6)).index t 1 * 1024 ≤ (i 1 : Nat) ∧ (i 1 : Nat) < ((cfgA hg).win (5 : Fin 6)).index t 1 * 1024 + 1024
      rw [index5]
      show 0 * 1024 ≤ _ ∧ _ < 0 * 1024 + 1024
      omega

end Cert.Kernel2Ideal.Ffn

end
-- ==== Proof.FfnClaims.lean ====
/- The claims about the grouped expert MLP, assembled: the frames of the kernel over both number systems and of the
   reference, and the equality of the kernel's result with the reference's at the ideal numbers. -/
module

public import proofs.«01_k».proof.Defs
public import proofs.«01_k».proof.Proof.FfnPreB
public import proofs.«01_k».proof.Proof.FfnPreI
public import proofs.«01_k».proof.Proof.FfnFrameB
public import proofs.«01_k».proof.Proof.FfnValue
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run

@[expose] public section

noncomputable section

namespace Cert.Proof

open Idealize.ShloMosaic Idealize.ShloMosaic.TcCoe Idealize.SL.Sem

/-- The kernel's frame over the bit-exact numbers, for tables the precondition admits. -/
theorem ffn_frame_bits : Cert.quiescent_Kernel2 (hKernel2 := Cert.Kernel2.Gen.facts) (hPre_tables_ok := Cert.Pre_tables_ok.Gen.facts) := fun m ρ h =>
  have hg := Cert.Kernel2.Ffn.good_of_pre _ _ _ _ _ _ _ (h 0)
  (θ_run Cert.Kernel2.defs _ _).mono (fun _ h => h.1)
    (Cert.Kernel2.Ffn.frame_run hg m ρ (fun c => by obtain rfl : c = 0 := Subsingleton.elim _ _; exact ⟨rfl, rfl⟩))

/-- The kernel's frame over the ideal numbers. -/
theorem ffn_frame_ideal : Cert.quiescent_Kernel2Ideal (hKernel2Ideal := Cert.Kernel2Ideal.Gen.facts) (hPre_tables_ok := Cert.Pre_tables_ok.Gen.facts) := fun m ρ h =>
  have hg := Cert.Kernel2Ideal.Ffn.good_of_pre _ _ _ _ _ _ _ (h 0)
  (θ_run Cert.Kernel2Ideal.defs _ _).mono (fun _ h => h.1)
    (Cert.Kernel2Ideal.Ffn.frame_run hg m ρ (fun c => by obtain rfl : c = 0 := Subsingleton.elim _ _; exact ⟨rfl, rfl⟩))

/-- The reference's frame. -/
theorem ffn_frame_ref : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's frame where the tables are admitted. -/
theorem ffn_frame_ref_pre : Cert.quiescent_Reference2Ideal_pre_tables_ok (hReference2Ideal := Cert.Reference2Ideal.Gen.facts)
    (hPre_tables_ok := Cert.Pre_tables_ok.Gen.facts) := fun m ρ _ => ffn_frame_ref m ρ trivial

/-- At the ideal numbers the kernel and the reference leave the same result. -/
theorem ffn_value : Cert.algebraic_Kernel2Ideal_Reference2Ideal (hKernel2Ideal := Cert.Kernel2Ideal.Gen.facts)
    (hReference2Ideal := Cert.Reference2Ideal.Gen.facts) (hPre_tables_ok := Cert.Pre_tables_ok.Gen.facts) := by
  intro m g m' g' h hargs
  have hg := Cert.Kernel2Ideal.Ffn.good_of_pre _ _ _ _ _ _ _ (h 0)
  refine ⟨fun c => Cert.Kernel2Ideal.Ffn.goal m (m ((0 : Dev Cert.Kernel2Ideal.nD).tc.loc Cert.Kernel2Ideal.main_arg0))
    (m ((0 : Dev Cert.Kernel2Ideal.nD).tc.loc Cert.Kernel2Ideal.main_arg1)) c, ?_, ?_⟩
  · exact (θ_run Cert.Kernel2Ideal.defs _ _).mono (fun r hr c => ⟨(hr.2 c).trans (Cert.Kernel2Ideal.Ffn.final hg m g c), hr.1.1 c⟩)
      (Cert.Kernel2Ideal.Ffn.frame_run hg m g (fun c => by obtain rfl : c = 0 := Subsingleton.elim _ _; exact ⟨rfl, rfl⟩))
  · refine (θ_run Cert.Reference2Ideal.defs _ _).mono (fun r hr c => ⟨(hr c).1.trans ?_, (hr c).2⟩) (Cert.Reference2Ideal.Value.run (F := Ideal) m' g')
    obtain rfl : c = 0 := Subsingleton.elim _ _
    obtain ⟨h0, h1, h2, h3, h4, h5, h6⟩ := hargs 0
    rw [h0, h1, h2, h3, h4, h5, h6]
    rfl

end Cert.Proof

end
-- ==== Proof.ProjMath.lean ====
/- The input projection at the ideal numbers: one element that a tile of the kernel stores, and one element of the reference, are the
   same row's normalized, modulated product with one column of the weights. -/
module

public import proofs.«01_k».proof.Proof.Gen.Kernel3Ideal.Skeleton
public import proofs.«01_k».proof.Proof.Gen.Reference3Ideal.Run
public import Idealize.ShloMosaic.Lib.Pointwise

@[expose] public section

set_option maxRecDepth 16384
set_option maxHeartbeats 4000000

noncomputable section

namespace Cert.Kernel3Ideal.Proj

open Idealize.ShloMosaic

/-- The factor that brings a row to unit mean square. -/
def invRms (X : Fin 1024 → EReal) : EReal :=
  Ideal.rsqrt (Ideal.div (∑ j, X j * X j) (Ideal.ofBits FTy.f32 1149239296#32) + Ideal.ofBits FTy.f32 897988541#32)

/-- One element of the projection of a row `X`: normalized, weighted by `N`, scaled by one plus `S`, shifted by `B`, against a column `W`. -/
def rowProj (X N S B W : Fin 1024 → EReal) : EReal := ∑ k, (X k * invRms X * N k * (1 + S k) + B k) * W k

section
open Cert.Kernel3Ideal Cert.Kernel3Ideal.Gen

/-- What a tile stores: the row is the context's in the first sixteen tiles, the latent one's after them. -/
theorem tile_apply (i : grid0.Coords) (v0 : Vec Ideal S1x1x6144 .f32) (v3 v5 : Vec Ideal S512x1024 .f32) (v8 : Vec Ideal S1x1024 .f32)
    (v31 : Vec Ideal S1024x2432 .bf16) (X : Vec Ideal S512x1024 .f32) (hX : Scalar.select (Scalar.cmpi .slt (BitVec.ofNat 32 (i 0).val) 16#32) v3 v5 = X)
    (r : Fin 512) (d : Fin 2432) :
    k0_pay1 i v0 v3 v5 v8 v31 (ix2 r d)
      = rowProj (fun k => X (ix2 r k)) (fun k => v8 (ix2 0 k)) (fun k => v0 (ix3 0 0 ⟨1024 + k.val, by omega⟩)) (fun k => v0 (ix3 0 0 ⟨k.val, by omega⟩))
          (fun k => v31 (ix2 k d)) := by
  subst hX
  pointwise [k0_pay1]
  rfl
end

section
open Cert.Reference3Ideal Cert.Reference3Ideal.Gen

/-- The reference's rows of the context tokens. -/
def refCtx (a0 : FVec Ideal S32x256x1024 .f32) (a2 : FVec Ideal S8x6144 .f32) (a3 : FVec Ideal S1024 .f32) (a4 : FVec Ideal S1024x4480 .f32) :
    FVec Ideal S8192x2432 .f32 :=
  (shapeCast S8192x2432 (extractStridedSlice S32x256x2432 ![0, 0, 0] (Host.dotGeneral dot_S32x256x1024_S1024x4480_S32x256x4480_2_0_01_1_n_n none (addf (mulf (mulf (mulf a0 (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf a0 a0) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 a3))) (broadcastInDim S32x256x1024 ![0, 1, 2] bcast_S1x1x1024_S32x256x1024_0_1_2 (addf (broadcastInDim S1x1x1024 ![] bcast_S_S1x1x1024 (constant S_ .f32 0x3F800000#32)) (broadcastInDim S1x1x1024 ![0, 2] bcast_S1x1024_S1x1x1024_0_2 (extractStridedSlice S1x1024 ![0, 1024] (extractStridedSlice S1x6144 ![0, 0] a2 slices_S8x6144_S1x6144_0_0) slices_S1x6144_S1x1024_0_1024))))) (broadcastInDim S32x256x1024 ![0, 1, 2] bcast_S1x1x1024_S32x256x1024_0_1_2 (broadcastInDim S1x1x1024 ![0, 2] bcast_S1x1024_S1x1x1024_0_2 (extractStridedSlice S1x1024 ![0, 0] (extractStridedSlice S1x6144 ![0, 0] a2 slices_S8x6144_S1x6144_0_0) slices_S1x6144_S1x1024_0_0)))) a4) slices_S32x256x4480_S32x256x2432_0_0_0) shapeCasts_S32x256x2432_S8192x2432)

/-- The reference's rows of the latent tokens. -/
def refLat (a1 : FVec Ideal S4x1024x1024 .f32) (a2 : FVec Ideal S8x6144 .f32) (a3 : FVec Ideal S1024 .f32) (a4 : FVec Ideal S1024x4480 .f32) :
    FVec Ideal S4096x2432 .f32 :=
  (shapeCast S4096x2432 (extractStridedSlice S4x1024x2432 ![0, 0, 0] (Host.dotGeneral dot_S4x1024x1024_S1024x4480_S4x1024x4480_2_0_01_1_n_n none (addf (mulf (mulf (mulf a1 (broadcastInDim S4x1024x1024 ![0, 1, 2] bcast_S4x1024x1_S4x1024x1024_0_1_2 (Host.rsqrt (addf (Host.divf (broadcastInDim S4x1024x1 ![0, 1] bcast_S4x1024_S4x1024x1_0_1 (Host.reduceAdd (mulf a1 a1) (constant S_ .f32 0x00000000#32) reducesTo_S4x1024x1024_S4x1024_d2 h_S_)) (broadcastInDim S4x1024x1 ![] bcast_S_S4x1024x1 (constant S_ .f32 0x44800000#32))) (broadcastInDim S4x1024x1 ![] bcast_S_S4x1024x1 (constant S_ .f32 0x358637BD#32)))))) (broadcastInDim S4x1024x1024 ![0, 1, 2] bcast_S1x1x1024_S4x1024x1024_0_1_2 (broadcastInDim S1x1x1024 ![2] bcast_S1024_S1x1x1024_2 a3))) (broadcastInDim S4x1024x1024 ![0, 1, 2] bcast_S4x1x1024_S4x1024x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] (extractStridedSlice S4x6144 ![1, 0] a2 slices_S8x6144_S4x6144_1_0) slices_S4x6144_S4x1024_0_1024))))) (broadcastInDim S4x1024x1024 ![0, 1, 2] bcast_S4x1x1024_S4x1024x1024_0_1_2 (broadcastInDim S4x1x1024 ![0, 2] bcast_S4x1024_S4x1x1024_0_2 (extractStridedSlice S4x1024 ![0, 0] (extractStridedSlice S4x6144 ![1, 0] a2 slices_S8x6144_S4x6144_1_0) slices_S4x6144_S4x1024_0_0)))) a4) slices_S4x1024x4480_S4x1024x2432_0_0_0) shapeCasts_S4x1024x2432_S4096x2432)

/-- The reference's result. -/
def refVal (a0 : FVec Ideal S32x256x1024 .f32) (a1 : FVec Ideal S4x1024x1024 .f32) (a2 : FVec Ideal S8x6144 .f32) (a3 : FVec Ideal S1024 .f32)
    (a4 : FVec Ideal S1024x4480 .f32) : FVec Ideal S12288x2432 .f32 :=
  concatenate S12288x2432 0 [⟨S8192x2432, refCtx a0 a2 a3 a4⟩, ⟨S4096x2432, refLat a1 a2 a3 a4⟩] concatenates_S8192x2432_S4096x2432_S12288x2432_d0

theorem refCtx_apply (a0 : FVec Ideal S32x256x1024 .f32) (a2 : FVec Ideal S8x6144 .f32) (a3 : FVec Ideal S1024 .f32) (a4 : FVec Ideal S1024x4480 .f32)
    (n : Fin 8192) (d : Fin 2432) :
    refCtx a0 a2 a3 a4 (ix2 n d)
      = rowProj (fun k => a0 (ix3 ⟨n.val / 256, by omega⟩ ⟨n.val % 256, by omega⟩ k)) (fun k => a3 (ix1 k)) (fun k => a2 (ix2 0 ⟨1024 + k.val, by omega⟩))
          (fun k => a2 (ix2 0 ⟨k.val, by omega⟩)) (fun k => a4 (ix2 k ⟨d.val, by omega⟩)) := by
  pointwise [refCtx]
  rfl

theorem refLat_apply (a1 : FVec Ideal S4x1024x1024 .f32) (a2 : FVec Ideal S8x6144 .f32) (a3 : FVec Ideal S1024 .f32) (a4 : FVec Ideal S1024x4480 .f32)
    (n : Fin 4096) (d : Fin 2432) :
    refLat a1 a2 a3 a4 (ix2 n d)
      = rowProj (fun k => a1 (ix3 ⟨n.val / 1024, by omega⟩ ⟨n.val % 1024, by omega⟩ k)) (fun k => a3 (ix1 k))
          (fun k => a2 (ix2 ⟨1 + n.val / 1024, by omega⟩ ⟨1024 + k.val, by omega⟩)) (fun k => a2 (ix2 ⟨1 + n.val / 1024, by omega⟩ ⟨k.val, by omega⟩))
          (fun k => a4 (ix2 k ⟨d.val, by omega⟩)) := by
  pointwise [refLat]
  rfl
end

end Cert.Kernel3Ideal.Proj

end
-- ==== Proof.PostMath.lean ====
/- The mixing of the branches into the residual stream, at the ideal numbers: what one element of the array is, as the kernel's tiles
   compute it. -/
module

public import proofs.«01_k».proof.Proof.ProjMath
public import proofs.«01_k».proof.Proof.Gen.Kernel4Ideal.Skeleton
public import Idealize.ShloMosaic.Lib.Pointwise

@[expose] public section

set_option maxRecDepth 16384
set_option maxHeartbeats 4000000

noncomputable section

namespace Cert.Kernel4Ideal.Post

open Idealize.ShloMosaic
open Cert.Kernel3Ideal.Proj (invRms)

/-- A row `X` normalized, weighted by `N`, scaled by one plus `S` and shifted by `B`. -/
def hnRow (X N S B : Fin 1024 → EReal) (k : Fin 1024) : EReal := X k * invRms X * N k * (1 + S k) + B k

/-- The merge gates of a normalized row `H`: the logistic function of its product with `W`, plus `b`. -/
def gateRow (H : Fin 1024 → EReal) (W : Fin 1024 → Fin 2048 → EReal) (b : Fin 2048 → EReal) (d : Fin 2048) : EReal :=
  Ideal.div 1 (1 + Ideal.exp (-(∑ k, H k * W k d + b d)))

/-- The recurrent branch's row: `Y` normalized within its heads, weighted, shifted, and multiplied by the output gate `G`. -/
def rwRow (Y lw lb : Fin 512 → EReal) (G : Fin 128 → EReal) (Gw : Fin 128 → Fin 512 → EReal) (l : Fin 512) : EReal :=
  (Y l * lw l + lb l) * ∑ j, G j * Gw j l

/-- The two branches merged. -/
def mixRow (M : Fin 2048 → EReal) (P : Fin 512 → EReal) (Wp : Fin 512 → Fin 1024 → EReal) (R : Fin 512 → EReal)
    (Wr : Fin 512 → Fin 1024 → EReal) (d : Fin 1024) : EReal :=
  M ⟨d.val, by omega⟩ * (∑ k, P k * Wp k d) + M ⟨1024 + d.val, by omega⟩ * ∑ l, R l * Wr l d

/-- The row's new residual stream. -/
def outRow (X g U : Fin 1024 → EReal) (Wo : Fin 1024 → Fin 1024 → EReal) (d : Fin 1024) : EReal := X d + g d * ∑ k, U k * Wo k d

/-- A row with its heads' means subtracted, as the kernel takes them: a product with the matrix `E` of the heads, in two parts. -/
def centered (Y : Fin 512 → EReal) (E : Fin 512 → Fin 512 → EReal) (l : Fin 512) : EReal :=
  Y l - (∑ j, Y j * E j l + ∑ j, (Y j - Y j) * E j l) * Ideal.ofBits FTy.f32 1015021568#32

/-- A centered row brought to unit variance in each head, the variance taken in the same way. -/
def normed (C : Fin 512 → EReal) (E : Fin 512 → Fin 512 → EReal) (l : Fin 512) : EReal :=
  C l * Ideal.rsqrt ((∑ j, C j * C j * E j l + ∑ j, (C j * C j - C j * C j) * E j l) * Ideal.ofBits FTy.f32 1015021568#32
    + Ideal.ofBits FTy.f32 975685036#32)

open Cert.Kernel4Ideal Cert.Kernel4Ideal.Gen

theorem hn_apply (i : grid0.Coords) (v4 v6 : Vec Ideal S512x1024 .f32) (v9 : Vec Ideal S1x1x6144 .f32) (v16 : Vec Ideal S1x1024 .f32)
    (X : Vec Ideal S512x1024 .f32) (hX : Scalar.select (Scalar.cmpi .slt (BitVec.ofNat 32 (i 0).val) 16#32) v4 v6 = X) (r : Fin 512) (k : Fin 1024) :
    k0_pay8 i v4 v6 v9 v16 (ix2 r k)
      = hnRow (fun k => X (ix2 r k)) (fun k => v16 (ix2 0 k)) (fun k => v9 (ix3 0 0 ⟨1024 + k.val, by omega⟩)) (fun k => v9 (ix3 0 0 ⟨k.val, by omega⟩)) k := by
  subst hX
  pointwise [k0_pay8, k0_pay3, k0_pay4]
  rfl

theorem gate_apply (v36 : FVec Ideal S512x1024 .bf16) (v37 : Vec Ideal S1024x2048 .bf16) (v40 : Vec Ideal S1x2048 .f32) (r : Fin 512) (d : Fin 2048) :
    k0_pay10 v36 (k0_pay9 v37) (constant S512x2048 .f32 0x00000000#32) v40 (ix2 r d)
      = gateRow (fun k => v36 (ix2 r k)) (fun k d => v37 (ix2 k d)) (fun d => v40 (ix2 0 d)) d := by
  pointwise [k0_pay10, k0_pay9]
  rw [zero_sub]
  rfl

theorem pool_apply (a : BitVec 32) (v52 v53 : Vec Ideal S512x512 .bf16) (v55 : Vec Ideal S512x1024 .bf16)
    (P : Vec Ideal S512x512 .bf16) (hP : Scalar.select (Scalar.cmpi .slt a 16#32) v52 v53 = P) (r : Fin 512) (d : Fin 1024) :
    k0_pay11 a v52 v53 v55 (ix2 r d) = ∑ k, P (ix2 r k) * v55 (ix2 k d) := by
  subst hP
  pointwise [k0_pay11]

theorem centered_apply (a : BitVec 32) (v59 v60 : Vec Ideal S512x512 .f32) (v62 : Vec Ideal S512x512 .bf16)
    (Y : Vec Ideal S512x512 .f32) (hY : Scalar.select (Scalar.cmpi .slt a 16#32) v59 v60 = Y) (r : Fin 512) (l : Fin 512) :
    k0_pay13 a v59 v60 v62 (ix2 r l) = centered (fun j => Y (ix2 r j)) (fun j l => v62 (ix2 j l)) l := by
  subst hY
  pointwise [k0_pay13, k0_pay12]
  rfl

theorem mixed_apply (a : BitVec 32) (v50 : FVec Ideal S512x2048 .f32) (v57 : FVec Ideal S512x1024 .f32) (v62 : Vec Ideal S512x512 .bf16)
    (v59 v60 : Vec Ideal S512x512 .f32) (v88 v92 : Vec Ideal S1x512 .f32) (v97 v98 : Vec Ideal S512x128 .bf16) (v100 : Vec Ideal S128x512 .bf16)
    (v105 : Vec Ideal S512x1024 .bf16) (G : Vec Ideal S512x128 .bf16) (hG : Scalar.select (Scalar.cmpi .slt a 16#32) v97 v98 = G) (r : Fin 512) (d : Fin 1024) :
    k0_pay16 a v50 v57 (k0_pay12 v62) (k0_pay13 a v59 v60 v62) (k0_pay14 a v59 v60 v62) (k0_pay15 a v59 v60 v62) v88 v92 v97 v98 v100 v105 (ix2 r d)
      = v50 (ix2 r ⟨d.val, by omega⟩) * v57 (ix2 r d) + v50 (ix2 r ⟨1024 + d.val, by omega⟩)
        * ∑ l, rwRow (normed (fun j => k0_pay13 a v59 v60 v62 (ix2 r j)) (fun j l => v62 (ix2 j l))) (fun l => v88 (ix2 0 l)) (fun l => v92 (ix2 0 l))
            (fun j => G (ix2 r j)) (fun j l => v100 (ix2 j l)) l * v105 (ix2 l d) := by
  subst hG
  have e14 : ∀ j, k0_pay14 a v59 v60 v62 (ix2 r j) = k0_pay13 a v59 v60 v62 (ix2 r j) * k0_pay13 a v59 v60 v62 (ix2 r j) := fun j => rfl
  have e15 : ∀ j, k0_pay15 a v59 v60 v62 (ix2 r j) = k0_pay13 a v59 v60 v62 (ix2 r j) * k0_pay13 a v59 v60 v62 (ix2 r j) := fun j => rfl
  generalize k0_pay14 a v59 v60 v62 = q14 at e14 ⊢
  generalize k0_pay15 a v59 v60 v62 = q15 at e15 ⊢
  generalize k0_pay13 a v59 v60 v62 = q13 at e14 e15 ⊢
  pointwise [k0_pay16, k0_pay12]
  simp only [e14, e15]
  rfl

theorem out_apply (v8 : FVec Ideal S512x1024 .f32) (v9 : Vec Ideal S1x1x6144 .f32) (v113 : FVec Ideal S512x1024 .bf16) (v114 : Vec Ideal S1024x1024 .bf16)
    (r : Fin 512) (d : Fin 1024) :
    k0_pay17 v8 (k0_pay5 v9) v113 v114 (ix2 r d)
      = outRow (fun k => v8 (ix2 r k)) (fun k => v9 (ix3 0 0 ⟨2048 + k.val, by omega⟩)) (fun k => v113 (ix2 r k)) (fun k d => v114 (ix2 k d)) d := by
  pointwise [k0_pay17, k0_pay5, k0_pay4]
  rfl

end Cert.Kernel4Ideal.Post

end
-- ==== Proof.PostRef.lean ====
/- The reference of the mixing at the ideal numbers: its elements in the same form as the kernel's tiles, with each head's mean and variance
   taken over its 64 entries. -/
module

public import proofs.«01_k».proof.Proof.PostMath
public import proofs.«01_k».proof.Proof.Gen.Reference4Ideal.Run
public import Idealize.ShloMosaic.Lib.Pointwise

@[expose] public section

set_option maxRecDepth 16384
set_option maxHeartbeats 4000000

noncomputable section

namespace Cert.Reference4Ideal.Post

open Idealize.ShloMosaic Idealize.ShloMosaic.Pointwise Cert.Reference4Ideal.Gen Cert.Reference4Ideal.Value
open Cert.Kernel4Ideal.Post (hnRow gateRow rwRow mixRow outRow)

variable (W : Valuation τ sig (Elt Ideal))

abbrev R0 : FVec Ideal S32x256x1024 .f32 := W (Proc.devRef .tc main_arg0)
abbrev R1 : FVec Ideal S4x1024x1024 .f32 := W (Proc.devRef .tc main_arg1)
abbrev R2 : FVec Ideal S8x6144 .f32 := W (Proc.devRef .tc main_arg2)
abbrev R3 : FVec Ideal S8192x512 .bf16 := W (Proc.devRef .tc main_arg3)
abbrev R4 : FVec Ideal S4096x512 .bf16 := W (Proc.devRef .tc main_arg4)
abbrev R5 : FVec Ideal S8192x128 .bf16 := W (Proc.devRef .tc main_arg5)
abbrev R6 : FVec Ideal S4096x128 .bf16 := W (Proc.devRef .tc main_arg6)
abbrev R7 : FVec Ideal S8192x512 .f32 := W (Proc.devRef .tc main_arg7)
abbrev R8 : FVec Ideal S4096x512 .f32 := W (Proc.devRef .tc main_arg8)
abbrev R9 : FVec Ideal S1024 .f32 := W (Proc.devRef .tc main_arg9)
abbrev R10 : FVec Ideal S1024x4480 .f32 := W (Proc.devRef .tc main_arg10)
abbrev R11 : FVec Ideal S2048 .f32 := W (Proc.devRef .tc main_arg11)
abbrev R12 : FVec Ideal S512x1024 .f32 := W (Proc.devRef .tc main_arg12)
abbrev R13 : FVec Ideal S512 .f32 := W (Proc.devRef .tc main_arg13)
abbrev R14 : FVec Ideal S512 .f32 := W (Proc.devRef .tc main_arg14)
abbrev R15 : FVec Ideal S128x512 .f32 := W (Proc.devRef .tc main_arg15)
abbrev R16 : FVec Ideal S512x1024 .f32 := W (Proc.devRef .tc main_arg16)
abbrev R17 : FVec Ideal S1024x1024 .f32 := W (Proc.devRef .tc main_arg17)

/-- The mean of 64 entries. -/
def mean64 (Z : Fin 64 → EReal) : EReal := Ideal.div (∑ e, Z e) (Ideal.ofBits FTy.f32 1115684864#32)

/-- The entries of the head that column `l` is of. -/
def headOf (Y : Fin 512 → EReal) (l : Fin 512) (e : Fin 64) : EReal := Y ⟨l.val / 64 * 64 + e.val, by omega⟩

/-- A row normalized within its heads. -/
def refNorm (Y : Fin 512 → EReal) (l : Fin 512) : EReal :=
  (Y l - mean64 (headOf Y l)) * Ideal.rsqrt (mean64 (fun e => (headOf Y l e - mean64 (headOf Y l)) * (headOf Y l e - mean64 (headOf Y l)))
    + Ideal.ofBits FTy.f32 975685036#32)

theorem mod_ctx (k : Fin 6144) : (res_main_v0 W : FVec Ideal S1x6144 .f32) (ix2 0 k) = R2 W (ix2 0 k) := by
  pointwise [res_main_v0]

/-- The merge gates of the context tokens. -/
theorem gate_ctx (a : Fin 32) (b : Fin 256) (d : Fin 2048) :
    (res_main_v36 W : FVec Ideal S32x256x2048 .f32) (ix3 a b d)
      = gateRow (hnRow (fun k => R0 W (ix3 a b k)) (fun k => R9 W (ix1 k)) (fun k => R2 W (ix2 0 ⟨1024 + k.val, by omega⟩)) (fun k => R2 W (ix2 0 ⟨k.val, by omega⟩)))
          (fun k d => R10 W (ix2 k ⟨2432 + d.val, by omega⟩)) (fun d => R11 W (ix1 d)) d := by
  pointwise [res_main_v36, res_main_v0]
  rfl

theorem head_ctx (a : Fin 32) (b : Fin 256) (h : Fin 8) (e : Fin 64) :
    (res_main_v43 W : FVec Ideal S32x256x8x64 .f32) (ix4 a b h e) = R7 W (ix2 ⟨a.val * 256 + b.val, by omega⟩ ⟨h.val * 64 + e.val, by omega⟩) := by
  pointwise [res_main_v43]

theorem mean_ctx (a : Fin 32) (b : Fin 256) (h : Fin 8) :
    (res_main_v47 W : FVec Ideal S32x256x8x1 .f32) (ix4 a b h 0)
      = mean64 fun e => R7 W (ix2 ⟨a.val * 256 + b.val, by omega⟩ ⟨h.val * 64 + e.val, by omega⟩) := by
  pointwise [res_main_v47, res_main_v43]
  rfl

theorem cent_ctx (a : Fin 32) (b : Fin 256) (h : Fin 8) (e : Fin 64) :
    (res_main_v49 W : FVec Ideal S32x256x8x64 .f32) (ix4 a b h e)
      = R7 W (ix2 ⟨a.val * 256 + b.val, by omega⟩ ⟨h.val * 64 + e.val, by omega⟩) - mean64 fun e => R7 W (ix2 ⟨a.val * 256 + b.val, by omega⟩ ⟨h.val * 64 + e.val, by omega⟩) := by
  pointwise [res_main_v49, res_main_v47, res_main_v43]
  rfl

theorem mod_lat (a : Fin 4) (k : Fin 6144) : (res_main_v81 W : FVec Ideal S4x6144 .f32) (ix2 a k) = R2 W (ix2 ⟨1 + a.val, by omega⟩ k) := by
  pointwise [res_main_v81]

/-- The merge gates of the grid tokens. -/
theorem gate_lat (a : Fin 4) (b : Fin 1024) (d : Fin 2048) :
    (res_main_v117 W : FVec Ideal S4x1024x2048 .f32) (ix3 a b d)
      = gateRow (hnRow (fun k => R1 W (ix3 a b k)) (fun k => R9 W (ix1 k)) (fun k => R2 W (ix2 ⟨1 + a.val, by omega⟩ ⟨1024 + k.val, by omega⟩)) (fun k => R2 W (ix2 ⟨1 + a.val, by omega⟩ ⟨k.val, by omega⟩)))
          (fun k d => R10 W (ix2 k ⟨2432 + d.val, by omega⟩)) (fun d => R11 W (ix1 d)) d := by
  pointwise [res_main_v117, res_main_v81]
  rfl

theorem head_lat (a : Fin 4) (b : Fin 1024) (h : Fin 8) (e : Fin 64) :
    (res_main_v124 W : FVec Ideal S4x1024x8x64 .f32) (ix4 a b h e) = R8 W (ix2 ⟨a.val * 1024 + b.val, by omega⟩ ⟨h.val * 64 + e.val, by omega⟩) := by
  pointwise [res_main_v124]

theorem mean_lat (a : Fin 4) (b : Fin 1024) (h : Fin 8) :
    (res_main_v128 W : FVec Ideal S4x1024x8x1 .f32) (ix4 a b h 0)
      = mean64 fun e => R8 W (ix2 ⟨a.val * 1024 + b.val, by omega⟩ ⟨h.val * 64 + e.val, by omega⟩) := by
  pointwise [res_main_v128, res_main_v124]
  rfl

theorem cent_lat (a : Fin 4) (b : Fin 1024) (h : Fin 8) (e : Fin 64) :
    (res_main_v130 W : FVec Ideal S4x1024x8x64 .f32) (ix4 a b h e)
      = R8 W (ix2 ⟨a.val * 1024 + b.val, by omega⟩ ⟨h.val * 64 + e.val, by omega⟩) - mean64 fun e => R8 W (ix2 ⟨a.val * 1024 + b.val, by omega⟩ ⟨h.val * 64 + e.val, by omega⟩) := by
  pointwise [res_main_v130, res_main_v128, res_main_v124]
  rfl

/-- The two halves of the result. -/
def halfCtx : FVec Ideal S8192x1024 .f32 :=
  (shapeCast S8192x1024 (addf (R0 W) (mulf (broadcastInDim S32x256x1024 ![0, 1, 2] bcast_S1x1x1024_S32x256x1024_0_1_2 (broadcastInDim S1x1x1024 ![0, 2] bcast_S1x1024_S1x1x1024_0_2 (extractStridedSlice S1x1024 ![0, 2048] (res_main_v0 W) slices_S1x6144_S1x1024_0_2048))) (Host.dotGeneral dot_S32x256x1024_S1024x1024_S32x256x1024_2_0_01_1_n_n none (addf (mulf (extractStridedSlice S32x256x1024 ![0, 0, 0] (res_main_v36 W) slices_S32x256x2048_S32x256x1024_0_0_0) (Host.dotGeneral dot_S32x256x512_S512x1024_S32x256x1024_2_0_01_1_n_n none (shapeCast _ (extf .f32 (R3 W) bitsLt_bf16_f32) shapeCasts_S8192x512_S32x256x512) (R12 W))) (mulf (extractStridedSlice S32x256x1024 ![0, 0, 1024] (res_main_v36 W) slices_S32x256x2048_S32x256x1024_0_0_1024) (Host.dotGeneral dot_S32x256x512_S512x1024_S32x256x1024_2_0_01_1_n_n none (mulf (addf (mulf (shapeCast _ (mulf (subf (res_main_v43 W) (broadcastInDim S32x256x8x64 ![0, 1, 2, 3] bcast_S32x256x8x1_S32x256x8x64_0_1_2_3 (res_main_v47 W))) (broadcastInDim S32x256x8x64 ![0, 1, 2, 3] bcast_S32x256x8x1_S32x256x8x64_0_1_2_3 (Host.rsqrt (addf (Host.divf (broadcastInDim S32x256x8x1 ![0, 1, 2] bcast_S32x256x8_S32x256x8x1_0_1_2 (Host.reduceAdd (mulf (res_main_v49 W) (res_main_v49 W)) (constant S_ .f32 0x00000000#32) reducesTo_S32x256x8x64_S32x256x8_d3 h_S_)) (broadcastInDim S32x256x8x1 ![] bcast_S_S32x256x8x1 (constant S_ .f32 0x42800000#32))) (broadcastInDim S32x256x8x1 ![] bcast_S_S32x256x8x1 (constant S_ .f32 0x3A27C5AC#32)))))) shapeCasts_S32x256x8x64_S32x256x512) (broadcastInDim S32x256x512 ![0, 1, 2] bcast_S1x1x512_S32x256x512_0_1_2 (broadcastInDim S1x1x512 ![2] bcast_S512_S1x1x512_2 (R13 W)))) (broadcastInDim S32x256x512 ![0, 1, 2] bcast_S1x1x512_S32x256x512_0_1_2 (broadcastInDim S1x1x512 ![2] bcast_S512_S1x1x512_2 (R14 W)))) (Host.dotGeneral dot_S32x256x128_S128x512_S32x256x512_2_0_01_1_n_n none (shapeCast _ (extf .f32 (R5 W) bitsLt_bf16_f32) shapeCasts_S8192x128_S32x256x128) (R15 W))) (R16 W)))) (R17 W)))) shapeCasts_S32x256x1024_S8192x1024)

def halfLat : FVec Ideal S4096x1024 .f32 :=
  (shapeCast S4096x1024 (addf (R1 W) (mulf (broadcastInDim S4x1024x1024 ![0, 1, 2] bcast_S4x1x1024_S4x1024x1024_0_1_2 (broadcastInDim S4x1x1024 ![0, 2] bcast_S4x1024_S4x1x1024_0_2 (extractStridedSlice S4x1024 ![0, 2048] (res_main_v81 W) slices_S4x6144_S4x1024_0_2048))) (Host.dotGeneral dot_S4x1024x1024_S1024x1024_S4x1024x1024_2_0_01_1_n_n none (addf (mulf (extractStridedSlice S4x1024x1024 ![0, 0, 0] (res_main_v117 W) slices_S4x1024x2048_S4x1024x1024_0_0_0) (Host.dotGeneral dot_S4x1024x512_S512x1024_S4x1024x1024_2_0_01_1_n_n none (shapeCast _ (extf .f32 (R4 W) bitsLt_bf16_f32) shapeCasts_S4096x512_S4x1024x512) (R12 W))) (mulf (extractStridedSlice S4x1024x1024 ![0, 0, 1024] (res_main_v117 W) slices_S4x1024x2048_S4x1024x1024_0_0_1024) (Host.dotGeneral dot_S4x1024x512_S512x1024_S4x1024x1024_2_0_01_1_n_n none (mulf (addf (mulf (shapeCast _ (mulf (subf (res_main_v124 W) (broadcastInDim S4x1024x8x64 ![0, 1, 2, 3] bcast_S4x1024x8x1_S4x1024x8x64_0_1_2_3 (res_main_v128 W))) (broadcastInDim S4x1024x8x64 ![0, 1, 2, 3] bcast_S4x1024x8x1_S4x1024x8x64_0_1_2_3 (Host.rsqrt (addf (Host.divf (broadcastInDim S4x1024x8x1 ![0, 1, 2] bcast_S4x1024x8_S4x1024x8x1_0_1_2 (Host.reduceAdd (mulf (res_main_v130 W) (res_main_v130 W)) (constant S_ .f32 0x00000000#32) reducesTo_S4x1024x8x64_S4x1024x8_d3 h_S_)) (broadcastInDim S4x1024x8x1 ![] bcast_S_S4x1024x8x1 (constant S_ .f32 0x42800000#32))) (broadcastInDim S4x1024x8x1 ![] bcast_S_S4x1024x8x1 (constant S_ .f32 0x3A27C5AC#32)))))) shapeCasts_S4x1024x8x64_S4x1024x512) (broadcastInDim S4x1024x512 ![0, 1, 2] bcast_S1x1x512_S4x1024x512_0_1_2 (broadcastInDim S1x1x512 ![2] bcast_S512_S1x1x512_2 (R13 W)))) (broadcastInDim S4x1024x512 ![0, 1, 2] bcast_S1x1x512_S4x1024x512_0_1_2 (broadcastInDim S1x1x512 ![2] bcast_S512_S1x1x512_2 (R14 W)))) (Host.dotGeneral dot_S4x1024x128_S128x512_S4x1024x512_2_0_01_1_n_n none (shapeCast _ (extf .f32 (R6 W) bitsLt_bf16_f32) shapeCasts_S4096x128_S4x1024x128) (R15 W))) (R16 W)))) (R17 W)))) shapeCasts_S4x1024x1024_S4096x1024)

theorem halves : (res_main_v162 W : FVec Ideal S12288x1024 .f32)
    = concatenate S12288x1024 0 [⟨S8192x1024, halfCtx W⟩, ⟨S4096x1024, halfLat W⟩] concatenates_S8192x1024_S4096x1024_S12288x1024_d0 := rfl

theorem halfCtx_apply (n : Fin 8192) (d : Fin 1024) :
    halfCtx W (ix2 n d) = outRow (fun k => R0 W (ix3 ⟨n.val / 256, by omega⟩ ⟨n.val % 256, by omega⟩ k)) (fun k => R2 W (ix2 0 ⟨2048 + k.val, by omega⟩))
      (mixRow (gateRow (hnRow (fun k => R0 W (ix3 ⟨n.val / 256, by omega⟩ ⟨n.val % 256, by omega⟩ k)) (fun k => R9 W (ix1 k))
            (fun k => R2 W (ix2 0 ⟨1024 + k.val, by omega⟩)) (fun k => R2 W (ix2 0 ⟨k.val, by omega⟩)))
          (fun k d => R10 W (ix2 k ⟨2432 + d.val, by omega⟩)) (fun d => R11 W (ix1 d)))
        (fun k => R3 W (ix2 n k)) (fun k d => R12 W (ix2 k d))
        (rwRow (refNorm fun l => R7 W (ix2 n l)) (fun l => R13 W (ix1 l)) (fun l => R14 W (ix1 l)) (fun j => R5 W (ix2 n j)) (fun j l => R15 W (ix2 j l)))
        (fun l d => R16 W (ix2 l d)))
      (fun k d => R17 W (ix2 k d)) d := by
  pointwise [halfCtx]
  have hn : ∀ (h : n.val / 256 * 256 + n.val % 256 < 8192), (⟨n.val / 256 * 256 + n.val % 256, h⟩ : Fin 8192) = n := fun _ => Fin.ext (by dsimp only; omega)
  have hl : ∀ (x : Fin 512) (h : x.val / 64 * 64 + x.val % 64 < 512), (⟨x.val / 64 * 64 + x.val % 64, h⟩ : Fin 512) = x := fun x _ => Fin.ext (by dsimp only; omega)
  simp only [mod_ctx, gate_ctx, head_ctx, mean_ctx, cent_ctx, hn, hl]
  rfl

theorem halfLat_apply (n : Fin 4096) (d : Fin 1024) :
    halfLat W (ix2 n d) = outRow (fun k => R1 W (ix3 ⟨n.val / 1024, by omega⟩ ⟨n.val % 1024, by omega⟩ k)) (fun k => R2 W (ix2 ⟨1 + n.val / 1024, by omega⟩ ⟨2048 + k.val, by omega⟩))
      (mixRow (gateRow (hnRow (fun k => R1 W (ix3 ⟨n.val / 1024, by omega⟩ ⟨n.val % 1024, by omega⟩ k)) (fun k => R9 W (ix1 k))
            (fun k => R2 W (ix2 ⟨1 + n.val / 1024, by omega⟩ ⟨1024 + k.val, by omega⟩)) (fun k => R2 W (ix2 ⟨1 + n.val / 1024, by omega⟩ ⟨k.val, by omega⟩)))
          (fun k d => R10 W (ix2 k ⟨2432 + d.val, by omega⟩)) (fun d => R11 W (ix1 d)))
        (fun k => R4 W (ix2 n k)) (fun k d => R12 W (ix2 k d))
        (rwRow (refNorm fun l => R8 W (ix2 n l)) (fun l => R13 W (ix1 l)) (fun l => R14 W (ix1 l)) (fun j => R6 W (ix2 n j)) (fun j l => R15 W (ix2 j l)))
        (fun l d => R16 W (ix2 l d)))
      (fun k d => R17 W (ix2 k d)) d := by
  pointwise [halfLat]
  have hn : ∀ (h : n.val / 1024 * 1024 + n.val % 1024 < 4096), (⟨n.val / 1024 * 1024 + n.val % 1024, h⟩ : Fin 4096) = n := fun _ => Fin.ext (by dsimp only; omega)
  have hl : ∀ (x : Fin 512) (h : x.val / 64 * 64 + x.val % 64 < 512), (⟨x.val / 64 * 64 + x.val % 64, h⟩ : Fin 512) = x := fun x _ => Fin.ext (by dsimp only; omega)
  simp only [mod_lat, gate_lat, head_lat, mean_lat, cent_lat, hn, hl]
  rfl

theorem res_ctx (n : Fin 12288) (n' : Fin 8192) (hn : n.val = n'.val) (d : Fin 1024) :
    (res_main_v162 W : FVec Ideal S12288x1024 .f32) (ix2 n d) = halfCtx W (ix2 n' d) := by
  rw [halves]
  refine concatenate_pair_apply_left (t := S12288x1024) (s₁ := S8192x1024) (s₂ := S4096x1024) 0 _ _ concatenates_S8192x1024_S4096x1024_S12288x1024_d0 (ix2 n d) rfl (ix2 n' d) fun b => ?_
  match b with | ⟨0, _⟩ => exact hn.symm | ⟨1, _⟩ => rfl

theorem res_lat (n : Fin 12288) (n' : Fin 4096) (hn : n.val = 8192 + n'.val) (d : Fin 1024) :
    (res_main_v162 W : FVec Ideal S12288x1024 .f32) (ix2 n d) = halfLat W (ix2 n' d) := by
  rw [halves]
  refine concatenate_pair_apply_right (t := S12288x1024) (s₁ := S8192x1024) (s₂ := S4096x1024) 0 _ _ concatenates_S8192x1024_S4096x1024_S12288x1024_d0 (ix2 n d) rfl rfl (ix2 n' d) (fun b hb => ?_) ?_
  · match b, hb with
    | ⟨0, _⟩, hb => exact absurd rfl hb
    | ⟨1, _⟩, _ => rfl
  · show n'.val + 8192 = n.val
    omega

end Cert.Reference4Ideal.Post

end
-- ==== Proof.PostNorm.lean ====
/- The normalization within heads: for a row of real numbers, the kernel's products with the matrix of the heads are the sums over the
   heads' 64 entries, and the second part of each split product is zero. -/
module

public import proofs.«01_k».proof.Proof.PostRef
public import Idealize.ShloMosaic.Lib.IdealHost

@[expose] public section

noncomputable section

namespace Cert.Kernel4Ideal.Post

open Idealize.ShloMosaic
open Cert.Reference4Ideal.Post (mean64 headOf refNorm)

/-- The matrix of the heads: one where the two columns are of one head. -/
def sameHead (j l : Fin 512) : EReal := if j.val / 64 = l.val / 64 then 1 else 0

/-- A row's product with that matrix is the sum over the head. -/
theorem sum_sameHead (f : Fin 512 → EReal) (l : Fin 512) : ∑ j, f j * sameHead j l = ∑ e : Fin 64, f ⟨l.val / 64 * 64 + e.val, by omega⟩ := by
  have h1 : ∀ j, f j * sameHead j l = if j.val / 64 = l.val / 64 then f j else 0 := fun j => by
    unfold sameHead
    split
    · exact mul_one _
    · exact mul_zero _
  rw [Finset.sum_congr rfl fun j _ => h1 j, ← Finset.sum_filter]
  symm
  refine Finset.sum_nbij' (fun e => ⟨l.val / 64 * 64 + e.val, by omega⟩) (fun j => ⟨j.val % 64, Nat.mod_lt _ (by decide)⟩) ?_ ?_ ?_ ?_ ?_
  · intro e _
    rw [Finset.mem_filter]
    exact ⟨Finset.mem_univ _, by dsimp only; omega⟩
  · intro j _
    exact Finset.mem_univ _
  · intro e _
    exact Fin.ext (by dsimp only; omega)
  · intro j hj
    rw [Finset.mem_filter] at hj
    exact Fin.ext (by dsimp only; omega)
  · intro e _
    rfl

theorem bits_64 : Ideal.ofBits FTy.f32 1115684864#32 = ((64 : ℝ) : EReal) := by
  have h : BitVec.extractLsb' 31 1 1115684864#32 = 0#1 := by decide
  norm_num [Ideal.ofBits, Ideal.ieee, h, Nat.shiftRight_eq_div_pow]

theorem bits_inv64 : Ideal.ofBits FTy.f32 1015021568#32 = ((1 / 64 : ℝ) : EReal) := by
  have h : BitVec.extractLsb' 31 1 1015021568#32 = 0#1 := by decide
  norm_num [Ideal.ofBits, Ideal.ieee, h, Nat.shiftRight_eq_div_pow]

/-- A product with 1/64 is a division by 64. -/
theorem mul_inv64 (x : EReal) : x * Ideal.ofBits FTy.f32 1015021568#32 = Ideal.div x (Ideal.ofBits FTy.f32 1115684864#32) := by
  have h : ((64 : ℝ) : EReal) ≠ 0 := fun e => by
    rw [← EReal.coe_zero, EReal.coe_eq_coe_iff] at e
    norm_num at e
  rw [bits_64, bits_inv64, Ideal.div, if_neg h, ← EReal.coe_inv, one_div]

theorem sub_self_real (x : ℝ) : ((x : ℝ) : EReal) - ((x : ℝ) : EReal) = 0 := by
  rw [← EReal.coe_sub, sub_self, EReal.coe_zero]

theorem real_sum (f : Fin 64 → ℝ) : (∑ e, ((f e : ℝ) : EReal)) = ((∑ e, f e : ℝ) : EReal) := by
  induction (Finset.univ : Finset (Fin 64)) using Finset.induction_on with
  | empty => simp
  | insert a s h e => rw [Finset.sum_insert h, Finset.sum_insert h, EReal.coe_add, e]

/-- The mean of 64 real numbers is real. -/
theorem mean64_real (f : Fin 64 → ℝ) : mean64 (fun e => ((f e : ℝ) : EReal)) = (((∑ e, f e) * (1 / 64) : ℝ) : EReal) := by
  rw [mean64, ← mul_inv64, real_sum, bits_inv64, EReal.coe_mul]

theorem headOf_same (Y : Fin 512 → EReal) (l : Fin 512) (e : Fin 64) : headOf Y ⟨l.val / 64 * 64 + e.val, by omega⟩ = headOf Y l := by
  funext e'
  unfold headOf
  exact congrArg Y (Fin.ext (by dsimp only; omega))

theorem centered_eq (y : Fin 512 → ℝ) (l : Fin 512) :
    centered (fun j => ((y j : ℝ) : EReal)) sameHead l = ((y l : ℝ) : EReal) - mean64 (headOf (fun j => ((y j : ℝ) : EReal)) l) := by
  unfold centered
  rw [sum_sameHead, Finset.sum_congr rfl fun j _ => (congrArg (· * sameHead j l) (sub_self_real (y j))).trans (zero_mul _),
    Finset.sum_const_zero, add_zero, mul_inv64]
  rfl

theorem normed_eq (y : Fin 512 → ℝ) (l : Fin 512) :
    normed (centered (fun j => ((y j : ℝ) : EReal)) sameHead) sameHead l = refNorm (fun j => ((y j : ℝ) : EReal)) l := by
  have hc : ∀ j, ∃ x : ℝ, centered (fun j => ((y j : ℝ) : EReal)) sameHead j = ((x : ℝ) : EReal) := fun j => by
    refine ⟨y j - (∑ e : Fin 64, y ⟨j.val / 64 * 64 + e.val, by omega⟩) * (1 / 64), ?_⟩
    rw [centered_eq, EReal.coe_sub]
    exact congrArg (_ - ·) (mean64_real fun e => y ⟨j.val / 64 * 64 + e.val, by omega⟩)
  have hz : ∀ j, (centered (fun j => ((y j : ℝ) : EReal)) sameHead j * centered (fun j => ((y j : ℝ) : EReal)) sameHead j
      - centered (fun j => ((y j : ℝ) : EReal)) sameHead j * centered (fun j => ((y j : ℝ) : EReal)) sameHead j) * sameHead j l = 0 := fun j => by
    obtain ⟨x, hx⟩ := hc j
    rw [hx, ← EReal.coe_mul, sub_self_real, zero_mul]
  have hs : ∑ j, centered (fun j => ((y j : ℝ) : EReal)) sameHead j * centered (fun j => ((y j : ℝ) : EReal)) sameHead j * sameHead j l
      = ∑ e : Fin 64, (headOf (fun j => ((y j : ℝ) : EReal)) l e - mean64 (headOf (fun j => ((y j : ℝ) : EReal)) l))
          * (headOf (fun j => ((y j : ℝ) : EReal)) l e - mean64 (headOf (fun j => ((y j : ℝ) : EReal)) l)) := by
    rw [sum_sameHead (fun j => centered (fun j => ((y j : ℝ) : EReal)) sameHead j * centered (fun j => ((y j : ℝ) : EReal)) sameHead j) l]
    refine Finset.sum_congr rfl fun e _ => ?_
    rw [centered_eq, headOf_same]
    rfl
  unfold normed refNorm
  rw [hs, Finset.sum_congr rfl fun j _ => hz j, Finset.sum_const_zero, add_zero, mul_inv64, centered_eq]
  rfl

end Cert.Kernel4Ideal.Post

end
-- ==== Proof.PostHost.lean ====
/- The arrays the mixing's call is handed, at the ideal numbers. -/
module

public import proofs.«01_k».proof.Proof.PostNorm
public import proofs.«01_k».proof.Proof.Gen.Kernel4Ideal.Frame.Runs
public import Idealize.ShloMosaic.Lib.StableHlo.RunRead
public import Idealize.ShloMosaic.Lib.Pointwise

@[expose] public section

set_option maxRecDepth 16384
set_option maxHeartbeats 4000000

noncomputable section

namespace Cert.Kernel4Ideal.Post

open Cert.Kernel4Ideal Cert.Kernel4Ideal.Gen
open Idealize.ShloMosaic Idealize.ShloMosaic.TcCoe Idealize.ShloMosaic.Pointwise Idealize.SL.Sem
open Idealize.ShloMosaic.StableHlo Idealize.ShloMosaic.Pipeline

/-- The head of each of the 512 columns: 64 columns a head, a division rounded down, as the host computes it. -/
def hid : IVec S512 32 :=
  select
    (andi
      (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

theorem hid_apply : ∀ i : Fin 512, hid (ix1 i) = BitVec.ofNat 32 (i.val / 64) := by
  decide +kernel

theorem head_bit : ∀ a b : Fin 8, IntOp.cmpi .eq (BitVec.ofNat 32 a.val) (BitVec.ofNat 32 b.val) = if a.val = b.val then 1#1 else 0#1 := by
  decide +kernel

theorem lines_0 (W : Valuation τ sig (Elt Ideal)) : StableHlo.after (List.flatten [hostOps0 (F := Ideal), hostOps0_1, hostOps0_2]) W (Proc.devRef .tc main_v0)
    = shapeCast S8192x1024 (W (Proc.devRef .tc main_arg0) : FVec Ideal S32x256x1024 .f32) shapeCasts_S32x256x1024_S8192x1024 := by
  after_reads_simp; rfl

theorem lines_1 (W : Valuation τ sig (Elt Ideal)) : StableHlo.after (List.flatten [hostOps0 (F := Ideal), hostOps0_1, hostOps0_2]) W (Proc.devRef .tc main_v1)
    = shapeCast S4096x1024 (W (Proc.devRef .tc main_arg1) : FVec Ideal S4x1024x1024 .f32) shapeCasts_S4x1024x1024_S4096x1024 := by
  after_reads_simp; rfl

theorem lines_2 (W : Valuation τ sig (Elt Ideal)) : StableHlo.after (List.flatten [hostOps0 (F := Ideal), hostOps0_1, hostOps0_2]) W (Proc.devRef .tc main_v2)
    = shapeCast S8x1x6144 (W (Proc.devRef .tc main_arg2) : FVec Ideal S8x6144 .f32) shapeCasts_S8x6144_S8x1x6144 := by
  after_reads_simp; rfl

theorem lines_3 (W : Valuation τ sig (Elt Ideal)) : StableHlo.after (List.flatten [hostOps0 (F := Ideal), hostOps0_1, hostOps0_2]) W (Proc.devRef .tc main_arg3)
    = W (Proc.devRef .tc main_arg3) := by
  after_reads_simp

theorem lines_4 (W : Valuation τ sig (Elt Ideal)) : StableHlo.after (List.flatten [hostOps0 (F := Ideal), hostOps0_1, hostOps0_2]) W (Proc.devRef .tc main_arg4)
    = W (Proc.devRef .tc main_arg4) := by
  after_reads_simp

theorem lines_5 (W : Valuation τ sig (Elt Ideal)) : StableHlo.after (List.flatten [hostOps0 (F := Ideal), hostOps0_1, hostOps0_2]) W (Proc.devRef .tc main_arg5)
    = W (Proc.devRef .tc main_arg5) := by
  after_reads_simp

theorem lines_6 (W : Valuation τ sig (Elt Ideal)) : StableHlo.after (List.flatten [hostOps0 (F := Ideal), hostOps0_1, hostOps0_2]) W (Proc.devRef .tc main_arg6)
    = W (Proc.devRef .tc main_arg6) := by
  after_reads_simp

theorem lines_7 (W : Valuation τ sig (Elt Ideal)) : StableHlo.after (List.flatten [hostOps0 (F := Ideal), hostOps0_1, hostOps0_2]) W (Proc.devRef .tc main_arg7)
    = W (Proc.devRef .tc main_arg7) := by
  after_reads_simp

theorem lines_8 (W : Valuation τ sig (Elt Ideal)) : StableHlo.after (List.flatten [hostOps0 (F := Ideal), hostOps0_1, hostOps0_2]) W (Proc.devRef .tc main_arg8)
    = W (Proc.devRef .tc main_arg8) := by
  after_reads_simp

theorem lines_9 (W : Valuation τ sig (Elt Ideal)) : StableHlo.after (List.flatten [hostOps0 (F := Ideal), hostOps0_1, hostOps0_2]) W (Proc.devRef .tc main_v16)
    = broadcastInDim S1x1024 ![1] bcast_S1024_S1x1024_1 (W (Proc.devRef .tc main_arg9) : FVec Ideal S1024 .f32) := by
  after_reads_simp

theorem lines_10 (W : Valuation τ sig (Elt Ideal)) : StableHlo.after (List.flatten [hostOps0 (F := Ideal), hostOps0_1, hostOps0_2]) W (Proc.devRef .tc main_v18)
    = (truncf .bf16 (extractStridedSlice S1024x2048 ![0, 2432] (W (Proc.devRef .tc main_arg10) : FVec Ideal S1024x4480 .f32) slices_S1024x4480_S1024x2048_0_2432) bitsLt_bf16_f32 : FVec Ideal S1024x2048 .bf16) := by
  after_reads_simp

theorem lines_11 (W : Valuation τ sig (Elt Ideal)) : StableHlo.after (List.flatten [hostOps0 (F := Ideal), hostOps0_1, hostOps0_2]) W (Proc.devRef .tc main_v19)
    = broadcastInDim S1x2048 ![1] bcast_S2048_S1x2048_1 (W (Proc.devRef .tc main_arg11) : FVec Ideal S2048 .f32) := by
  after_reads_simp

theorem lines_12 (W : Valuation τ sig (Elt Ideal)) : StableHlo.after (List.flatten [hostOps0 (F := Ideal), hostOps0_1, hostOps0_2]) W (Proc.devRef .tc main_v20)
    = (truncf .bf16 (W (Proc.devRef .tc main_arg12) : FVec Ideal S512x1024 .f32) bitsLt_bf16_f32 : FVec Ideal S512x1024 .bf16) := by
  after_reads_simp

theorem lines_13 (W : Valuation τ sig (Elt Ideal)) : StableHlo.after (List.flatten [hostOps0 (F := Ideal), hostOps0_1, hostOps0_2]) W (Proc.devRef .tc main_v10)
    = (uitofp .bf16 (cmpi .eq (broadcastInDim S512x512 ![0, 1] bcast_S512x1_S512x512_0_1 (broadcastInDim S512x1 ![0] bcast_S512_S512x1_0 hid))
        (broadcastInDim S512x512 ![0, 1] bcast_S1x512_S512x512_0_1 (broadcastInDim S1x512 ![1] bcast_S512_S1x512_1 hid))) : FVec Ideal S512x512 .bf16) := by
  after_reads_simp; rfl

theorem lines_14 (W : Valuation τ sig (Elt Ideal)) : StableHlo.after (List.flatten [hostOps0 (F := Ideal), hostOps0_1, hostOps0_2]) W (Proc.devRef .tc main_v21)
    = broadcastInDim S1x512 ![1] bcast_S512_S1x512_1 (W (Proc.devRef .tc main_arg13) : FVec Ideal S512 .f32) := by
  after_reads_simp

theorem lines_15 (W : Valuation τ sig (Elt Ideal)) : StableHlo.after (List.flatten [hostOps0 (F := Ideal), hostOps0_1, hostOps0_2]) W (Proc.devRef .tc main_v22)
    = broadcastInDim S1x512 ![1] bcast_S512_S1x512_1 (W (Proc.devRef .tc main_arg14) : FVec Ideal S512 .f32) := by
  after_reads_simp

theorem lines_16 (W : Valuation τ sig (Elt Ideal)) : StableHlo.after (List.flatten [hostOps0 (F := Ideal), hostOps0_1, hostOps0_2]) W (Proc.devRef .tc main_v23)
    = (truncf .bf16 (W (Proc.devRef .tc main_arg15) : FVec Ideal S128x512 .f32) bitsLt_bf16_f32 : FVec Ideal S128x512 .bf16) := by
  after_reads_simp

theorem lines_17 (W : Valuation τ sig (Elt Ideal)) : StableHlo.after (List.flatten [hostOps0 (F := Ideal), hostOps0_1, hostOps0_2]) W (Proc.devRef .tc main_v24)
    = (truncf .bf16 (W (Proc.devRef .tc main_arg16) : FVec Ideal S512x1024 .f32) bitsLt_bf16_f32 : FVec Ideal S512x1024 .bf16) := by
  after_reads_simp

theorem lines_18 (W : Valuation τ sig (Elt Ideal)) : StableHlo.after (List.flatten [hostOps0 (F := Ideal), hostOps0_1, hostOps0_2]) W (Proc.devRef .tc main_v25)
    = (truncf .bf16 (W (Proc.devRef .tc main_arg17) : FVec Ideal S1024x1024 .f32) bitsLt_bf16_f32 : FVec Ideal S1024x1024 .bf16) := by
  after_reads_simp

variable (m : (ℓ : Loc nD τ sig) → Buf (Elt Ideal) ℓ)

abbrev A0 (c : Dev nD) : FVec Ideal S32x256x1024 .f32 := m ((c : Thread nD τ).loc main_arg0)
abbrev A1 (c : Dev nD) : FVec Ideal S4x1024x1024 .f32 := m ((c : Thread nD τ).loc main_arg1)
abbrev A2 (c : Dev nD) : FVec Ideal S8x6144 .f32 := m ((c : Thread nD τ).loc main_arg2)
abbrev A3 (c : Dev nD) : FVec Ideal S8192x512 .bf16 := m ((c : Thread nD τ).loc main_arg3)
abbrev A4 (c : Dev nD) : FVec Ideal S4096x512 .bf16 := m ((c : Thread nD τ).loc main_arg4)
abbrev A5 (c : Dev nD) : FVec Ideal S8192x128 .bf16 := m ((c : Thread nD τ).loc main_arg5)
abbrev A6 (c : Dev nD) : FVec Ideal S4096x128 .bf16 := m ((c : Thread nD τ).loc main_arg6)
abbrev A7 (c : Dev nD) : FVec Ideal S8192x512 .f32 := m ((c : Thread nD τ).loc main_arg7)
abbrev A8 (c : Dev nD) : FVec Ideal S4096x512 .f32 := m ((c : Thread nD τ).loc main_arg8)
abbrev A9 (c : Dev nD) : FVec Ideal S1024 .f32 := m ((c : Thread nD τ).loc main_arg9)
abbrev A10 (c : Dev nD) : FVec Ideal S1024x4480 .f32 := m ((c : Thread nD τ).loc main_arg10)
abbrev A11 (c : Dev nD) : FVec Ideal S2048 .f32 := m ((c : Thread nD τ).loc main_arg11)
abbrev A12 (c : Dev nD) : FVec Ideal S512x1024 .f32 := m ((c : Thread nD τ).loc main_arg12)
abbrev A13 (c : Dev nD) : FVec Ideal S512 .f32 := m ((c : Thread nD τ).loc main_arg13)
abbrev A14 (c : Dev nD) : FVec Ideal S512 .f32 := m ((c : Thread nD τ).loc main_arg14)
abbrev A15 (c : Dev nD) : FVec Ideal S128x512 .f32 := m ((c : Thread nD τ).loc main_arg15)
abbrev A16 (c : Dev nD) : FVec Ideal S512x1024 .f32 := m ((c : Thread nD τ).loc main_arg16)
abbrev A17 (c : Dev nD) : FVec Ideal S1024x1024 .f32 := m ((c : Thread nD τ).loc main_arg17)

theorem ctx_rows (c : Dev nD) (n : Fin 8192) (k : Fin 1024) : (V m c main_v0 : FVec Ideal S8192x1024 .f32) (ix2 n k) = A0 m c (ix3 ⟨n.val / 256, by omega⟩ ⟨n.val % 256, by omega⟩ k) := by
  refine (congrFun (lines_0 fun b => m (c, b)) (ix2 n k)).trans ?_
  pointwise

theorem lat_rows (c : Dev nD) (n : Fin 4096) (k : Fin 1024) : (V m c main_v1 : FVec Ideal S4096x1024 .f32) (ix2 n k) = A1 m c (ix3 ⟨n.val / 1024, by omega⟩ ⟨n.val % 1024, by omega⟩ k) := by
  refine (congrFun (lines_1 fun b => m (c, b)) (ix2 n k)).trans ?_
  pointwise

theorem mod_rows (c : Dev nD) (n : Fin 8) (k : Fin 6144) : (V m c main_v2 : FVec Ideal S8x1x6144 .f32) (ix3 n 0 k) = A2 m c (ix2 n k) := by
  refine (congrFun (lines_2 fun b => m (c, b)) (ix3 n 0 k)).trans ?_
  pointwise

theorem rows_3 (c : Dev nD) (n : Fin 8192) (k : Fin 512) : (V m c main_arg3 : FVec Ideal S8192x512 .bf16) (ix2 n k) = A3 m c (ix2 n k) := by
  refine (congrFun (lines_3 fun b => m (c, b)) (ix2 n k)).trans ?_
  rfl

theorem rows_4 (c : Dev nD) (n : Fin 4096) (k : Fin 512) : (V m c main_arg4 : FVec Ideal S4096x512 .bf16) (ix2 n k) = A4 m c (ix2 n k) := by
  refine (congrFun (lines_4 fun b => m (c, b)) (ix2 n k)).trans ?_
  rfl

theorem rows_5 (c : Dev nD) (n : Fin 8192) (k : Fin 128) : (V m c main_arg5 : FVec Ideal S8192x128 .bf16) (ix2 n k) = A5 m c (ix2 n k) := by
  refine (congrFun (lines_5 fun b => m (c, b)) (ix2 n k)).trans ?_
  rfl

theorem rows_6 (c : Dev nD) (n : Fin 4096) (k : Fin 128) : (V m c main_arg6 : FVec Ideal S4096x128 .bf16) (ix2 n k) = A6 m c (ix2 n k) := by
  refine (congrFun (lines_6 fun b => m (c, b)) (ix2 n k)).trans ?_
  rfl

theorem rows_7 (c : Dev nD) (n : Fin 8192) (k : Fin 512) : (V m c main_arg7 : FVec Ideal S8192x512 .f32) (ix2 n k) = A7 m c (ix2 n k) := by
  refine (congrFun (lines_7 fun b => m (c, b)) (ix2 n k)).trans ?_
  rfl

theorem rows_8 (c : Dev nD) (n : Fin 4096) (k : Fin 512) : (V m c main_arg8 : FVec Ideal S4096x512 .f32) (ix2 n k) = A8 m c (ix2 n k) := by
  refine (congrFun (lines_8 fun b => m (c, b)) (ix2 n k)).trans ?_
  rfl

theorem norm_row (c : Dev nD) (k : Fin 1024) : (V m c main_v16 : FVec Ideal S1x1024 .f32) (ix2 0 k) = A9 m c (ix1 k) := by
  refine (congrFun (lines_9 fun b => m (c, b)) (ix2 0 k)).trans ?_
  pointwise

theorem merge_w (c : Dev nD) (k : Fin 1024) (d : Fin 2048) : (V m c main_v18 : FVec Ideal S1024x2048 .bf16) (ix2 k d) = A10 m c (ix2 k ⟨2432 + d.val, by omega⟩) := by
  refine (congrFun (lines_10 fun b => m (c, b)) (ix2 k d)).trans ?_
  pointwise

theorem merge_b (c : Dev nD) (d : Fin 2048) : (V m c main_v19 : FVec Ideal S1x2048 .f32) (ix2 0 d) = A11 m c (ix1 d) := by
  refine (congrFun (lines_11 fun b => m (c, b)) (ix2 0 d)).trans ?_
  pointwise

theorem pool_w (c : Dev nD) (k : Fin 512) (d : Fin 1024) : (V m c main_v20 : FVec Ideal S512x1024 .bf16) (ix2 k d) = A12 m c (ix2 k d) := by
  refine (congrFun (lines_12 fun b => m (c, b)) (ix2 k d)).trans ?_
  pointwise

theorem ln_w (c : Dev nD) (l : Fin 512) : (V m c main_v21 : FVec Ideal S1x512 .f32) (ix2 0 l) = A13 m c (ix1 l) := by
  refine (congrFun (lines_14 fun b => m (c, b)) (ix2 0 l)).trans ?_
  pointwise

theorem ln_b (c : Dev nD) (l : Fin 512) : (V m c main_v22 : FVec Ideal S1x512 .f32) (ix2 0 l) = A14 m c (ix1 l) := by
  refine (congrFun (lines_15 fun b => m (c, b)) (ix2 0 l)).trans ?_
  pointwise

theorem gate_w (c : Dev nD) (j : Fin 128) (l : Fin 512) : (V m c main_v23 : FVec Ideal S128x512 .bf16) (ix2 j l) = A15 m c (ix2 j l) := by
  refine (congrFun (lines_16 fun b => m (c, b)) (ix2 j l)).trans ?_
  pointwise

theorem rw_w (c : Dev nD) (l : Fin 512) (d : Fin 1024) : (V m c main_v24 : FVec Ideal S512x1024 .bf16) (ix2 l d) = A16 m c (ix2 l d) := by
  refine (congrFun (lines_17 fun b => m (c, b)) (ix2 l d)).trans ?_
  pointwise

theorem o_w (c : Dev nD) (k d : Fin 1024) : (V m c main_v25 : FVec Ideal S1024x1024 .bf16) (ix2 k d) = A17 m c (ix2 k d) := by
  refine (congrFun (lines_18 fun b => m (c, b)) (ix2 k d)).trans ?_
  pointwise

theorem heads (c : Dev nD) (j l : Fin 512) : (V m c main_v10 : FVec Ideal S512x512 .bf16) (ix2 j l) = sameHead j l := by
  refine (congrFun (lines_13 fun b => m (c, b)) (ix2 j l)).trans ?_
  pointwise
  rw [hid_apply, hid_apply, head_bit ⟨j.val / 64, by omega⟩ ⟨l.val / 64, by omega⟩]
  unfold sameHead
  split
  · show ((((1#1 : BitVec 1).toNat : ℝ)) : EReal) = 1
    norm_num
  · show ((((0#1 : BitVec 1).toNat : ℝ)) : EReal) = 0
    norm_num

end Cert.Kernel4Ideal.Post

end
-- ==== Proof.PostBlocks.lean ====
/- The blocks a grid point of the mixing reads, as entries of the arrays the call is handed. -/
module

public import proofs.«01_k».proof.Proof.PostHost
public import Idealize.ShloMosaic.Lib.Pipeline.Value
public import Idealize.ShloMosaic.Lib.VecWindow

@[expose] public section

set_option maxRecDepth 16384
set_option maxHeartbeats 4000000

noncomputable section

namespace Cert.Kernel4Ideal.Post

open Cert.Kernel4Ideal Cert.Kernel4Ideal.Gen
open Idealize.ShloMosaic Idealize.ShloMosaic.TcCoe Idealize.ShloMosaic.Pointwise Idealize.SL.Sem
open Idealize.ShloMosaic.StableHlo Idealize.ShloMosaic.Pipeline

variable (m : (ℓ : Loc nD τ sig) → Buf (Elt Ideal) ℓ)

theorem point_lt (t : Fin cfg0.N) : t.val < 24 := lt_of_lt_of_eq t.isLt N_0

/-- The row of the modulation table that point `t` reads. -/
def modRow (t : ℕ) : ℕ := if t < 16 then 0 else 1 + (t - 16) / 2

theorem coord_val : ∀ t : Fin cfg0.N, (grid0.coords t 0).val = t.val := by decide +kernel
theorem index_2 : ∀ t : Fin cfg0.N, win0_2.index t 0 = modRow t.val ∧ win0_2.index t 1 = 0 ∧ win0_2.index t 2 = 0 := by decide +kernel
theorem index_0 : ∀ t : Fin cfg0.N, win0_0.index t 0 = min t.val 15 ∧ win0_0.index t 1 = 0 := by decide +kernel
theorem index_3 : ∀ t : Fin cfg0.N, win0_3.index t 0 = min t.val 15 ∧ win0_3.index t 1 = 0 := by decide +kernel
theorem index_5 : ∀ t : Fin cfg0.N, win0_5.index t 0 = min t.val 15 ∧ win0_5.index t 1 = 0 := by decide +kernel
theorem index_7 : ∀ t : Fin cfg0.N, win0_7.index t 0 = min t.val 15 ∧ win0_7.index t 1 = 0 := by decide +kernel
theorem index_1 : ∀ t : Fin cfg0.N, win0_1.index t 0 = t.val - 16 ∧ win0_1.index t 1 = 0 := by decide +kernel
theorem index_4 : ∀ t : Fin cfg0.N, win0_4.index t 0 = t.val - 16 ∧ win0_4.index t 1 = 0 := by decide +kernel
theorem index_6 : ∀ t : Fin cfg0.N, win0_6.index t 0 = t.val - 16 ∧ win0_6.index t 1 = 0 := by decide +kernel
theorem index_8 : ∀ t : Fin cfg0.N, win0_8.index t 0 = t.val - 16 ∧ win0_8.index t 1 = 0 := by decide +kernel
theorem index_9 : ∀ t : Fin cfg0.N, win0_9.index t 0 = 0 ∧ win0_9.index t 1 = 0 := by decide +kernel
theorem index_10 : ∀ t : Fin cfg0.N, win0_10.index t 0 = 0 ∧ win0_10.index t 1 = 0 := by decide +kernel
theorem index_11 : ∀ t : Fin cfg0.N, win0_11.index t 0 = 0 ∧ win0_11.index t 1 = 0 := by decide +kernel
theorem index_12 : ∀ t : Fin cfg0.N, win0_12.index t 0 = 0 ∧ win0_12.index t 1 = 0 := by decide +kernel
theorem index_13 : ∀ t : Fin cfg0.N, win0_13.index t 0 = 0 ∧ win0_13.index t 1 = 0 := by decide +kernel
theorem index_14 : ∀ t : Fin cfg0.N, win0_14.index t 0 = 0 ∧ win0_14.index t 1 = 0 := by decide +kernel
theorem index_15 : ∀ t : Fin cfg0.N, win0_15.index t 0 = 0 ∧ win0_15.index t 1 = 0 := by decide +kernel
theorem index_16 : ∀ t : Fin cfg0.N, win0_16.index t 0 = 0 ∧ win0_16.index t 1 = 0 := by decide +kernel
theorem index_17 : ∀ t : Fin cfg0.N, win0_17.index t 0 = 0 ∧ win0_17.index t 1 = 0 := by decide +kernel
theorem index_18 : ∀ t : Fin cfg0.N, win0_18.index t 0 = 0 ∧ win0_18.index t 1 = 0 := by decide +kernel
theorem index_22 : ∀ t : Fin cfg0.N, win0_22.index t 0 = t.val ∧ win0_22.index t 1 = 0 := by decide +kernel

theorem block_0 (c : Dev nD) (t : Fin cfg0.N) (r : Fin 512) (k : Fin 1024) (n : Fin 8192) (hn : n.val = min t.val 15 * 512 + r.val) :
    (iblk m c 0 t : Vec Ideal S512x1024 .f32) (ix2 r k) = A0 m c (ix3 ⟨n.val / 256, by omega⟩ ⟨n.val % 256, by omega⟩ k) := by
  refine Eq.trans (congrArg (V m c main_v0 : FVec Ideal S8192x1024 .f32) (funext fun a => Fin.ext ?_)) (ctx_rows m c n k)
  have hi := index_0 t
  match a with
  | ⟨0, _⟩ => show win0_0.index t 0 * 512 + 1 * r.val = n.val; rw [hi.1]; omega
  | ⟨1, _⟩ => show win0_0.index t 1 * 1024 + 1 * k.val = k.val; rw [hi.2]; omega

theorem block_1 (c : Dev nD) (t : Fin cfg0.N) (r : Fin 512) (k : Fin 1024) (n : Fin 4096) (hn : n.val = (t.val - 16) * 512 + r.val) :
    (iblk m c 1 t : Vec Ideal S512x1024 .f32) (ix2 r k) = A1 m c (ix3 ⟨n.val / 1024, by omega⟩ ⟨n.val % 1024, by omega⟩ k) := by
  refine Eq.trans (congrArg (V m c main_v1 : FVec Ideal S4096x1024 .f32) (funext fun a => Fin.ext ?_)) (lat_rows m c n k)
  have hi := index_1 t
  match a with
  | ⟨0, _⟩ => show win0_1.index t 0 * 512 + 1 * r.val = n.val; rw [hi.1]; omega
  | ⟨1, _⟩ => show win0_1.index t 1 * 1024 + 1 * k.val = k.val; rw [hi.2]; omega

theorem block_3 (c : Dev nD) (t : Fin cfg0.N) (r : Fin 512) (k : Fin 512) (n : Fin 8192) (hn : n.val = min t.val 15 * 512 + r.val) :
    (iblk m c 3 t : Vec Ideal S512x512 .bf16) (ix2 r k) = A3 m c (ix2 n k) := by
  refine Eq.trans (congrArg (V m c main_arg3 : FVec Ideal S8192x512 .bf16) (funext fun a => Fin.ext ?_)) (rows_3 m c n k)
  have hi := index_3 t
  match a with
  | ⟨0, _⟩ => show win0_3.index t 0 * 512 + 1 * r.val = n.val; rw [hi.1]; omega
  | ⟨1, _⟩ => show win0_3.index t 1 * 512 + 1 * k.val = k.val; rw [hi.2]; omega

theorem block_4 (c : Dev nD) (t : Fin cfg0.N) (r : Fin 512) (k : Fin 512) (n : Fin 4096) (hn : n.val = (t.val - 16) * 512 + r.val) :
    (iblk m c 4 t : Vec Ideal S512x512 .bf16) (ix2 r k) = A4 m c (ix2 n k) := by
  refine Eq.trans (congrArg (V m c main_arg4 : FVec Ideal S4096x512 .bf16) (funext fun a => Fin.ext ?_)) (rows_4 m c n k)
  have hi := index_4 t
  match a with
  | ⟨0, _⟩ => show win0_4.index t 0 * 512 + 1 * r.val = n.val; rw [hi.1]; omega
  | ⟨1, _⟩ => show win0_4.index t 1 * 512 + 1 * k.val = k.val; rw [hi.2]; omega

theorem block_5 (c : Dev nD) (t : Fin cfg0.N) (r : Fin 512) (k : Fin 128) (n : Fin 8192) (hn : n.val = min t.val 15 * 512 + r.val) :
    (iblk m c 5 t : Vec Ideal S512x128 .bf16) (ix2 r k) = A5 m c (ix2 n k) := by
  refine Eq.trans (congrArg (V m c main_arg5 : FVec Ideal S8192x128 .bf16) (funext fun a => Fin.ext ?_)) (rows_5 m c n k)
  have hi := index_5 t
  match a with
  | ⟨0, _⟩ => show win0_5.index t 0 * 512 + 1 * r.val = n.val; rw [hi.1]; omega
  | ⟨1, _⟩ => show win0_5.index t 1 * 128 + 1 * k.val = k.val; rw [hi.2]; omega

theorem block_6 (c : Dev nD) (t : Fin cfg0.N) (r : Fin 512) (k : Fin 128) (n : Fin 4096) (hn : n.val = (t.val - 16) * 512 + r.val) :
    (iblk m c 6 t : Vec Ideal S512x128 .bf16) (ix2 r k) = A6 m c (ix2 n k) := by
  refine Eq.trans (congrArg (V m c main_arg6 : FVec Ideal S4096x128 .bf16) (funext fun a => Fin.ext ?_)) (rows_6 m c n k)
  have hi := index_6 t
  match a with
  | ⟨0, _⟩ => show win0_6.index t 0 * 512 + 1 * r.val = n.val; rw [hi.1]; omega
  | ⟨1, _⟩ => show win0_6.index t 1 * 128 + 1 * k.val = k.val; rw [hi.2]; omega

theorem block_7 (c : Dev nD) (t : Fin cfg0.N) (r : Fin 512) (k : Fin 512) (n : Fin 8192) (hn : n.val = min t.val 15 * 512 + r.val) :
    (iblk m c 7 t : Vec Ideal S512x512 .f32) (ix2 r k) = A7 m c (ix2 n k) := by
  refine Eq.trans (congrArg (V m c main_arg7 : FVec Ideal S8192x512 .f32) (funext fun a => Fin.ext ?_)) (rows_7 m c n k)
  have hi := index_7 t
  match a with
  | ⟨0, _⟩ => show win0_7.index t 0 * 512 + 1 * r.val = n.val; rw [hi.1]; omega
  | ⟨1, _⟩ => show win0_7.index t 1 * 512 + 1 * k.val = k.val; rw [hi.2]; omega

theorem block_8 (c : Dev nD) (t : Fin cfg0.N) (r : Fin 512) (k : Fin 512) (n : Fin 4096) (hn : n.val = (t.val - 16) * 512 + r.val) :
    (iblk m c 8 t : Vec Ideal S512x512 .f32) (ix2 r k) = A8 m c (ix2 n k) := by
  refine Eq.trans (congrArg (V m c main_arg8 : FVec Ideal S4096x512 .f32) (funext fun a => Fin.ext ?_)) (rows_8 m c n k)
  have hi := index_8 t
  match a with
  | ⟨0, _⟩ => show win0_8.index t 0 * 512 + 1 * r.val = n.val; rw [hi.1]; omega
  | ⟨1, _⟩ => show win0_8.index t 1 * 512 + 1 * k.val = k.val; rw [hi.2]; omega

theorem block_2 (c : Dev nD) (t : Fin cfg0.N) (k : Fin 6144) (n : Fin 8) (hn : n.val = modRow t.val) :
    (iblk m c 2 t : Vec Ideal S1x1x6144 .f32) (ix3 0 0 k) = A2 m c (ix2 n k) := by
  refine Eq.trans (congrArg (V m c main_v2 : FVec Ideal S8x1x6144 .f32) (funext fun a => Fin.ext ?_)) (mod_rows m c n k)
  have hi := index_2 t
  match a with
  | ⟨0, _⟩ => show win0_2.index t 0 * 1 + 1 * 0 = n.val; rw [hi.1]; omega
  | ⟨1, _⟩ => show win0_2.index t 1 * 1 + 1 * 0 = 0; rw [hi.2.1]
  | ⟨2, _⟩ => show win0_2.index t 2 * 6144 + 1 * k.val = k.val; rw [hi.2.2]; omega

theorem block_9 (c : Dev nD) (t : Fin cfg0.N) (k : Fin 1024) :
    (iblk m c 9 t : Vec Ideal S1x1024 .f32) (ix2 0 k) = A9 m c (ix1 k) := by
  refine Eq.trans (congrArg (V m c main_v16 : FVec Ideal S1x1024 .f32) (funext fun a => Fin.ext ?_)) (norm_row m c k)
  have hi := index_9 t
  match a with
  | ⟨0, _⟩ => show win0_9.index t 0 * 1 + 1 * 0 = 0; rw [hi.1]
  | ⟨1, _⟩ => show win0_9.index t 1 * 1024 + 1 * k.val = k.val; rw [hi.2]; omega

theorem block_10 (c : Dev nD) (t : Fin cfg0.N) (j : Fin 1024) (k : Fin 2048) :
    (iblk m c 10 t : Vec Ideal S1024x2048 .bf16) (ix2 j k) = A10 m c (ix2 j ⟨2432 + k.val, by omega⟩) := by
  refine Eq.trans (congrArg (V m c main_v18 : FVec Ideal S1024x2048 .bf16) (funext fun a => Fin.ext ?_)) (merge_w m c j k)
  have hi := index_10 t
  match a with
  | ⟨0, _⟩ => show win0_10.index t 0 * 1024 + 1 * j.val = j.val; rw [hi.1]; omega
  | ⟨1, _⟩ => show win0_10.index t 1 * 2048 + 1 * k.val = k.val; rw [hi.2]; omega

theorem block_11 (c : Dev nD) (t : Fin cfg0.N) (k : Fin 2048) :
    (iblk m c 11 t : Vec Ideal S1x2048 .f32) (ix2 0 k) = A11 m c (ix1 k) := by
  refine Eq.trans (congrArg (V m c main_v19 : FVec Ideal S1x2048 .f32) (funext fun a => Fin.ext ?_)) (merge_b m c k)
  have hi := index_11 t
  match a with
  | ⟨0, _⟩ => show win0_11.index t 0 * 1 + 1 * 0 = 0; rw [hi.1]
  | ⟨1, _⟩ => show win0_11.index t 1 * 2048 + 1 * k.val = k.val; rw [hi.2]; omega

theorem block_12 (c : Dev nD) (t : Fin cfg0.N) (j : Fin 512) (k : Fin 1024) :
    (iblk m c 12 t : Vec Ideal S512x1024 .bf16) (ix2 j k) = A12 m c (ix2 j k) := by
  refine Eq.trans (congrArg (V m c main_v20 : FVec Ideal S512x1024 .bf16) (funext fun a => Fin.ext ?_)) (pool_w m c j k)
  have hi := index_12 t
  match a with
  | ⟨0, _⟩ => show win0_12.index t 0 * 512 + 1 * j.val = j.val; rw [hi.1]; omega
  | ⟨1, _⟩ => show win0_12.index t 1 * 1024 + 1 * k.val = k.val; rw [hi.2]; omega

theorem block_13 (c : Dev nD) (t : Fin cfg0.N) (j : Fin 512) (k : Fin 512) :
    (iblk m c 13 t : Vec Ideal S512x512 .bf16) (ix2 j k) = sameHead j k := by
  refine Eq.trans (congrArg (V m c main_v10 : FVec Ideal S512x512 .bf16) (funext fun a => Fin.ext ?_)) (heads m c j k)
  have hi := index_13 t
  match a with
  | ⟨0, _⟩ => show win0_13.index t 0 * 512 + 1 * j.val = j.val; rw [hi.1]; omega
  | ⟨1, _⟩ => show win0_13.index t 1 * 512 + 1 * k.val = k.val; rw [hi.2]; omega

theorem block_14 (c : Dev nD) (t : Fin cfg0.N) (k : Fin 512) :
    (iblk m c 14 t : Vec Ideal S1x512 .f32) (ix2 0 k) = A13 m c (ix1 k) := by
  refine Eq.trans (congrArg (V m c main_v21 : FVec Ideal S1x512 .f32) (funext fun a => Fin.ext ?_)) (ln_w m c k)
  have hi := index_14 t
  match a with
  | ⟨0, _⟩ => show win0_14.index t 0 * 1 + 1 * 0 = 0; rw [hi.1]
  | ⟨1, _⟩ => show win0_14.index t 1 * 512 + 1 * k.val = k.val; rw [hi.2]; omega

theorem block_15 (c : Dev nD) (t : Fin cfg0.N) (k : Fin 512) :
    (iblk m c 15 t : Vec Ideal S1x512 .f32) (ix2 0 k) = A14 m c (ix1 k) := by
  refine Eq.trans (congrArg (V m c main_v22 : FVec Ideal S1x512 .f32) (funext fun a => Fin.ext ?_)) (ln_b m c k)
  have hi := index_15 t
  match a with
  | ⟨0, _⟩ => show win0_15.index t 0 * 1 + 1 * 0 = 0; rw [hi.1]
  | ⟨1, _⟩ => show win0_15.index t 1 * 512 + 1 * k.val = k.val; rw [hi.2]; omega

theorem block_16 (c : Dev nD) (t : Fin cfg0.N) (j : Fin 128) (k : Fin 512) :
    (iblk m c 16 t : Vec Ideal S128x512 .bf16) (ix2 j k) = A15 m c (ix2 j k) := by
  refine Eq.trans (congrArg (V m c main_v23 : FVec Ideal S128x512 .bf16) (funext fun a => Fin.ext ?_)) (gate_w m c j k)
  have hi := index_16 t
  match a with
  | ⟨0, _⟩ => show win0_16.index t 0 * 128 + 1 * j.val = j.val; rw [hi.1]; omega
  | ⟨1, _⟩ => show win0_16.index t 1 * 512 + 1 * k.val = k.val; rw [hi.2]; omega

theorem block_17 (c : Dev nD) (t : Fin cfg0.N) (j : Fin 512) (k : Fin 1024) :
    (iblk m c 17 t : Vec Ideal S512x1024 .bf16) (ix2 j k) = A16 m c (ix2 j k) := by
  refine Eq.trans (congrArg (V m c main_v24 : FVec Ideal S512x1024 .bf16) (funext fun a => Fin.ext ?_)) (rw_w m c j k)
  have hi := index_17 t
  match a with
  | ⟨0, _⟩ => show win0_17.index t 0 * 512 + 1 * j.val = j.val; rw [hi.1]; omega
  | ⟨1, _⟩ => show win0_17.index t 1 * 1024 + 1 * k.val = k.val; rw [hi.2]; omega

theorem block_18 (c : Dev nD) (t : Fin cfg0.N) (j : Fin 1024) (k : Fin 1024) :
    (iblk m c 18 t : Vec Ideal S1024x1024 .bf16) (ix2 j k) = A17 m c (ix2 j k) := by
  refine Eq.trans (congrArg (V m c main_v25 : FVec Ideal S1024x1024 .bf16) (funext fun a => Fin.ext ?_)) (o_w m c j k)
  have hi := index_18 t
  match a with
  | ⟨0, _⟩ => show win0_18.index t 0 * 1024 + 1 * j.val = j.val; rw [hi.1]; omega
  | ⟨1, _⟩ => show win0_18.index t 1 * 1024 + 1 * k.val = k.val; rw [hi.2]; omega

end Cert.Kernel4Ideal.Post

end
-- ==== Proof.PostRunA.lean ====
/- The run of the mixing's body, of the idealized kernel, at the first grid point, which clears the carried counts: what its stores leave in each output's buffer, and that it reaches its end
   with the inputs' buffers as they were. -/
module

public import proofs.«01_k».proof.Proof.Gen.Kernel4Ideal.Frame.Runs

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 8000000 in
/-- The pieces that the body's stores leave in each output's buffer and in the carried scratch, at the first grid point, which clears the carried counts, with the proof that the
    body runs from the inputs' blocks to its end leaving exactly those. -/
noncomputable def kernelRun0_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1x6144 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S1x1024 .f32) (harg10 : arg10.IsWhole) (arg11 : Memref sig .tc .vmem S1024x2048 .bf16) (harg11 : arg11.IsWhole) (arg12 : Memref sig .tc .vmem S1x2048 .f32) (harg12 : arg12.IsWhole) (arg13 : Memref sig .tc .vmem S512x1024 .bf16) (harg13 : arg13.IsWhole) (arg14 : Memref sig .tc .vmem S512x512 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S128x512 .bf16) (harg17 : arg17.IsWhole) (arg18 : Memref sig .tc .vmem S512x1024 .bf16) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S1024x128 .f32) (harg21 : arg21.IsWhole) (arg22 : Memref sig .tc .vmem S1x128 .f32) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x128 .i32) (harg25 : arg25.IsWhole) (arg26 : Memref sig .tc .vmem S512x128 .f32) (harg26 : arg26.IsWhole) (arg27 : Memref sig .tc .vmem S1x128 .i32) (harg27 : arg27.IsWhole) (arg28 : Memref sig .tc .vmem S128x128 .i32) (harg28 : arg28.IsWhole) (arg29 : Memref sig .tc .vmem S1x128 .f32) (harg29 : arg29.IsWhole) (hc0 : cond0_0 i)
    (x0 : Vec F S512x1024 .f32) (x1 : Vec F S512x1024 .f32) (x2 : Vec F S1x1x6144 .f32) (x3 : Vec F S512x512 .bf16) (x4 : Vec F S512x512 .bf16) (x5 : Vec F S512x128 .bf16) (x6 : Vec F S512x128 .bf16) (x7 : Vec F S512x512 .f32) (x8 : Vec F S512x512 .f32) (x9 : Vec F S1x1024 .f32) (x10 : Vec F S1024x2048 .bf16) (x11 : Vec F S1x2048 .f32) (x12 : Vec F S512x1024 .bf16) (x13 : Vec F S512x512 .bf16) (x14 : Vec F S1x512 .f32) (x15 : Vec F S1x512 .f32) (x16 : Vec F S128x512 .bf16) (x17 : Vec F S512x1024 .bf16) (x18 : Vec F S1024x1024 .bf16) (x19 : Vec F S1x1024 .f32) (x20 : Vec F S1024x128 .f32) (x21 : Vec F S1x128 .f32) :
    Σ' (L22 : List (View.Piece (Elt F) S512x1024 .f32)), Σ' (L23 : List (View.Piece (Elt F) S512x1024 .f32)), Σ' (L24 : List (View.Piece (Elt F) S512x128 .i32)), Σ' (L25 : List (View.Piece (Elt F) S512x128 .f32)), Σ' (L26 : List (View.Piece (Elt F) S1x128 .i32)), Σ' (L27 : List (View.Piece (Elt F) S128x128 .i32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f LS0)) -∗ K ⟨⟩))
          ⊢ wp frame (wpE (defs₀ (F := F)) Variants.none c none) E (cc0_post i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, fun E K => ?run⟩
  case run =>
    simp only [cc0_post_eq_skeleton]; unfold cc0_post_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact HS0

end Cert.Kernel4Ideal.Gen

end
-- ==== Proof.PostRunB.lean ====
/- The run of the mixing's body, of the idealized kernel, at a later grid point, which goes on from the carried counts: what its stores leave in each output's buffer, and that it reaches its end
   with the inputs' buffers as they were. -/
module

public import proofs.«01_k».proof.Proof.PostRunA

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 8000000 in
/-- The pieces that the body's stores leave in each output's buffer and in the carried scratch, at a later grid point, which goes on from the carried counts, with the proof that the
    body runs from the inputs' blocks to its end leaving exactly those. -/
noncomputable def kernelRun0_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1x6144 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S1x1024 .f32) (harg10 : arg10.IsWhole) (arg11 : Memref sig .tc .vmem S1024x2048 .bf16) (harg11 : arg11.IsWhole) (arg12 : Memref sig .tc .vmem S1x2048 .f32) (harg12 : arg12.IsWhole) (arg13 : Memref sig .tc .vmem S512x1024 .bf16) (harg13 : arg13.IsWhole) (arg14 : Memref sig .tc .vmem S512x512 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S128x512 .bf16) (harg17 : arg17.IsWhole) (arg18 : Memref sig .tc .vmem S512x1024 .bf16) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S1024x128 .f32) (harg21 : arg21.IsWhole) (arg22 : Memref sig .tc .vmem S1x128 .f32) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x128 .i32) (harg25 : arg25.IsWhole) (arg26 : Memref sig .tc .vmem S512x128 .f32) (harg26 : arg26.IsWhole) (arg27 : Memref sig .tc .vmem S1x128 .i32) (harg27 : arg27.IsWhole) (arg28 : Memref sig .tc .vmem S128x128 .i32) (harg28 : arg28.IsWhole) (arg29 : Memref sig .tc .vmem S1x128 .f32) (harg29 : arg29.IsWhole) (hc0 : ¬cond0_0 i)
    (x0 : Vec F S512x1024 .f32) (x1 : Vec F S512x1024 .f32) (x2 : Vec F S1x1x6144 .f32) (x3 : Vec F S512x512 .bf16) (x4 : Vec F S512x512 .bf16) (x5 : Vec F S512x128 .bf16) (x6 : Vec F S512x128 .bf16) (x7 : Vec F S512x512 .f32) (x8 : Vec F S512x512 .f32) (x9 : Vec F S1x1024 .f32) (x10 : Vec F S1024x2048 .bf16) (x11 : Vec F S1x2048 .f32) (x12 : Vec F S512x1024 .bf16) (x13 : Vec F S512x512 .bf16) (x14 : Vec F S1x512 .f32) (x15 : Vec F S1x512 .f32) (x16 : Vec F S128x512 .bf16) (x17 : Vec F S512x1024 .bf16) (x18 : Vec F S1024x1024 .bf16) (x19 : Vec F S1x1024 .f32) (x20 : Vec F S1024x128 .f32) (x21 : Vec F S1x128 .f32) (xs0 : Vec F S1x128 .f32) :
    Σ' (L22 : List (View.Piece (Elt F) S512x1024 .f32)), Σ' (L23 : List (View.Piece (Elt F) S512x1024 .f32)), Σ' (L24 : List (View.Piece (Elt F) S512x128 .i32)), Σ' (L25 : List (View.Piece (Elt F) S512x128 .f32)), Σ' (L26 : List (View.Piece (Elt F) S1x128 .i32)), Σ' (L27 : List (View.Piece (Elt F) S128x128 .i32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f LS0)) -∗ K ⟨⟩))
          ⊢ wp frame (wpE (defs₀ (F := F)) Variants.none c none) E (cc0_post i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, fun E K => ?run⟩
  case run =>
    simp only [cc0_post_eq_skeleton]; unfold cc0_post_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg29.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact HS0

end Cert.Kernel4Ideal.Gen

end
-- ==== Proof.PostFrame.lean ====
/- The launch of the mixing, of the idealized kernel: what its buffers hold after each grid point, the body at each point, the run of the whole
   program, and its frame. -/
module

public import proofs.«01_k».proof.Proof.PostRunB
public import Idealize.ShloMosaic.Lib.Claim

@[expose] public section

-- the blocks are long, and the covering lemmas step through their rows
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The body's run at the first point, at that point's buffers and input blocks. -/
abbrev runA (c : Dev nD) (t : Fin cfg0.N) (h0 : t.val % 24 = 0) :=
  kernelRun0_A c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t)
    (hs0_6 t) (ms0_7 t) (hs0_7 t) (ms0_8 t) (hs0_8 t) (ms0_9 t) (hs0_9 t) (ms0_10 t) (hs0_10 t) (ms0_11 t) (hs0_11 t) (ms0_12 t) (hs0_12 t)
    (ms0_13 t) (hs0_13 t) (ms0_14 t) (hs0_14 t) (ms0_15 t) (hs0_15 t) (ms0_16 t) (hs0_16 t) (ms0_17 t) (hs0_17 t) (ms0_18 t) (hs0_18 t)
    (ms0_19 t) (hs0_19 t) (ms0_20 t) (hs0_20 t) (ms0_21 t) (hs0_21 t) (ms0_22 t) (hs0_22 t) (ms0_23 t) (hs0_23 t) (ms0_24 t) (hs0_24 t)
    (ms0_25 t) (hs0_25 t) (ms0_26 t) (hs0_26 t) (ms0_27 t) (hs0_27 t) scM0_0 (Memref.isWhole_whole _) ((hcond0_0 t).mpr h0) (iblk m c 0 t)
    (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) (iblk m c 15 t) (iblk m c 16 t) (iblk m c 17 t)
    (iblk m c 18 t) (iblk m c 19 t) (iblk m c 20 t) (iblk m c 21 t)

theorem cover0_A_22 (c : Dev nD) (t : Fin cfg0.N) (h0 : t.val % 24 = 0) (y : S512x1024.Idx) :
    ∃ pc ∈ (runA m c t h0).1, y ∈ pc.1.set :=
  View.cover_of_tiledL (runA m c t h0).1 S512x1024.size (by sl_kernel_rfl) y

def out0_A_22 (c : Dev nD) (t : Fin cfg0.N) (h0 : t.val % 24 = 0) : Vec F S512x1024 .f32 :=
  VO0_22.read (Elt F) (VO0_22.writes (Elt F) VO0_22.junk (runA m c t h0).1)

theorem cover0_A_23 (c : Dev nD) (t : Fin cfg0.N) (h0 : t.val % 24 = 0) (y : S512x1024.Idx) :
    ∃ pc ∈ (runA m c t h0).2.1, y ∈ pc.1.set :=
  View.cover_of_tiledL (runA m c t h0).2.1 S512x1024.size (by sl_kernel_rfl) y

def out0_A_23 (c : Dev nD) (t : Fin cfg0.N) (h0 : t.val % 24 = 0) : Vec F S512x1024 .f32 :=
  VO0_23.read (Elt F) (VO0_23.writes (Elt F) VO0_23.junk (runA m c t h0).2.1)

theorem cover0_A_24 (c : Dev nD) (t : Fin cfg0.N) (h0 : t.val % 24 = 0) (y : S512x128.Idx) :
    ∃ pc ∈ (runA m c t h0).2.2.1, y ∈ pc.1.set :=
  View.cover_of_tiledL (runA m c t h0).2.2.1 S512x128.size (by sl_kernel_rfl) y

def out0_A_24 (c : Dev nD) (t : Fin cfg0.N) (h0 : t.val % 24 = 0) : Vec F S512x128 .i32 :=
  VO0_24.read (Elt F) (VO0_24.writes (Elt F) VO0_24.junk (runA m c t h0).2.2.1)

theorem cover0_A_25 (c : Dev nD) (t : Fin cfg0.N) (h0 : t.val % 24 = 0) (y : S512x128.Idx) :
    ∃ pc ∈ (runA m c t h0).2.2.2.1, y ∈ pc.1.set :=
  View.cover_of_tiledL (runA m c t h0).2.2.2.1 S512x128.size (by sl_kernel_rfl) y

def out0_A_25 (c : Dev nD) (t : Fin cfg0.N) (h0 : t.val % 24 = 0) : Vec F S512x128 .f32 :=
  VO0_25.read (Elt F) (VO0_25.writes (Elt F) VO0_25.junk (runA m c t h0).2.2.2.1)

theorem cover0_A_26 (c : Dev nD) (t : Fin cfg0.N) (h0 : t.val % 24 = 0) (y : S1x128.Idx) :
    ∃ pc ∈ (runA m c t h0).2.2.2.2.1, y ∈ pc.1.set :=
  View.cover_of_tiledL (runA m c t h0).2.2.2.2.1 S1x128.size (by sl_kernel_rfl) y

def out0_A_26 (c : Dev nD) (t : Fin cfg0.N) (h0 : t.val % 24 = 0) : Vec F S1x128 .i32 :=
  VO0_26.read (Elt F) (VO0_26.writes (Elt F) VO0_26.junk (runA m c t h0).2.2.2.2.1)

theorem cover0_A_27 (c : Dev nD) (t : Fin cfg0.N) (h0 : t.val % 24 = 0) (y : S128x128.Idx) :
    ∃ pc ∈ (runA m c t h0).2.2.2.2.2.1, y ∈ pc.1.set :=
  View.cover_of_tiledL (runA m c t h0).2.2.2.2.2.1 S128x128.size (by sl_kernel_rfl) y

def out0_A_27 (c : Dev nD) (t : Fin cfg0.N) (h0 : t.val % 24 = 0) : Vec F S128x128 .i32 :=
  VO0_27.read (Elt F) (VO0_27.writes (Elt F) VO0_27.junk (runA m c t h0).2.2.2.2.2.1)

theorem scover0_A_0 (c : Dev nD) (t : Fin cfg0.N) (h0 : t.val % 24 = 0) (y : S1x128.Idx) :
    ∃ pc ∈ (runA m c t h0).2.2.2.2.2.2.1, y ∈ pc.1.set :=
  View.cover_of_tiledL (runA m c t h0).2.2.2.2.2.2.1 S1x128.size (by sl_kernel_rfl) y

def sout0_A_0 (c : Dev nD) (t : Fin cfg0.N) (h0 : t.val % 24 = 0) : Vec F S1x128 .f32 :=
  VS0_0.read (Elt F) (VS0_0.writes (Elt F) VS0_0.junk (runA m c t h0).2.2.2.2.2.2.1)

/-- What the first point leaves: the outputs in window order, then the carried scratch. -/
def atA (c : Dev nD) (t : Fin cfg0.N) (h0 : t.val % 24 = 0) :
    Vec F S512x1024 .f32 × Vec F S512x1024 .f32 × Vec F S512x128 .i32 × Vec F S512x128 .f32 × Vec F S1x128 .i32 × Vec F S128x128 .i32 × Vec F S1x128 .f32 :=
  (out0_A_22 m c t h0, out0_A_23 m c t h0, out0_A_24 m c t h0, out0_A_25 m c t h0, out0_A_26 m c t h0, out0_A_27 m c t h0, sout0_A_0 m c t h0)

/-- The body's run at a later point, at that point's buffers and input blocks. -/
abbrev runB (c : Dev nD) (t : Fin cfg0.N) (h0 : ¬ t.val % 24 = 0) (xs0 : Vec F S1x128 .f32) :=
  kernelRun0_B c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t)
    (hs0_6 t) (ms0_7 t) (hs0_7 t) (ms0_8 t) (hs0_8 t) (ms0_9 t) (hs0_9 t) (ms0_10 t) (hs0_10 t) (ms0_11 t) (hs0_11 t) (ms0_12 t) (hs0_12 t)
    (ms0_13 t) (hs0_13 t) (ms0_14 t) (hs0_14 t) (ms0_15 t) (hs0_15 t) (ms0_16 t) (hs0_16 t) (ms0_17 t) (hs0_17 t) (ms0_18 t) (hs0_18 t)
    (ms0_19 t) (hs0_19 t) (ms0_20 t) (hs0_20 t) (ms0_21 t) (hs0_21 t) (ms0_22 t) (hs0_22 t) (ms0_23 t) (hs0_23 t) (ms0_24 t) (hs0_24 t)
    (ms0_25 t) (hs0_25 t) (ms0_26 t) (hs0_26 t) (ms0_27 t) (hs0_27 t) scM0_0 (Memref.isWhole_whole _) (fun h => h0 ((hcond0_0 t).mp h))
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t) (iblk m c 16 t)
    (iblk m c 17 t) (iblk m c 18 t) (iblk m c 19 t) (iblk m c 20 t) (iblk m c 21 t) xs0

theorem cover0_B_22 (c : Dev nD) (t : Fin cfg0.N) (h0 : ¬ t.val % 24 = 0) (xs0 : Vec F S1x128 .f32) (y : S512x1024.Idx) :
    ∃ pc ∈ (runB m c t h0 xs0).1, y ∈ pc.1.set :=
  View.cover_of_tiledL (runB m c t h0 xs0).1 S512x1024.size (by sl_kernel_rfl) y

def out0_B_22 (c : Dev nD) (t : Fin cfg0.N) (h0 : ¬ t.val % 24 = 0) (xs0 : Vec F S1x128 .f32) : Vec F S512x1024 .f32 :=
  VO0_22.read (Elt F) (VO0_22.writes (Elt F) VO0_22.junk (runB m c t h0 xs0).1)

theorem cover0_B_23 (c : Dev nD) (t : Fin cfg0.N) (h0 : ¬ t.val % 24 = 0) (xs0 : Vec F S1x128 .f32) (y : S512x1024.Idx) :
    ∃ pc ∈ (runB m c t h0 xs0).2.1, y ∈ pc.1.set :=
  View.cover_of_tiledL (runB m c t h0 xs0).2.1 S512x1024.size (by sl_kernel_rfl) y

def out0_B_23 (c : Dev nD) (t : Fin cfg0.N) (h0 : ¬ t.val % 24 = 0) (xs0 : Vec F S1x128 .f32) : Vec F S512x1024 .f32 :=
  VO0_23.read (Elt F) (VO0_23.writes (Elt F) VO0_23.junk (runB m c t h0 xs0).2.1)

theorem cover0_B_24 (c : Dev nD) (t : Fin cfg0.N) (h0 : ¬ t.val % 24 = 0) (xs0 : Vec F S1x128 .f32) (y : S512x128.Idx) :
    ∃ pc ∈ (runB m c t h0 xs0).2.2.1, y ∈ pc.1.set :=
  View.cover_of_tiledL (runB m c t h0 xs0).2.2.1 S512x128.size (by sl_kernel_rfl) y

def out0_B_24 (c : Dev nD) (t : Fin cfg0.N) (h0 : ¬ t.val % 24 = 0) (xs0 : Vec F S1x128 .f32) : Vec F S512x128 .i32 :=
  VO0_24.read (Elt F) (VO0_24.writes (Elt F) VO0_24.junk (runB m c t h0 xs0).2.2.1)

theorem cover0_B_25 (c : Dev nD) (t : Fin cfg0.N) (h0 : ¬ t.val % 24 = 0) (xs0 : Vec F S1x128 .f32) (y : S512x128.Idx) :
    ∃ pc ∈ (runB m c t h0 xs0).2.2.2.1, y ∈ pc.1.set :=
  View.cover_of_tiledL (runB m c t h0 xs0).2.2.2.1 S512x128.size (by sl_kernel_rfl) y

def out0_B_25 (c : Dev nD) (t : Fin cfg0.N) (h0 : ¬ t.val % 24 = 0) (xs0 : Vec F S1x128 .f32) : Vec F S512x128 .f32 :=
  VO0_25.read (Elt F) (VO0_25.writes (Elt F) VO0_25.junk (runB m c t h0 xs0).2.2.2.1)

theorem cover0_B_26 (c : Dev nD) (t : Fin cfg0.N) (h0 : ¬ t.val % 24 = 0) (xs0 : Vec F S1x128 .f32) (y : S1x128.Idx) :
    ∃ pc ∈ (runB m c t h0 xs0).2.2.2.2.1, y ∈ pc.1.set :=
  View.cover_of_tiledL (runB m c t h0 xs0).2.2.2.2.1 S1x128.size (by sl_kernel_rfl) y

def out0_B_26 (c : Dev nD) (t : Fin cfg0.N) (h0 : ¬ t.val % 24 = 0) (xs0 : Vec F S1x128 .f32) : Vec F S1x128 .i32 :=
  VO0_26.read (Elt F) (VO0_26.writes (Elt F) VO0_26.junk (runB m c t h0 xs0).2.2.2.2.1)

theorem cover0_B_27 (c : Dev nD) (t : Fin cfg0.N) (h0 : ¬ t.val % 24 = 0) (xs0 : Vec F S1x128 .f32) (y : S128x128.Idx) :
    ∃ pc ∈ (runB m c t h0 xs0).2.2.2.2.2.1, y ∈ pc.1.set :=
  View.cover_of_tiledL (runB m c t h0 xs0).2.2.2.2.2.1 S128x128.size (by sl_kernel_rfl) y

def out0_B_27 (c : Dev nD) (t : Fin cfg0.N) (h0 : ¬ t.val % 24 = 0) (xs0 : Vec F S1x128 .f32) : Vec F S128x128 .i32 :=
  VO0_27.read (Elt F) (VO0_27.writes (Elt F) VO0_27.junk (runB m c t h0 xs0).2.2.2.2.2.1)

theorem scover0_B_0 (c : Dev nD) (t : Fin cfg0.N) (h0 : ¬ t.val % 24 = 0) (xs0 : Vec F S1x128 .f32) (y : S1x128.Idx) :
    ∃ pc ∈ (runB m c t h0 xs0).2.2.2.2.2.2.1, y ∈ pc.1.set :=
  View.cover_of_tiledL (runB m c t h0 xs0).2.2.2.2.2.2.1 S1x128.size (by sl_kernel_rfl) y

def sout0_B_0 (c : Dev nD) (t : Fin cfg0.N) (h0 : ¬ t.val % 24 = 0) (xs0 : Vec F S1x128 .f32) : Vec F S1x128 .f32 :=
  VS0_0.read (Elt F) (VS0_0.writes (Elt F) VS0_0.junk (runB m c t h0 xs0).2.2.2.2.2.2.1)

/-- What a later point leaves: the outputs in window order, then the carried scratch. -/
def atB (c : Dev nD) (t : Fin cfg0.N) (h0 : ¬ t.val % 24 = 0) (xs0 : Vec F S1x128 .f32) :
    Vec F S512x1024 .f32 × Vec F S512x1024 .f32 × Vec F S512x128 .i32 × Vec F S512x128 .f32 × Vec F S1x128 .i32 × Vec F S128x128 .i32 × Vec F S1x128 .f32 :=
  (out0_B_22 m c t h0 xs0, out0_B_23 m c t h0 xs0, out0_B_24 m c t h0 xs0, out0_B_25 m c t h0 xs0, out0_B_26 m c t h0 xs0, out0_B_27 m c t h0 xs0, sout0_B_0 m c t h0 xs0)

/-- What the buffers hold after the body at position `n`. -/
def outsAt0 (c : Dev nD) : (n : ℕ) → n < cfg0.N → Vec F S512x1024 .f32 × Vec F S512x1024 .f32 × Vec F S512x128 .i32 × Vec F S512x128 .f32 × Vec F S1x128 .i32 × Vec F S128x128 .i32 × Vec F S1x128 .f32
  | 0, hn => atA m c ⟨0, hn⟩ (Nat.zero_mod _)
  | n + 1, hn =>
    if h0 : (n + 1) % 24 = 0 then atA m c ⟨n + 1, hn⟩ h0
    else atB m c ⟨n + 1, hn⟩ h0 (outsAt0 c n (Nat.lt_of_succ_lt hn)).2.2.2.2.2.2

theorem outsAt0_A (c : Dev nD) (t : Fin cfg0.N) (h0 : t.val % 24 = 0) : outsAt0 m c t.val t.isLt = atA m c t h0 := by
  obtain ⟨n, hn⟩ := t
  cases n with
  | zero => exact rfl
  | succ n => exact (dif_pos h0).trans rfl

theorem outsAt0_B (c : Dev nD) (t : Fin cfg0.N) (h0 : ¬ t.val % 24 = 0) :
    outsAt0 m c t.val t.isLt = atB m c t h0 (outsAt0 m c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans rfl

/-- The invariant before position `n`: the carried scratch at what the point before left, or at anything before the first. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t.val t.isLt).1
    | ⟨23, _⟩ => (outsAt0 m c t.val t.isLt).2.1
    | ⟨24, _⟩ => (outsAt0 m c t.val t.isLt).2.2.1
    | ⟨25, _⟩ => (outsAt0 m c t.val t.isLt).2.2.2.1
    | ⟨26, _⟩ => (outsAt0 m c t.val t.isLt).2.2.2.2.1
    | ⟨27, _⟩ => (outsAt0 m c t.val t.isLt).2.2.2.2.2.1
    | ⟨_ + 28, h⟩ => absurd h (Nat.not_lt.2 (Nat.le_add_left _ _))
  Φ t := PhiS m c t.val (Nat.le_of_lt_succ t.isLt)
  q _ := fullShare
  owed _ := 0

/-- The proof data's arrays are what the region finds. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t.val t.isLt).1 := by dsimp only [dats]
theorem after0_23 (c : Dev nD) (t : Fin cfg0.N) : (dats m 0 c).after 23 t = (outsAt0 m c t.val t.isLt).2.1 := by dsimp only [dats]
theorem after0_24 (c : Dev nD) (t : Fin cfg0.N) : (dats m 0 c).after 24 t = (outsAt0 m c t.val t.isLt).2.2.1 := by dsimp only [dats]
theorem after0_25 (c : Dev nD) (t : Fin cfg0.N) : (dats m 0 c).after 25 t = (outsAt0 m c t.val t.isLt).2.2.2.1 := by dsimp only [dats]
theorem after0_26 (c : Dev nD) (t : Fin cfg0.N) : (dats m 0 c).after 26 t = (outsAt0 m c t.val t.isLt).2.2.2.2.1 := by dsimp only [dats]
theorem after0_27 (c : Dev nD) (t : Fin cfg0.N) : (dats m 0 c).after 27 t = (outsAt0 m c t.val t.isLt).2.2.2.2.2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 22400000 in
/-- The body at any point, from its input blocks to what `outsAt0` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  rw [show (dats m 0 c).Φ t.succ = PhiS m c (t.val + 1) t.isLt from rfl, PhiS_succ]
  have hN : t.val < 24 := lt_of_lt_of_eq t.isLt (show cfg0.N = 24 from N_0)
  by_cases h0 : t.val % 24 = 0
  · by_cases hz : t.val = 0
    · rw [PhiS_castSucc m c t, PhiS_zero m c _ _ hz, PhiA0_eq]
      rw [outsAt0_A m c t h0]
      unfold atA out0_A_22 out0_A_23 out0_A_24 out0_A_25 out0_A_26 out0_A_27 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((runA m c t h0).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [HS0]; · iexact HS0
      iintro ⟨H0, H1, H2, H3, H4, H5, H6, H7, H8, H9, H10, H11, H12, H13, H14, H15, H16, H17, H18, H19, H20, H21, ⟨%e22, H22⟩, ⟨%e23, H23⟩, ⟨%e24, H24⟩, ⟨%e25, H25⟩, ⟨%e26, H26⟩, ⟨%e27, H27⟩, ⟨%es0, HS0⟩⟩
      isplitl [HS0 Hg]
      · isplitl [HS0]
        · unfold owns; iexists _; isplitr
          swap; · iexact HS0
          ipureintro; exact View.read_writes_of_cover _ _ _ _ _ (scover0_A_0 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]
      · unfold owns; iexists _; isplitr
        swap; · iexact H22
        ipureintro; exact View.read_writes_of_cover _ _ _ _ _ (cover0_A_22 m c t h0)
      isplitl [H23]
      · unfold owns; iexists _; isplitr
        swap; · iexact H23
        ipureintro; exact View.read_writes_of_cover _ _ _ _ _ (cover0_A_23 m c t h0)
      isplitl [H24]
      · unfold owns; iexists _; isplitr
        swap; · iexact H24
        ipureintro; exact View.read_writes_of_cover _ _ _ _ _ (cover0_A_24 m c t h0)
      isplitl [H25]
      · unfold owns; iexists _; isplitr
        swap; · iexact H25
        ipureintro; exact View.read_writes_of_cover _ _ _ _ _ (cover0_A_25 m c t h0)
      isplitl [H26]
      · unfold owns; iexists _; isplitr
        swap; · iexact H26
        ipureintro; exact View.read_writes_of_cover _ _ _ _ _ (cover0_A_26 m c t h0)
      unfold owns; iexists _; isplitr
      swap; · iexact H27
      ipureintro; exact View.read_writes_of_cover _ _ _ _ _ (cover0_A_27 m c t h0)
    · exfalso; have hN : t.val < 24 := lt_of_lt_of_eq t.isLt (show cfg0.N = 24 from N_0); omega
  · by_cases hz : t.val = 0
    · exfalso; have hN : t.val < 24 := lt_of_lt_of_eq t.isLt (show cfg0.N = 24 from N_0); omega
    · rw [PhiS_castSucc m c t, PhiS_pos m c _ _ hz]
      rw [outsAt0_B m c t h0]
      unfold atB out0_B_22 out0_B_23 out0_B_24 out0_B_25 out0_B_26 out0_B_27 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((runB m c t h0 _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [HS0]; · iexact HS0
      iintro ⟨H0, H1, H2, H3, H4, H5, H6, H7, H8, H9, H10, H11, H12, H13, H14, H15, H16, H17, H18, H19, H20, H21, ⟨%e22, H22⟩, ⟨%e23, H23⟩, ⟨%e24, H24⟩, ⟨%e25, H25⟩, ⟨%e26, H26⟩, ⟨%e27, H27⟩, ⟨%es0, HS0⟩⟩
      isplitl [HS0 Hg]
      · isplitl [HS0]
        · unfold owns; iexists _; isplitr
          swap; · iexact HS0
          ipureintro; exact View.read_writes_of_cover _ _ _ _ _ (scover0_B_0 m c t h0 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]
      · unfold owns; iexists _; isplitr
        swap; · iexact H22
        ipureintro; exact View.read_writes_of_cover _ _ _ _ _ (cover0_B_22 m c t h0 _)
      isplitl [H23]
      · unfold owns; iexists _; isplitr
        swap; · iexact H23
        ipureintro; exact View.read_writes_of_cover _ _ _ _ _ (cover0_B_23 m c t h0 _)
      isplitl [H24]
      · unfold owns; iexists _; isplitr
        swap; · iexact H24
        ipureintro; exact View.read_writes_of_cover _ _ _ _ _ (cover0_B_24 m c t h0 _)
      isplitl [H25]
      · unfold owns; iexists _; isplitr
        swap; · iexact H25
        ipureintro; exact View.read_writes_of_cover _ _ _ _ _ (cover0_B_25 m c t h0 _)
      isplitl [H26]
      · unfold owns; iexists _; isplitr
        swap; · iexact H26
        ipureintro; exact View.read_writes_of_cover _ _ _ _ _ (cover0_B_26 m c t h0 _)
      unfold owns; iexists _; isplitr
      swap; · iexact H27
      ipureintro; exact View.read_writes_of_cover _ _ _ _ _ (cover0_B_27 m c t h0 _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 24 := N_0; omega)

/-! ## The run and the frame -/

-- the launch theorem's arguments are found by unfolding the statement
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.Kernel4Ideal.Gen

end
-- ==== Proof.PostOut.lean ====
/- What the mixing's body leaves in the residual stream's block, at the ideal numbers: the stored term over the input blocks. -/
module

public import proofs.«01_k».proof.Proof.PostFrame
public import proofs.«01_k».proof.Proof.PostMath
public import Idealize.ShloMosaic.Lib.Pipeline.ValueKit.Acc

@[expose] public section

set_option maxRecDepth 16384
set_option maxHeartbeats 8000000

noncomputable section

namespace Cert.Kernel4Ideal.Post

open Cert.Kernel4Ideal Cert.Kernel4Ideal.Gen
open Idealize.ShloMosaic Idealize.ShloMosaic.TcCoe Idealize.SL.Sem
open Idealize.ShloMosaic.StableHlo Idealize.ShloMosaic.Pipeline

variable (m : (ℓ : Loc nD τ sig) → Buf (Elt Ideal) ℓ)

/-- The grid coordinate, as the body reads it. -/
abbrev word (t : Fin cfg0.N) : BitVec 32 := BitVec.ofNat 32 (grid0.coords t 0).val

/-- The stored residual stream. -/
def stored (c : Dev nD) (t : Fin cfg0.N) : FVec Ideal S512x1024 .f32 :=
  k0_pay17 (k0_pay3 (grid0.coords t) (iblk m c 0 t) (iblk m c 1 t)) (k0_pay5 (iblk m c 2 t))
    (k0_pay16 (word t)
      (k0_pay10 (k0_pay8 (grid0.coords t) (iblk m c 0 t) (iblk m c 1 t) (iblk m c 2 t) (iblk m c 9 t)) (k0_pay9 (iblk m c 10 t))
        (constant S512x2048 .f32 0x00000000#32) (iblk m c 11 t))
      (k0_pay11 (word t) (iblk m c 3 t) (iblk m c 4 t) (iblk m c 12 t)) (k0_pay12 (iblk m c 13 t))
      (k0_pay13 (word t) (iblk m c 7 t) (iblk m c 8 t) (iblk m c 13 t)) (k0_pay14 (word t) (iblk m c 7 t) (iblk m c 8 t) (iblk m c 13 t))
      (k0_pay15 (word t) (iblk m c 7 t) (iblk m c 8 t) (iblk m c 13 t)) (iblk m c 14 t) (iblk m c 15 t) (iblk m c 5 t) (iblk m c 6 t)
      (iblk m c 16 t) (iblk m c 17 t))
    (iblk m c 18 t)

theorem left_A (c : Dev nD) (t : Fin cfg0.N) (h0 : t.val % 24 = 0) : (outsAt0 m c t.val t.isLt).1 = stored m c t := by
  rw [outsAt0_A m c t h0]
  show out0_A_22 m c t h0 = _
  unfold out0_A_22 runA stored
  frame_out

theorem left_B (c : Dev nD) (t : Fin cfg0.N) (h0 : ¬ t.val % 24 = 0) : (outsAt0 m c t.val t.isLt).1 = stored m c t := by
  rw [outsAt0_B m c t h0]
  generalize (outsAt0 m c (t.val - 1) (Nat.lt_of_le_of_lt (Nat.sub_le _ _) t.isLt)).2.2.2.2.2.2 = xs0
  show out0_B_22 m c t h0 xs0 = _
  unfold out0_B_22 runB stored
  frame_out

theorem left (c : Dev nD) (t : Fin cfg0.N) : (outsAt0 m c t.val t.isLt).1 = stored m c t := by
  by_cases h0 : t.val % 24 = 0
  · exact left_A m c t h0
  · exact left_B m c t h0

end Cert.Kernel4Ideal.Post

end
-- ==== Proof.PostValue.lean ====
/- The residual stream the mixing leaves, at the ideal numbers, is the reference's: each grid point writes 512 rows, the first sixteen
   points the context tokens' and the other eight the latent tokens'. -/
module

public import proofs.«01_k».proof.Proof.PostBlocks
public import proofs.«01_k».proof.Proof.PostOut
public import Idealize.ShloMosaic.Lib.StableHlo.RunRead
public import Idealize.ShloMosaic.Lib.Pipeline.Value
public import Idealize.ShloMosaic.Lib.VecWindow

@[expose] public section

set_option maxRecDepth 16384
set_option maxHeartbeats 4000000

noncomputable section

namespace Cert.Kernel4Ideal.Post

open Cert.Kernel4Ideal Cert.Kernel4Ideal.Gen
open Idealize.ShloMosaic Idealize.ShloMosaic.TcCoe Idealize.ShloMosaic.Pointwise Idealize.SL.Sem
open Idealize.ShloMosaic.StableHlo Idealize.ShloMosaic.Pipeline
open Cert.Reference4Ideal.Post (R0 R1 R2 R3 R4 R5 R6 R7 R8 R9 R10 R11 R12 R13 R14 R15 R16 R17 refNorm halfCtx halfLat halfCtx_apply halfLat_apply res_ctx res_lat)

/-- The rows a point starts from, picked by its number. -/
theorem pick_apply (i : grid0.Coords) (v4 v6 X : Vec Ideal S512x1024 .f32)
    (hX : Scalar.select (Scalar.cmpi .slt (BitVec.ofNat 32 (i 0).val) 16#32) v4 v6 = X) (r : Fin 512) (k : Fin 1024) :
    k0_pay3 i v4 v6 (ix2 r k) = X (ix2 r k) := by
  subst hX
  pointwise [k0_pay3]

variable (m : (ℓ : Loc nD τ sig) → Buf (Elt Ideal) ℓ)

/-- What a point leaves, over the rows its number picks. -/
theorem stored_apply (c : Dev nD) (t : Fin cfg0.N) (X : Vec Ideal S512x1024 .f32) (P : Vec Ideal S512x512 .bf16) (Y : Vec Ideal S512x512 .f32)
    (G : Vec Ideal S512x128 .bf16) (n : Fin 8) (hn : n.val = modRow t.val)
    (hX : Scalar.select (Scalar.cmpi .slt (word t) 16#32) (iblk m c 0 t : Vec Ideal S512x1024 .f32) (iblk m c 1 t) = X)
    (hP : Scalar.select (Scalar.cmpi .slt (word t) 16#32) (iblk m c 3 t : Vec Ideal S512x512 .bf16) (iblk m c 4 t) = P)
    (hY : Scalar.select (Scalar.cmpi .slt (word t) 16#32) (iblk m c 7 t : Vec Ideal S512x512 .f32) (iblk m c 8 t) = Y)
    (hG : Scalar.select (Scalar.cmpi .slt (word t) 16#32) (iblk m c 5 t : Vec Ideal S512x128 .bf16) (iblk m c 6 t) = G)
    (r : Fin 512) (d : Fin 1024) (x : Fin 1024 → EReal) (p : Fin 512 → EReal) (y : Fin 512 → ℝ) (g : Fin 128 → EReal)
    (hx : ∀ k, X (ix2 r k) = x k) (hp : ∀ k, P (ix2 r k) = p k) (hy : ∀ j, Y (ix2 r j) = ((y j : ℝ) : EReal)) (hg : ∀ j, G (ix2 r j) = g j) :
    stored m c t (ix2 r d) = outRow x (fun k => A2 m c (ix2 n ⟨2048 + k.val, by omega⟩))
      (mixRow (gateRow (hnRow x (fun k => A9 m c (ix1 k)) (fun k => A2 m c (ix2 n ⟨1024 + k.val, by omega⟩)) (fun k => A2 m c (ix2 n ⟨k.val, by omega⟩)))
          (fun k d => A10 m c (ix2 k ⟨2432 + d.val, by omega⟩)) (fun d => A11 m c (ix1 d)))
        p (fun k d => A12 m c (ix2 k d))
        (rwRow (refNorm fun j => ((y j : ℝ) : EReal)) (fun l => A13 m c (ix1 l)) (fun l => A14 m c (ix1 l)) g (fun j l => A15 m c (ix2 j l)))
        (fun l d => A16 m c (ix2 l d)))
      (fun k d => A17 m c (ix2 k d)) d := by
  have hmix : ∀ k : Fin 1024, k0_pay16 (word t)
      (k0_pay10 (k0_pay8 (grid0.coords t) (iblk m c 0 t) (iblk m c 1 t) (iblk m c 2 t) (iblk m c 9 t)) (k0_pay9 (iblk m c 10 t))
        (constant S512x2048 .f32 0x00000000#32) (iblk m c 11 t))
      (k0_pay11 (word t) (iblk m c 3 t) (iblk m c 4 t) (iblk m c 12 t)) (k0_pay12 (iblk m c 13 t))
      (k0_pay13 (word t) (iblk m c 7 t) (iblk m c 8 t) (iblk m c 13 t)) (k0_pay14 (word t) (iblk m c 7 t) (iblk m c 8 t) (iblk m c 13 t))
      (k0_pay15 (word t) (iblk m c 7 t) (iblk m c 8 t) (iblk m c 13 t)) (iblk m c 14 t) (iblk m c 15 t) (iblk m c 5 t) (iblk m c 6 t)
      (iblk m c 16 t) (iblk m c 17 t) (ix2 r k)
      = mixRow (gateRow (hnRow x (fun k => A9 m c (ix1 k)) (fun k => A2 m c (ix2 n ⟨1024 + k.val, by omega⟩)) (fun k => A2 m c (ix2 n ⟨k.val, by omega⟩)))
          (fun k d => A10 m c (ix2 k ⟨2432 + d.val, by omega⟩)) (fun d => A11 m c (ix1 d)))
        p (fun k d => A12 m c (ix2 k d))
        (rwRow (refNorm fun j => ((y j : ℝ) : EReal)) (fun l => A13 m c (ix1 l)) (fun l => A14 m c (ix1 l)) g (fun j l => A15 m c (ix2 j l)))
        (fun l d => A16 m c (ix2 l d)) k := by
    intro k
    have e1 : ∀ d : Fin 2048, k0_pay10 (k0_pay8 (grid0.coords t) (iblk m c 0 t) (iblk m c 1 t) (iblk m c 2 t) (iblk m c 9 t)) (k0_pay9 (iblk m c 10 t))
        (constant S512x2048 .f32 0x00000000#32) (iblk m c 11 t) (ix2 r d)
        = gateRow (hnRow x (fun k => A9 m c (ix1 k)) (fun k => A2 m c (ix2 n ⟨1024 + k.val, by omega⟩)) (fun k => A2 m c (ix2 n ⟨k.val, by omega⟩)))
          (fun k d => A10 m c (ix2 k ⟨2432 + d.val, by omega⟩)) (fun d => A11 m c (ix1 d)) d := by
      intro d
      rw [gate_apply]
      simp only [hn_apply _ _ _ _ _ X hX, hx, block_2 m c t _ n hn, block_9, block_10, block_11]
    have e2 : k0_pay11 (word t) (iblk m c 3 t) (iblk m c 4 t) (iblk m c 12 t) (ix2 r k) = ∑ j, p j * A12 m c (ix2 j k) := by
      rw [pool_apply _ _ _ _ P hP]
      simp only [hp, block_12]
    have e3 : ∀ l : Fin 512, normed (fun j => k0_pay13 (word t) (iblk m c 7 t) (iblk m c 8 t) (iblk m c 13 t) (ix2 r j))
        (fun j l => (iblk m c 13 t : Vec Ideal S512x512 .bf16) (ix2 j l)) l = refNorm (fun j => ((y j : ℝ) : EReal)) l := by
      intro l
      rw [← normed_eq y l]
      have hE : (fun j l => (iblk m c 13 t : Vec Ideal S512x512 .bf16) (ix2 j l)) = sameHead := funext fun j => funext fun l => block_13 m c t j l
      have hC : (fun j => k0_pay13 (word t) (iblk m c 7 t) (iblk m c 8 t) (iblk m c 13 t) (ix2 r j)) = centered (fun j => ((y j : ℝ) : EReal)) sameHead := by
        funext j
        rw [centered_apply _ _ _ _ Y hY, hE]
        simp only [hy]
      rw [hC, hE]
    rw [mixed_apply _ _ _ _ _ _ _ _ _ _ _ _ G hG, e1, e1, e2]
    unfold mixRow rwRow
    simp only [e3, hg, block_14, block_15, block_16, block_17]
  unfold stored
  rw [out_apply]
  simp only [hmix, pick_apply _ _ _ X hX, hx, block_2 m c t _ n hn, block_18]

/-- The reference's arguments are the launch memory's. -/
structure Same (c : Dev nD) (W : Valuation Cert.Reference4Ideal.τ Cert.Reference4Ideal.sig (Elt Ideal)) : Prop where
  h0 : R0 W = A0 m c
  h1 : R1 W = A1 m c
  h2 : R2 W = A2 m c
  h3 : R3 W = A3 m c
  h4 : R4 W = A4 m c
  h5 : R5 W = A5 m c
  h6 : R6 W = A6 m c
  h7 : R7 W = A7 m c
  h8 : R8 W = A8 m c
  h9 : R9 W = A9 m c
  h10 : R10 W = A10 m c
  h11 : R11 W = A11 m c
  h12 : R12 W = A12 m c
  h13 : R13 W = A13 m c
  h14 : R14 W = A14 m c
  h15 : R15 W = A15 m c
  h16 : R16 W = A16 m c
  h17 : R17 W = A17 m c

/-- What a point leaves is its rows of the reference. -/
theorem point_apply (c : Dev nD) (W : Valuation Cert.Reference4Ideal.τ Cert.Reference4Ideal.sig (Elt Ideal)) (hW : Same m c W)
    (hctx : ∃ y : Fin 8192 → Fin 512 → ℝ, ∀ n j, A7 m c (ix2 n j) = ((y n j : ℝ) : EReal))
    (hlat : ∃ y : Fin 4096 → Fin 512 → ℝ, ∀ n j, A8 m c (ix2 n j) = ((y n j : ℝ) : EReal))
    (t : Fin cfg0.N) (r : Fin 512) (d : Fin 1024) (n : Fin 12288) (hn : n.val = t.val * 512 + r.val) :
    stored m c t (ix2 r d) = Cert.Reference4Ideal.Value.res_main_v162 W (ix2 n d) := by
  have ht := point_lt t
  have hc := coord_val t
  obtain ⟨yc, hyc⟩ := hctx
  obtain ⟨yl, hyl⟩ := hlat
  by_cases h : t.val < 16
  · have hm : modRow t.val = 0 := if_pos h
    have hb : Scalar.cmpi .slt (word t) 16#32 = 1#1 :=
      (WordCmp.cmpi_slt_ofNat_eq_one_iff (w := 32) (a := (grid0.coords t 0).val) (b := 16) (by rw [hc]; omega) (by decide)).mpr (by omega)
    have hn' : n.val = min t.val 15 * 512 + r.val := by omega
    have key := stored_apply m c t (iblk m c 0 t) (iblk m c 3 t) (iblk m c 7 t) (iblk m c 5 t) 0 hm.symm
      (WordCmp.select_of_eq_one hb _ _) (WordCmp.select_of_eq_one hb _ _) (WordCmp.select_of_eq_one hb _ _) (WordCmp.select_of_eq_one hb _ _) r d
      _ _ (yc ⟨n.val, by omega⟩) _ (fun k => block_0 m c t r k ⟨n.val, by omega⟩ hn') (fun k => block_3 m c t r k ⟨n.val, by omega⟩ hn')
      (fun j => (block_7 m c t r j ⟨n.val, by omega⟩ hn').trans (hyc _ j)) (fun j => block_5 m c t r j ⟨n.val, by omega⟩ hn')
    rw [key, res_ctx W n ⟨n.val, by omega⟩ rfl, halfCtx_apply, hW.h0, hW.h2, hW.h3, hW.h5, hW.h7, hW.h9, hW.h10, hW.h11, hW.h12, hW.h13, hW.h14, hW.h15,
      hW.h16, hW.h17]
    simp only [hyc]
  · have hm : modRow t.val = 1 + (t.val - 16) / 2 := if_neg h
    have hb : Scalar.cmpi .slt (word t) 16#32 = 0#1 :=
      (WordCmp.cmpi_slt_ofNat_eq_zero_iff (w := 32) (a := (grid0.coords t 0).val) (b := 16) (by rw [hc]; omega) (by decide)).mpr (by omega)
    have hn' : n.val - 8192 = (t.val - 16) * 512 + r.val := by omega
    have key := stored_apply m c t (iblk m c 1 t) (iblk m c 4 t) (iblk m c 8 t) (iblk m c 6 t) ⟨1 + (n.val - 8192) / 1024, by omega⟩
      (by rw [hm]; show 1 + (n.val - 8192) / 1024 = 1 + (t.val - 16) / 2; omega)
      (WordCmp.select_of_eq_zero hb _ _) (WordCmp.select_of_eq_zero hb _ _) (WordCmp.select_of_eq_zero hb _ _) (WordCmp.select_of_eq_zero hb _ _) r d
      _ _ (yl ⟨n.val - 8192, by omega⟩) _ (fun k => block_1 m c t r k ⟨n.val - 8192, by omega⟩ hn') (fun k => block_4 m c t r k ⟨n.val - 8192, by omega⟩ hn')
      (fun j => (block_8 m c t r j ⟨n.val - 8192, by omega⟩ hn').trans (hyl _ j)) (fun j => block_6 m c t r j ⟨n.val - 8192, by omega⟩ hn')
    rw [key, res_lat W n ⟨n.val - 8192, by omega⟩ (by show n.val = 8192 + (n.val - 8192); omega), halfLat_apply, hW.h1, hW.h2, hW.h4, hW.h6, hW.h8, hW.h9,
      hW.h10, hW.h11, hW.h12, hW.h13, hW.h14, hW.h15, hW.h16, hW.h17]
    simp only [hyl]

/-- The result array. -/
theorem final (c : Dev nD) (W : Valuation Cert.Reference4Ideal.τ Cert.Reference4Ideal.sig (Elt Ideal)) (hW : Same m c W)
    (hctx : ∃ y : Fin 8192 → Fin 512 → ℝ, ∀ n j, A7 m c (ix2 n j) = ((y n j : ℝ) : EReal))
    (hlat : ∃ y : Fin 4096 → Fin 512 → ℝ, ∀ n j, A8 m c (ix2 n j) = ((y n j : ℝ) : EReal)) :
    (dats m 0 c).arrAt 22 cfg0.N = (Cert.Reference4Ideal.Value.res_main_v162 W : FVec Ideal S12288x1024 .f32) := by
  refine (dats m 0 c).arrAt_eq_of_cover 22 (Cert.Reference4Ideal.Value.res_main_v162 W : FVec Ideal S12288x1024 .f32) (fun t _ => ?_) fun i => ?_
  · show (cfg0.win 22).cut (grid0.coords t) ((dats m 0 c).after 22 t) = _
    rw [after0_22, left]
    funext y
    obtain ⟨r, d, rfl⟩ : ∃ (r : Fin 512) (d : Fin 1024), y = ix2 r d := ⟨y 0, y 1, eq_ix2 y⟩
    have ht := point_lt t
    have hi := index_22 t
    refine (point_apply m c W hW hctx hlat t r d ⟨t.val * 512 + r.val, by omega⟩ rfl).trans ?_
    refine congrArg (Cert.Reference4Ideal.Value.res_main_v162 W : FVec Ideal S12288x1024 .f32) (funext fun a => Fin.ext ?_)
    match a with
    | ⟨0, _⟩ => show t.val * 512 + r.val = win0_22.index t 0 * 512 + 1 * r.val; rw [hi.1]; omega
    | ⟨1, _⟩ => show d.val = win0_22.index t 1 * 1024 + 1 * d.val; rw [hi.2]; omega
  · have h0 : (i 0 : ℕ) < 12288 := (i 0).isLt
    have h1 : (i 1 : ℕ) < 1024 := (i 1).isLt
    have hN : cfg0.N = 24 := N_0
    refine ⟨⟨(i 0).val / 512, by rw [hN]; omega⟩, flush0_22 _, ?_⟩
    generalize hd : (⟨(i 0).val / 512, _⟩ : Fin cfg0.N) = t
    have htv : t.val = (i 0).val / 512 := by rw [← hd]
    have hi := index_22 t
    show i ∈ ((View.whole main_v27_0).slice (win0_22.rect t)).set
    rw [View.set_slice_whole, Rect.mem_set_unit]
    intro a
    match a with
    | ⟨0, _⟩ =>
      show win0_22.index t 0 * 512 ≤ (i 0 : Nat) ∧ (i 0 : Nat) < win0_22.index t 0 * 512 + 512
      rw [hi.1]; omega
    | ⟨1, _⟩ =>
      show win0_22.index t 1 * 1024 ≤ (i 1 : Nat) ∧ (i 1 : Nat) < win0_22.index t 1 * 1024 + 1024
      rw [hi.2]; omega

/-- What the run leaves in the result. -/
theorem run_result (g : Dev nD → PrngReg) (W : Dev nD → Valuation Cert.Reference4Ideal.τ Cert.Reference4Ideal.sig (Elt Ideal))
    (hW : ∀ c, Same m c (W c)) (hctx : ∀ c, ∃ y : Fin 8192 → Fin 512 → ℝ, ∀ n j, A7 m c (ix2 n j) = ((y n j : ℝ) : EReal))
    (hlat : ∀ c, ∃ y : Fin 4096 → Fin 512 → ℝ, ∀ n j, A8 m c (ix2 n j) = ((y n j : ℝ) : EReal)) :
    θ_run defs (onTc (τ := τ) (main (F := Ideal))) ⟨m, fun _ => 0, g⟩ fun r => ∀ c : Dev nD,
      r.2.mem ((c : Thread nD τ).loc main_v27_0) = (Cert.Reference4Ideal.Value.res_main_v162 (W c) : FVec Ideal S12288x1024 .f32) :=
  (θ_run defs _ _).mono (fun r h c => ((h c).1 22).trans (final m c (W c) (hW c) (hctx c) (hlat c))) (run_main m g)

end Cert.Kernel4Ideal.Post

end
-- ==== Proof.ScanChain.lean ====
/- One chunk of the scan for one pair of heads and one direction, written as a function of the blocks it loads: what every
   one of the kernel's sixteen chains computes for its state. -/
module

public import proofs.«01_k».proof.Proof.Gen.KernelIdeal.Skeleton

@[expose] public section

noncomputable section

namespace Cert.KernelIdeal.Scan

open Cert.KernelIdeal Cert.KernelIdeal.Gen
open Idealize.ShloMosaic Idealize.SL.Sem

variable {F : FTy → Type} [FloatOps F]

/-- The part of `x` that bf16 holds. -/
def hi {s : Shape} (x : FVec F s .f32) : FVec F s .bf16 := truncf .bf16 x bitsLt_bf16_f32

/-- What is left of `x` beside that part. -/
def rest {s : Shape} (x : FVec F s .f32) : FVec F s .f32 := subf x (extf .f32 (hi x) bitsLt_bf16_f32)

/-- The zero matrices of the two sizes. -/
def zero64 : FVec F S64x128 .f32 := broadcast S64x128 (Scalar.ofBits .f32 0x00000000#32)
/-- The 128×128 zero. -/
def zero128 : FVec F S128x128 .f32 := broadcast S128x128 (Scalar.ofBits .f32 0x00000000#32)

/-- A 128×128 product. -/
def mm (a b : FVec F S128x128 .bf16) : FVec F S128x128 .f32 :=
  matmul dot_S128x128_S128x128_S128x128_1_0_0_1_n_n none a b (constant S128x128 .f32 0x00000000#32)

/-- A product of two 128×128 matrices, each in two parts. -/
def mm3 (a b : FVec F S128x128 .f32) : FVec F S128x128 .f32 :=
  addf (mm (hi a) (hi b)) (addf (mm (hi a) (hi (rest b))) (mm (hi (rest a)) (hi b)))

/-- A product whose right factor is in two parts. -/
def mm2 (a : FVec F S128x128 .bf16) (b : FVec F S128x128 .f32) : FVec F S128x128 .f32 :=
  addf (mm a (hi b)) (mm a (hi (rest b)))

/-- A chunk's rows for the pair's first head above those for its second. -/
def stk (x : FVec F S64x128 .f32) : FVec F S128x128 .f32 :=
  concatenate S128x128 0 [⟨S64x128, select k0_pay2 x zero64⟩, ⟨S64x128, select k0_pay2 zero64 x⟩]
    concatenates_S64x128_S64x128_S128x128_d0

/-- The triangle's product with a chunk's rows, in one part. -/
def triMul (tri : IVec S64x64 1) (x : FVec F S64x128 .bf16) : FVec F S64x128 .f32 :=
  matmul dot_S64x64_S64x128_S64x128_1_0_0_1_n_n none
    (truncf .bf16 (sitofp .f32 (extui 32 tri natLt_1_32) : FVec F S64x64 .f32) bitsLt_bf16_f32) x
    (constant S64x128 .f32 0x00000000#32)

/-- The running sums of the log decays. -/
def cumOf (tri : IVec S64x64 1) (lw : FVec F S64x128 .f32) : FVec F S64x128 .f32 :=
  addf (addf (triMul tri (hi lw)) (triMul tri (hi (rest lw)))) (triMul tri (hi (rest (rest lw))))

/-- The decayed `kk` rows above the decayed `r` rows. -/
def qr (cum lw kk r : FVec F S64x128 .f32) : FVec F S256x128 .bf16 :=
  hi (concatenate S256x128 0 [⟨S128x128, stk (mulf kk (exp (subf cum lw)))⟩, ⟨S128x128, stk (mulf r (exp cum))⟩]
    concatenates_S128x128_S128x128_S256x128_d0)

/-- The undecayed `b` rows above the undecayed `k` rows. -/
def bk (cum b kd : FVec F S64x128 .f32) : FVec F S256x128 .bf16 :=
  hi (concatenate S256x128 0
    [⟨S128x128, stk (mulf b (exp (subf zero64 cum)))⟩, ⟨S128x128, stk (mulf kd (exp (subf zero64 cum)))⟩]
    concatenates_S128x128_S128x128_S256x128_d0)

/-- All the products of the two. -/
def gram (QR BK : FVec F S256x128 .bf16) : FVec F S256x256 .f32 :=
  matmul dot_S256x128_S256x128_S256x256_1_1_0_0_n_n none QR BK (constant S256x256 .f32 0x00000000#32)

/-- The strict triangle of `kk` against `b`. -/
def lMat (msk : IVec S128x128 1) (G : FVec F S256x256 .f32) : FVec F S128x128 .f32 :=
  select msk (extractStridedSlice S128x128 ![0, 0] G slices_S256x256_o0_0_S128x128) zero128

/-- The strict triangle of `kk` against `k`. -/
def lkMat (msk : IVec S128x128 1) (G : FVec F S256x256 .f32) : FVec F S128x128 .f32 :=
  select msk (extractStridedSlice S128x128 ![0, 128] G slices_S256x256_o0_128_S128x128) zero128

/-- The inverse of one plus a matrix whose eighth power is zero: the first two factors. -/
def inv4 (eye L0 : FVec F S128x128 .f32) : FVec F S128x128 .f32 :=
  addf (subf eye L0) (mm2 (hi (subf eye L0)) (mm (hi L0) (hi L0)))

/-- All three factors. -/
def inv8 (eye L0 : FVec F S128x128 .f32) : FVec F S128x128 .f32 :=
  addf (inv4 eye L0) (mm3 (inv4 eye L0) (mm3 (mm (hi L0) (hi L0)) (mm (hi L0) (hi L0))))

/-- One doubling of the inverted blocks. -/
def grow (X Loff : FVec F S128x128 .f32) : FVec F S128x128 .f32 :=
  subf X (mm3 X (mm2 (hi Loff) X))

/-- The blocks of the larger size without those of the smaller. -/
def ring (big small : IVec S128x128 1) : IVec S128x128 1 := andi big (xori small (constantI S128x128 1 1#1))

/-- The whole inverse. -/
def invAll (eye : FVec F S128x128 .f32) (m8 m16 m32 m64 : IVec S128x128 1) (L : FVec F S128x128 .f32) : FVec F S128x128 .f32 :=
  grow (grow (grow (inv8 eye (select m8 L zero128)) (select (ring m16 m8) L zero128)) (select (ring m32 m16) L zero128))
    (select (ring m64 m32) L zero128)

/-- The right-hand side. -/
def wMat (QR : FVec F S256x128 .bf16) (Lk vs S : FVec F S128x128 .f32) : FVec F S128x128 .f32 :=
  addf (extractStridedSlice S128x128 ![0, 0]
      (matmul dot_S256x128_S128x128_S256x128_1_1_0_0_n_n none QR (hi S) (constant S256x128 .f32 0x00000000#32))
      slices_S256x128_o0_0_S128x128)
    (mm (hi Lk) (hi vs))

/-- The chunk's `sa` rows. -/
def uMat (X W : FVec F S128x128 .f32) : FVec F S128x128 .f32 := subf zero128 (mm (hi X) (hi W))

/-- The state with the chunk's additions, before the last decay. -/
def grown (S U vs : FVec F S128x128 .f32) (BK : FVec F S256x128 .bf16) : FVec F S128x128 .f32 :=
  addf S (matmul dot_S128x256_S256x128_S128x128_1_0_0_1_n_n none
    (hi (transpose S128x256 [1, 0] (concatenate S256x128 0 [⟨S128x128, U⟩, ⟨S128x128, vs⟩]
      concatenates_S128x128_S128x128_S256x128_d0) transposes_S256x128_p1_0_S128x256))
    BK (constant S128x128 .f32 0x00000000#32))

/-- The chunk but for the last decay, from the running sums. -/
def core (msk m8 m16 m32 m64 : IVec S128x128 1) (eye : FVec F S128x128 .f32) (cum lw kk b kd v r : FVec F S64x128 .f32)
    (S : FVec F S128x128 .f32) : FVec F S128x128 .f32 :=
  grown S (uMat (invAll eye m8 m16 m32 m64 (lMat msk (gram (qr cum lw kk r) (bk cum b kd))))
      (wMat (qr cum lw kk r) (lkMat msk (gram (qr cum lw kk r) (bk cum b kd))) (stk v) S)) (stk v) (bk cum b kd)

/-- A chunk taken forwards. -/
def chainF (tri : IVec S64x64 1) (msk m8 m16 m32 m64 : IVec S128x128 1) (eye : FVec F S128x128 .f32)
    (lw kk b kd v r : FVec F S64x128 .f32) (S : FVec F S128x128 .f32) : FVec F S128x128 .f32 :=
  mulf (core msk m8 m16 m32 m64 eye (cumOf tri lw) lw kk b kd v r S)
    (broadcastTo S128x128 (extractStridedSlice S1x128 ![63, 0] (exp (cumOf tri lw)) slices_S64x128_o63_0_S1x128)
      broadcasts_S1x128_S128x128)

/-- A chunk taken backwards. -/
def chainB (tri : IVec S64x64 1) (msk m8 m16 m32 m64 : IVec S128x128 1) (eye : FVec F S128x128 .f32)
    (lw kk b kd v r : FVec F S64x128 .f32) (S : FVec F S128x128 .f32) : FVec F S128x128 .f32 :=
  mulf (core msk m8 m16 m32 m64 eye (cumOf tri lw) lw kk b kd v r S)
    (broadcastTo S128x128 (extractStridedSlice S1x128 ![0, 0] (exp (cumOf tri lw)) slices_S64x128_o0_0_S1x128)
      broadcasts_S1x128_S128x128)

end Cert.KernelIdeal.Scan
-- ==== Proof.ScanMasks.lean ====
/- The masks of the scan's chunk, read at a row and a column: blocks of the diagonal, the triangles of either direction,
   and the identity. -/
module

public import proofs.«01_k».proof.Proof.ScanChain
public import Idealize.ShloMosaic.Lib.Pointwise

@[expose] public section

set_option maxRecDepth 8192

noncomputable section

namespace Cert.KernelIdeal.Scan

open Cert.KernelIdeal Cert.KernelIdeal.Gen
open Idealize.ShloMosaic Idealize.ShloMosaic.Pointwise Idealize.SL.Sem

variable {F : FTy → Type} [FloatOps F]

/-- The row numbers and the column numbers. -/
abbrev rowNo : IVec S128x128 32 := iota Kind.tc S128x128 32 [0] iota_S128x128_d0_w32
/-- The column numbers. -/
abbrev colNo : IVec S128x128 32 := iota Kind.tc S128x128 32 [1] iota_S128x128_d1_w32
/-- The row numbers of a chunk's triangle. -/
abbrev rowNo64 : IVec S64x64 32 := iota Kind.tc S64x64 32 [0] iota_S64x64_d0_w32
/-- Its column numbers. -/
abbrev colNo64 : IVec S64x64 32 := iota Kind.tc S64x64 32 [1] iota_S64x64_d1_w32

/-- The same head. -/
abbrev mHead : IVec S128x128 1 := k0_pay900 k0_pay896 k0_pay897 k0_pay898 k0_pay899
/-- The row within a head. -/
abbrev rowIn : IVec S128x128 32 := k0_pay901 rowNo
/-- The column within a head. -/
abbrev colIn : IVec S128x128 32 := k0_pay902 colNo
/-- The identity. -/
abbrev mEye : FVec F S128x128 .f32 := k0_pay903 rowNo colNo
/-- The blocks of 8. -/
abbrev m8 : IVec S128x128 1 := k0_pay906 rowNo colNo 8#32 (k0_pay904 rowNo) (k0_pay905 rowNo)
/-- The blocks of 16. -/
abbrev m16 : IVec S128x128 1 := k0_pay908 rowNo colNo 16#32 (k0_pay907 rowNo) 0#32
/-- The blocks of 32. -/
abbrev m32 : IVec S128x128 1 := k0_pay913 (k0_pay909 rowNo 32#32) (k0_pay910 colNo) (k0_pay911 colNo) (k0_pay912 colNo)
/-- The blocks of 64. -/
abbrev m64 : IVec S128x128 1 := k0_pay1 (k0_pay914 rowNo) (k0_pay915 colNo) (k0_pay916 colNo)

/-- The lanes of a chunk. -/
abbrev lane : IVec S64x128 32 := iota .tc S64x128 32 [1] iota_S64x128_d1_w32

theorem rowNo_apply (i : Fin 128) (j : Fin 128) : rowNo (ix2 i j) = BitVec.ofNat 32 i.val :=
  (show rowNo (ix2 i j) = rowNo (ix2 i 0) from rfl).trans
    ((by decide +kernel : ∀ i : Fin 128, rowNo (ix2 i 0) = BitVec.ofNat 32 i.val) i)

theorem colNo_apply (i : Fin 128) (j : Fin 128) : colNo (ix2 i j) = BitVec.ofNat 32 j.val :=
  (show colNo (ix2 i j) = colNo (ix2 0 j) from rfl).trans
    ((by decide +kernel : ∀ j : Fin 128, colNo (ix2 0 j) = BitVec.ofNat 32 j.val) j)

theorem rowNo64_apply (i : Fin 64) (j : Fin 64) : rowNo64 (ix2 i j) = BitVec.ofNat 32 i.val :=
  (show rowNo64 (ix2 i j) = rowNo64 (ix2 i 0) from rfl).trans
    ((by decide +kernel : ∀ i : Fin 64, rowNo64 (ix2 i 0) = BitVec.ofNat 32 i.val) i)

theorem colNo64_apply (i : Fin 64) (j : Fin 64) : colNo64 (ix2 i j) = BitVec.ofNat 32 j.val :=
  (show colNo64 (ix2 i j) = colNo64 (ix2 0 j) from rfl).trans
    ((by decide +kernel : ∀ j : Fin 64, colNo64 (ix2 0 j) = BitVec.ofNat 32 j.val) j)

theorem lane_apply (i : Fin 64) (j : Fin 128) : lane (ix2 i j) = BitVec.ofNat 32 j.val :=
  (show lane (ix2 i j) = lane (ix2 0 j) from rfl).trans
    ((by decide +kernel : ∀ j : Fin 128, lane (ix2 0 j) = BitVec.ofNat 32 j.val) j)

/-- Equal block numbers, by rows and columns. -/
theorem eqMask (A B : IVec S128x128 32) (n : ℕ)
    (iA : ∀ i j, A (ix2 i j) = A (ix2 i 0)) (iB : ∀ i j, B (ix2 i j) = B (ix2 0 j))
    (hA : ∀ i : Fin 128, A (ix2 i 0) = BitVec.ofNat 32 (i.val / n)) (hB : ∀ j : Fin 128, B (ix2 0 j) = BitVec.ofNat 32 (j.val / n))
    (i j : Fin 128) : cmpi .eq A B (ix2 i j) = if i.val / n = j.val / n then 1#1 else 0#1 := by
  show BitVec.ofBool (A (ix2 i j) == B (ix2 i j)) = _
  rw [iA, iB, hA, hB]
  have hi : i.val / n < 2 ^ 32 := lt_of_le_of_lt (Nat.div_le_self _ _) (by omega)
  have hj : j.val / n < 2 ^ 32 := lt_of_le_of_lt (Nat.div_le_self _ _) (by omega)
  by_cases e : i.val / n = j.val / n
  · rw [if_pos e, e]; simp
  · rw [if_neg e]
    have : BitVec.ofNat 32 (i.val / n) ≠ BitVec.ofNat 32 (j.val / n) := fun h => e (by
      have := congrArg BitVec.toNat h
      rw [BitVec.toNat_ofNat, BitVec.toNat_ofNat, Nat.mod_eq_of_lt hi, Nat.mod_eq_of_lt hj] at this
      exact this)
    rw [beq_eq_false_iff_ne.2 this]; rfl

theorem mHead_apply (i j : Fin 128) : mHead (ix2 i j) = if i.val / 64 = j.val / 64 then 1#1 else 0#1 := by
  unfold mHead k0_pay900
  exact eqMask _ _ 64 (fun _ _ => rfl) (fun _ _ => rfl) (by decide +kernel) (by decide +kernel) i j

theorem m8_apply (i j : Fin 128) : m8 (ix2 i j) = if i.val / 8 = j.val / 8 then 1#1 else 0#1 := by
  unfold m8 k0_pay906
  exact eqMask _ _ 8 (fun _ _ => rfl) (fun _ _ => rfl) (by decide +kernel) (by decide +kernel) i j

theorem m16_apply (i j : Fin 128) : m16 (ix2 i j) = if i.val / 16 = j.val / 16 then 1#1 else 0#1 := by
  unfold m16 k0_pay908
  exact eqMask _ _ 16 (fun _ _ => rfl) (fun _ _ => rfl) (by decide +kernel) (by decide +kernel) i j

theorem m32_apply (i j : Fin 128) : m32 (ix2 i j) = if i.val / 32 = j.val / 32 then 1#1 else 0#1 := by
  unfold m32 k0_pay913
  exact eqMask _ _ 32 (fun _ _ => rfl) (fun _ _ => rfl) (by decide +kernel) (by decide +kernel) i j

theorem m64_apply (i j : Fin 128) : m64 (ix2 i j) = if i.val / 64 = j.val / 64 then 1#1 else 0#1 := by
  unfold m64 k0_pay1
  exact eqMask _ _ 64 (fun _ _ => rfl) (fun _ _ => rfl) (by decide +kernel) (by decide +kernel) i j

/-- The mask of the larger blocks without the smaller. -/
theorem ring_apply (big small : IVec S128x128 1) (P Q : Prop) [Decidable P] [Decidable Q] (ix : S128x128.Idx)
    (hb : big ix = if P then 1#1 else 0#1) (hs : small ix = if Q then 1#1 else 0#1) :
    ring big small ix = if P ∧ ¬ Q then 1#1 else 0#1 := by
  show big ix &&& (small ix ^^^ 1#1) = _
  rw [hb, hs]
  by_cases p : P <;> by_cases q : Q <;> simp [p, q]

theorem rowIn_apply (i j : Fin 128) : rowIn (ix2 i j) = BitVec.ofNat 32 (i.val % 64) :=
  (show rowIn (ix2 i j) = rowIn (ix2 i 0) from rfl).trans
    ((by decide +kernel : ∀ i : Fin 128, rowIn (ix2 i 0) = BitVec.ofNat 32 (i.val % 64)) i)

theorem colIn_apply (i j : Fin 128) : colIn (ix2 i j) = BitVec.ofNat 32 (j.val % 64) :=
  (show colIn (ix2 i j) = colIn (ix2 0 j) from rfl).trans
    ((by decide +kernel : ∀ j : Fin 128, colIn (ix2 0 j) = BitVec.ofNat 32 (j.val % 64)) j)

theorem slt_small {a b : ℕ} (ha : a < 128) (hb : b < 128) :
    (BitVec.ofNat 32 a).slt (BitVec.ofNat 32 b) = decide (a < b) := by
  have := (by decide +kernel : ∀ a b : Fin 128, (BitVec.ofNat 32 a.val).slt (BitVec.ofNat 32 b.val) = decide (a.val < b.val))
  exact this ⟨a, ha⟩ ⟨b, hb⟩

theorem sle_small {a b : ℕ} (ha : a < 128) (hb : b < 128) :
    (BitVec.ofNat 32 a).sle (BitVec.ofNat 32 b) = decide (a ≤ b) := by
  have := (by decide +kernel : ∀ a b : Fin 128, (BitVec.ofNat 32 a.val).sle (BitVec.ofNat 32 b.val) = decide (a.val ≤ b.val))
  exact this ⟨a, ha⟩ ⟨b, hb⟩

/-- The strict triangle within a head, forwards. -/
theorem lowF_apply (i j : Fin 128) : k0_pay8 mHead rowIn colIn (ix2 i j)
    = if i.val / 64 = j.val / 64 ∧ j.val % 64 < i.val % 64 then 1#1 else 0#1 := by
  show mHead (ix2 i j) &&& BitVec.ofBool ((colIn (ix2 i j)).slt (rowIn (ix2 i j))) = _
  rw [mHead_apply, rowIn_apply, colIn_apply, slt_small (by omega) (by omega)]
  by_cases p : i.val / 64 = j.val / 64 <;> by_cases q : j.val % 64 < i.val % 64 <;> simp [p, q]

/-- And backwards. -/
theorem lowB_apply (i j : Fin 128) : k0_pay11 mHead rowIn colIn (ix2 i j)
    = if i.val / 64 = j.val / 64 ∧ i.val % 64 < j.val % 64 then 1#1 else 0#1 := by
  show mHead (ix2 i j) &&& BitVec.ofBool ((rowIn (ix2 i j)).slt (colIn (ix2 i j))) = _
  rw [mHead_apply, rowIn_apply, colIn_apply, slt_small (by omega) (by omega)]
  by_cases p : i.val / 64 = j.val / 64 <;> by_cases q : i.val % 64 < j.val % 64 <;> simp [p, q]

/-- The triangle of the running sums, forwards. -/
theorem triF_apply (i j : Fin 64) : k0_pay10 rowNo64 colNo64 (ix2 i j) = if j.val ≤ i.val then 1#1 else 0#1 := by
  show BitVec.ofBool ((colNo64 (ix2 i j)).sle (rowNo64 (ix2 i j))) = _
  rw [rowNo64_apply, colNo64_apply, sle_small (by omega) (by omega)]
  by_cases p : j.val ≤ i.val <;> simp [p]

/-- And backwards. -/
theorem triB_apply (i j : Fin 64) : k0_pay13 rowNo64 colNo64 (ix2 i j) = if i.val ≤ j.val then 1#1 else 0#1 := by
  show BitVec.ofBool ((rowNo64 (ix2 i j)).sle (colNo64 (ix2 i j))) = _
  rw [rowNo64_apply, colNo64_apply, sle_small (by omega) (by omega)]
  by_cases p : i.val ≤ j.val <;> simp [p]

/-- The lanes of the pair's first head. -/
theorem firstHead_apply (i : Fin 64) (l : Fin 128) : k0_pay2 (ix2 i l) = if l.val < 64 then 1#1 else 0#1 := by
  show BitVec.ofBool ((lane (ix2 i l)).slt (BitVec.ofNat 32 64)) = _
  rw [lane_apply, slt_small (by omega) (by omega)]
  by_cases p : l.val < 64 <;> simp [p]

/-- The identity's integers. -/
theorem eyeInt_apply (i j : Fin 128) :
    extui 32 (cmpi .eq rowNo colNo) natLt_1_32 (ix2 i j) = if i = j then 1#32 else 0#32 := by
  show BitVec.setWidth 32 (BitVec.ofBool (rowNo (ix2 i j) == colNo (ix2 i j))) = _
  rw [rowNo_apply, colNo_apply]
  by_cases e : i = j
  · subst e; rw [if_pos rfl]; simp
  · have hi : i.val % 2 ^ 32 = i.val := Nat.mod_eq_of_lt (by omega)
    have hj : j.val % 2 ^ 32 = j.val := Nat.mod_eq_of_lt (by omega)
    have : BitVec.ofNat 32 i.val ≠ BitVec.ofNat 32 j.val := fun h => e (Fin.ext (by
      have := congrArg BitVec.toNat h
      rw [BitVec.toNat_ofNat, BitVec.toNat_ofNat, hi, hj] at this
      exact this))
    rw [if_neg e, beq_eq_false_iff_ne.2 this]; rfl

end Cert.KernelIdeal.Scan
-- ==== Proof.ScanMath.lean ====
/- The mathematics of one chunk of the scan over the reals: the blocked inverse is the inverse, and the chunk's formula
   gives the state that the steps taken one by one give. -/
module

public import Mathlib.Data.Matrix.Mul
public import Mathlib.Data.Real.Basic
public import Mathlib.Analysis.SpecialFunctions.Exp
public import Mathlib.Tactic.NoncommRing
public import Mathlib.Tactic.Ring
public import Mathlib.Tactic.Linarith

@[expose] public section

noncomputable section

namespace Cert.ScanMath

open scoped BigOperators

/-- The matrices of a chunk: both heads' rows against both heads' rows. -/
abbrev Mat := Matrix (Fin 128) (Fin 128) ℝ

/-! ## The blocked inverse -/

/-- The place of row `i` in the order of the direction: forwards (`false`) or backwards (`true`). -/
def place (d : Bool) (i : Fin 128) : ℕ := if d then 127 - i.val else i.val

/-- A matrix that stays within blocks of `s` rows. -/
def InBlocks (s : ℕ) (A : Mat) : Prop := ∀ i j, A i j ≠ 0 → i.val / s = j.val / s

/-- A matrix that takes each row only to earlier ones. -/
def Earlier (d : Bool) (A : Mat) : Prop := ∀ i j, A i j ≠ 0 → place d j < place d i

theorem InBlocks.one (s : ℕ) : InBlocks s 1 := by
  intro i j h
  by_cases e : i = j
  · rw [e]
  · exact absurd (Matrix.one_apply_ne e) h

theorem InBlocks.add {s : ℕ} {A B : Mat} (hA : InBlocks s A) (hB : InBlocks s B) : InBlocks s (A + B) := by
  intro i j h
  by_cases a : A i j = 0
  · by_cases b : B i j = 0
    · exact absurd (by rw [Matrix.add_apply, a, b, add_zero]) h
    · exact hB i j b
  · exact hA i j a

theorem InBlocks.sub {s : ℕ} {A B : Mat} (hA : InBlocks s A) (hB : InBlocks s B) : InBlocks s (A - B) := by
  intro i j h
  by_cases a : A i j = 0
  · by_cases b : B i j = 0
    · exact absurd (by rw [Matrix.sub_apply, a, b, sub_zero]) h
    · exact hB i j b
  · exact hA i j a

/-- A product's entry that is not zero passes through some row. -/
theorem through {A B : Mat} {i j : Fin 128} (h : (A * B) i j ≠ 0) : ∃ a, A i a ≠ 0 ∧ B a j ≠ 0 := by
  rw [Matrix.mul_apply] at h
  obtain ⟨a, -, ha⟩ := Finset.exists_ne_zero_of_sum_ne_zero h
  exact ⟨a, left_ne_zero_of_mul ha, right_ne_zero_of_mul ha⟩

theorem InBlocks.mul {s : ℕ} {A B : Mat} (hA : InBlocks s A) (hB : InBlocks s B) : InBlocks s (A * B) := by
  intro i j h
  obtain ⟨a, h1, h2⟩ := through h
  exact (hA i a h1).trans (hB a j h2)

/-- The entries of `A` within blocks of `s` rows. -/
def inBlk (s : ℕ) (A : Mat) : Mat := fun i j => if i.val / s = j.val / s then A i j else 0

/-- The entries of `A` within blocks of `2 s` rows but not of `s`. -/
def between (s : ℕ) (A : Mat) : Mat := fun i j => if i.val / (2 * s) = j.val / (2 * s) ∧ ¬ i.val / s = j.val / s then A i j else 0

theorem inBlk_inBlocks (s : ℕ) (A : Mat) : InBlocks s (inBlk s A) := by
  intro i j h
  by_contra e
  exact h (if_neg e)

theorem inBlk_earlier {d : Bool} {A : Mat} (s : ℕ) (h : Earlier d A) : Earlier d (inBlk s A) := by
  intro i j e
  by_cases b : i.val / s = j.val / s
  · exact h i j (by simpa only [inBlk, if_pos b] using e)
  · exact absurd (if_neg b) e

theorem inBlk_double {s : ℕ} (hs : 0 < s) (A : Mat) : inBlk (2 * s) A = inBlk s A + between s A := by
  funext i j
  show inBlk (2 * s) A i j = inBlk s A i j + between s A i j
  unfold inBlk between
  by_cases b : i.val / s = j.val / s
  · have e : i.val / (2 * s) = j.val / (2 * s) := by
      rw [mul_comm 2 s, ← Nat.div_div_eq_div_mul, ← Nat.div_div_eq_div_mul, b]
    rw [if_pos b, if_pos e, if_neg (fun h => h.2 b), add_zero]
  · rw [if_neg b, zero_add]
    by_cases e : i.val / (2 * s) = j.val / (2 * s)
    · rw [if_pos e, if_pos ⟨e, b⟩]
    · rw [if_neg e, if_neg (fun h => e h.1)]

/-- Eight steps to earlier rows leave a block of eight. -/
theorem pow_eight {d : Bool} {N : Mat} (hb : InBlocks 8 N) (he : Earlier d N) : N ^ 8 = 0 := by
  have key : ∀ k i j, (N ^ k) i j ≠ 0 → i.val / 8 = j.val / 8 ∧ place d j + k ≤ place d i := by
    intro k
    induction k with
    | zero =>
      intro i j h
      rw [pow_zero] at h
      by_cases e : i = j
      · rw [e]; exact ⟨rfl, le_refl _⟩
      · exact absurd (Matrix.one_apply_ne e) h
    | succ k ih =>
      intro i j h
      rw [pow_succ] at h
      obtain ⟨a, h1, h2⟩ := through h
      have p := ih i a h1
      have q := hb a j h2
      have r := he a j h2
      exact ⟨p.1.trans q, by omega⟩
  funext i j
  by_contra h
  obtain ⟨p, q⟩ := key 8 i j h
  unfold place at q
  have := i.isLt
  have := j.isLt
  cases d
  · rw [if_neg (by decide), if_neg (by decide)] at q; omega
  · rw [if_pos rfl, if_pos rfl] at q; omega

/-- The inverse within blocks of eight rows, as the product of three factors. -/
def eighth (N : Mat) : Mat :=
  (1 - N) + (1 - N) * (N * N) + ((1 - N) + (1 - N) * (N * N)) * ((N * N) * (N * N))

theorem eighth_inv {N : Mat} (h : N ^ 8 = 0) : (1 + N) * eighth N = 1 := by
  have : (1 + N) * eighth N = 1 - N ^ 8 := by unfold eighth; noncomm_ring
  rw [this, h, sub_zero]

theorem eighth_inBlocks {N : Mat} (h : InBlocks 8 N) : InBlocks 8 (eighth N) := by
  have a := (InBlocks.one 8).sub h
  have b := a.add (a.mul (h.mul h))
  exact b.add (b.mul ((h.mul h).mul (h.mul h)))

/-- One doubling. -/
def doubled (X Lo : Mat) : Mat := X - X * (Lo * X)

theorem doubled_inv {A X Lo : Mat} (h : (1 + A) * X = 1) (z : Lo * X * Lo = 0) : (1 + (A + Lo)) * doubled X Lo = 1 := by
  have e : (1 + (A + Lo)) * doubled X Lo = (1 + A) * X - (1 + A) * X * (Lo * X) + Lo * X - Lo * X * Lo * X := by
    unfold doubled; noncomm_ring
  rw [e, h, z]; noncomm_ring

/-- A step between two blocks cannot be followed by another within the same block of twice the size. -/
theorem twice {d : Bool} {s : ℕ} (hs : s = 8 ∨ s = 16 ∨ s = 32) {X L : Mat} (hX : InBlocks s X) (hL : Earlier d L) :
    between s L * X * between s L = 0 := by
  funext i j
  by_contra h
  obtain ⟨b, h1, h2⟩ := through h
  obtain ⟨a, h3, h4⟩ := through h1
  have key : ∀ x y : Fin 128, between s L x y ≠ 0 →
      (x.val / (2 * s) = y.val / (2 * s) ∧ ¬ x.val / s = y.val / s) ∧ place d y < place d x := by
    intro x y e
    by_cases c : x.val / (2 * s) = y.val / (2 * s) ∧ ¬ x.val / s = y.val / s
    · exact ⟨c, hL x y (by simpa only [between, if_pos c] using e)⟩
    · exact absurd (if_neg c) e
  have p := key i a h3
  have q := key b j h2
  have r := hX a b h4
  unfold place at p q
  have := i.isLt
  have := j.isLt
  have := a.isLt
  have := b.isLt
  cases d
  · simp only [Bool.false_eq_true, if_false] at p q
    rcases hs with rfl | rfl | rfl <;> omega
  · simp only [if_true] at p q
    rcases hs with rfl | rfl | rfl <;> omega

theorem doubled_inBlocks {s : ℕ} {X L : Mat} (hX : InBlocks s X) : InBlocks (2 * s) (doubled X (between s L)) := by
  have up : InBlocks (2 * s) X := by
    intro i j h
    rw [mul_comm 2 s, ← Nat.div_div_eq_div_mul, ← Nat.div_div_eq_div_mul, hX i j h]
  have lo : InBlocks (2 * s) (between s L) := by
    intro i j h
    by_contra e
    exact h (if_neg (fun c => e c.1))
  exact up.sub (up.mul (lo.mul up))

/-- The whole inverse: eighths, then three doublings. -/
def inverse (L : Mat) : Mat :=
  doubled (doubled (doubled (eighth (inBlk 8 L)) (between 8 L)) (between 16 L)) (between 32 L)

theorem inverse_inv {d : Bool} {L : Mat} (hb : InBlocks 64 L) (he : Earlier d L) : (1 + L) * inverse L = 1 := by
  have b0 := inBlk_inBlocks 8 L
  have i0 := eighth_inv (pow_eight b0 (inBlk_earlier 8 he))
  have c0 := eighth_inBlocks b0
  have i1 := doubled_inv i0 (twice (.inl rfl) c0 he)
  rw [← inBlk_double (by decide)] at i1
  have c1 := doubled_inBlocks (L := L) c0
  have i2 := doubled_inv i1 (twice (.inr (.inl rfl)) c1 he)
  rw [← inBlk_double (s := 16) (by decide)] at i2
  have c2 := doubled_inBlocks (s := 16) (L := L) c1
  have i3 := doubled_inv i2 (twice (.inr (.inr rfl)) c2 he)
  rw [← inBlk_double (s := 32) (by decide)] at i3
  have e : inBlk (2 * 32) L = L := by
    funext i j
    by_cases c : i.val / (2 * 32) = j.val / (2 * 32)
    · exact if_pos c
    · rw [inBlk, if_neg c]
      by_contra h
      exact c (hb i j (Ne.symm h))
  rw [e] at i3
  exact i3

/-! ## The steps one by one -/

/-- The state after `t` steps, from the state `S`: decay, the correction along `b`, and the new outer product. -/
def steps (lw kk b k v : ℕ → Fin 64 → ℝ) (S : Fin 64 → Fin 64 → ℝ) : ℕ → Fin 64 → Fin 64 → ℝ
  | 0 => S
  | t + 1 => fun a c => steps lw kk b k v S t a c * Real.exp (lw t c)
      + (∑ x, steps lw kk b k v S t a x * -(kk t x)) * b t c + v t a * k t c

/-- Steps after steps. -/
theorem steps_add (lw kk b k v : ℕ → Fin 64 → ℝ) (S : Fin 64 → Fin 64 → ℝ) (s t : ℕ) :
    steps lw kk b k v S (s + t)
      = steps (fun i => lw (s + i)) (fun i => kk (s + i)) (fun i => b (s + i)) (fun i => k (s + i)) (fun i => v (s + i))
          (steps lw kk b k v S s) t := by
  induction t with
  | zero => rfl
  | succ t ih =>
    funext a c
    rw [← Nat.add_assoc]
    simp only [steps, ih]

/-- The steps read only the rows before them. -/
theorem steps_congr {lw kk b k v lw' kk' b' k' v' : ℕ → Fin 64 → ℝ} (S : Fin 64 → Fin 64 → ℝ) (n : ℕ)
    (h1 : ∀ t < n, lw t = lw' t) (h2 : ∀ t < n, kk t = kk' t) (h3 : ∀ t < n, b t = b' t) (h4 : ∀ t < n, k t = k' t)
    (h5 : ∀ t < n, v t = v' t) : steps lw kk b k v S n = steps lw' kk' b' k' v' S n := by
  induction n with
  | zero => rfl
  | succ n ih =>
    have e := ih (fun t h => h1 t (by omega)) (fun t h => h2 t (by omega)) (fun t h => h3 t (by omega))
      (fun t h => h4 t (by omega)) (fun t h => h5 t (by omega))
    funext a c
    simp only [steps, e, h1 n (by omega), h2 n (by omega), h3 n (by omega), h4 n (by omega), h5 n (by omega)]

/-- The sum of the log decays before step `t`. -/
def cum (lw : ℕ → Fin 64 → ℝ) (t : ℕ) (c : Fin 64) : ℝ := ∑ s ∈ Finset.range t, lw s c

/-- The chunk's formula: with `u` the solution of the triangular system, the state after `t` steps is the first state and
    the undecayed additions, decayed together. -/
theorem chunk_steps (lw kk b k v u : ℕ → Fin 64 → ℝ) (S : Fin 64 → Fin 64 → ℝ) (n : ℕ)
    (hu : ∀ t < n, ∀ a, u t a = -((∑ c, kk t c * Real.exp (cum lw t c) * S a c)
        + ∑ s ∈ Finset.range t, (∑ c, kk t c * Real.exp (cum lw t c) * (k s c * Real.exp (-cum lw (s + 1) c))) * v s a)
        - ∑ s ∈ Finset.range t, (∑ c, kk t c * Real.exp (cum lw t c) * (b s c * Real.exp (-cum lw (s + 1) c))) * u s a) :
    ∀ t ≤ n, ∀ a c, steps lw kk b k v S t a c
      = (S a c + ∑ s ∈ Finset.range t, (u s a * (b s c * Real.exp (-cum lw (s + 1) c)) + v s a * (k s c * Real.exp (-cum lw (s + 1) c))))
        * Real.exp (cum lw t c) := by
  intro t
  induction t with
  | zero => intro _ a c; simp [steps, cum]
  | succ t ih =>
    intro ht a c
    have ih := ih (by omega)
    have sa : (∑ x, steps lw kk b k v S t a x * -(kk t x)) = u t a := by
      rw [hu t (by omega) a]
      have swap : ∀ (p w : ℕ → Fin 64 → ℝ), (∑ s ∈ Finset.range t, (∑ c, kk t c * Real.exp (cum lw t c) * p s c) * w s a)
          = ∑ c, kk t c * Real.exp (cum lw t c) * ∑ s ∈ Finset.range t, w s a * p s c := by
        intro p w
        simp_rw [Finset.sum_mul, Finset.mul_sum]
        rw [Finset.sum_comm]
        exact Finset.sum_congr rfl fun _ _ => Finset.sum_congr rfl fun _ _ => by ring
      rw [swap (fun s c => k s c * Real.exp (-cum lw (s + 1) c)) v, swap (fun s c => b s c * Real.exp (-cum lw (s + 1) c)) u,
        ← Finset.sum_add_distrib, ← Finset.sum_neg_distrib, ← Finset.sum_sub_distrib]
      refine Finset.sum_congr rfl fun x _ => ?_
      rw [ih a x, Finset.sum_add_distrib]
      ring
    have step : cum lw (t + 1) c = cum lw t c + lw t c := Finset.sum_range_succ _ _
    have one : Real.exp (-cum lw (t + 1) c) * Real.exp (cum lw (t + 1) c) = 1 := by
      rw [← Real.exp_add, neg_add_cancel, Real.exp_zero]
    rw [steps]
    beta_reduce
    rw [sa, ih a c, Finset.sum_range_succ, step, Real.exp_add]
    rw [step, Real.exp_add] at one
    linear_combination (-(u t a * b t c + v t a * k t c)) * one

end Cert.ScanMath
-- ==== Proof.ScanChunk.lean ====
/- One chunk over the reals for a pair of heads stacked in one matrix: the formula with the blocked inverse gives, for each
   of the two heads, the state after sixty-four steps in the order of the direction. -/
module

public import proofs.«01_k».proof.Proof.ScanMath

@[expose] public section

noncomputable section

namespace Cert.ScanMath

open scoped BigOperators

/-- Row `i` of head `h` among the stacked rows, and lane `i` of head `h` among the pair's lanes. -/
def at2 (h : Fin 2) (i : Fin 64) : Fin 128 := ⟨64 * h.val + i.val, by omega⟩

theorem at2_div (h : Fin 2) (i : Fin 64) : (at2 h i).val / 64 = h.val := by show (64 * h.val + i.val) / 64 = h.val; omega
theorem at2_mod (h : Fin 2) (i : Fin 64) : (at2 h i).val % 64 = i.val := by show (64 * h.val + i.val) % 64 = i.val; omega

/-- Every one of the 128 is one of those. -/
theorem exists_at2 (x : Fin 128) : ∃ h i, x = at2 h i :=
  ⟨⟨x.val / 64, by omega⟩, ⟨x.val % 64, by omega⟩, Fin.ext (by show x.val = 64 * (x.val / 64) + x.val % 64; omega)⟩

theorem sum_at2 (f : Fin 128 → ℝ) : ∑ x, f x = ∑ h, ∑ i, f (at2 h i) := by
  rw [Fin.sum_univ_two]
  refine (Fin.sum_univ_add (a := 64) (b := 64) f).trans ?_
  congr 1 <;> exact Finset.sum_congr rfl fun i _ => congrArg f (Fin.ext (by simp [at2]))

/-- A sum over what one head has. -/
theorem sum_head (h : Fin 2) (f : Fin 128 → ℝ) (z : ∀ x, x.val / 64 ≠ h.val → f x = 0) : ∑ x, f x = ∑ i, f (at2 h i) := by
  rw [sum_at2, Finset.sum_eq_single h]
  · intro g _ hg
    refine Finset.sum_eq_zero fun i _ => z _ ?_
    rw [at2_div]
    exact fun e => hg (Fin.ext e)
  · intro e; exact absurd (Finset.mem_univ _) e

/-- The row taken at step `t`. -/
def rowN (d : Bool) (t : ℕ) : Fin 64 := if d then ⟨63 - t, by omega⟩ else ⟨t % 64, by omega⟩

/-- The step at which row `i` is taken. -/
def timeOf (d : Bool) (i : Fin 64) : ℕ := if d then 63 - i.val else i.val

theorem timeOf_rowN (d : Bool) {t : ℕ} (h : t < 64) : timeOf d (rowN d t) = t := by
  cases d
  · show t % 64 = t; omega
  · show 63 - (63 - t) = t; omega

theorem rowN_timeOf (d : Bool) (i : Fin 64) : rowN d (timeOf d i) = i := by
  have := i.isLt
  cases d
  · exact Fin.ext (by show i.val % 64 = i.val; omega)
  · exact Fin.ext (by show 63 - (63 - i.val) = i.val; omega)

theorem timeOf_lt (d : Bool) (i : Fin 64) : timeOf d i < 64 := by
  have := i.isLt
  cases d
  · exact this
  · show 63 - i.val < 64; omega

theorem sum_before (d : Bool) (f : Fin 64 → ℝ) {n : ℕ} (hn : n ≤ 64) :
    (∑ j, if timeOf d j < n then f j else 0) = ∑ s ∈ Finset.range n, f (rowN d s) := by
  rw [← Finset.sum_filter]
  refine Finset.sum_nbij' (timeOf d) (rowN d) ?_ ?_ ?_ ?_ ?_
  · intro j hj; exact Finset.mem_range.2 (Finset.mem_filter.1 hj).2
  · intro s hs
    have := Finset.mem_range.1 hs
    exact Finset.mem_filter.2 ⟨Finset.mem_univ _, by rw [timeOf_rowN d (by omega)]; exact this⟩
  · intro j _; exact rowN_timeOf d j
  · intro s hs; exact timeOf_rowN d (by have := Finset.mem_range.1 hs; omega)
  · intro j _; rw [rowN_timeOf]

theorem sum_all (d : Bool) (f : Fin 64 → ℝ) : ∑ j, f j = ∑ s ∈ Finset.range 64, f (rowN d s) := by
  rw [← sum_before d f (le_refl _)]
  exact Finset.sum_congr rfl fun j _ => (if_pos (timeOf_lt d j)).symm

theorem place_at2 (d : Bool) (h : Fin 2) (i j : Fin 64) : place d (at2 h j) < place d (at2 h i) ↔ timeOf d j < timeOf d i := by
  have := i.isLt
  have := j.isLt
  have := h.isLt
  cases d
  · show 64 * h.val + j.val < 64 * h.val + i.val ↔ j.val < i.val; omega
  · show 127 - (64 * h.val + j.val) < 127 - (64 * h.val + i.val) ↔ 63 - j.val < 63 - i.val; omega

/-- A chunk's rows of sixty-four, both heads' lanes side by side. -/
abbrev Rows := Fin 64 → Fin 128 → ℝ

/-- The rows stacked: the first head's above the second's, zero outside a head's own lanes. -/
def stacked (x : Rows) : Mat := fun i l => if i.val / 64 = l.val / 64 then x ⟨i.val % 64, by omega⟩ l else 0

/-- The running sums in the order of the direction. -/
def running (d : Bool) (lw : Rows) : Rows := fun i l => ∑ j, (if timeOf d j < timeOf d i + 1 then 1 else 0) * lw j l

/-- The decayed `kk`. -/
def qRows (d : Bool) (lw kk : Rows) : Rows := fun i l => kk i l * Real.exp (running d lw i l - lw i l)
/-- Rows with the decay taken off. -/
def offRows (d : Bool) (lw b : Rows) : Rows := fun i l => b i l * Real.exp (0 - running d lw i l)

/-- The products of `Q` rows with earlier `B` rows of the same head. -/
def lower (d : Bool) (Q B : Mat) : Mat := fun i j =>
  if i.val / 64 = j.val / 64 ∧ place d j < place d i then ∑ l, Q i l * B j l else 0

/-- The right-hand side of the chunk's triangular system. -/
def wR (d : Bool) (Q K V S : Mat) : Mat := fun i v => ∑ l, Q i l * S v l + ∑ j, lower d Q K i j * V j v

/-- Its solution. -/
def uR (d : Bool) (Q B K V S : Mat) : Mat := fun i v => 0 - ∑ j, inverse (lower d Q B) i j * wR d Q K V S j v

/-- The state with the chunk's additions. -/
def tR (d : Bool) (Q B K V S : Mat) : Mat := fun v k => S v k + (∑ i, uR d Q B K V S i v * B i k + ∑ i, V i v * K i k)

/-- The chunk. -/
def chunkR (d : Bool) (lw kk b k v : Rows) (S : Mat) : Mat := fun a c =>
  tR d (stacked (qRows d lw kk)) (stacked (offRows d lw b)) (stacked (offRows d lw k)) (stacked v) S a c
    * Real.exp (running d lw (rowN d 63) c)

/-- One head's rows in the order of the direction. -/
def inOrder (d : Bool) (h : Fin 2) (x : Rows) : ℕ → Fin 64 → ℝ := fun t c => x (rowN d t) (at2 h c)

theorem stacked_same (x : Rows) (h : Fin 2) (i c : Fin 64) : stacked x (at2 h i) (at2 h c) = x i (at2 h c) := by
  unfold stacked
  rw [if_pos (by rw [at2_div, at2_div])]
  exact congrArg (x · (at2 h c)) (Fin.ext (at2_mod h i))

theorem stacked_other (x : Rows) (h : Fin 2) (i : Fin 64) (l : Fin 128) (e : l.val / 64 ≠ h.val) : stacked x (at2 h i) l = 0 :=
  if_neg (by rw [at2_div]; exact Ne.symm e)

theorem stacked_other' (x : Rows) (h : Fin 2) (c : Fin 64) (i : Fin 128) (e : i.val / 64 ≠ h.val) : stacked x i (at2 h c) = 0 :=
  if_neg (by rw [at2_div]; exact e)

theorem running_row (d : Bool) (lw : Rows) (h : Fin 2) {t : ℕ} (ht : t < 64) (c : Fin 64) :
    running d lw (rowN d t) (at2 h c) = cum (inOrder d h lw) (t + 1) c := by
  unfold running cum inOrder
  rw [timeOf_rowN d ht, ← sum_before d (fun j => lw j (at2 h c)) (by omega)]
  exact Finset.sum_congr rfl fun j _ => by split <;> simp

theorem lower_inBlocks (d : Bool) (Q B : Mat) : InBlocks 64 (lower d Q B) := by
  intro i j e
  by_contra n
  exact e (if_neg fun h => n h.1)

theorem lower_earlier (d : Bool) (Q B : Mat) : Earlier d (lower d Q B) := by
  intro i j e
  by_contra n
  exact e (if_neg fun h => n h.2)

/-- A triangle's product with a stacked matrix, for one head. -/
theorem lower_sum (d : Bool) (q b : Rows) (h : Fin 2) {t : ℕ} (ht : t < 64) (f : Fin 128 → ℝ) :
    (∑ j, lower d (stacked q) (stacked b) (at2 h (rowN d t)) j * f j)
      = ∑ s ∈ Finset.range t, (∑ c, q (rowN d t) (at2 h c) * b (rowN d s) (at2 h c)) * f (at2 h (rowN d s)) := by
  rw [sum_head h _ fun x e => by
    rw [lower, if_neg (by rw [at2_div]; exact fun c => e c.1.symm), zero_mul]]
  rw [← sum_before d (fun j => (∑ c, q (rowN d t) (at2 h c) * b j (at2 h c)) * f (at2 h j)) (by omega)]
  refine Finset.sum_congr rfl fun j _ => ?_
  have p : place d (at2 h j) < place d (at2 h (rowN d t)) ↔ timeOf d j < t := by rw [place_at2, timeOf_rowN d ht]
  unfold lower
  by_cases e : timeOf d j < t
  · rw [if_pos ⟨by rw [at2_div, at2_div], p.2 e⟩, if_pos e, sum_head h _ fun x n => by rw [stacked_other _ _ _ _ n, zero_mul]]
    simp only [stacked_same]
  · rw [if_neg (fun c => e (p.1 c.2)), if_neg e, zero_mul]

/-- The solution's rows satisfy the triangular system. -/
theorem uR_row (d : Bool) (Q B K V S : Mat) (i v : Fin 128) :
    uR d Q B K V S i v = - wR d Q K V S i v - ∑ j, lower d Q B i j * uR d Q B K V S j v := by
  have e : uR d Q B K V S = - (inverse (lower d Q B) * wR d Q K V S) := by
    funext i v
    rw [Matrix.neg_apply, Matrix.mul_apply, uR, zero_sub]
  have h := inverse_inv (lower_inBlocks d Q B) (lower_earlier d Q B)
  have g : (1 + lower d Q B) * uR d Q B K V S = - wR d Q K V S := by
    rw [e, mul_neg, ← mul_assoc, h, one_mul]
  have k : uR d Q B K V S i v + (lower d Q B * uR d Q B K V S) i v = - wR d Q K V S i v := by
    rw [← Matrix.neg_apply, ← g, add_mul, one_mul, Matrix.add_apply]
  rw [Matrix.mul_apply] at k
  linarith

/-- **The chunk is its sixty-four steps**, for each of the pair's heads. -/
theorem chunkR_eq (d : Bool) (lw kk b k v : Rows) (S : Mat) (h : Fin 2) (a c : Fin 64) :
    chunkR d lw kk b k v S (at2 h a) (at2 h c)
      = steps (inOrder d h lw) (inOrder d h kk) (inOrder d h b) (inOrder d h k) (inOrder d h v)
          (fun a c => S (at2 h a) (at2 h c)) 64 a c := by
  have off : ∀ (x : Rows) (s : ℕ), s < 64 → ∀ c, offRows d lw x (rowN d s) (at2 h c)
      = inOrder d h x s c * Real.exp (-cum (inOrder d h lw) (s + 1) c) := by
    intro x s hs c
    rw [offRows, running_row d lw h hs, zero_sub]; rfl
  have q : ∀ s, s < 64 → ∀ c, qRows d lw kk (rowN d s) (at2 h c)
      = inOrder d h kk s c * Real.exp (cum (inOrder d h lw) s c) := by
    intro s hs c
    rw [qRows, running_row d lw h hs, cum, Finset.sum_range_succ]
    show _ * Real.exp (_ + lw (rowN d s) (at2 h c) - _) = _
    rw [add_sub_cancel_right]; rfl
  rw [chunk_steps (inOrder d h lw) (inOrder d h kk) (inOrder d h b) (inOrder d h k) (inOrder d h v)
    (fun t a => uR d (stacked (qRows d lw kk)) (stacked (offRows d lw b)) (stacked (offRows d lw k)) (stacked v) S
      (at2 h (rowN d t)) (at2 h a)) (fun a c => S (at2 h a) (at2 h c)) 64 ?_ 64 (le_refl _) a c]
  · rw [chunkR, running_row d lw h (by decide)]
    congr 1
    rw [tR, sum_head h _ fun x e => by rw [stacked_other' _ _ _ _ e, mul_zero],
      sum_head h (fun i => stacked v i (at2 h a) * stacked (offRows d lw k) i (at2 h c)) fun x e => by
        rw [stacked_other' _ _ _ _ e, zero_mul],
      sum_all d, sum_all d, ← Finset.sum_add_distrib]
    congr 1
    refine Finset.sum_congr rfl fun s hs => ?_
    have hs := Finset.mem_range.1 hs
    simp only [stacked_same, off _ s hs]
    rfl
  · intro t ht a
    rw [uR_row, wR, lower_sum d _ _ h ht, lower_sum d _ _ h ht,
      sum_head h _ fun x e => by rw [stacked_other _ _ _ _ e, zero_mul]]
    simp only [stacked_same, q t ht]
    congr 1
    · congr 2
      refine Finset.sum_congr rfl fun s hs => ?_
      have hs := Finset.mem_range.1 hs
      simp only [off _ s (by omega)]
      rfl
    · refine Finset.sum_congr rfl fun s hs => ?_
      have hs := Finset.mem_range.1 hs
      simp only [off _ s (by omega)]

end Cert.ScanMath
-- ==== Proof.ScanReal.lean ====
/- The chunk at the ideal numbers: on blocks of real numbers every step of the chain is the same step over the reals, the
   split products are whole products, and so the chunk is `ScanMath.chunkR`. -/
module

public import proofs.«01_k».proof.Proof.ScanMasks
public import proofs.«01_k».proof.Proof.ScanChunk
public import Idealize.ShloMosaic.Lib.MatmulPlain

@[expose] public section

set_option maxRecDepth 8192

noncomputable section

namespace Cert.KernelIdeal.Scan

open Cert.KernelIdeal Cert.KernelIdeal.Gen Cert.ScanMath
open Idealize.ShloMosaic Idealize.ShloMosaic.Pointwise Idealize.SL.Sem
open scoped BigOperators

/-- A matrix of real numbers as a block at the ideal numbers. -/
def up {n m : ℕ} (t : FTy) (A : Fin n → Fin m → ℝ) : FVec Ideal ⟨2, ![n, m]⟩ t := fun ix => ((A (ix 0) (ix 1) : ℝ) : EReal)

theorem coe_sum {ι : Type} [Fintype ι] (f : ι → ℝ) : ((∑ i, f i : ℝ) : EReal) = ∑ i, ((f i : ℝ) : EReal) := by
  classical
  have key : ∀ s : Finset ι, ((∑ i ∈ s, f i : ℝ) : EReal) = ∑ i ∈ s, ((f i : ℝ) : EReal) := by
    intro s
    induction s using Finset.induction_on with
    | empty => simp
    | insert a s h e => rw [Finset.sum_insert h, Finset.sum_insert h, EReal.coe_add, e]
  exact key Finset.univ

/-- Two blocks are equal when they are at every row and column. -/
theorem vec_ext {n m : ℕ} {t : FTy} {x y : FVec Ideal ⟨2, ![n, m]⟩ t} (h : ∀ i j, x (ix2 i j) = y (ix2 i j)) : x = y := by
  funext ix
  rw [← ix2_eta ix]
  exact h _ _

theorem up_apply {n m : ℕ} (t : FTy) (A : Fin n → Fin m → ℝ) (i : Fin n) (j : Fin m) : up t A (ix2 i j) = ((A i j : ℝ) : EReal) := rfl

theorem hi_up {n m : ℕ} (A : Fin n → Fin m → ℝ) : hi (up .f32 A) = up .bf16 A := rfl

theorem sub_up {n m : ℕ} (A B : Fin n → Fin m → ℝ) : subf (up .f32 A) (up .f32 B) = up .f32 fun i j => A i j - B i j := by
  refine vec_ext fun i j => ?_
  show ((A i j : ℝ) : EReal) - ((B i j : ℝ) : EReal) = _
  rw [← EReal.coe_sub]; rfl

theorem add_up {n m : ℕ} (A B : Fin n → Fin m → ℝ) : addf (up .f32 A) (up .f32 B) = up .f32 fun i j => A i j + B i j := by
  refine vec_ext fun i j => ?_
  show ((A i j : ℝ) : EReal) + ((B i j : ℝ) : EReal) = _
  rw [← EReal.coe_add]; rfl

theorem mul_up {n m : ℕ} (A B : Fin n → Fin m → ℝ) : mulf (up .f32 A) (up .f32 B) = up .f32 fun i j => A i j * B i j := by
  refine vec_ext fun i j => ?_
  show ((A i j : ℝ) : EReal) * ((B i j : ℝ) : EReal) = _
  rw [← EReal.coe_mul]; rfl

theorem exp_up {n m : ℕ} (A : Fin n → Fin m → ℝ) : exp (up .f32 A) = up .f32 fun i j => Real.exp (A i j) := rfl

theorem rest_up {n m : ℕ} (A : Fin n → Fin m → ℝ) : rest (up .f32 A) = up .f32 fun _ _ => 0 :=
  (sub_up A A).trans (congrArg (up .f32) (funext fun _ => funext fun _ => sub_self _))

theorem zero64_up : (zero64 : FVec Ideal S64x128 .f32) = up (n := 64) (m := 128) .f32 fun _ _ => 0 :=
  vec_ext fun _ _ => Ideal.ofBits_zero_f32
theorem zero128_up : (zero128 : FVec Ideal S128x128 .f32) = up (n := 128) (m := 128) .f32 fun _ _ => 0 :=
  vec_ext fun _ _ => Ideal.ofBits_zero_f32

/-- A plain product of real blocks into zeros. -/
theorem plain_up {M K N : ℕ} (prec : Option ContractPrecision) (t : FTy) (A : Fin M → Fin K → ℝ) (B : Fin K → Fin N → ℝ) :
    matmul (DotDims.plain M K N) prec (up t A) (up .bf16 B) (constant ⟨2, ![M, N]⟩ .f32 0x00000000#32)
      = up .f32 fun i j => ∑ k, A i k * B k j := by
  refine vec_ext fun i j => ?_
  refine (Ideal.matmul_plain_apply prec _ _ _ i j).trans ?_
  rw [up_apply, coe_sum]
  refine (congrArg (· + _) (Ideal.ofBits_zero_f32)).trans ((zero_add _).trans ?_)
  exact Finset.sum_congr rfl fun k _ => (EReal.coe_mul _ _).symm

/-- A product with the right factor transposed. -/
theorem trans_up {M K N : ℕ} (prec : Option ContractPrecision) (A : Fin M → Fin K → ℝ) (B : Fin N → Fin K → ℝ) :
    matmul (DotDims.transposedRhs M K N) prec (up .bf16 A) (up .bf16 B) (constant ⟨2, ![M, N]⟩ .f32 0x00000000#32)
      = up .f32 fun i j => ∑ k, A i k * B j k := by
  refine vec_ext fun i j => ?_
  refine (Ideal.matmul_transposedRhs_apply prec _ _ _ i j).trans ?_
  rw [up_apply, coe_sum]
  refine (congrArg (· + _) (Ideal.ofBits_zero_f32)).trans ((zero_add _).trans ?_)
  exact Finset.sum_congr rfl fun k _ => (EReal.coe_mul _ _).symm

/-- The same at a row where the left factor is real, whatever its other rows hold. -/
theorem trans_row {M K N : ℕ} (prec : Option ContractPrecision) (A : FVec Ideal ⟨2, ![M, K]⟩ .bf16) (B : Fin N → Fin K → ℝ) (i : Fin M) (a : Fin K → ℝ)
    (h : ∀ k, A (ix2 i k) = ((a k : ℝ) : EReal)) (j : Fin N) :
    matmul (DotDims.transposedRhs M K N) prec A (up .bf16 B) (constant ⟨2, ![M, N]⟩ .f32 0x00000000#32) (ix2 i j)
      = ((∑ k, a k * B j k : ℝ) : EReal) := by
  refine (Ideal.matmul_transposedRhs_apply prec _ _ _ i j).trans ?_
  rw [coe_sum]
  refine (congrArg (· + _) (Ideal.ofBits_zero_f32)).trans ((zero_add _).trans ?_)
  exact Finset.sum_congr rfl fun k _ => (congrArg (· * ((B j k : ℝ) : EReal)) (h k)).trans (EReal.coe_mul _ _).symm

/-- A square matrix as a block. -/
def upM (t : FTy) (A : Mat) : FVec Ideal S128x128 t := up t fun i j => A i j

theorem upM_apply (t : FTy) (A : Mat) (i j : Fin 128) : upM t A (ix2 i j) = ((A i j : ℝ) : EReal) := rfl

theorem select_if {α : Type} (P : Prop) [Decidable P] (a b : α) : Scalar.select (if P then 1#1 else 0#1) a b = if P then a else b := by
  by_cases p : P <;> simp [p, Scalar.select]

theorem mm_up (A B : Mat) : mm (upM .bf16 A) (upM .bf16 B) = upM .f32 (A * B) := plain_up none .bf16 A B

theorem add_mat (A B : Mat) : addf (upM .f32 A) (upM .f32 B) = upM .f32 (A + B) := add_up A B
theorem sub_mat (A B : Mat) : subf (upM .f32 A) (upM .f32 B) = upM .f32 (A - B) := sub_up A B
theorem hi_mat (A : Mat) : hi (upM .f32 A) = upM .bf16 A := rfl
theorem rest_mat (A : Mat) : rest (upM .f32 A) = upM .f32 (0 : Mat) := rest_up A

theorem mm3_up (A B : Mat) : mm3 (upM .f32 A) (upM .f32 B) = upM .f32 (A * B) := by
  rw [mm3, rest_mat, rest_mat, hi_mat, hi_mat, hi_mat, mm_up, mm_up, mm_up, add_mat, add_mat, mul_zero, zero_mul, add_zero, add_zero]

theorem mm2_up (A B : Mat) : mm2 (upM .bf16 A) (upM .f32 B) = upM .f32 (A * B) := by
  rw [mm2, rest_mat, hi_mat, hi_mat, mm_up, mm_up, add_mat, mul_zero, add_zero]

theorem inv4_up (N : Mat) : inv4 (upM .f32 (1 : Mat)) (upM .f32 N) = upM .f32 ((1 - N) + (1 - N) * (N * N)) := by
  rw [inv4, sub_mat, hi_mat, hi_mat, mm_up, mm2_up, add_mat]

theorem inv8_up (N : Mat) : inv8 (upM .f32 (1 : Mat)) (upM .f32 N) = upM .f32 (eighth N) := by
  rw [inv8, inv4_up, hi_mat, mm_up, mm3_up, mm3_up, add_mat]; rfl

theorem grow_up (X Lo : Mat) : grow (upM .f32 X) (upM .f32 Lo) = upM .f32 (doubled X Lo) := by
  rw [grow, hi_mat, mm2_up, mm3_up, sub_mat]; rfl

/-- A matrix masked. -/
theorem mask_up (msk : IVec S128x128 1) (P : Fin 128 → Fin 128 → Prop) [∀ i j, Decidable (P i j)]
    (h : ∀ i j, msk (ix2 i j) = if P i j then 1#1 else 0#1) (A : Mat) :
    select msk (upM .f32 A) zero128 = upM .f32 fun i j => if P i j then A i j else 0 := by
  rw [zero128_up]
  refine vec_ext fun i j => ?_
  show Scalar.select (msk (ix2 i j)) ((A i j : ℝ) : EReal) ((0 : ℝ) : EReal) = (((if P i j then A i j else 0 : ℝ)) : EReal)
  rw [h, select_if]
  by_cases p : P i j <;> simp [p]

theorem eye_up : (mEye : FVec Ideal S128x128 .f32) = upM .f32 (1 : Mat) := by
  refine vec_ext fun i j => ?_
  show (((extui 32 (cmpi .eq rowNo colNo) natLt_1_32 (ix2 i j)).toInt : ℝ) : EReal) = _
  rw [eyeInt_apply, upM_apply, Matrix.one_apply]
  by_cases e : i = j
  · rw [if_pos e, if_pos e]; norm_num
  · rw [if_neg e, if_neg e]; norm_num

theorem invAll_up (L : Mat) : invAll mEye m8 m16 m32 m64 (upM .f32 L) = upM .f32 (inverse L) := by
  rw [invAll, eye_up,
    mask_up m8 _ m8_apply L,
    mask_up (ring m16 m8) _ (fun i j => ring_apply _ _ _ _ _ (m16_apply i j) (m8_apply i j)) L,
    mask_up (ring m32 m16) _ (fun i j => ring_apply _ _ _ _ _ (m32_apply i j) (m16_apply i j)) L,
    mask_up (ring m64 m32) _ (fun i j => ring_apply _ _ _ _ _ (m64_apply i j) (m32_apply i j)) L]
  exact (congrArg₂ grow (congrArg₂ grow (congrArg₂ grow (inv8_up (inBlk 8 L)) rfl) rfl) rfl).trans
    ((congrArg₂ grow (congrArg₂ grow (grow_up _ (between 8 L)) rfl) rfl).trans
      ((congrArg₂ grow (grow_up _ (between 16 L)) rfl).trans (grow_up _ (between 32 L))))

end Cert.KernelIdeal.Scan
-- ==== Proof.ScanPre.lean ====
/- The precondition of the scan's claim, read as: the arguments that the states are made of hold real numbers. -/
module

public import proofs.«01_k».proof.Proof.ScanReal
public import proofs.«01_k».proof.Proof.Gen.Pre_finite
public import Idealize.ShloMosaic.Lib.ReduceAll

@[expose] public section

noncomputable section

namespace Cert.Pre_finite.Scan

open Cert.Pre_finite Cert.Pre_finite.Gen Cert.KernelIdeal.Scan
open Idealize.ShloMosaic

/-- A conjunction bit is set only if both bits are. -/
theorem and_one {a b : BitVec 1} (h : IntOp.andi a b = 1#1) : a = 1#1 ∧ b = 1#1 := by
  revert h; revert a b; decide

/-- A bit that says a magnitude lies below infinity says that the number is real. -/
theorem real_of_bit (x : EReal) (h : FloatOps.cmpf (F := Ideal) (φ := .f32) .olt (FloatOps.hostAbsf (F := Ideal) (φ := .f32) x)
    (FloatOps.ofBits (F := Ideal) .f32 0x7F800000#32) = 1#1) : ((x.toReal : ℝ) : EReal) = x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  refine EReal.coe_toReal (fun e => ?_) (fun e => ?_)
  · subst e; simp [Ideal.cmp] at h'
  · subst e; simp [Ideal.cmp] at h'

/-- Every magnitude below infinity. -/
def allFinite (x : FVec Ideal S8192x512 .f32) : IVec S_ 1 :=
  Host.reduce IntOp.andi
    (cmpf .olt (Host.absf x) (broadcastInDim S8192x512 ![] bcast_S_S8192x512 (constant (F := Ideal) S_ .f32 0x7F800000#32)))
    (constantI S_ 1 1#1) reducesTo_S8192x512_S_d0_1 h_S_

/-- Then the array is one of real numbers. -/
theorem real_of_all (x : FVec Ideal S8192x512 .f32) (d : S_.Idx) (h : allFinite x d = 1#1) :
    ∃ A : Fin 8192 → Fin 512 → ℝ, x = up .f32 A := by
  refine ⟨fun i l => EReal.toReal (x (ValueIdx.ix2 i l)), funext fun y => ?_⟩
  have hy := Host.reduce_andi_all _ _ _ _ _ h y
  have e := real_of_bit (x y) hy
  rw [up]
  have ey : ValueIdx.ix2 (y 0) (y 1) = y := (ValueIdx.eq_ix2 y).symm
  exact e.symm.trans (congrArg (fun z => ((EReal.toReal (x z) : ℝ) : EReal)) ey.symm)

/-- The precondition: the eight arguments beside `r` and the bonus are arrays of real numbers. -/
theorem reals_of_pre (a0 a1 a2 a3 a4 a5 a6 a7 a8 a9 : FVec Ideal S8192x512 .f32)
    (h : Cert.Pre_finite.fn (F := Ideal) a0 a1 a2 a3 a4 a5 a6 a7 a8 a9 = fun _ => 1#1) :
    (∃ A : Fin 8192 → Fin 512 → ℝ, a1 = up .f32 A) ∧ (∃ A : Fin 8192 → Fin 512 → ℝ, a2 = up .f32 A)
    ∧ (∃ A : Fin 8192 → Fin 512 → ℝ, a4 = up .f32 A) ∧ (∃ A : Fin 8192 → Fin 512 → ℝ, a5 = up .f32 A)
    ∧ (∃ A : Fin 8192 → Fin 512 → ℝ, a6 = up .f32 A) ∧ (∃ A : Fin 8192 → Fin 512 → ℝ, a7 = up .f32 A)
    ∧ (∃ A : Fin 8192 → Fin 512 → ℝ, a8 = up .f32 A) ∧ (∃ A : Fin 8192 → Fin 512 → ℝ, a9 = up .f32 A) := by
  have e := congrFun h (fun d => d.elim0)
  unfold Cert.Pre_finite.fn fn_part1 fn_part2 at e
  obtain ⟨e, h9⟩ := and_one e
  obtain ⟨e, h8⟩ := and_one e
  obtain ⟨e, h7⟩ := and_one e
  obtain ⟨e, h6⟩ := and_one e
  obtain ⟨e, h5⟩ := and_one e
  obtain ⟨e, h4⟩ := and_one e
  obtain ⟨h1, h2⟩ := and_one e
  exact ⟨real_of_all _ _ h1, real_of_all _ _ h2, real_of_all _ _ h4, real_of_all _ _ h5, real_of_all _ _ h6, real_of_all _ _ h7,
    real_of_all _ _ h8, real_of_all _ _ h9⟩

end Cert.Pre_finite.Scan

end
-- ==== Proof.PostClaims.lean ====
/- The claims about the mixing of the two branches: the frames of the kernel over both number systems and of the reference, and, where the
   recurrent branch's arrays hold real numbers, the equality of the residual stream with the reference's at the ideal numbers. -/
module

public import proofs.«01_k».proof.Defs
public import proofs.«01_k».proof.Proof.PostBitsFrame
public import proofs.«01_k».proof.Proof.PostValue
public import proofs.«01_k».proof.Proof.ScanPre
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Pre_y_finite
public import Idealize.ShloMosaic.Lib.ReduceAll

@[expose] public section

noncomputable section

namespace Cert.Proof

open Idealize.ShloMosaic Idealize.ShloMosaic.TcCoe Idealize.SL.Sem
open Cert.Pre_finite.Scan (and_one real_of_bit)

/-- The mixing's frame over the bit-exact numbers. -/
theorem post_frame_bits : Cert.quiescent_Kernel4 (hKernel4 := Cert.Kernel4.Gen.facts) := fun m ρ _ => Cert.Kernel4.Gen.frame m ρ

/-- The mixing's frame over the ideal numbers. -/
theorem post_frame_ideal : Cert.quiescent_Kernel4Ideal (hKernel4Ideal := Cert.Kernel4Ideal.Gen.facts) := fun m ρ _ => Cert.Kernel4Ideal.Gen.frame m ρ

/-- The same where the recurrent branch is finite. -/
theorem post_frame_ideal_pre : Cert.quiescent_Kernel4Ideal_pre_y_finite (hKernel4Ideal := Cert.Kernel4Ideal.Gen.facts)
    (hPre_y_finite := Cert.Pre_y_finite.Gen.facts) := fun m ρ _ => Cert.Kernel4Ideal.Gen.frame m ρ

/-- The reference's frame. -/
theorem post_frame_ref : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The same where the recurrent branch is finite. -/
theorem post_frame_ref_pre : Cert.quiescent_Reference4Ideal_pre_y_finite (hReference4Ideal := Cert.Reference4Ideal.Gen.facts)
    (hPre_y_finite := Cert.Pre_y_finite.Gen.facts) := fun m ρ _ => post_frame_ref m ρ trivial

open Cert.Pre_y_finite Cert.Pre_y_finite.Gen in
/-- Context rows whose magnitudes all lie below infinity are rows of real numbers. -/
theorem ctx_real (x : FVec Ideal S8192x512 .f32) (d : S_.Idx)
    (h : Host.reduce IntOp.andi
      (cmpf .olt (Host.absf x) (broadcastInDim S8192x512 ![] bcast_S_S8192x512 (constant (F := Ideal) S_ .f32 0x7F800000#32)))
      (constantI S_ 1 1#1) reducesTo_S8192x512_S_d0_1 h_S_ d = 1#1) :
    ∃ y : Fin 8192 → Fin 512 → ℝ, ∀ n j, x (ValueIdx.ix2 n j) = ((y n j : ℝ) : EReal) :=
  ⟨fun n j => EReal.toReal (x (ValueIdx.ix2 n j)), fun n j => (real_of_bit _ (Host.reduce_andi_all _ _ _ _ _ h (ValueIdx.ix2 n j))).symm⟩

open Cert.Pre_y_finite Cert.Pre_y_finite.Gen in
/-- Latent rows whose magnitudes all lie below infinity are rows of real numbers. -/
theorem lat_real (x : FVec Ideal S4096x512 .f32) (d : S_.Idx)
    (h : Host.reduce IntOp.andi
      (cmpf .olt (Host.absf x) (broadcastInDim S4096x512 ![] bcast_S_S4096x512 (constant (F := Ideal) S_ .f32 0x7F800000#32)))
      (constantI S_ 1 1#1) reducesTo_S4096x512_S_d0_1 h_S_ d = 1#1) :
    ∃ y : Fin 4096 → Fin 512 → ℝ, ∀ n j, x (ValueIdx.ix2 n j) = ((y n j : ℝ) : EReal) :=
  ⟨fun n j => EReal.toReal (x (ValueIdx.ix2 n j)), fun n j => (real_of_bit _ (Host.reduce_andi_all _ _ _ _ _ h (ValueIdx.ix2 n j))).symm⟩

/-- At the ideal numbers, from a finite recurrent branch, the kernel and the reference leave the same residual stream. -/
theorem post_value : Cert.algebraic_Kernel4Ideal_Reference4Ideal_pre_y_finite (hKernel4Ideal := Cert.Kernel4Ideal.Gen.facts)
    (hReference4Ideal := Cert.Reference4Ideal.Gen.facts) (hPre_y_finite := Cert.Pre_y_finite.Gen.facts) := by
  intro m g m' g' h hargs
  have hbits := congrFun (h 0) (fun d => d.elim0)
  unfold Cert.Pre_y_finite.fn at hbits
  obtain ⟨hc, hl⟩ := and_one hbits
  have hctx := ctx_real _ _ hc
  have hlat := lat_real _ _ hl
  obtain ⟨h0, h1, h2, h3, h4, h5, h6, h7, h8, h9, h10, h11, h12, h13, h14, h15, h16, h17, _⟩ := hargs 0
  have same : Cert.Kernel4Ideal.Post.Same m 0 (StableHlo.launchContents m' 0) :=
    ⟨h0, h1, h2, h3, h4, h5, h6, h7, h8, h9, h10, h11, h12, h13, h14, h15, h16, h17⟩
  refine ⟨fun _ => Cert.Reference4Ideal.Value.res_main_v162 (StableHlo.launchContents m' 0), ?_, ?_⟩
  · refine (θ_run Cert.Kernel4Ideal.defs _ _).mono (fun r hr c => ⟨hr.1 c, hr.2 c⟩)
      (θ_run_and (Cert.Kernel4Ideal.Post.run_result m g (fun _ => StableHlo.launchContents m' 0) (fun c => ?_) (fun c => ?_) fun c => ?_)
        (Cert.Kernel4Ideal.Gen.unchanged m g))
    · obtain rfl : c = 0 := Subsingleton.elim _ _
      exact same
    · obtain rfl : c = 0 := Subsingleton.elim _ _
      exact hctx
    · obtain rfl : c = 0 := Subsingleton.elim _ _
      exact hlat
  · refine (θ_run Cert.Reference4Ideal.defs _ _).mono (fun r hr c => ⟨(hr c).1.trans ?_, (hr c).2⟩) (Cert.Reference4Ideal.Value.run (F := Ideal) m' g')
    obtain rfl : c = 0 := Subsingleton.elim _ _
    rfl

end Cert.Proof

end
-- ==== Proof.ProjValue.lean ====
/- The input projection's result array at the ideal numbers is the reference's: each grid point writes 512 rows, the first sixteen
   points the context tokens' and the other eight the latent tokens'. -/
module

public import proofs.«01_k».proof.Proof.ProjMath
public import proofs.«01_k».proof.Proof.Gen.Kernel3Ideal.Frame
public import Idealize.ShloMosaic.Lib.StableHlo.RunRead
public import Idealize.ShloMosaic.Lib.Pipeline.Value
public import Idealize.ShloMosaic.Lib.VecWindow

@[expose] public section

set_option maxRecDepth 16384
set_option maxHeartbeats 4000000

noncomputable section

namespace Cert.Kernel3Ideal.Proj

open Cert.Kernel3Ideal Cert.Kernel3Ideal.Gen
open Idealize.ShloMosaic Idealize.ShloMosaic.TcCoe Idealize.ShloMosaic.Pointwise Idealize.SL.Sem
open Idealize.ShloMosaic.StableHlo Idealize.ShloMosaic.Pipeline

/-! ### The arrays the call is handed -/

theorem lines_0 (W : Valuation τ sig (Elt Ideal)) : StableHlo.after (hostOps0 (F := Ideal)) W (Proc.devRef .tc main_v0)
    = shapeCast S8192x1024 (W (Proc.devRef .tc main_arg0) : FVec Ideal S32x256x1024 .f32) shapeCasts_S32x256x1024_S8192x1024 := by
  after_reads_simp; rfl

theorem lines_1 (W : Valuation τ sig (Elt Ideal)) : StableHlo.after (hostOps0 (F := Ideal)) W (Proc.devRef .tc main_v1)
    = shapeCast S4096x1024 (W (Proc.devRef .tc main_arg1) : FVec Ideal S4x1024x1024 .f32) shapeCasts_S4x1024x1024_S4096x1024 := by
  after_reads_simp; rfl

theorem lines_2 (W : Valuation τ sig (Elt Ideal)) : StableHlo.after (hostOps0 (F := Ideal)) W (Proc.devRef .tc main_v2)
    = shapeCast S8x1x6144 (W (Proc.devRef .tc main_arg2) : FVec Ideal S8x6144 .f32) shapeCasts_S8x6144_S8x1x6144 := by
  after_reads_simp; rfl

theorem lines_3 (W : Valuation τ sig (Elt Ideal)) : StableHlo.after (hostOps0 (F := Ideal)) W (Proc.devRef .tc main_v3)
    = broadcastInDim S1x1024 ![1] bcast_S1024_S1x1024_1 (W (Proc.devRef .tc main_arg3) : FVec Ideal S1024 .f32) := by
  after_reads_simp

theorem lines_5 (W : Valuation τ sig (Elt Ideal)) : StableHlo.after (hostOps0 (F := Ideal)) W (Proc.devRef .tc main_v5)
    = (truncf .bf16 (extractStridedSlice S1024x2432 ![0, 0] (W (Proc.devRef .tc main_arg4) : FVec Ideal S1024x4480 .f32) slices_S1024x4480_S1024x2432_0_0) bitsLt_bf16_f32 :
        FVec Ideal S1024x2432 .bf16) := by
  after_reads_simp

variable (m : (ℓ : Loc nD τ sig) → Buf (Elt Ideal) ℓ)

abbrev A0 (c : Dev nD) : FVec Ideal S32x256x1024 .f32 := m ((c : Thread nD τ).loc main_arg0)
abbrev A1 (c : Dev nD) : FVec Ideal S4x1024x1024 .f32 := m ((c : Thread nD τ).loc main_arg1)
abbrev A2 (c : Dev nD) : FVec Ideal S8x6144 .f32 := m ((c : Thread nD τ).loc main_arg2)
abbrev A3 (c : Dev nD) : FVec Ideal S1024 .f32 := m ((c : Thread nD τ).loc main_arg3)
abbrev A4 (c : Dev nD) : FVec Ideal S1024x4480 .f32 := m ((c : Thread nD τ).loc main_arg4)

theorem ctx_rows (c : Dev nD) (n : Fin 8192) (k : Fin 1024) :
    (V m c main_v0 : FVec Ideal S8192x1024 .f32) (ix2 n k) = A0 m c (ix3 ⟨n.val / 256, by omega⟩ ⟨n.val % 256, by omega⟩ k) := by
  refine (congrFun (lines_0 fun b => m (c, b)) (ix2 n k)).trans ?_
  pointwise

theorem lat_rows (c : Dev nD) (n : Fin 4096) (k : Fin 1024) :
    (V m c main_v1 : FVec Ideal S4096x1024 .f32) (ix2 n k) = A1 m c (ix3 ⟨n.val / 1024, by omega⟩ ⟨n.val % 1024, by omega⟩ k) := by
  refine (congrFun (lines_1 fun b => m (c, b)) (ix2 n k)).trans ?_
  pointwise

theorem mod_rows (c : Dev nD) (n : Fin 8) (k : Fin 6144) :
    (V m c main_v2 : FVec Ideal S8x1x6144 .f32) (ix3 n 0 k) = A2 m c (ix2 n k) := by
  refine (congrFun (lines_2 fun b => m (c, b)) (ix3 n 0 k)).trans ?_
  pointwise

theorem norm_row (c : Dev nD) (k : Fin 1024) : (V m c main_v3 : FVec Ideal S1x1024 .f32) (ix2 0 k) = A3 m c (ix1 k) := by
  refine (congrFun (lines_3 fun b => m (c, b)) (ix2 0 k)).trans ?_
  pointwise

theorem weights (c : Dev nD) (k : Fin 1024) (d : Fin 2432) :
    (V m c main_v5 : FVec Ideal S1024x2432 .bf16) (ix2 k d) = A4 m c (ix2 k ⟨d.val, by omega⟩) := by
  refine (congrFun (lines_5 fun b => m (c, b)) (ix2 k d)).trans ?_
  pointwise

/-! ### The blocks a point reads -/

theorem point_lt (t : Fin cfg0.N) : t.val < 24 := lt_of_lt_of_eq t.isLt N_0

/-- The row of the modulation table that point `t` reads. -/
def modRow (t : ℕ) : ℕ := if t < 16 then 0 else 1 + (t - 16) / 2

theorem index_0 : ∀ t : Fin cfg0.N, win0_0.index t 0 = min t.val 15 ∧ win0_0.index t 1 = 0 := by decide +kernel
theorem index_1 : ∀ t : Fin cfg0.N, win0_1.index t 0 = t.val - 16 ∧ win0_1.index t 1 = 0 := by decide +kernel
theorem index_2 : ∀ t : Fin cfg0.N, win0_2.index t 0 = modRow t.val ∧ win0_2.index t 1 = 0 ∧ win0_2.index t 2 = 0 := by decide +kernel
theorem index_3 : ∀ t : Fin cfg0.N, win0_3.index t 0 = 0 ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = t.val ∧ win0_5.index t 1 = 0 := by decide +kernel
theorem coord_val : ∀ t : Fin cfg0.N, (grid0.coords t 0).val = t.val := by decide +kernel

theorem block_0 (c : Dev nD) (t : Fin cfg0.N) (r : Fin 512) (k : Fin 1024) (n : Fin 8192) (hn : n.val = min t.val 15 * 512 + r.val) :
    (iblk m c 0 t : Vec Ideal S512x1024 .f32) (ix2 r k) = A0 m c (ix3 ⟨n.val / 256, by omega⟩ ⟨n.val % 256, by omega⟩ k) := by
  refine Eq.trans (congrArg (V m c main_v0 : FVec Ideal S8192x1024 .f32) (funext fun a => Fin.ext ?_)) (ctx_rows m c n k)
  have hi := index_0 t
  match a with
  | ⟨0, _⟩ => show win0_0.index t 0 * 512 + 1 * r.val = n.val; rw [hi.1]; omega
  | ⟨1, _⟩ => show win0_0.index t 1 * 1024 + 1 * k.val = k.val; rw [hi.2]; omega

theorem block_1 (c : Dev nD) (t : Fin cfg0.N) (r : Fin 512) (k : Fin 1024) (n : Fin 4096) (hn : n.val = (t.val - 16) * 512 + r.val) :
    (iblk m c 1 t : Vec Ideal S512x1024 .f32) (ix2 r k) = A1 m c (ix3 ⟨n.val / 1024, by omega⟩ ⟨n.val % 1024, by omega⟩ k) := by
  refine Eq.trans (congrArg (V m c main_v1 : FVec Ideal S4096x1024 .f32) (funext fun a => Fin.ext ?_)) (lat_rows m c n k)
  have hi := index_1 t
  match a with
  | ⟨0, _⟩ => show win0_1.index t 0 * 512 + 1 * r.val = n.val; rw [hi.1]; omega
  | ⟨1, _⟩ => show win0_1.index t 1 * 1024 + 1 * k.val = k.val; rw [hi.2]; omega

theorem block_2 (c : Dev nD) (t : Fin cfg0.N) (k : Fin 6144) (n : Fin 8) (hn : n.val = modRow t.val) :
    (iblk m c 2 t : Vec Ideal S1x1x6144 .f32) (ix3 0 0 k) = A2 m c (ix2 n k) := by
  refine Eq.trans (congrArg (V m c main_v2 : FVec Ideal S8x1x6144 .f32) (funext fun a => Fin.ext ?_)) (mod_rows m c n k)
  have hi := index_2 t
  match a with
  | ⟨0, _⟩ => show win0_2.index t 0 * 1 + 1 * 0 = n.val; rw [hi.1]; omega
  | ⟨1, _⟩ => show win0_2.index t 1 * 1 + 1 * 0 = 0; rw [hi.2.1]
  | ⟨2, _⟩ => show win0_2.index t 2 * 6144 + 1 * k.val = k.val; rw [hi.2.2]; omega

theorem block_3 (c : Dev nD) (t : Fin cfg0.N) (k : Fin 1024) : (iblk m c 3 t : Vec Ideal S1x1024 .f32) (ix2 0 k) = A3 m c (ix1 k) := by
  refine Eq.trans (congrArg (V m c main_v3 : FVec Ideal S1x1024 .f32) (funext fun a => Fin.ext ?_)) (norm_row m c k)
  have hi := index_3 t
  match a with
  | ⟨0, _⟩ => show win0_3.index t 0 * 1 + 1 * 0 = 0; rw [hi.1]
  | ⟨1, _⟩ => show win0_3.index t 1 * 1024 + 1 * k.val = k.val; rw [hi.2]; omega

theorem block_4 (c : Dev nD) (t : Fin cfg0.N) (k : Fin 1024) (d : Fin 2432) :
    (iblk m c 4 t : Vec Ideal S1024x2432 .bf16) (ix2 k d) = A4 m c (ix2 k ⟨d.val, by omega⟩) := by
  refine Eq.trans (congrArg (V m c main_v5 : FVec Ideal S1024x2432 .bf16) (funext fun a => Fin.ext ?_)) (weights m c k d)
  have hi := index_4 t
  match a with
  | ⟨0, _⟩ => show win0_4.index t 0 * 1024 + 1 * k.val = k.val; rw [hi.1]; omega
  | ⟨1, _⟩ => show win0_4.index t 1 * 2432 + 1 * d.val = d.val; rw [hi.2]; omega

/-! ### The result -/

theorem rowProj_congr {X Y N S B W : Fin 1024 → EReal} (h : ∀ k, X k = Y k) : rowProj X N S B W = rowProj Y N S B W := by
  rw [show X = Y from funext h]

/-- The reference's result at the launch memory's arguments. -/
def goal (c : Dev nD) : FVec Ideal S12288x2432 .f32 := refVal (A0 m c) (A1 m c) (A2 m c) (A3 m c) (A4 m c)

theorem goal_ctx (c : Dev nD) (n : Fin 12288) (n' : Fin 8192) (hn : n.val = n'.val) (d : Fin 2432) :
    goal m c (ix2 n d) = refCtx (A0 m c) (A2 m c) (A3 m c) (A4 m c) (ix2 n' d) := by
  refine concatenate_pair_apply_left (t := S12288x2432) (s₁ := Cert.Reference3Ideal.S8192x2432) (s₂ := Cert.Reference3Ideal.S4096x2432) 0 _ _ Cert.Reference3Ideal.Gen.concatenates_S8192x2432_S4096x2432_S12288x2432_d0 (ix2 n d) rfl (ix2 n' d) fun b => ?_
  match b with | ⟨0, _⟩ => exact hn.symm | ⟨1, _⟩ => rfl

theorem goal_lat (c : Dev nD) (n : Fin 12288) (n' : Fin 4096) (hn : n.val = 8192 + n'.val) (d : Fin 2432) :
    goal m c (ix2 n d) = refLat (A1 m c) (A2 m c) (A3 m c) (A4 m c) (ix2 n' d) := by
  refine concatenate_pair_apply_right (t := S12288x2432) (s₁ := Cert.Reference3Ideal.S8192x2432) (s₂ := Cert.Reference3Ideal.S4096x2432) 0 _ _ Cert.Reference3Ideal.Gen.concatenates_S8192x2432_S4096x2432_S12288x2432_d0 (ix2 n d) rfl rfl (ix2 n' d) (fun b hb => ?_) ?_
  · match b, hb with
    | ⟨0, _⟩, hb => exact absurd rfl hb
    | ⟨1, _⟩, _ => rfl
  · show n'.val + 8192 = n.val
    omega

/-- A window loaded whole is its contents. -/
theorem ld_full {s : Shape} {e : EltTy} (x : Vec Ideal s e) {off : Fin s.rank → ℕ} (inb : ∀ a, off a + s.size a ≤ s.size a) :
    View.ld x (Rect.unit off s.size inb) = x :=
  funext fun z => congrArg x (Rect.emb_unit_full inb z)

/-- A window stored whole is what was stored. -/
theorem canon_full {s : Shape} {e : EltTy} {off : Fin s.rank → ℕ} (inb : ∀ a, off a + s.size a ≤ s.size a) (w : (Rect.unit off s.size inb).shape.Idx → Elt Ideal e) :
    View.canon [(⟨Rect.unit off s.size inb, w⟩ : View.Piece (Elt Ideal) s e)] = w := by
  funext y
  refine Eq.trans (congrArg _ (Rect.emb_unit_full inb y).symm) (View.canon_cons_emb (Rect.unit off s.size inb) w [] y)

theorem out_eq (i : grid0.Coords) (x0 x1 : Vec Ideal S512x1024 .f32) (x2 : Vec Ideal S1x1x6144 .f32) (x3 : Vec Ideal S1x1024 .f32)
    (x4 : Vec Ideal S1024x2432 .bf16) : out0_5 i x0 x1 x2 x3 x4 = k0_pay1 i x2 x0 x1 x3 x4 := by
  unfold out0_5
  rw [ld_full x0, ld_full x1, ld_full x2, ld_full x3, ld_full x4]
  exact canon_full (s := S512x2432) inb_S512x2432_S512x2432_0_0 _

/-- What a point leaves is its rows of the reference. -/
theorem point_apply (c : Dev nD) (t : Fin cfg0.N) (r : Fin 512) (d : Fin 2432) (n : Fin 12288) (hn : n.val = t.val * 512 + r.val) :
    k0_pay1 (grid0.coords t) (iblk m c 2 t) (iblk m c 0 t) (iblk m c 1 t) (iblk m c 3 t) (iblk m c 4 t) (ix2 r d) = goal m c (ix2 n d) := by
  have ht := point_lt t
  have hc := coord_val t
  by_cases h : t.val < 16
  · have hm : modRow t.val = 0 := if_pos h
    rw [tile_apply _ _ _ _ _ _ (iblk m c 0 t) (WordCmp.select_of_eq_one ((WordCmp.cmpi_slt_ofNat_eq_one_iff (w := 32) (a := (grid0.coords t 0).val) (b := 16) (by rw [hc]; omega) (by decide)).mpr (by omega)) _ _),
      goal_ctx m c n ⟨n.val, by omega⟩ rfl, refCtx_apply]
    simp only [block_2 m c t _ 0 hm.symm, block_3, block_4]
    exact rowProj_congr (fun k => block_0 m c t r k ⟨n.val, by omega⟩ (by show n.val = min t.val 15 * 512 + r.val; omega))
  · have hm : modRow t.val = 1 + (t.val - 16) / 2 := if_neg h
    rw [tile_apply _ _ _ _ _ _ (iblk m c 1 t) (WordCmp.select_of_eq_zero ((WordCmp.cmpi_slt_ofNat_eq_zero_iff (w := 32) (a := (grid0.coords t 0).val) (b := 16) (by rw [hc]; omega) (by decide)).mpr (by omega)) _ _),
      goal_lat m c n ⟨n.val - 8192, by omega⟩ (by show n.val = 8192 + (n.val - 8192); omega), refLat_apply]
    simp only [block_2 m c t _ ⟨1 + (n.val - 8192) / 1024, by omega⟩ (by rw [hm]; show 1 + (n.val - 8192) / 1024 = 1 + (t.val - 16) / 2; omega), block_3, block_4]
    exact rowProj_congr (fun k => block_1 m c t r k ⟨n.val - 8192, by omega⟩ (by show n.val - 8192 = (t.val - 16) * 512 + r.val; omega))

/-- The result array. -/
theorem final (c : Dev nD) : (dats m 0 c).arrAt 5 cfg0.N = goal m c := by
  refine (dats m 0 c).arrAt_eq_of_cover 5 (goal m c) (fun t _ => ?_) fun i => ?_
  · show (cfg0.win 5).cut (grid0.coords t) ((dats m 0 c).after 5 t) = _
    rw [after0_5, out_eq]
    funext y
    obtain ⟨r, d, rfl⟩ : ∃ (r : Fin 512) (d : Fin 2432), y = ix2 r d := ⟨y 0, y 1, eq_ix2 y⟩
    have ht := point_lt t
    have hi := index_5 t
    refine (point_apply m c t r d ⟨t.val * 512 + r.val, by omega⟩ rfl).trans ?_
    refine congrArg (goal m c) (funext fun a => Fin.ext ?_)
    match a with
    | ⟨0, _⟩ => show t.val * 512 + r.val = win0_5.index t 0 * 512 + 1 * r.val; rw [hi.1]; omega
    | ⟨1, _⟩ => show d.val = win0_5.index t 1 * 2432 + 1 * d.val; rw [hi.2]; omega
  · have h0 : (i 0 : ℕ) < 12288 := (i 0).isLt
    have h1 : (i 1 : ℕ) < 2432 := (i 1).isLt
    have hN : cfg0.N = 24 := N_0
    refine ⟨⟨(i 0).val / 512, by rw [hN]; omega⟩, flush0_5 _, ?_⟩
    generalize hd : (⟨(i 0).val / 512, _⟩ : Fin cfg0.N) = t
    have htv : t.val = (i 0).val / 512 := by rw [← hd]
    have hi := index_5 t
    show i ∈ ((View.whole main_v6).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [hi.1]; omega
    | ⟨1, _⟩ =>
      show win0_5.index t 1 * 2432 ≤ (i 1 : Nat) ∧ (i 1 : Nat) < win0_5.index t 1 * 2432 + 2432
      rw [hi.2]; omega

/-- What the run leaves in the result. -/
theorem run_result (g : Dev nD → PrngReg) :
    θ_run defs (onTc (τ := τ) (main (F := Ideal))) ⟨m, fun _ => 0, g⟩ fun r => ∀ c : Dev nD,
      r.2.mem ((c : Thread nD τ).loc main_v6) = goal m c :=
  (θ_run defs _ _).mono (fun r h c => ((h c).1 5).trans (final m c)) (run_main m g)

end Cert.Kernel3Ideal.Proj

end
-- ==== Proof.ProjClaims.lean ====
/- The claims about the input projection: the frames of the kernel over both number systems and of the reference, and the equality of
   the kernel's result with the reference's at the ideal numbers. -/
module

public import proofs.«01_k».proof.Defs
public import proofs.«01_k».proof.Proof.ProjValue
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run

@[expose] public section

noncomputable section

namespace Cert.Proof

open Idealize.ShloMosaic Idealize.ShloMosaic.TcCoe Idealize.SL.Sem

/-- The projection's frame over the bit-exact numbers. -/
theorem proj_frame_bits : Cert.quiescent_Kernel3 (hKernel3 := Cert.Kernel3.Gen.facts) := fun m ρ _ => Cert.Kernel3.Gen.frame m ρ

/-- The projection's frame over the ideal numbers. -/
theorem proj_frame_ideal : Cert.quiescent_Kernel3Ideal (hKernel3Ideal := Cert.Kernel3Ideal.Gen.facts) := fun m ρ _ => Cert.Kernel3Ideal.Gen.frame m ρ

/-- The reference's frame. -/
theorem proj_frame_ref : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- At the ideal numbers the kernel and the reference leave the same projection. -/
theorem proj_value : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Proj.goal m c, ?_, ?_⟩
  · exact (θ_run Cert.Kernel3Ideal.defs _ _).mono (fun r hr c => ⟨hr.1 c, hr.2 c⟩)
      (θ_run_and (Cert.Kernel3Ideal.Proj.run_result m g) (Cert.Kernel3Ideal.Gen.unchanged m g))
  · refine (θ_run Cert.Reference3Ideal.defs _ _).mono (fun r hr c => ⟨(hr c).1.trans ?_, (hr c).2⟩) (Cert.Reference3Ideal.Value.run (F := Ideal) m' g')
    obtain rfl : c = 0 := Subsingleton.elim _ _
    obtain ⟨h0, h1, h2, h3, h4⟩ := hargs 0
    rw [h0, h1, h2, h3, h4]
    rfl

end Cert.Proof

end
-- ==== Proof.ScanTrip.lean ====
/- What one trip of the scan stores into the two state blocks: for each sequence and pair of heads one chunk of that chain. -/
module

public import proofs.«01_k».proof.Proof.Gen.KernelIdeal.Loops
public import proofs.«01_k».proof.Proof.ScanChain

@[expose] public section

set_option maxRecDepth 8192
set_option maxHeartbeats 4000000

noncomputable section

namespace Cert.KernelIdeal.Scan

open Cert.KernelIdeal Cert.KernelIdeal.Gen
open Idealize.ShloMosaic Idealize.ShloMosaic.TcCoe Idealize.SL.Sem
variable {F : FTy → Type} [FloatOps F]

/-- Sixty-four rows of one pair's lanes, loaded from a block. -/
abbrev ld (a : Memref sig .tc .vmem S512x512 .f32) (X : BufTy.Contents (Elt F) a.view.ty) (o : Fin 2 → ℕ)
    (h : ∀ d, o d + S64x128.size d ≤ S512x512.size d) : FVec F S64x128 .f32 :=
  a.view.readAt (Elt F) (Rect.unit (s := S512x512) o S64x128.size h).toLoadRect X

/-- The eight blocks of forward states, the last stored first. -/
theorem trip_fwd (𝒱 : Variants) (c : Dev nD) (bd : Option 𝒱.V) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S2x4x128x128 .f32) (harg12 : arg12.IsWhole) (arg13 : Memref sig .tc .vmem S2x4x128x128 .f32) (harg13 : arg13.IsWhole) (v50 : IVec S128x128 1) (v66 : IVec S128x128 32) (v82 : IVec S128x128 32) (v85 : FVec F S128x128 .f32) (v134 : IVec S128x128 1) (v183 : IVec S128x128 1) (v232 : IVec S128x128 1) (v256 : IVec S128x128 32) (v258 : IVec S128x128 32) (v277 : IVec S128x128 1) (v282 : IVec S64x64 32) (v283 : IVec S64x64 32) (X_arg1 : BufTy.Contents (Elt F) arg1.view.ty) (X_arg2 : BufTy.Contents (Elt F) arg2.view.ty) (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k0_t1_loop.trips) (X_arg11 : BufTy.Contents (Elt F) arg11.view.ty) (f_arg12 : BufTy.Contents (Elt F) arg12.view.ty) (f_arg13 : BufTy.Contents (Elt F) arg13.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v50 v66 v82 v85 v134 v183 v232 v256 v258 v277 v282 v283 X_arg1 X_arg2 X_arg3 X_arg5 X_arg6 X_arg7 X_arg8 X_arg9 X_arg10 k).2.1 X_arg11 f_arg12 f_arg13 = [⟨Rect.unit (s := S2x4x128x128) ![1, 3, 0, 0] S1x1x128x128.size inb_S2x4x128x128_S1x1x128x128_1_3_0_0, shapeCast S1x1x128x128
        (chainF (k0_pay10 v282 v283) (k0_pay8 v50 v66 v82) v134 v183 v232 (k0_pay1 v256 v258 v277) v85
          (ld arg5 X_arg5 (k0_off7 k 256#32) (k0_off7_inb k 1)) (ld arg3 X_arg3 (k0_off7 k 256#32) (k0_off7_inb k 1))
          (ld arg9 X_arg9 (k0_off7 k 256#32) (k0_off7_inb k 1)) (ld arg7 X_arg7 (k0_off7 k 256#32) (k0_off7_inb k 1))
          (ld arg2 X_arg2 (k0_off7 k 256#32) (k0_off7_inb k 1)) (ld arg1 X_arg1 (k0_off7 k 256#32) (k0_off7_inb k 1))
          (shapeCast S128x128 (arg12.view.readAt (Elt F) (Rect.unit (s := S2x4x128x128) ![1, 3, 0, 0] S1x1x128x128.size inb_S2x4x128x128_S1x1x128x128_1_3_0_0).toLoadRect f_arg12) shapeCasts_S1x1x128x128_S128x128))
        shapeCasts_S128x128_S1x1x128x128⟩,
      ⟨Rect.unit (s := S2x4x128x128) ![1, 2, 0, 0] S1x1x128x128.size inb_S2x4x128x128_S1x1x128x128_1_2_0_0, shapeCast S1x1x128x128
        (chainF (k0_pay10 v282 v283) (k0_pay8 v50 v66 v82) v134 v183 v232 (k0_pay1 v256 v258 v277) v85
          (ld arg5 X_arg5 (k0_off5 k 256#32) (k0_off5_inb k 1)) (ld arg3 X_arg3 (k0_off5 k 256#32) (k0_off5_inb k 1))
          (ld arg9 X_arg9 (k0_off5 k 256#32) (k0_off5_inb k 1)) (ld arg7 X_arg7 (k0_off5 k 256#32) (k0_off5_inb k 1))
          (ld arg2 X_arg2 (k0_off5 k 256#32) (k0_off5_inb k 1)) (ld arg1 X_arg1 (k0_off5 k 256#32) (k0_off5_inb k 1))
          (shapeCast S128x128 (arg12.view.readAt (Elt F) (Rect.unit (s := S2x4x128x128) ![1, 2, 0, 0] S1x1x128x128.size inb_S2x4x128x128_S1x1x128x128_1_2_0_0).toLoadRect f_arg12) shapeCasts_S1x1x128x128_S128x128))
        shapeCasts_S128x128_S1x1x128x128⟩,
      ⟨Rect.unit (s := S2x4x128x128) ![1, 1, 0, 0] S1x1x128x128.size inb_S2x4x128x128_S1x1x128x128_1_1_0_0, shapeCast S1x1x128x128
        (chainF (k0_pay10 v282 v283) (k0_pay8 v50 v66 v82) v134 v183 v232 (k0_pay1 v256 v258 v277) v85
          (ld arg5 X_arg5 (k0_off3 k 256#32) (k0_off3_inb k 1)) (ld arg3 X_arg3 (k0_off3 k 256#32) (k0_off3_inb k 1))
          (ld arg9 X_arg9 (k0_off3 k 256#32) (k0_off3_inb k 1)) (ld arg7 X_arg7 (k0_off3 k 256#32) (k0_off3_inb k 1))
          (ld arg2 X_arg2 (k0_off3 k 256#32) (k0_off3_inb k 1)) (ld arg1 X_arg1 (k0_off3 k 256#32) (k0_off3_inb k 1))
          (shapeCast S128x128 (arg12.view.readAt (Elt F) (Rect.unit (s := S2x4x128x128) ![1, 1, 0, 0] S1x1x128x128.size inb_S2x4x128x128_S1x1x128x128_1_1_0_0).toLoadRect f_arg12) shapeCasts_S1x1x128x128_S128x128))
        shapeCasts_S128x128_S1x1x128x128⟩,
      ⟨Rect.unit (s := S2x4x128x128) ![1, 0, 0, 0] S1x1x128x128.size inb_S2x4x128x128_S1x1x128x128_1_0_0_0, shapeCast S1x1x128x128
        (chainF (k0_pay10 v282 v283) (k0_pay8 v50 v66 v82) v134 v183 v232 (k0_pay1 v256 v258 v277) v85
          (ld arg5 X_arg5 (k0_off1 k 256#32) (k0_off1_inb k 1)) (ld arg3 X_arg3 (k0_off1 k 256#32) (k0_off1_inb k 1))
          (ld arg9 X_arg9 (k0_off1 k 256#32) (k0_off1_inb k 1)) (ld arg7 X_arg7 (k0_off1 k 256#32) (k0_off1_inb k 1))
          (ld arg2 X_arg2 (k0_off1 k 256#32) (k0_off1_inb k 1)) (ld arg1 X_arg1 (k0_off1 k 256#32) (k0_off1_inb k 1))
          (shapeCast S128x128 (arg12.view.readAt (Elt F) (Rect.unit (s := S2x4x128x128) ![1, 0, 0, 0] S1x1x128x128.size inb_S2x4x128x128_S1x1x128x128_1_0_0_0).toLoadRect f_arg12) shapeCasts_S1x1x128x128_S128x128))
        shapeCasts_S128x128_S1x1x128x128⟩,
      ⟨Rect.unit (s := S2x4x128x128) ![0, 3, 0, 0] S1x1x128x128.size inb_S2x4x128x128_S1x1x128x128_0_3_0_0, shapeCast S1x1x128x128
        (chainF (k0_pay10 v282 v283) (k0_pay8 v50 v66 v82) v134 v183 v232 (k0_pay1 v256 v258 v277) v85
          (ld arg5 X_arg5 (k0_off7 k 0#32) (k0_off7_inb k 0)) (ld arg3 X_arg3 (k0_off7 k 0#32) (k0_off7_inb k 0))
          (ld arg9 X_arg9 (k0_off7 k 0#32) (k0_off7_inb k 0)) (ld arg7 X_arg7 (k0_off7 k 0#32) (k0_off7_inb k 0))
          (ld arg2 X_arg2 (k0_off7 k 0#32) (k0_off7_inb k 0)) (ld arg1 X_arg1 (k0_off7 k 0#32) (k0_off7_inb k 0))
          (shapeCast S128x128 (arg12.view.readAt (Elt F) (Rect.unit (s := S2x4x128x128) ![0, 3, 0, 0] S1x1x128x128.size inb_S2x4x128x128_S1x1x128x128_0_3_0_0).toLoadRect f_arg12) shapeCasts_S1x1x128x128_S128x128))
        shapeCasts_S128x128_S1x1x128x128⟩,
      ⟨Rect.unit (s := S2x4x128x128) ![0, 2, 0, 0] S1x1x128x128.size inb_S2x4x128x128_S1x1x128x128_0_2_0_0, shapeCast S1x1x128x128
        (chainF (k0_pay10 v282 v283) (k0_pay8 v50 v66 v82) v134 v183 v232 (k0_pay1 v256 v258 v277) v85
          (ld arg5 X_arg5 (k0_off5 k 0#32) (k0_off5_inb k 0)) (ld arg3 X_arg3 (k0_off5 k 0#32) (k0_off5_inb k 0))
          (ld arg9 X_arg9 (k0_off5 k 0#32) (k0_off5_inb k 0)) (ld arg7 X_arg7 (k0_off5 k 0#32) (k0_off5_inb k 0))
          (ld arg2 X_arg2 (k0_off5 k 0#32) (k0_off5_inb k 0)) (ld arg1 X_arg1 (k0_off5 k 0#32) (k0_off5_inb k 0))
          (shapeCast S128x128 (arg12.view.readAt (Elt F) (Rect.unit (s := S2x4x128x128) ![0, 2, 0, 0] S1x1x128x128.size inb_S2x4x128x128_S1x1x128x128_0_2_0_0).toLoadRect f_arg12) shapeCasts_S1x1x128x128_S128x128))
        shapeCasts_S128x128_S1x1x128x128⟩,
      ⟨Rect.unit (s := S2x4x128x128) ![0, 1, 0, 0] S1x1x128x128.size inb_S2x4x128x128_S1x1x128x128_0_1_0_0, shapeCast S1x1x128x128
        (chainF (k0_pay10 v282 v283) (k0_pay8 v50 v66 v82) v134 v183 v232 (k0_pay1 v256 v258 v277) v85
          (ld arg5 X_arg5 (k0_off3 k 0#32) (k0_off3_inb k 0)) (ld arg3 X_arg3 (k0_off3 k 0#32) (k0_off3_inb k 0))
          (ld arg9 X_arg9 (k0_off3 k 0#32) (k0_off3_inb k 0)) (ld arg7 X_arg7 (k0_off3 k 0#32) (k0_off3_inb k 0))
          (ld arg2 X_arg2 (k0_off3 k 0#32) (k0_off3_inb k 0)) (ld arg1 X_arg1 (k0_off3 k 0#32) (k0_off3_inb k 0))
          (shapeCast S128x128 (arg12.view.readAt (Elt F) (Rect.unit (s := S2x4x128x128) ![0, 1, 0, 0] S1x1x128x128.size inb_S2x4x128x128_S1x1x128x128_0_1_0_0).toLoadRect f_arg12) shapeCasts_S1x1x128x128_S128x128))
        shapeCasts_S128x128_S1x1x128x128⟩,
      ⟨Rect.unit (s := S2x4x128x128) ![0, 0, 0, 0] S1x1x128x128.size inb_S2x4x128x128_S1x1x128x128_0_0_0_0, shapeCast S1x1x128x128
        (chainF (k0_pay10 v282 v283) (k0_pay8 v50 v66 v82) v134 v183 v232 (k0_pay1 v256 v258 v277) v85
          (ld arg5 X_arg5 (k0_off1 k 0#32) (k0_off1_inb k 0)) (ld arg3 X_arg3 (k0_off1 k 0#32) (k0_off1_inb k 0))
          (ld arg9 X_arg9 (k0_off1 k 0#32) (k0_off1_inb k 0)) (ld arg7 X_arg7 (k0_off1 k 0#32) (k0_off1_inb k 0))
          (ld arg2 X_arg2 (k0_off1 k 0#32) (k0_off1_inb k 0)) (ld arg1 X_arg1 (k0_off1 k 0#32) (k0_off1_inb k 0))
          (shapeCast S128x128 (arg12.view.readAt (Elt F) (Rect.unit (s := S2x4x128x128) ![0, 0, 0, 0] S1x1x128x128.size inb_S2x4x128x128_S1x1x128x128_0_0_0_0).toLoadRect f_arg12) shapeCasts_S1x1x128x128_S128x128))
        shapeCasts_S128x128_S1x1x128x128⟩] := by
  unfold trip_k0_t1
  rfl

/-- The eight blocks of backward states, the last stored first. -/
theorem trip_bwd (𝒱 : Variants) (c : Dev nD) (bd : Option 𝒱.V) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S2x4x128x128 .f32) (harg12 : arg12.IsWhole) (arg13 : Memref sig .tc .vmem S2x4x128x128 .f32) (harg13 : arg13.IsWhole) (v50 : IVec S128x128 1) (v66 : IVec S128x128 32) (v82 : IVec S128x128 32) (v85 : FVec F S128x128 .f32) (v134 : IVec S128x128 1) (v183 : IVec S128x128 1) (v232 : IVec S128x128 1) (v256 : IVec S128x128 32) (v258 : IVec S128x128 32) (v277 : IVec S128x128 1) (v282 : IVec S64x64 32) (v283 : IVec S64x64 32) (X_arg1 : BufTy.Contents (Elt F) arg1.view.ty) (X_arg2 : BufTy.Contents (Elt F) arg2.view.ty) (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k0_t1_loop.trips) (X_arg11 : BufTy.Contents (Elt F) arg11.view.ty) (f_arg12 : BufTy.Contents (Elt F) arg12.view.ty) (f_arg13 : BufTy.Contents (Elt F) arg13.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v50 v66 v82 v85 v134 v183 v232 v256 v258 v277 v282 v283 X_arg1 X_arg2 X_arg3 X_arg5 X_arg6 X_arg7 X_arg8 X_arg9 X_arg10 k).2.2.1 X_arg11 f_arg12 f_arg13 = [⟨Rect.unit (s := S2x4x128x128) ![1, 3, 0, 0] S1x1x128x128.size inb_S2x4x128x128_S1x1x128x128_1_3_0_0, shapeCast S1x1x128x128
        (chainB (k0_pay13 v282 v283) (k0_pay11 v50 v66 v82) v134 v183 v232 (k0_pay1 v256 v258 v277) v85
          (ld arg6 X_arg6 (k0_off8 k 256#32) (k0_off8_inb k 1)) (ld arg3 X_arg3 (k0_off8 k 256#32) (k0_off8_inb k 1))
          (ld arg10 X_arg10 (k0_off8 k 256#32) (k0_off8_inb k 1)) (ld arg8 X_arg8 (k0_off8 k 256#32) (k0_off8_inb k 1))
          (ld arg2 X_arg2 (k0_off8 k 256#32) (k0_off8_inb k 1)) (ld arg1 X_arg1 (k0_off8 k 256#32) (k0_off8_inb k 1))
          (shapeCast S128x128 (arg13.view.readAt (Elt F) (Rect.unit (s := S2x4x128x128) ![1, 3, 0, 0] S1x1x128x128.size inb_S2x4x128x128_S1x1x128x128_1_3_0_0).toLoadRect f_arg13) shapeCasts_S1x1x128x128_S128x128))
        shapeCasts_S128x128_S1x1x128x128⟩,
      ⟨Rect.unit (s := S2x4x128x128) ![1, 2, 0, 0] S1x1x128x128.size inb_S2x4x128x128_S1x1x128x128_1_2_0_0, shapeCast S1x1x128x128
        (chainB (k0_pay13 v282 v283) (k0_pay11 v50 v66 v82) v134 v183 v232 (k0_pay1 v256 v258 v277) v85
          (ld arg6 X_arg6 (k0_off6 k 256#32) (k0_off6_inb k 1)) (ld arg3 X_arg3 (k0_off6 k 256#32) (k0_off6_inb k 1))
          (ld arg10 X_arg10 (k0_off6 k 256#32) (k0_off6_inb k 1)) (ld arg8 X_arg8 (k0_off6 k 256#32) (k0_off6_inb k 1))
          (ld arg2 X_arg2 (k0_off6 k 256#32) (k0_off6_inb k 1)) (ld arg1 X_arg1 (k0_off6 k 256#32) (k0_off6_inb k 1))
          (shapeCast S128x128 (arg13.view.readAt (Elt F) (Rect.unit (s := S2x4x128x128) ![1, 2, 0, 0] S1x1x128x128.size inb_S2x4x128x128_S1x1x128x128_1_2_0_0).toLoadRect f_arg13) shapeCasts_S1x1x128x128_S128x128))
        shapeCasts_S128x128_S1x1x128x128⟩,
      ⟨Rect.unit (s := S2x4x128x128) ![1, 1, 0, 0] S1x1x128x128.size inb_S2x4x128x128_S1x1x128x128_1_1_0_0, shapeCast S1x1x128x128
        (chainB (k0_pay13 v282 v283) (k0_pay11 v50 v66 v82) v134 v183 v232 (k0_pay1 v256 v258 v277) v85
          (ld arg6 X_arg6 (k0_off4 k 256#32) (k0_off4_inb k 1)) (ld arg3 X_arg3 (k0_off4 k 256#32) (k0_off4_inb k 1))
          (ld arg10 X_arg10 (k0_off4 k 256#32) (k0_off4_inb k 1)) (ld arg8 X_arg8 (k0_off4 k 256#32) (k0_off4_inb k 1))
          (ld arg2 X_arg2 (k0_off4 k 256#32) (k0_off4_inb k 1)) (ld arg1 X_arg1 (k0_off4 k 256#32) (k0_off4_inb k 1))
          (shapeCast S128x128 (arg13.view.readAt (Elt F) (Rect.unit (s := S2x4x128x128) ![1, 1, 0, 0] S1x1x128x128.size inb_S2x4x128x128_S1x1x128x128_1_1_0_0).toLoadRect f_arg13) shapeCasts_S1x1x128x128_S128x128))
        shapeCasts_S128x128_S1x1x128x128⟩,
      ⟨Rect.unit (s := S2x4x128x128) ![1, 0, 0, 0] S1x1x128x128.size inb_S2x4x128x128_S1x1x128x128_1_0_0_0, shapeCast S1x1x128x128
        (chainB (k0_pay13 v282 v283) (k0_pay11 v50 v66 v82) v134 v183 v232 (k0_pay1 v256 v258 v277) v85
          (ld arg6 X_arg6 (k0_off2 k 256#32) (k0_off2_inb k 1)) (ld arg3 X_arg3 (k0_off2 k 256#32) (k0_off2_inb k 1))
          (ld arg10 X_arg10 (k0_off2 k 256#32) (k0_off2_inb k 1)) (ld arg8 X_arg8 (k0_off2 k 256#32) (k0_off2_inb k 1))
          (ld arg2 X_arg2 (k0_off2 k 256#32) (k0_off2_inb k 1)) (ld arg1 X_arg1 (k0_off2 k 256#32) (k0_off2_inb k 1))
          (shapeCast S128x128 (arg13.view.readAt (Elt F) (Rect.unit (s := S2x4x128x128) ![1, 0, 0, 0] S1x1x128x128.size inb_S2x4x128x128_S1x1x128x128_1_0_0_0).toLoadRect f_arg13) shapeCasts_S1x1x128x128_S128x128))
        shapeCasts_S128x128_S1x1x128x128⟩,
      ⟨Rect.unit (s := S2x4x128x128) ![0, 3, 0, 0] S1x1x128x128.size inb_S2x4x128x128_S1x1x128x128_0_3_0_0, shapeCast S1x1x128x128
        (chainB (k0_pay13 v282 v283) (k0_pay11 v50 v66 v82) v134 v183 v232 (k0_pay1 v256 v258 v277) v85
          (ld arg6 X_arg6 (k0_off8 k 0#32) (k0_off8_inb k 0)) (ld arg3 X_arg3 (k0_off8 k 0#32) (k0_off8_inb k 0))
          (ld arg10 X_arg10 (k0_off8 k 0#32) (k0_off8_inb k 0)) (ld arg8 X_arg8 (k0_off8 k 0#32) (k0_off8_inb k 0))
          (ld arg2 X_arg2 (k0_off8 k 0#32) (k0_off8_inb k 0)) (ld arg1 X_arg1 (k0_off8 k 0#32) (k0_off8_inb k 0))
          (shapeCast S128x128 (arg13.view.readAt (Elt F) (Rect.unit (s := S2x4x128x128) ![0, 3, 0, 0] S1x1x128x128.size inb_S2x4x128x128_S1x1x128x128_0_3_0_0).toLoadRect f_arg13) shapeCasts_S1x1x128x128_S128x128))
        shapeCasts_S128x128_S1x1x128x128⟩,
      ⟨Rect.unit (s := S2x4x128x128) ![0, 2, 0, 0] S1x1x128x128.size inb_S2x4x128x128_S1x1x128x128_0_2_0_0, shapeCast S1x1x128x128
        (chainB (k0_pay13 v282 v283) (k0_pay11 v50 v66 v82) v134 v183 v232 (k0_pay1 v256 v258 v277) v85
          (ld arg6 X_arg6 (k0_off6 k 0#32) (k0_off6_inb k 0)) (ld arg3 X_arg3 (k0_off6 k 0#32) (k0_off6_inb k 0))
          (ld arg10 X_arg10 (k0_off6 k 0#32) (k0_off6_inb k 0)) (ld arg8 X_arg8 (k0_off6 k 0#32) (k0_off6_inb k 0))
          (ld arg2 X_arg2 (k0_off6 k 0#32) (k0_off6_inb k 0)) (ld arg1 X_arg1 (k0_off6 k 0#32) (k0_off6_inb k 0))
          (shapeCast S128x128 (arg13.view.readAt (Elt F) (Rect.unit (s := S2x4x128x128) ![0, 2, 0, 0] S1x1x128x128.size inb_S2x4x128x128_S1x1x128x128_0_2_0_0).toLoadRect f_arg13) shapeCasts_S1x1x128x128_S128x128))
        shapeCasts_S128x128_S1x1x128x128⟩,
      ⟨Rect.unit (s := S2x4x128x128) ![0, 1, 0, 0] S1x1x128x128.size inb_S2x4x128x128_S1x1x128x128_0_1_0_0, shapeCast S1x1x128x128
        (chainB (k0_pay13 v282 v283) (k0_pay11 v50 v66 v82) v134 v183 v232 (k0_pay1 v256 v258 v277) v85
          (ld arg6 X_arg6 (k0_off4 k 0#32) (k0_off4_inb k 0)) (ld arg3 X_arg3 (k0_off4 k 0#32) (k0_off4_inb k 0))
          (ld arg10 X_arg10 (k0_off4 k 0#32) (k0_off4_inb k 0)) (ld arg8 X_arg8 (k0_off4 k 0#32) (k0_off4_inb k 0))
          (ld arg2 X_arg2 (k0_off4 k 0#32) (k0_off4_inb k 0)) (ld arg1 X_arg1 (k0_off4 k 0#32) (k0_off4_inb k 0))
          (shapeCast S128x128 (arg13.view.readAt (Elt F) (Rect.unit (s := S2x4x128x128) ![0, 1, 0, 0] S1x1x128x128.size inb_S2x4x128x128_S1x1x128x128_0_1_0_0).toLoadRect f_arg13) shapeCasts_S1x1x128x128_S128x128))
        shapeCasts_S128x128_S1x1x128x128⟩,
      ⟨Rect.unit (s := S2x4x128x128) ![0, 0, 0, 0] S1x1x128x128.size inb_S2x4x128x128_S1x1x128x128_0_0_0_0, shapeCast S1x1x128x128
        (chainB (k0_pay13 v282 v283) (k0_pay11 v50 v66 v82) v134 v183 v232 (k0_pay1 v256 v258 v277) v85
          (ld arg6 X_arg6 (k0_off2 k 0#32) (k0_off2_inb k 0)) (ld arg3 X_arg3 (k0_off2 k 0#32) (k0_off2_inb k 0))
          (ld arg10 X_arg10 (k0_off2 k 0#32) (k0_off2_inb k 0)) (ld arg8 X_arg8 (k0_off2 k 0#32) (k0_off2_inb k 0))
          (ld arg2 X_arg2 (k0_off2 k 0#32) (k0_off2_inb k 0)) (ld arg1 X_arg1 (k0_off2 k 0#32) (k0_off2_inb k 0))
          (shapeCast S128x128 (arg13.view.readAt (Elt F) (Rect.unit (s := S2x4x128x128) ![0, 0, 0, 0] S1x1x128x128.size inb_S2x4x128x128_S1x1x128x128_0_0_0_0).toLoadRect f_arg13) shapeCasts_S1x1x128x128_S128x128))
        shapeCasts_S128x128_S1x1x128x128⟩] := by
  unfold trip_k0_t1
  rfl

end Cert.KernelIdeal.Scan
-- ==== Proof.ScanOffs.lean ====
/- Where each of the scan's sixteen chunks reads its rows. -/
module

public import proofs.«01_k».proof.Proof.Gen.KernelIdeal.Loops

@[expose] public section

namespace Cert.KernelIdeal.Scan

open Cert.KernelIdeal Cert.KernelIdeal.Gen

/-- The loop makes four trips. -/
theorem trips_eq : k0_t1_loop.trips = 4 := by decide +kernel

/-- The chunk a trip takes in the direction. -/
def turn (d : Bool) (k : Fin k0_t1_loop.trips) : Fin 4 :=
  if d then ⟨3 - k.val, by omega⟩ else ⟨k.val, lt_of_lt_of_eq k.isLt trips_eq⟩

theorem off_f00 (k : Fin k0_t1_loop.trips) :
    k0_off1 k 0#32 = ![256 * 0 + 64 * (turn false k).val, 128 * 0] :=
  (by decide +kernel : ∀ k : Fin k0_t1_loop.trips, k0_off1 k 0#32 = ![256 * 0 + 64 * k.val, 128 * 0]) k
theorem off_f01 (k : Fin k0_t1_loop.trips) :
    k0_off3 k 0#32 = ![256 * 0 + 64 * (turn false k).val, 128 * 1] :=
  (by decide +kernel : ∀ k : Fin k0_t1_loop.trips, k0_off3 k 0#32 = ![256 * 0 + 64 * k.val, 128 * 1]) k
theorem off_f02 (k : Fin k0_t1_loop.trips) :
    k0_off5 k 0#32 = ![256 * 0 + 64 * (turn false k).val, 128 * 2] :=
  (by decide +kernel : ∀ k : Fin k0_t1_loop.trips, k0_off5 k 0#32 = ![256 * 0 + 64 * k.val, 128 * 2]) k
theorem off_f03 (k : Fin k0_t1_loop.trips) :
    k0_off7 k 0#32 = ![256 * 0 + 64 * (turn false k).val, 128 * 3] :=
  (by decide +kernel : ∀ k : Fin k0_t1_loop.trips, k0_off7 k 0#32 = ![256 * 0 + 64 * k.val, 128 * 3]) k
theorem off_f10 (k : Fin k0_t1_loop.trips) :
    k0_off1 k 256#32 = ![256 * 1 + 64 * (turn false k).val, 128 * 0] :=
  (by decide +kernel : ∀ k : Fin k0_t1_loop.trips, k0_off1 k 256#32 = ![256 * 1 + 64 * k.val, 128 * 0]) k
theorem off_f11 (k : Fin k0_t1_loop.trips) :
    k0_off3 k 256#32 = ![256 * 1 + 64 * (turn false k).val, 128 * 1] :=
  (by decide +kernel : ∀ k : Fin k0_t1_loop.trips, k0_off3 k 256#32 = ![256 * 1 + 64 * k.val, 128 * 1]) k
theorem off_f12 (k : Fin k0_t1_loop.trips) :
    k0_off5 k 256#32 = ![256 * 1 + 64 * (turn false k).val, 128 * 2] :=
  (by decide +kernel : ∀ k : Fin k0_t1_loop.trips, k0_off5 k 256#32 = ![256 * 1 + 64 * k.val, 128 * 2]) k
theorem off_f13 (k : Fin k0_t1_loop.trips) :
    k0_off7 k 256#32 = ![256 * 1 + 64 * (turn false k).val, 128 * 3] :=
  (by decide +kernel : ∀ k : Fin k0_t1_loop.trips, k0_off7 k 256#32 = ![256 * 1 + 64 * k.val, 128 * 3]) k
theorem off_b00 (k : Fin k0_t1_loop.trips) :
    k0_off2 k 0#32 = ![256 * 0 + 64 * (turn true k).val, 128 * 0] :=
  (by decide +kernel : ∀ k : Fin k0_t1_loop.trips, k0_off2 k 0#32 = ![256 * 0 + 64 * (3 - k.val), 128 * 0]) k
theorem off_b01 (k : Fin k0_t1_loop.trips) :
    k0_off4 k 0#32 = ![256 * 0 + 64 * (turn true k).val, 128 * 1] :=
  (by decide +kernel : ∀ k : Fin k0_t1_loop.trips, k0_off4 k 0#32 = ![256 * 0 + 64 * (3 - k.val), 128 * 1]) k
theorem off_b02 (k : Fin k0_t1_loop.trips) :
    k0_off6 k 0#32 = ![256 * 0 + 64 * (turn true k).val, 128 * 2] :=
  (by decide +kernel : ∀ k : Fin k0_t1_loop.trips, k0_off6 k 0#32 = ![256 * 0 + 64 * (3 - k.val), 128 * 2]) k
theorem off_b03 (k : Fin k0_t1_loop.trips) :
    k0_off8 k 0#32 = ![256 * 0 + 64 * (turn true k).val, 128 * 3] :=
  (by decide +kernel : ∀ k : Fin k0_t1_loop.trips, k0_off8 k 0#32 = ![256 * 0 + 64 * (3 - k.val), 128 * 3]) k
theorem off_b10 (k : Fin k0_t1_loop.trips) :
    k0_off2 k 256#32 = ![256 * 1 + 64 * (turn true k).val, 128 * 0] :=
  (by decide +kernel : ∀ k : Fin k0_t1_loop.trips, k0_off2 k 256#32 = ![256 * 1 + 64 * (3 - k.val), 128 * 0]) k
theorem off_b11 (k : Fin k0_t1_loop.trips) :
    k0_off4 k 256#32 = ![256 * 1 + 64 * (turn true k).val, 128 * 1] :=
  (by decide +kernel : ∀ k : Fin k0_t1_loop.trips, k0_off4 k 256#32 = ![256 * 1 + 64 * (3 - k.val), 128 * 1]) k
theorem off_b12 (k : Fin k0_t1_loop.trips) :
    k0_off6 k 256#32 = ![256 * 1 + 64 * (turn true k).val, 128 * 2] :=
  (by decide +kernel : ∀ k : Fin k0_t1_loop.trips, k0_off6 k 256#32 = ![256 * 1 + 64 * (3 - k.val), 128 * 2]) k
theorem off_b13 (k : Fin k0_t1_loop.trips) :
    k0_off8 k 256#32 = ![256 * 1 + 64 * (turn true k).val, 128 * 3] :=
  (by decide +kernel : ∀ k : Fin k0_t1_loop.trips, k0_off8 k 256#32 = ![256 * 1 + 64 * (3 - k.val), 128 * 3]) k

end Cert.KernelIdeal.Scan
-- ==== Proof.ScanChunkI.lean ====
/- The whole chunk at the ideal numbers is the chunk over the reals. -/
module

public import proofs.«01_k».proof.Proof.ScanReal

@[expose] public section

set_option maxRecDepth 8192

noncomputable section

namespace Cert.KernelIdeal.Scan

open Cert.KernelIdeal Cert.KernelIdeal.Gen Cert.ScanMath
open Idealize.ShloMosaic Idealize.ShloMosaic.Pointwise Idealize.SL.Sem
open scoped BigOperators

/-- Two blocks of 64 rows one above the other. -/
theorem cat64 {x y : FVec Ideal S64x128 .f32} (h : Shape.Concatenates [S64x128, S64x128] S128x128 0) (i j : Fin 128) :
    concatenate S128x128 0 [⟨S64x128, x⟩, ⟨S64x128, y⟩] h (ix2 i j)
      = if e : i.val < 64 then x (ix2 ⟨i.val, e⟩ j) else y (ix2 ⟨i.val - 64, by omega⟩ j) := by
  by_cases e : i.val < 64
  · rw [dif_pos e]
    exact concatenate_pair_apply_left 0 x y h _ rfl _ fun b => by match b with | ⟨0, _⟩ => rfl | ⟨1, _⟩ => rfl
  · rw [dif_neg e]
    refine concatenate_pair_apply_right 0 x y h _ rfl rfl _ (fun b hb => ?_) ?_
    · match b, hb with
      | ⟨0, _⟩, hb => exact absurd rfl hb
      | ⟨1, _⟩, _ => rfl
    · show i.val - 64 + 64 = i.val; omega

/-- Two matrices one above the other. -/
def over (A B : Mat) : Fin 256 → Fin 128 → ℝ := fun i l =>
  if e : i.val < 128 then A ⟨i.val, e⟩ l else B ⟨i.val - 128, by omega⟩ l

theorem cat128_up (A B : Mat) (h : Shape.Concatenates [S128x128, S128x128] S256x128 0) :
    concatenate S256x128 0 [⟨S128x128, upM .f32 A⟩, ⟨S128x128, upM .f32 B⟩] h = up .f32 (over A B) := by
  refine vec_ext (n := 256) (m := 128) (t := .f32) fun i j => ?_
  rw [up_apply, over]
  by_cases e : i.val < 128
  · rw [dif_pos e]
    exact concatenate_pair_apply_left 0 (upM .f32 A) (upM .f32 B) h _ rfl (ix2 ⟨i.val, e⟩ j) fun b => by
      match b with | ⟨0, _⟩ => rfl | ⟨1, _⟩ => rfl
  · rw [dif_neg e]
    refine concatenate_pair_apply_right 0 (upM .f32 A) (upM .f32 B) h _ rfl rfl (ix2 ⟨i.val - 128, by omega⟩ j) (fun b hb => ?_) ?_
    · match b, hb with
      | ⟨0, _⟩, hb => exact absurd rfl hb
      | ⟨1, _⟩, _ => rfl
    · show i.val - 128 + 128 = i.val; omega

/-- Stacking a pair's rows. -/
theorem stk_up (x : Rows) : stk (up .f32 x) = upM .f32 (stacked x) := by
  refine vec_ext (n := 128) (m := 128) (t := .f32) fun i l => ?_
  rw [upM_apply, stk, zero64_up]
  refine (cat64 _ i l).trans ?_
  unfold stacked
  by_cases e : i.val < 64
  · rw [dif_pos e]
    show Scalar.select (k0_pay2 (ix2 ⟨i.val, e⟩ l)) ((x ⟨i.val, e⟩ l : ℝ) : EReal) ((0 : ℝ) : EReal) = _
    rw [firstHead_apply, select_if]
    have : (⟨i.val % 64, by omega⟩ : Fin 64) = ⟨i.val, e⟩ := Fin.ext (Nat.mod_eq_of_lt e)
    rw [this]
    by_cases p : l.val < 64
    · rw [if_pos p, if_pos (by omega)]
    · rw [if_neg p, if_neg (by omega)]
  · rw [dif_neg e]
    show Scalar.select (k0_pay2 (ix2 ⟨i.val - 64, by omega⟩ l)) ((0 : ℝ) : EReal) ((x ⟨i.val - 64, by omega⟩ l : ℝ) : EReal) = _
    rw [firstHead_apply, select_if]
    have : (⟨i.val % 64, by omega⟩ : Fin 64) = ⟨i.val - 64, by omega⟩ := Fin.ext (by show i.val % 64 = i.val - 64; omega)
    rw [this]
    by_cases p : l.val < 64
    · rw [if_pos p, if_neg (by omega)]
    · rw [if_neg p, if_pos (by omega)]

/-- The triangle times real rows. -/
theorem triMul_up (tri : IVec S64x64 1) (P : Fin 64 → Fin 64 → Prop) [∀ i j, Decidable (P i j)]
    (h : ∀ i j, tri (ix2 i j) = if P i j then 1#1 else 0#1) (x : Rows) :
    triMul tri (up .bf16 x) = up .f32 fun i l => ∑ j, (if P i j then 1 else 0) * x j l := by
  have e : (truncf .bf16 (sitofp .f32 (extui 32 tri natLt_1_32) : FVec Ideal S64x64 .f32) bitsLt_bf16_f32)
      = up (n := 64) (m := 64) .bf16 fun i j => if P i j then 1 else 0 := by
    refine vec_ext (n := 64) (m := 64) (t := .bf16) fun i j => ?_
    show (((BitVec.setWidth 32 (tri (ix2 i j))).toInt : ℝ) : EReal) = (((if P i j then 1 else 0 : ℝ)) : EReal)
    rw [h]
    by_cases p : P i j
    · rw [if_pos p, if_pos p]; norm_num
    · rw [if_neg p, if_neg p]; norm_num
  rw [triMul, e]
  exact plain_up none .bf16 _ x

/-- The running sums. -/
theorem cumOf_up (d : Bool) (tri : IVec S64x64 1)
    (h : ∀ i j, tri (ix2 i j) = if timeOf d j < timeOf d i + 1 then 1#1 else 0#1) (lw : Rows) :
    cumOf tri (up .f32 lw) = up .f32 (running d lw) := by
  rw [cumOf, rest_up, rest_up, hi_up, hi_up, triMul_up tri _ h, triMul_up tri _ h, add_up, add_up]
  refine congrArg (up .f32) (funext fun i => funext fun l => ?_)
  simp [running]

/-- The upper half of a block of 256 rows is real. -/
def Upper (A : FVec Ideal S256x128 .bf16) (Q : Mat) : Prop := ∀ (i l : Fin 128), A (ix2 ⟨i.val, by omega⟩ l) = ((Q i l : ℝ) : EReal)

/-- The `kk` rows above the `r` rows, whatever `r` holds. -/
theorem qr_upper (d : Bool) (lw kk : Rows) (r : FVec Ideal S64x128 .f32) :
    Upper (qr (up .f32 (running d lw)) (up .f32 lw) (up .f32 kk) r) (stacked (qRows d lw kk)) := by
  intro i l
  have e : stk (mulf (up .f32 kk) (exp (subf (up .f32 (running d lw)) (up .f32 lw)))) = upM .f32 (stacked (qRows d lw kk)) := by
    rw [sub_up, exp_up, mul_up, stk_up]; rfl
  rw [qr, e]
  exact concatenate_pair_apply_left (t := S256x128) (s₁ := S128x128) (s₂ := S128x128) 0 (upM .f32 (stacked (qRows d lw kk)))
    (stk (mulf r (exp (up .f32 (running d lw))))) concatenates_S128x128_S128x128_S256x128_d0 (ix2 ⟨i.val, by omega⟩ l) rfl (ix2 i l) fun b => by match b with | ⟨0, _⟩ => rfl | ⟨1, _⟩ => rfl

/-- The `b` rows above the `k` rows. -/
theorem bk_up (d : Bool) (lw b k : Rows) :
    bk (up .f32 (running d lw)) (up .f32 b) (up .f32 k)
      = up .bf16 (over (stacked (offRows d lw b)) (stacked (offRows d lw k))) := by
  rw [bk, zero64_up, sub_up, exp_up, mul_up, mul_up, stk_up, stk_up, cat128_up, hi_up]; rfl

/-- Every row's product with every row. -/
def rowsBy (Q B : Mat) : Mat := fun i j => ∑ l, Q i l * B j l
/-- The solution from the inverse and the right-hand side. -/
def solved (X W : Mat) : Mat := fun i v => 0 - ∑ j, X i j * W j v
/-- The state with the additions. -/
def added (S U V B K : Mat) : Mat := fun v k => S v k + (∑ i, U i v * B i k + ∑ i, V i v * K i k)
/-- Every column decayed. -/
def decayed (A : Mat) (E : Rows) (c : Fin 64) : Mat := fun i l => A i l * E c l

/-- The products of `kk` with `b`, masked. -/
theorem lMat_up (d : Bool) (msk : IVec S128x128 1)
    (h : ∀ i j, msk (ix2 i j) = if i.val / 64 = j.val / 64 ∧ place d j < place d i then 1#1 else 0#1) {A : FVec Ideal S256x128 .bf16} {Q : Mat}
    (hA : Upper A Q) (B K : Mat) :
    lMat msk (gram A (up .bf16 (over B K))) = upM .f32 (lower d Q B) := by
  have e : extractStridedSlice S128x128 ![0, 0] (gram A (up .bf16 (over B K))) slices_S256x256_o0_0_S128x128
      = upM .f32 (rowsBy Q B) := by
    refine vec_ext (n := 128) (m := 128) (t := .f32) fun i j => ?_
    refine (extractStridedSlice_apply (s := S256x256) ![0, 0] _ _ _ (ix2 ⟨i.val, by omega⟩ ⟨j.val, by omega⟩) fun a => by
      match a with | ⟨0, _⟩ => exact (Nat.zero_add _).symm | ⟨1, _⟩ => exact (Nat.zero_add _).symm).trans ?_
    refine (trans_row none A (over B K) _ _ (hA i) _).trans ?_
    rw [upM_apply, rowsBy]
    refine congrArg Real.toEReal (Finset.sum_congr rfl fun l _ => ?_)
    simp [over]
  rw [lMat, e]
  exact mask_up msk _ h _

/-- The products of `kk` with `k`, masked. -/
theorem lkMat_up (d : Bool) (msk : IVec S128x128 1)
    (h : ∀ i j, msk (ix2 i j) = if i.val / 64 = j.val / 64 ∧ place d j < place d i then 1#1 else 0#1) {A : FVec Ideal S256x128 .bf16} {Q : Mat}
    (hA : Upper A Q) (B K : Mat) :
    lkMat msk (gram A (up .bf16 (over B K))) = upM .f32 (lower d Q K) := by
  have e : extractStridedSlice S128x128 ![0, 128] (gram A (up .bf16 (over B K))) slices_S256x256_o0_128_S128x128
      = upM .f32 (rowsBy Q K) := by
    refine vec_ext (n := 128) (m := 128) (t := .f32) fun i j => ?_
    refine (extractStridedSlice_apply (s := S256x256) ![0, 128] _ _ _ (ix2 ⟨i.val, by omega⟩ ⟨128 + j.val, by omega⟩) fun a => by
      match a with | ⟨0, _⟩ => exact (Nat.zero_add _).symm | ⟨1, _⟩ => rfl).trans ?_
    refine (trans_row none A (over B K) _ _ (hA i) _).trans ?_
    rw [upM_apply, rowsBy]
    refine congrArg Real.toEReal (Finset.sum_congr rfl fun l _ => ?_)
    simp [over]
  rw [lkMat, e]
  exact mask_up msk _ h _

/-- The right-hand side. -/
theorem wMat_up (d : Bool) {A : FVec Ideal S256x128 .bf16} {Q : Mat} (hA : Upper A Q) (K V S : Mat) :
    wMat A (upM .f32 (lower d Q K)) (upM .f32 V) (upM .f32 S) = upM .f32 (wR d Q K V S) := by
  have e : extractStridedSlice S128x128 ![0, 0]
      (matmul dot_S256x128_S128x128_S256x128_1_1_0_0_n_n none A (hi (upM .f32 S)) (constant S256x128 .f32 0x00000000#32))
      slices_S256x128_o0_0_S128x128 = upM .f32 (rowsBy Q S) := by
    refine vec_ext (n := 128) (m := 128) (t := .f32) fun i j => ?_
    refine (extractStridedSlice_apply (s := S256x128) ![0, 0] _ _ _ (ix2 ⟨i.val, by omega⟩ j) fun a => by
      match a with | ⟨0, _⟩ => exact (Nat.zero_add _).symm | ⟨1, _⟩ => exact (Nat.zero_add _).symm).trans ?_
    exact trans_row none A (fun i j => S i j) _ _ (hA i) _
  rw [wMat, e, hi_mat, hi_mat, mm_up, add_mat]
  rfl

/-- The solution. -/
theorem uMat_up (X W : Mat) : uMat (upM .f32 X) (upM .f32 W) = upM .f32 (solved X W) := by
  rw [uMat, zero128_up, hi_mat, hi_mat, mm_up]
  exact sub_mat _ _

/-- The additions. -/
theorem grown_up (S U V B K : Mat) :
    grown (upM .f32 S) (upM .f32 U) (upM .f32 V) (up .bf16 (over B K))
      = upM .f32 (added S U V B K) := by
  have e : hi (transpose S128x256 [1, 0] (up .f32 (over U V) : FVec Ideal S256x128 .f32) transposes_S256x128_p1_0_S128x256)
      = up (n := 128) (m := 256) .bf16 fun v i => over U V i v := by
    refine vec_ext (n := 128) (m := 256) (t := .bf16) fun v i => ?_
    exact Idealize.ShloMosaic.transpose_apply (s := S256x128) (t := S128x256) [1, 0] (up .f32 (over U V)) _ (ix2 v i) (ix2 i v) fun b => by match b with | ⟨0, _⟩ => rfl | ⟨1, _⟩ => rfl
  rw [grown, cat128_up, e]
  refine (congrArg (addf (upM .f32 S)) (plain_up none .bf16 (fun v i => over U V i v) (over B K))).trans ?_
  refine (add_up (fun i j => S i j) _).trans ?_
  refine congrArg (up .f32) (funext fun v => funext fun k => congrArg (S v k + ·) ?_)
  refine (Fin.sum_univ_add (a := 128) (b := 128) _).trans ?_
  congr 1

/-- The chunk but for its last decay. -/
theorem core_up (d : Bool) (msk : IVec S128x128 1)
    (h : ∀ i j, msk (ix2 i j) = if i.val / 64 = j.val / 64 ∧ place d j < place d i then 1#1 else 0#1) (lw kk b k v : Rows) (r : FVec Ideal S64x128 .f32) (S : Mat) :
    core msk m8 m16 m32 m64 mEye (up .f32 (running d lw)) (up .f32 lw) (up .f32 kk) (up .f32 b) (up .f32 k) (up .f32 v) r
        (upM .f32 S)
      = upM .f32 (tR d (stacked (qRows d lw kk)) (stacked (offRows d lw b)) (stacked (offRows d lw k)) (stacked v) S) := by
  have hA := qr_upper d lw kk r
  rw [core, bk_up, stk_up, lMat_up d msk h hA, lkMat_up d msk h hA, wMat_up d hA, invAll_up, uMat_up, grown_up]
  rfl

/-- The last decay. -/
theorem last_up (o : Fin 2 → ℕ) (c : Fin 64) (hs : S64x128.Slices o S1x128) (hb : S1x128.Broadcasts S128x128) (ho : o = ![c.val, 0])
    (A : Mat) (E : Rows) :
    mulf (upM .f32 A) (broadcastTo S128x128 (extractStridedSlice S1x128 o (up .f32 E : FVec Ideal S64x128 .f32) hs) hb)
      = upM .f32 (decayed A E c) := by
  subst ho
  refine vec_ext (n := 128) (m := 128) (t := .f32) fun i l => ?_
  have e : broadcastTo S128x128 (extractStridedSlice S1x128 ![c.val, 0] (up .f32 E : FVec Ideal S64x128 .f32) hs) hb (ix2 i l)
      = ((E c l : ℝ) : EReal) := by
    refine (broadcastTo_apply (s := S1x128) (t := S128x128) _ hb _ (ix2 0 l) fun a => by match a with | ⟨0, _⟩ => rfl | ⟨1, _⟩ => rfl).trans ?_
    exact extractStridedSlice_apply (s := S64x128) (t := S1x128) _ _ hs _ (ix2 c l) fun a => by
      match a with | ⟨0, _⟩ => rfl | ⟨1, _⟩ => exact (Nat.zero_add _).symm
  show upM .f32 A (ix2 i l) * _ = _
  rw [e, upM_apply, upM_apply, ← EReal.coe_mul]; rfl

/-- **A chunk taken forwards**, on real blocks. -/
theorem chainF_up (lw kk b k v : Rows) (r : FVec Ideal S64x128 .f32) (S : Mat) :
    chainF (k0_pay10 rowNo64 colNo64) (k0_pay8 mHead rowIn colIn) m8 m16 m32 m64 mEye
        (up .f32 lw) (up .f32 kk) (up .f32 b) (up .f32 k) (up .f32 v) r (upM .f32 S)
      = upM .f32 (chunkR false lw kk b k v S) := by
  rw [chainF, cumOf_up false _ (fun i j => by
      rw [triF_apply]
      exact if_congr (show j.val ≤ i.val ↔ j.val < i.val + 1 by omega) rfl rfl),
    core_up false _ (fun i j => by
      rw [lowF_apply]
      exact if_congr (show (i.val / 64 = j.val / 64 ∧ j.val % 64 < i.val % 64) ↔ (i.val / 64 = j.val / 64 ∧ j.val < i.val) by omega) rfl rfl),
    exp_up, last_up ![63, 0] 63 _ _ rfl]
  rfl

/-- **A chunk taken backwards**, on real blocks. -/
theorem chainB_up (lw kk b k v : Rows) (r : FVec Ideal S64x128 .f32) (S : Mat) :
    chainB (k0_pay13 rowNo64 colNo64) (k0_pay11 mHead rowIn colIn) m8 m16 m32 m64 mEye
        (up .f32 lw) (up .f32 kk) (up .f32 b) (up .f32 k) (up .f32 v) r (upM .f32 S)
      = upM .f32 (chunkR true lw kk b k v S) := by
  rw [chainB, cumOf_up true _ (fun i j => by
      rw [triB_apply]
      exact if_congr (show i.val ≤ j.val ↔ 63 - j.val < 63 - i.val + 1 by omega) rfl rfl),
    core_up true _ (fun i j => by
      rw [lowB_apply]
      exact if_congr (show (i.val / 64 = j.val / 64 ∧ i.val % 64 < j.val % 64) ↔ (i.val / 64 = j.val / 64 ∧ 127 - j.val < 127 - i.val) by omega) rfl rfl),
    exp_up, last_up ![0, 0] 0 _ _ rfl]
  rfl

end Cert.KernelIdeal.Scan
-- ==== Proof.ScanStep.lean ====
/- One trip of the scan at the ideal numbers: every block of states moves on by one chunk of 64 tokens. -/
module

public import proofs.«01_k».proof.Proof.ScanTrip
public import proofs.«01_k».proof.Proof.ScanOffs
public import proofs.«01_k».proof.Proof.ScanChunkI

@[expose] public section

set_option maxRecDepth 8192

noncomputable section

namespace Cert.KernelIdeal.Scan

open Cert.KernelIdeal Cert.KernelIdeal.Gen Cert.ScanMath
open Idealize.ShloMosaic Idealize.ShloMosaic.TcCoe Idealize.ShloMosaic.Pointwise Idealize.SL.Sem

/-- The rows of two sequences of 256 tokens, over all 512 lanes. -/
abbrev Wide := Fin 512 → Fin 512 → ℝ

/-- One chunk's rows over one pair's lanes. -/
def part (A : Wide) (q : Fin 2) (p j : Fin 4) : Rows := fun i l =>
  A ⟨256 * q.val + 64 * j.val + i.val, by omega⟩ ⟨128 * p.val + l.val, by omega⟩

/-- The states of two sequences and four pairs of heads. -/
abbrev States := Fin 2 → Fin 4 → Mat

/-- States of real numbers as a block at the ideal numbers. -/
def upS (T : States) : FVec Ideal S2x4x128x128 .f32 := fun y => ((T (y 0) (y 1) (y 2) (y 3) : ℝ) : EReal)

/-- All states moved on by chunk `j`. -/
def stepS (d : Bool) (lw kk b k v : Wide) (j : Fin 4) (T : States) : States := fun q p =>
  chunkR d (part lw q p j) (part kk q p j) (part b q p j) (part k q p j) (part v q p j) (T q p)

/-- A load of one chunk's rows. -/
theorem ld_up {a : Memref sig .tc .vmem S512x512 .f32} {X : BufTy.Contents (Elt Ideal) a.view.ty} {A : Wide}
    (hX : a.view.read (Elt Ideal) X = up .f32 A) (q : Fin 2) (p j : Fin 4) {o : Fin 2 → ℕ}
    (h : ∀ d, o d + S64x128.size d ≤ S512x512.size d) (ho : o = ![256 * q.val + 64 * j.val, 128 * p.val]) :
    ld a X o h = up .f32 (part A q p j) := by
  subst ho
  refine vec_ext (n := 64) (m := 128) (t := .f32) fun i l => ?_
  show a.view.readAt (Elt Ideal) _ X _ = _
  rw [View.readAt_eq_ld]
  show a.view.read (Elt Ideal) X _ = _
  rw [hX]
  have e0 : (⟨256 * q.val + 64 * j.val + 1 * i.val, by omega⟩ : Fin 512) = ⟨256 * q.val + 64 * j.val + i.val, by omega⟩ :=
    Fin.ext (by show 256 * q.val + 64 * j.val + 1 * i.val = 256 * q.val + 64 * j.val + i.val; omega)
  have e1 : (⟨128 * p.val + 1 * l.val, by omega⟩ : Fin 512) = ⟨128 * p.val + l.val, by omega⟩ :=
    Fin.ext (by show 128 * p.val + 1 * l.val = 128 * p.val + l.val; omega)
  show ((A ⟨256 * q.val + 64 * j.val + 1 * i.val, _⟩ ⟨128 * p.val + 1 * l.val, _⟩ : ℝ) : EReal) = _
  rw [e0, e1]
  rfl

/-- A load of one pair's state. -/
theorem state_up {a : Memref sig .tc .vmem S2x4x128x128 .f32} {X : BufTy.Contents (Elt Ideal) a.view.ty} {T : States}
    (hX : a.view.read (Elt Ideal) X = upS T) (q : Fin 2) (p : Fin 4) {o : Fin 4 → ℕ}
    (h : ∀ d, o d + S1x1x128x128.size d ≤ S2x4x128x128.size d) (ho : o = ![q.val, p.val, 0, 0]) :
    shapeCast S128x128 (a.view.readAt (Elt Ideal) (Rect.unit (s := S2x4x128x128) o S1x1x128x128.size h).toLoadRect X)
      shapeCasts_S1x1x128x128_S128x128 = upM .f32 (T q p) := by
  subst ho
  refine vec_ext (n := 128) (m := 128) (t := .f32) fun i l => ?_
  rw [Idealize.ShloMosaic.shapeCast_apply _ _ _ (ix4 (0 : Fin 1) (0 : Fin 1) i l) (by
    rw [Shape.rowMajor_val_four, Shape.rowMajor_val_two]
    show ((0 * 1 + 0) * 128 + i.val) * 128 + l.val = i.val * 128 + l.val
    omega), View.readAt_eq_ld]
  show a.view.read (Elt Ideal) X _ = _
  rw [hX]
  show ((T _ _ _ _ : ℝ) : EReal) = ((T q p i l : ℝ) : EReal)
  have e0 : (⟨q.val + 1 * 0, by omega⟩ : Fin 2) = q := Fin.ext (by show q.val + 1 * 0 = q.val; omega)
  have e1 : (⟨p.val + 1 * 0, by omega⟩ : Fin 4) = p := Fin.ext (by show p.val + 1 * 0 = p.val; omega)
  have e2 : (⟨0 + 1 * i.val, by omega⟩ : Fin 128) = i := Fin.ext (by show 0 + 1 * i.val = i.val; omega)
  have e3 : (⟨0 + 1 * l.val, by omega⟩ : Fin 128) = l := Fin.ext (by show 0 + 1 * l.val = l.val; omega)
  show ((T ⟨q.val + 1 * 0, _⟩ ⟨p.val + 1 * 0, _⟩ ⟨0 + 1 * i.val, _⟩ ⟨0 + 1 * l.val, _⟩ : ℝ) : EReal) = _
  rw [e0, e1, e2, e3]

/-- A stored block holds its pair's state. -/
theorem piece_up (T : States) (q : Fin 2) (p : Fin 4) {o : Fin 4 → ℕ} (h : ∀ d, o d + S1x1x128x128.size d ≤ S2x4x128x128.size d)
    (ho : o = ![q.val, p.val, 0, 0]) {blk : FVec Ideal S128x128 .f32} (hb : blk = upM .f32 (T q p))
    (x : (Rect.unit (s := S2x4x128x128) o S1x1x128x128.size h).shape.Idx) :
    shapeCast S1x1x128x128 blk shapeCasts_S128x128_S1x1x128x128 x
      = upS T ((Rect.unit (s := S2x4x128x128) o S1x1x128x128.size h).emb x) := by
  subst ho hb
  obtain ⟨u, w, i, l, rfl⟩ : ∃ (u w : Fin 1) (i l : Fin 128), x = ix4 u w i l := ⟨x 0, x 1, x 2, x 3, eq_ix4 x⟩
  rw [Idealize.ShloMosaic.shapeCast_apply _ _ _ (ix2 i l) (by
    rw [Shape.rowMajor_val_four, Shape.rowMajor_val_two]
    show i.val * 128 + l.val = ((u.val * 1 + w.val) * 128 + i.val) * 128 + l.val
    omega)]
  have e0 : (⟨q.val + 1 * u.val, by omega⟩ : Fin 2) = q := Fin.ext (by show q.val + 1 * u.val = q.val; omega)
  have e1 : (⟨p.val + 1 * w.val, by omega⟩ : Fin 4) = p := Fin.ext (by show p.val + 1 * w.val = p.val; omega)
  have e2 : (⟨0 + 1 * i.val, by omega⟩ : Fin 128) = i := Fin.ext (by show 0 + 1 * i.val = i.val; omega)
  have e3 : (⟨0 + 1 * l.val, by omega⟩ : Fin 128) = l := Fin.ext (by show 0 + 1 * l.val = l.val; omega)
  show ((T q p i l : ℝ) : EReal) = ((T ⟨q.val + 1 * u.val, _⟩ ⟨p.val + 1 * w.val, _⟩ ⟨0 + 1 * i.val, _⟩ ⟨0 + 1 * l.val, _⟩ : ℝ) : EReal)
  rw [e0, e1, e2, e3]

/-- An index lies in the block of its sequence and pair. -/
theorem mem_block (y : S2x4x128x128.Idx) {q p : ℕ} {o : Fin 4 → ℕ} (h : ∀ d, o d + S1x1x128x128.size d ≤ S2x4x128x128.size d)
    (ho : o = ![q, p, 0, 0]) (hy : (y 0).val = q ∧ (y 1).val = p) :
    y ∈ (Rect.unit (s := S2x4x128x128) o S1x1x128x128.size h).set := by
  subst ho
  obtain ⟨h0, h1⟩ := hy
  rw [Rect.mem_set_unit]
  intro a
  match a with
  | ⟨0, _⟩ => show q ≤ (y 0).val ∧ (y 0).val < q + 1; omega
  | ⟨1, _⟩ => show p ≤ (y 1).val ∧ (y 1).val < p + 1; omega
  | ⟨2, _⟩ => have h2 : (y 2).val < 128 := (y 2).isLt; show 0 ≤ (y 2).val ∧ (y 2).val < 0 + 128; omega
  | ⟨3, _⟩ => have h3 : (y 3).val < 128 := (y 3).isLt; show 0 ≤ (y 3).val ∧ (y 3).val < 0 + 128; omega

theorem which (y : S2x4x128x128.Idx) :
    ((y 0).val = 1 ∧ (y 1).val = 3) ∨ ((y 0).val = 1 ∧ (y 1).val = 2) ∨ ((y 0).val = 1 ∧ (y 1).val = 1) ∨ ((y 0).val = 1 ∧ (y 1).val = 0)
    ∨ ((y 0).val = 0 ∧ (y 1).val = 3) ∨ ((y 0).val = 0 ∧ (y 1).val = 2) ∨ ((y 0).val = 0 ∧ (y 1).val = 1) ∨ ((y 0).val = 0 ∧ (y 1).val = 0) := by
  have h0 : (y 0).val < 2 := (y 0).isLt
  have h1 : (y 1).val < 4 := (y 1).isLt
  omega

theorem chunkF_of {lw kk b k v : Rows} {S : Mat} {x1 x2 x3 x4 x5 x6 : FVec Ideal S64x128 .f32} {s : FVec Ideal S128x128 .f32}
    (h1 : x1 = up .f32 lw) (h2 : x2 = up .f32 kk) (h3 : x3 = up .f32 b) (h4 : x4 = up .f32 k) (h5 : x5 = up .f32 v) (hs : s = upM .f32 S) :
    chainF (k0_pay10 rowNo64 colNo64) (k0_pay8 mHead rowIn colIn) m8 m16 m32 (k0_pay1 (k0_pay914 rowNo) (k0_pay915 colNo) (k0_pay916 colNo))
        mEye x1 x2 x3 x4 x5 x6 s
      = upM .f32 (chunkR false lw kk b k v S) := by
  subst h1 h2 h3 h4 h5 hs
  exact chainF_up lw kk b k v x6 S

theorem chunkB_of {lw kk b k v : Rows} {S : Mat} {x1 x2 x3 x4 x5 x6 : FVec Ideal S64x128 .f32} {s : FVec Ideal S128x128 .f32}
    (h1 : x1 = up .f32 lw) (h2 : x2 = up .f32 kk) (h3 : x3 = up .f32 b) (h4 : x4 = up .f32 k) (h5 : x5 = up .f32 v) (hs : s = upM .f32 S) :
    chainB (k0_pay13 rowNo64 colNo64) (k0_pay11 mHead rowIn colIn) m8 m16 m32 (k0_pay1 (k0_pay914 rowNo) (k0_pay915 colNo) (k0_pay916 colNo))
        mEye x1 x2 x3 x4 x5 x6 s
      = upM .f32 (chunkR true lw kk b k v S) := by
  subst h1 h2 h3 h4 h5 hs
  exact chainB_up lw kk b k v x6 S

/-- The forward states after a trip. -/
theorem stepF (𝒱 : Variants) (c : Dev nD) (bd : Option 𝒱.V) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S2x4x128x128 .f32) (harg12 : arg12.IsWhole) (arg13 : Memref sig .tc .vmem S2x4x128x128 .f32) (harg13 : arg13.IsWhole) (X_arg1 : BufTy.Contents (Elt Ideal) arg1.view.ty) (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (k : Fin k0_t1_loop.trips)
    (X_arg11 : BufTy.Contents (Elt Ideal) arg11.view.ty) (f_arg12 : BufTy.Contents (Elt Ideal) arg12.view.ty) (f_arg13 : BufTy.Contents (Elt Ideal) arg13.view.ty)
    {v kk lw k0 b : Wide} (hv : arg2.view.read (Elt Ideal) X_arg2 = up .f32 v)
    (hkk : arg3.view.read (Elt Ideal) X_arg3 = up .f32 kk) (hlw : arg5.view.read (Elt Ideal) X_arg5 = up .f32 lw)
    (hk : arg7.view.read (Elt Ideal) X_arg7 = up .f32 k0) (hb : arg9.view.read (Elt Ideal) X_arg9 = up .f32 b)
    {T : States} (hT : arg12.view.read (Elt Ideal) f_arg12 = upS T) (g : BufTy.Contents (Elt Ideal) arg12.view.ty) :
    arg12.view.read (Elt Ideal) (arg12.view.writes (Elt Ideal) g
        ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 mHead rowIn colIn mEye m8 m16 m32 (k0_pay914 rowNo) (k0_pay915 colNo) (k0_pay916 colNo) rowNo64 colNo64 X_arg1 X_arg2 X_arg3 X_arg5 X_arg6 X_arg7 X_arg8 X_arg9 X_arg10 k).2.1 X_arg11 f_arg12 f_arg13))
      = upS (stepS false lw kk b k0 v (turn false k) T) := by
  rw [trip_fwd]
  funext y
  refine View.read_writes_apply_of_pieces (Val := Elt Ideal) (e := .f32) _ _ (upS (stepS false lw kk b k0 v (turn false k) T)) _ ?_ y ?_
  · refine List.forall_mem_cons.2 ⟨fun x => piece_up (stepS false lw kk b k0 v (turn false k) T) 1 3 inb_S2x4x128x128_S1x1x128x128_1_3_0_0 rfl (chunkF_of (ld_up hlw 1 3 (turn false k) (k0_off7_inb k 1) (off_f13 k)) (ld_up hkk 1 3 (turn false k) (k0_off7_inb k 1) (off_f13 k)) (ld_up hb 1 3 (turn false k) (k0_off7_inb k 1) (off_f13 k)) (ld_up hk 1 3 (turn false k) (k0_off7_inb k 1) (off_f13 k)) (ld_up hv 1 3 (turn false k) (k0_off7_inb k 1) (off_f13 k)) (state_up hT 1 3 inb_S2x4x128x128_S1x1x128x128_1_3_0_0 rfl)) x, ?_⟩
    refine List.forall_mem_cons.2 ⟨fun x => piece_up (stepS false lw kk b k0 v (turn false k) T) 1 2 inb_S2x4x128x128_S1x1x128x128_1_2_0_0 rfl (chunkF_of (ld_up hlw 1 2 (turn false k) (k0_off5_inb k 1) (off_f12 k)) (ld_up hkk 1 2 (turn false k) (k0_off5_inb k 1) (off_f12 k)) (ld_up hb 1 2 (turn false k) (k0_off5_inb k 1) (off_f12 k)) (ld_up hk 1 2 (turn false k) (k0_off5_inb k 1) (off_f12 k)) (ld_up hv 1 2 (turn false k) (k0_off5_inb k 1) (off_f12 k)) (state_up hT 1 2 inb_S2x4x128x128_S1x1x128x128_1_2_0_0 rfl)) x, ?_⟩
    refine List.forall_mem_cons.2 ⟨fun x => piece_up (stepS false lw kk b k0 v (turn false k) T) 1 1 inb_S2x4x128x128_S1x1x128x128_1_1_0_0 rfl (chunkF_of (ld_up hlw 1 1 (turn false k) (k0_off3_inb k 1) (off_f11 k)) (ld_up hkk 1 1 (turn false k) (k0_off3_inb k 1) (off_f11 k)) (ld_up hb 1 1 (turn false k) (k0_off3_inb k 1) (off_f11 k)) (ld_up hk 1 1 (turn false k) (k0_off3_inb k 1) (off_f11 k)) (ld_up hv 1 1 (turn false k) (k0_off3_inb k 1) (off_f11 k)) (state_up hT 1 1 inb_S2x4x128x128_S1x1x128x128_1_1_0_0 rfl)) x, ?_⟩
    refine List.forall_mem_cons.2 ⟨fun x => piece_up (stepS false lw kk b k0 v (turn false k) T) 1 0 inb_S2x4x128x128_S1x1x128x128_1_0_0_0 rfl (chunkF_of (ld_up hlw 1 0 (turn false k) (k0_off1_inb k 1) (off_f10 k)) (ld_up hkk 1 0 (turn false k) (k0_off1_inb k 1) (off_f10 k)) (ld_up hb 1 0 (turn false k) (k0_off1_inb k 1) (off_f10 k)) (ld_up hk 1 0 (turn false k) (k0_off1_inb k 1) (off_f10 k)) (ld_up hv 1 0 (turn false k) (k0_off1_inb k 1) (off_f10 k)) (state_up hT 1 0 inb_S2x4x128x128_S1x1x128x128_1_0_0_0 rfl)) x, ?_⟩
    refine List.forall_mem_cons.2 ⟨fun x => piece_up (stepS false lw kk b k0 v (turn false k) T) 0 3 inb_S2x4x128x128_S1x1x128x128_0_3_0_0 rfl (chunkF_of (ld_up hlw 0 3 (turn false k) (k0_off7_inb k 0) (off_f03 k)) (ld_up hkk 0 3 (turn false k) (k0_off7_inb k 0) (off_f03 k)) (ld_up hb 0 3 (turn false k) (k0_off7_inb k 0) (off_f03 k)) (ld_up hk 0 3 (turn false k) (k0_off7_inb k 0) (off_f03 k)) (ld_up hv 0 3 (turn false k) (k0_off7_inb k 0) (off_f03 k)) (state_up hT 0 3 inb_S2x4x128x128_S1x1x128x128_0_3_0_0 rfl)) x, ?_⟩
    refine List.forall_mem_cons.2 ⟨fun x => piece_up (stepS false lw kk b k0 v (turn false k) T) 0 2 inb_S2x4x128x128_S1x1x128x128_0_2_0_0 rfl (chunkF_of (ld_up hlw 0 2 (turn false k) (k0_off5_inb k 0) (off_f02 k)) (ld_up hkk 0 2 (turn false k) (k0_off5_inb k 0) (off_f02 k)) (ld_up hb 0 2 (turn false k) (k0_off5_inb k 0) (off_f02 k)) (ld_up hk 0 2 (turn false k) (k0_off5_inb k 0) (off_f02 k)) (ld_up hv 0 2 (turn false k) (k0_off5_inb k 0) (off_f02 k)) (state_up hT 0 2 inb_S2x4x128x128_S1x1x128x128_0_2_0_0 rfl)) x, ?_⟩
    refine List.forall_mem_cons.2 ⟨fun x => piece_up (stepS false lw kk b k0 v (turn false k) T) 0 1 inb_S2x4x128x128_S1x1x128x128_0_1_0_0 rfl (chunkF_of (ld_up hlw 0 1 (turn false k) (k0_off3_inb k 0) (off_f01 k)) (ld_up hkk 0 1 (turn false k) (k0_off3_inb k 0) (off_f01 k)) (ld_up hb 0 1 (turn false k) (k0_off3_inb k 0) (off_f01 k)) (ld_up hk 0 1 (turn false k) (k0_off3_inb k 0) (off_f01 k)) (ld_up hv 0 1 (turn false k) (k0_off3_inb k 0) (off_f01 k)) (state_up hT 0 1 inb_S2x4x128x128_S1x1x128x128_0_1_0_0 rfl)) x, ?_⟩
    refine List.forall_mem_cons.2 ⟨fun x => piece_up (stepS false lw kk b k0 v (turn false k) T) 0 0 inb_S2x4x128x128_S1x1x128x128_0_0_0_0 rfl (chunkF_of (ld_up hlw 0 0 (turn false k) (k0_off1_inb k 0) (off_f00 k)) (ld_up hkk 0 0 (turn false k) (k0_off1_inb k 0) (off_f00 k)) (ld_up hb 0 0 (turn false k) (k0_off1_inb k 0) (off_f00 k)) (ld_up hk 0 0 (turn false k) (k0_off1_inb k 0) (off_f00 k)) (ld_up hv 0 0 (turn false k) (k0_off1_inb k 0) (off_f00 k)) (state_up hT 0 0 inb_S2x4x128x128_S1x1x128x128_0_0_0_0 rfl)) x, ?_⟩
    exact List.forall_mem_nil _
  · rcases which y with e | e | e | e | e | e | e | e
    · exact ⟨_, List.mem_cons_self, mem_block y inb_S2x4x128x128_S1x1x128x128_1_3_0_0 rfl e⟩
    · exact ⟨_, (List.mem_cons_of_mem _ List.mem_cons_self), mem_block y inb_S2x4x128x128_S1x1x128x128_1_2_0_0 rfl e⟩
    · exact ⟨_, (List.mem_cons_of_mem _ (List.mem_cons_of_mem _ List.mem_cons_self)), mem_block y inb_S2x4x128x128_S1x1x128x128_1_1_0_0 rfl e⟩
    · exact ⟨_, (List.mem_cons_of_mem _ (List.mem_cons_of_mem _ (List.mem_cons_of_mem _ List.mem_cons_self))), mem_block y inb_S2x4x128x128_S1x1x128x128_1_0_0_0 rfl e⟩
    · exact ⟨_, (List.mem_cons_of_mem _ (List.mem_cons_of_mem _ (List.mem_cons_of_mem _ (List.mem_cons_of_mem _ List.mem_cons_self)))), mem_block y inb_S2x4x128x128_S1x1x128x128_0_3_0_0 rfl e⟩
    · exact ⟨_, (List.mem_cons_of_mem _ (List.mem_cons_of_mem _ (List.mem_cons_of_mem _ (List.mem_cons_of_mem _ (List.mem_cons_of_mem _ List.mem_cons_self))))), mem_block y inb_S2x4x128x128_S1x1x128x128_0_2_0_0 rfl e⟩
    · exact ⟨_, (List.mem_cons_of_mem _ (List.mem_cons_of_mem _ (List.mem_cons_of_mem _ (List.mem_cons_of_mem _ (List.mem_cons_of_mem _ (List.mem_cons_of_mem _ List.mem_cons_self)))))), mem_block y inb_S2x4x128x128_S1x1x128x128_0_1_0_0 rfl e⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_block y inb_S2x4x128x128_S1x1x128x128_0_0_0_0 rfl e⟩

/-- The backward states after a trip. -/
theorem stepB (𝒱 : Variants) (c : Dev nD) (bd : Option 𝒱.V) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S2x4x128x128 .f32) (harg12 : arg12.IsWhole) (arg13 : Memref sig .tc .vmem S2x4x128x128 .f32) (harg13 : arg13.IsWhole) (X_arg1 : BufTy.Contents (Elt Ideal) arg1.view.ty) (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (k : Fin k0_t1_loop.trips)
    (X_arg11 : BufTy.Contents (Elt Ideal) arg11.view.ty) (f_arg12 : BufTy.Contents (Elt Ideal) arg12.view.ty) (f_arg13 : BufTy.Contents (Elt Ideal) arg13.view.ty)
    {v kk lw k0 b : Wide} (hv : arg2.view.read (Elt Ideal) X_arg2 = up .f32 v)
    (hkk : arg3.view.read (Elt Ideal) X_arg3 = up .f32 kk) (hlw : arg6.view.read (Elt Ideal) X_arg6 = up .f32 lw)
    (hk : arg8.view.read (Elt Ideal) X_arg8 = up .f32 k0) (hb : arg10.view.read (Elt Ideal) X_arg10 = up .f32 b)
    {T : States} (hT : arg13.view.read (Elt Ideal) f_arg13 = upS T) (g : BufTy.Contents (Elt Ideal) arg13.view.ty) :
    arg13.view.read (Elt Ideal) (arg13.view.writes (Elt Ideal) g
        ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 mHead rowIn colIn mEye m8 m16 m32 (k0_pay914 rowNo) (k0_pay915 colNo) (k0_pay916 colNo) rowNo64 colNo64 X_arg1 X_arg2 X_arg3 X_arg5 X_arg6 X_arg7 X_arg8 X_arg9 X_arg10 k).2.2.1 X_arg11 f_arg12 f_arg13))
      = upS (stepS true lw kk b k0 v (turn true k) T) := by
  rw [trip_bwd]
  funext y
  refine View.read_writes_apply_of_pieces (Val := Elt Ideal) (e := .f32) _ _ (upS (stepS true lw kk b k0 v (turn true k) T)) _ ?_ y ?_
  · refine List.forall_mem_cons.2 ⟨fun x => piece_up (stepS true lw kk b k0 v (turn true k) T) 1 3 inb_S2x4x128x128_S1x1x128x128_1_3_0_0 rfl (chunkB_of (ld_up hlw 1 3 (turn true k) (k0_off8_inb k 1) (off_b13 k)) (ld_up hkk 1 3 (turn true k) (k0_off8_inb k 1) (off_b13 k)) (ld_up hb 1 3 (turn true k) (k0_off8_inb k 1) (off_b13 k)) (ld_up hk 1 3 (turn true k) (k0_off8_inb k 1) (off_b13 k)) (ld_up hv 1 3 (turn true k) (k0_off8_inb k 1) (off_b13 k)) (state_up hT 1 3 inb_S2x4x128x128_S1x1x128x128_1_3_0_0 rfl)) x, ?_⟩
    refine List.forall_mem_cons.2 ⟨fun x => piece_up (stepS true lw kk b k0 v (turn true k) T) 1 2 inb_S2x4x128x128_S1x1x128x128_1_2_0_0 rfl (chunkB_of (ld_up hlw 1 2 (turn true k) (k0_off6_inb k 1) (off_b12 k)) (ld_up hkk 1 2 (turn true k) (k0_off6_inb k 1) (off_b12 k)) (ld_up hb 1 2 (turn true k) (k0_off6_inb k 1) (off_b12 k)) (ld_up hk 1 2 (turn true k) (k0_off6_inb k 1) (off_b12 k)) (ld_up hv 1 2 (turn true k) (k0_off6_inb k 1) (off_b12 k)) (state_up hT 1 2 inb_S2x4x128x128_S1x1x128x128_1_2_0_0 rfl)) x, ?_⟩
    refine List.forall_mem_cons.2 ⟨fun x => piece_up (stepS true lw kk b k0 v (turn true k) T) 1 1 inb_S2x4x128x128_S1x1x128x128_1_1_0_0 rfl (chunkB_of (ld_up hlw 1 1 (turn true k) (k0_off4_inb k 1) (off_b11 k)) (ld_up hkk 1 1 (turn true k) (k0_off4_inb k 1) (off_b11 k)) (ld_up hb 1 1 (turn true k) (k0_off4_inb k 1) (off_b11 k)) (ld_up hk 1 1 (turn true k) (k0_off4_inb k 1) (off_b11 k)) (ld_up hv 1 1 (turn true k) (k0_off4_inb k 1) (off_b11 k)) (state_up hT 1 1 inb_S2x4x128x128_S1x1x128x128_1_1_0_0 rfl)) x, ?_⟩
    refine List.forall_mem_cons.2 ⟨fun x => piece_up (stepS true lw kk b k0 v (turn true k) T) 1 0 inb_S2x4x128x128_S1x1x128x128_1_0_0_0 rfl (chunkB_of (ld_up hlw 1 0 (turn true k) (k0_off2_inb k 1) (off_b10 k)) (ld_up hkk 1 0 (turn true k) (k0_off2_inb k 1) (off_b10 k)) (ld_up hb 1 0 (turn true k) (k0_off2_inb k 1) (off_b10 k)) (ld_up hk 1 0 (turn true k) (k0_off2_inb k 1) (off_b10 k)) (ld_up hv 1 0 (turn true k) (k0_off2_inb k 1) (off_b10 k)) (state_up hT 1 0 inb_S2x4x128x128_S1x1x128x128_1_0_0_0 rfl)) x, ?_⟩
    refine List.forall_mem_cons.2 ⟨fun x => piece_up (stepS true lw kk b k0 v (turn true k) T) 0 3 inb_S2x4x128x128_S1x1x128x128_0_3_0_0 rfl (chunkB_of (ld_up hlw 0 3 (turn true k) (k0_off8_inb k 0) (off_b03 k)) (ld_up hkk 0 3 (turn true k) (k0_off8_inb k 0) (off_b03 k)) (ld_up hb 0 3 (turn true k) (k0_off8_inb k 0) (off_b03 k)) (ld_up hk 0 3 (turn true k) (k0_off8_inb k 0) (off_b03 k)) (ld_up hv 0 3 (turn true k) (k0_off8_inb k 0) (off_b03 k)) (state_up hT 0 3 inb_S2x4x128x128_S1x1x128x128_0_3_0_0 rfl)) x, ?_⟩
    refine List.forall_mem_cons.2 ⟨fun x => piece_up (stepS true lw kk b k0 v (turn true k) T) 0 2 inb_S2x4x128x128_S1x1x128x128_0_2_0_0 rfl (chunkB_of (ld_up hlw 0 2 (turn true k) (k0_off6_inb k 0) (off_b02 k)) (ld_up hkk 0 2 (turn true k) (k0_off6_inb k 0) (off_b02 k)) (ld_up hb 0 2 (turn true k) (k0_off6_inb k 0) (off_b02 k)) (ld_up hk 0 2 (turn true k) (k0_off6_inb k 0) (off_b02 k)) (ld_up hv 0 2 (turn true k) (k0_off6_inb k 0) (off_b02 k)) (state_up hT 0 2 inb_S2x4x128x128_S1x1x128x128_0_2_0_0 rfl)) x, ?_⟩
    refine List.forall_mem_cons.2 ⟨fun x => piece_up (stepS true lw kk b k0 v (turn true k) T) 0 1 inb_S2x4x128x128_S1x1x128x128_0_1_0_0 rfl (chunkB_of (ld_up hlw 0 1 (turn true k) (k0_off4_inb k 0) (off_b01 k)) (ld_up hkk 0 1 (turn true k) (k0_off4_inb k 0) (off_b01 k)) (ld_up hb 0 1 (turn true k) (k0_off4_inb k 0) (off_b01 k)) (ld_up hk 0 1 (turn true k) (k0_off4_inb k 0) (off_b01 k)) (ld_up hv 0 1 (turn true k) (k0_off4_inb k 0) (off_b01 k)) (state_up hT 0 1 inb_S2x4x128x128_S1x1x128x128_0_1_0_0 rfl)) x, ?_⟩
    refine List.forall_mem_cons.2 ⟨fun x => piece_up (stepS true lw kk b k0 v (turn true k) T) 0 0 inb_S2x4x128x128_S1x1x128x128_0_0_0_0 rfl (chunkB_of (ld_up hlw 0 0 (turn true k) (k0_off2_inb k 0) (off_b00 k)) (ld_up hkk 0 0 (turn true k) (k0_off2_inb k 0) (off_b00 k)) (ld_up hb 0 0 (turn true k) (k0_off2_inb k 0) (off_b00 k)) (ld_up hk 0 0 (turn true k) (k0_off2_inb k 0) (off_b00 k)) (ld_up hv 0 0 (turn true k) (k0_off2_inb k 0) (off_b00 k)) (state_up hT 0 0 inb_S2x4x128x128_S1x1x128x128_0_0_0_0 rfl)) x, ?_⟩
    exact List.forall_mem_nil _
  · rcases which y with e | e | e | e | e | e | e | e
    · exact ⟨_, List.mem_cons_self, mem_block y inb_S2x4x128x128_S1x1x128x128_1_3_0_0 rfl e⟩
    · exact ⟨_, (List.mem_cons_of_mem _ List.mem_cons_self), mem_block y inb_S2x4x128x128_S1x1x128x128_1_2_0_0 rfl e⟩
    · exact ⟨_, (List.mem_cons_of_mem _ (List.mem_cons_of_mem _ List.mem_cons_self)), mem_block y inb_S2x4x128x128_S1x1x128x128_1_1_0_0 rfl e⟩
    · exact ⟨_, (List.mem_cons_of_mem _ (List.mem_cons_of_mem _ (List.mem_cons_of_mem _ List.mem_cons_self))), mem_block y inb_S2x4x128x128_S1x1x128x128_1_0_0_0 rfl e⟩
    · exact ⟨_, (List.mem_cons_of_mem _ (List.mem_cons_of_mem _ (List.mem_cons_of_mem _ (List.mem_cons_of_mem _ List.mem_cons_self)))), mem_block y inb_S2x4x128x128_S1x1x128x128_0_3_0_0 rfl e⟩
    · exact ⟨_, (List.mem_cons_of_mem _ (List.mem_cons_of_mem _ (List.mem_cons_of_mem _ (List.mem_cons_of_mem _ (List.mem_cons_of_mem _ List.mem_cons_self))))), mem_block y inb_S2x4x128x128_S1x1x128x128_0_2_0_0 rfl e⟩
    · exact ⟨_, (List.mem_cons_of_mem _ (List.mem_cons_of_mem _ (List.mem_cons_of_mem _ (List.mem_cons_of_mem _ (List.mem_cons_of_mem _ (List.mem_cons_of_mem _ List.mem_cons_self)))))), mem_block y inb_S2x4x128x128_S1x1x128x128_0_1_0_0 rfl e⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_block y inb_S2x4x128x128_S1x1x128x128_0_0_0_0 rfl e⟩

end Cert.KernelIdeal.Scan
-- ==== Proof.ScanLoop.lean ====
/- The scan's loop at the ideal numbers: after its four trips the states have moved on by four chunks, in order in one direction and in
   reverse order in the other; and so the two blocks of states that a grid point leaves. -/
module

public import proofs.«01_k».proof.Proof.ScanStep
public import proofs.«01_k».proof.Proof.Gen.KernelIdeal.Frame

@[expose] public section

set_option maxRecDepth 8192
set_option maxHeartbeats 4000000

noncomputable section

namespace Cert.KernelIdeal.Scan

open Cert.KernelIdeal Cert.KernelIdeal.Gen Cert.ScanMath
open Idealize.ShloMosaic Idealize.ShloMosaic.TcCoe Idealize.ShloMosaic.Pointwise Idealize.SL.Sem

/-- The chunk of the `n`-th trip. -/
def chunkNo (d : Bool) (n : ℕ) : Fin 4 := if d then ⟨3 - n, by omega⟩ else ⟨n % 4, by omega⟩

theorem turn_eq (d : Bool) (k : Fin k0_t1_loop.trips) : turn d k = chunkNo d k.val := by
  have h : k.val < 4 := lt_of_lt_of_eq k.isLt trips_eq
  cases d
  · exact Fin.ext (show k.val = k.val % 4 by omega)
  · rfl

/-- The states after `n` trips. -/
def runS (d : Bool) (lw kk b k v : Wide) (T : States) : ℕ → States
  | 0 => T
  | n + 1 => stepS d lw kk b k v (chunkNo d n) (runS d lw kk b k v T n)

/-- The forward states after `n` trips of the loop. -/
theorem loopF (𝒱 : Variants) (c : Dev nD) (bd : Option 𝒱.V) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S2x4x128x128 .f32) (harg12 : arg12.IsWhole) (arg13 : Memref sig .tc .vmem S2x4x128x128 .f32) (harg13 : arg13.IsWhole) (X_arg1 : BufTy.Contents (Elt Ideal) arg1.view.ty) (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty)
    (G_arg11 : BufTy.Contents (Elt Ideal) arg11.view.ty) (G_arg12 : BufTy.Contents (Elt Ideal) arg12.view.ty) (G_arg13 : BufTy.Contents (Elt Ideal) arg13.view.ty)
    {v kk lw k0 b : Wide} (hv : arg2.view.read (Elt Ideal) X_arg2 = up .f32 v)
    (hkk : arg3.view.read (Elt Ideal) X_arg3 = up .f32 kk) (hlw : arg5.view.read (Elt Ideal) X_arg5 = up .f32 lw)
    (hk : arg7.view.read (Elt Ideal) X_arg7 = up .f32 k0) (hb : arg9.view.read (Elt Ideal) X_arg9 = up .f32 b)
    {T : States} (hT : arg12.view.read (Elt Ideal) G_arg12 = upS T) (n : ℕ) (hn : n ≤ k0_t1_loop.trips) :
    arg12.view.read (Elt Ideal) (arg12.view.writes (Elt Ideal) G_arg12
        (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 mHead rowIn colIn mEye m8 m16 m32 (k0_pay914 rowNo) (k0_pay915 colNo) (k0_pay916 colNo) rowNo64 colNo64 X_arg1 X_arg2 X_arg3 X_arg5 X_arg6 X_arg7 X_arg8 X_arg9 X_arg10 G_arg11 G_arg12 G_arg13 n).2.1)
      = upS (runS false lw kk b k0 v T n) := by
  induction n with
  | zero => exact hT
  | succ n ih =>
    have ih := ih (by omega)
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 mHead rowIn colIn mEye m8 m16 m32 (k0_pay914 rowNo) (k0_pay915 colNo) (k0_pay916 colNo) rowNo64 colNo64 X_arg1 X_arg2 X_arg3 X_arg5 X_arg6 X_arg7 X_arg8 X_arg9 X_arg10 G_arg11 G_arg12 G_arg13 (n + 1) = _ from
      pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 mHead rowIn colIn mEye m8 m16 m32 (k0_pay914 rowNo) (k0_pay915 colNo) (k0_pay916 colNo) rowNo64 colNo64 X_arg1 X_arg2 X_arg3 X_arg5 X_arg6 X_arg7 X_arg8 X_arg9 X_arg10 G_arg11 G_arg12 G_arg13 ⟨n, hn⟩]
    dsimp only
    rw [View.writes_append]
    refine (stepF 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 X_arg3 X_arg5 X_arg6 X_arg7 X_arg8 X_arg9 X_arg10 ⟨n, hn⟩ _ _ _ hv hkk hlw hk hb (T := runS false lw kk b k0 v T n) ih _).trans ?_
    rw [turn_eq]
    rfl

/-- The backward states after `n` trips of the loop. -/
theorem loopB (𝒱 : Variants) (c : Dev nD) (bd : Option 𝒱.V) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S2x4x128x128 .f32) (harg12 : arg12.IsWhole) (arg13 : Memref sig .tc .vmem S2x4x128x128 .f32) (harg13 : arg13.IsWhole) (X_arg1 : BufTy.Contents (Elt Ideal) arg1.view.ty) (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty)
    (G_arg11 : BufTy.Contents (Elt Ideal) arg11.view.ty) (G_arg12 : BufTy.Contents (Elt Ideal) arg12.view.ty) (G_arg13 : BufTy.Contents (Elt Ideal) arg13.view.ty)
    {v kk lw k0 b : Wide} (hv : arg2.view.read (Elt Ideal) X_arg2 = up .f32 v)
    (hkk : arg3.view.read (Elt Ideal) X_arg3 = up .f32 kk) (hlw : arg6.view.read (Elt Ideal) X_arg6 = up .f32 lw)
    (hk : arg8.view.read (Elt Ideal) X_arg8 = up .f32 k0) (hb : arg10.view.read (Elt Ideal) X_arg10 = up .f32 b)
    {T : States} (hT : arg13.view.read (Elt Ideal) G_arg13 = upS T) (n : ℕ) (hn : n ≤ k0_t1_loop.trips) :
    arg13.view.read (Elt Ideal) (arg13.view.writes (Elt Ideal) G_arg13
        (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 mHead rowIn colIn mEye m8 m16 m32 (k0_pay914 rowNo) (k0_pay915 colNo) (k0_pay916 colNo) rowNo64 colNo64 X_arg1 X_arg2 X_arg3 X_arg5 X_arg6 X_arg7 X_arg8 X_arg9 X_arg10 G_arg11 G_arg12 G_arg13 n).2.2)
      = upS (runS true lw kk b k0 v T n) := by
  induction n with
  | zero => exact hT
  | succ n ih =>
    have ih := ih (by omega)
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 mHead rowIn colIn mEye m8 m16 m32 (k0_pay914 rowNo) (k0_pay915 colNo) (k0_pay916 colNo) rowNo64 colNo64 X_arg1 X_arg2 X_arg3 X_arg5 X_arg6 X_arg7 X_arg8 X_arg9 X_arg10 G_arg11 G_arg12 G_arg13 (n + 1) = _ from
      pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 mHead rowIn colIn mEye m8 m16 m32 (k0_pay914 rowNo) (k0_pay915 colNo) (k0_pay916 colNo) rowNo64 colNo64 X_arg1 X_arg2 X_arg3 X_arg5 X_arg6 X_arg7 X_arg8 X_arg9 X_arg10 G_arg11 G_arg12 G_arg13 ⟨n, hn⟩]
    dsimp only
    rw [View.writes_append]
    refine (stepB 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 X_arg3 X_arg5 X_arg6 X_arg7 X_arg8 X_arg9 X_arg10 ⟨n, hn⟩ _ _ _ hv hkk hlw hk hb (T := runS true lw kk b k0 v T n) ih _).trans ?_
    rw [turn_eq]
    rfl

theorem storedF (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S2x4x128x128 .f32) (harg12 : arg12.IsWhole) (arg13 : Memref sig .tc .vmem S2x4x128x128 .f32) (harg13 : arg13.IsWhole) (x0 x1 x2 x3 x4 x5 x6 x7 x8 x9 : Vec Ideal S512x512 .f32) :
    ∃ G, (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).2.1
      = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 mHead rowIn colIn mEye m8 m16 m32 (k0_pay914 rowNo) (k0_pay915 colNo) (k0_pay916 colNo) rowNo64 colNo64 (harg1.unread x0) (harg2.unread x1) (harg3.unread x2) (harg5.unread x4) (harg6.unread x5) (harg7.unread x6) (harg8.unread x7) (harg9.unread x8) (harg10.unread x9) G
          (arg12.view.writes (Elt Ideal) arg12.view.junk [⟨Rect.unit (s := S2x4x128x128) ![0, 0, 0, 0] ![2, 4, 128, 128] inb_S2x4x128x128_S2x4x128x128_0_0_0_0, (k0_pay3 (F := Ideal))⟩])
          (arg13.view.writes (Elt Ideal) arg13.view.junk [⟨Rect.unit (s := S2x4x128x128) ![0, 0, 0, 0] ![2, 4, 128, 128] inb_S2x4x128x128_S2x4x128x128_0_0_0_0, (k0_pay4 (F := Ideal))⟩]) k0_t1_loop.trips).2.1
        ++ [⟨Rect.unit (s := S2x4x128x128) ![0, 0, 0, 0] ![2, 4, 128, 128] inb_S2x4x128x128_S2x4x128x128_0_0_0_0, (k0_pay3 (F := Ideal))⟩] := ⟨_, rfl⟩

/-- The forward states a grid point leaves: four chunks from no state. -/
theorem leftF (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S2x4x128x128 .f32) (harg12 : arg12.IsWhole) (arg13 : Memref sig .tc .vmem S2x4x128x128 .f32) (harg13 : arg13.IsWhole) (x0 x1 x2 x3 x4 x5 x6 x7 x8 x9 : Vec Ideal S512x512 .f32)
    {v kk lw k0 b : Wide} (hv : x1 = up .f32 v) (hkk : x2 = up .f32 kk) (hlw : x4 = up .f32 lw)
    (hk : x6 = up .f32 k0) (hb : x8 = up .f32 b) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 = upS (runS false lw kk b k0 v (fun _ _ => 0) 4) := by
  rw [out0_A_11, View.read_writes_of_cover (Val := Elt Ideal) VO0_11 VO0_11.junk (arg12.view) (arg12.view.junk) _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9)]
  obtain ⟨G, e⟩ := storedF c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
  rw [e, View.writes_append]
  refine (loopF Variants.none c none i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) (harg3.unread x2) (harg5.unread x4) (harg6.unread x5) (harg7.unread x6) (harg8.unread x7) (harg9.unread x8) (harg10.unread x9) G _ _ ((harg2.read_unread x1).trans hv) ((harg3.read_unread x2).trans hkk)
    ((harg5.read_unread x4).trans hlw) ((harg7.read_unread x6).trans hk) ((harg9.read_unread x8).trans hb) ?_ _ le_rfl).trans
    (congrArg (fun n => upS (runS false lw kk b k0 v (fun _ _ => 0) n)) trips_eq)
  funext y
  refine View.read_writes_apply_of_pieces (Val := Elt Ideal) (e := .f32) _ _ (upS (fun _ _ => 0)) _ ?_ y ?_
  · refine List.forall_mem_cons.2 ⟨fun x => ?_, List.forall_mem_nil _⟩
    exact (Ideal.ofBits_zero_f32 : _ = ((0 : ℝ) : EReal))
  · refine ⟨_, List.mem_cons_self, ?_⟩
    rw [Rect.mem_set_unit]
    intro a
    match a with
    | ⟨0, _⟩ => exact ⟨Nat.zero_le _, lt_of_lt_of_eq (y 0).isLt (Nat.zero_add _).symm⟩
    | ⟨1, _⟩ => exact ⟨Nat.zero_le _, lt_of_lt_of_eq (y 1).isLt (Nat.zero_add _).symm⟩
    | ⟨2, _⟩ => exact ⟨Nat.zero_le _, lt_of_lt_of_eq (y 2).isLt (Nat.zero_add _).symm⟩
    | ⟨3, _⟩ => exact ⟨Nat.zero_le _, lt_of_lt_of_eq (y 3).isLt (Nat.zero_add _).symm⟩

theorem storedB (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S2x4x128x128 .f32) (harg12 : arg12.IsWhole) (arg13 : Memref sig .tc .vmem S2x4x128x128 .f32) (harg13 : arg13.IsWhole) (x0 x1 x2 x3 x4 x5 x6 x7 x8 x9 : Vec Ideal S512x512 .f32) :
    ∃ G, (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).2.2.1
      = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 mHead rowIn colIn mEye m8 m16 m32 (k0_pay914 rowNo) (k0_pay915 colNo) (k0_pay916 colNo) rowNo64 colNo64 (harg1.unread x0) (harg2.unread x1) (harg3.unread x2) (harg5.unread x4) (harg6.unread x5) (harg7.unread x6) (harg8.unread x7) (harg9.unread x8) (harg10.unread x9) G
          (arg12.view.writes (Elt Ideal) arg12.view.junk [⟨Rect.unit (s := S2x4x128x128) ![0, 0, 0, 0] ![2, 4, 128, 128] inb_S2x4x128x128_S2x4x128x128_0_0_0_0, (k0_pay3 (F := Ideal))⟩])
          (arg13.view.writes (Elt Ideal) arg13.view.junk [⟨Rect.unit (s := S2x4x128x128) ![0, 0, 0, 0] ![2, 4, 128, 128] inb_S2x4x128x128_S2x4x128x128_0_0_0_0, (k0_pay4 (F := Ideal))⟩]) k0_t1_loop.trips).2.2
        ++ [⟨Rect.unit (s := S2x4x128x128) ![0, 0, 0, 0] ![2, 4, 128, 128] inb_S2x4x128x128_S2x4x128x128_0_0_0_0, (k0_pay4 (F := Ideal))⟩] := ⟨_, rfl⟩

/-- The backward states a grid point leaves: four chunks from no state. -/
theorem leftB (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S2x4x128x128 .f32) (harg12 : arg12.IsWhole) (arg13 : Memref sig .tc .vmem S2x4x128x128 .f32) (harg13 : arg13.IsWhole) (x0 x1 x2 x3 x4 x5 x6 x7 x8 x9 : Vec Ideal S512x512 .f32)
    {v kk lw k0 b : Wide} (hv : x1 = up .f32 v) (hkk : x2 = up .f32 kk) (hlw : x5 = up .f32 lw)
    (hk : x7 = up .f32 k0) (hb : x9 = up .f32 b) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 = upS (runS true lw kk b k0 v (fun _ _ => 0) 4) := by
  rw [out0_A_12, View.read_writes_of_cover (Val := Elt Ideal) VO0_12 VO0_12.junk (arg13.view) (arg13.view.junk) _ (cover0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9)]
  obtain ⟨G, e⟩ := storedB c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
  rw [e, View.writes_append]
  refine (loopB Variants.none c none i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) (harg3.unread x2) (harg5.unread x4) (harg6.unread x5) (harg7.unread x6) (harg8.unread x7) (harg9.unread x8) (harg10.unread x9) G _ _ ((harg2.read_unread x1).trans hv) ((harg3.read_unread x2).trans hkk)
    ((harg6.read_unread x5).trans hlw) ((harg8.read_unread x7).trans hk) ((harg10.read_unread x9).trans hb) ?_ _ le_rfl).trans
    (congrArg (fun n => upS (runS true lw kk b k0 v (fun _ _ => 0) n)) trips_eq)
  funext y
  refine View.read_writes_apply_of_pieces (Val := Elt Ideal) (e := .f32) _ _ (upS (fun _ _ => 0)) _ ?_ y ?_
  · refine List.forall_mem_cons.2 ⟨fun x => ?_, List.forall_mem_nil _⟩
    exact (Ideal.ofBits_zero_f32 : _ = ((0 : ℝ) : EReal))
  · refine ⟨_, List.mem_cons_self, ?_⟩
    rw [Rect.mem_set_unit]
    intro a
    match a with
    | ⟨0, _⟩ => exact ⟨Nat.zero_le _, lt_of_lt_of_eq (y 0).isLt (Nat.zero_add _).symm⟩
    | ⟨1, _⟩ => exact ⟨Nat.zero_le _, lt_of_lt_of_eq (y 1).isLt (Nat.zero_add _).symm⟩
    | ⟨2, _⟩ => exact ⟨Nat.zero_le _, lt_of_lt_of_eq (y 2).isLt (Nat.zero_add _).symm⟩
    | ⟨3, _⟩ => exact ⟨Nat.zero_le _, lt_of_lt_of_eq (y 3).isLt (Nat.zero_add _).symm⟩

end Cert.KernelIdeal.Scan
-- ==== Proof.ScanRuns.lean ====
/- Four chunks over a sequence's 256 tokens are its 256 steps. -/
module

public import proofs.«01_k».proof.Proof.ScanLoop

@[expose] public section

noncomputable section

namespace Cert.KernelIdeal.Scan

open Cert.KernelIdeal Cert.KernelIdeal.Gen Cert.ScanMath

/-- One head's rows in the order its direction takes them: sequence `q` of the two, pair `p`, head `h` of the pair. -/
def tok (d : Bool) (A : Wide) (q : Fin 2) (p : Fin 4) (h : Fin 2) : ℕ → Fin 64 → ℝ := fun t c =>
  A ⟨256 * q.val + (if d then 255 - t else t % 256), by split <;> omega⟩ ⟨128 * p.val + (64 * h.val + c.val), by omega⟩

theorem inOrder_part (d : Bool) (A : Wide) (q : Fin 2) (p : Fin 4) (h : Fin 2) (n : ℕ) (hn : n < 4) (t : ℕ) (ht : t < 64) :
    inOrder d h (part A q p (chunkNo d n)) t = tok d A q p h (64 * n + t) := by
  funext c
  refine congrArg (fun i => A i _) (Fin.ext ?_)
  cases d
  · show 256 * q.val + 64 * (n % 4) + t % 64 = 256 * q.val + (64 * n + t) % 256
    omega
  · show 256 * q.val + 64 * (3 - n) + (63 - t) = 256 * q.val + (255 - (64 * n + t))
    omega

theorem runS_steps (d : Bool) (lw kk b k v : Wide) (q : Fin 2) (p : Fin 4) (h : Fin 2) (n : ℕ) (hn : n ≤ 4) (a c : Fin 64) :
    runS d lw kk b k v (fun _ _ => 0) n q p (at2 h a) (at2 h c)
      = steps (tok d lw q p h) (tok d kk q p h) (tok d b q p h) (tok d k q p h) (tok d v q p h) (fun _ _ => 0) (64 * n) a c := by
  induction n generalizing a c with
  | zero => rfl
  | succ n ih =>
    have ih := fun a c => ih (by omega) a c
    show chunkR d (part lw q p (chunkNo d n)) (part kk q p (chunkNo d n)) (part b q p (chunkNo d n)) (part k q p (chunkNo d n))
      (part v q p (chunkNo d n)) (runS d lw kk b k v (fun _ _ => 0) n q p) (at2 h a) (at2 h c) = _
    rw [chunkR_eq, show 64 * (n + 1) = 64 * n + 64 from by omega, steps_add,
      show (fun a c => runS d lw kk b k v (fun _ _ => 0) n q p (at2 h a) (at2 h c)) = _ from funext fun a => funext fun c => ih a c]
    exact congrFun (congrFun (steps_congr _ 64 (fun t ht => inOrder_part d lw q p h n (by omega) t ht)
      (fun t ht => inOrder_part d kk q p h n (by omega) t ht) (fun t ht => inOrder_part d b q p h n (by omega) t ht)
      (fun t ht => inOrder_part d k q p h n (by omega) t ht) (fun t ht => inOrder_part d v q p h n (by omega) t ht)) a) c

end Cert.KernelIdeal.Scan
-- ==== Proof.ScanBlocks.lean ====
/- What the scan's kernel leaves in its two arrays of states: each grid point reads its own block of 512 rows of every argument and
   writes the states of its own two sequences. -/
module

public import proofs.«01_k».proof.Proof.ScanRuns
public import proofs.«01_k».proof.Proof.Gen.KernelIdeal.Frame

@[expose] public section

set_option maxRecDepth 8192
set_option maxHeartbeats 4000000

noncomputable section

namespace Cert.KernelIdeal.Scan

open Cert.KernelIdeal Cert.KernelIdeal.Gen Cert.ScanMath
open Idealize.ShloMosaic Idealize.ShloMosaic.TcCoe Idealize.ShloMosaic.Pointwise Idealize.SL.Sem

/-- The real contents of an argument: one row per token, one column per channel. -/
abbrev Long := Fin 8192 → Fin 512 → ℝ

/-- The rows of an argument that grid point `t` reads. -/
def blockOf (A : Long) (t : ℕ) : Wide := fun i l => A ⟨(t * 512 + i.val) % 8192, by omega⟩ l

theorem point_lt (t : Fin cfg0.N) : t.val < 16 := lt_of_lt_of_eq t.isLt N_0

variable (m : (ℓ : Loc nD τ sig) → Buf (Elt Ideal) ℓ)

theorem index_1 : ∀ t : Fin cfg0.N, win0_1.index t 0 = t.val ∧ win0_1.index t 1 = 0 := by decide +kernel

/-- Window 1 at point `t` holds that point's rows of argument 1. -/
theorem block_1 (c : Dev nD) (t : Fin cfg0.N) {A : Long} (h : m ((c : Thread nD τ).loc main_arg1) = up .f32 A) :
    (iblk m c 1 t : Vec Ideal S512x512 .f32) = up .f32 (blockOf A t.val) := by
  have ht := point_lt t
  have hi := index_1 t
  funext j
  unfold iblk
  rw [View.read_apply]
  show V m c main_arg1 _ = _
  unfold V
  refine (congrFun h _).trans ?_
  have h0 : (j 0).val < 512 := (j 0).isLt
  refine congrArg (fun x : ℝ => (x : EReal)) (congr (congrArg A (Fin.ext ?_)) (Fin.ext ?_))
  · show win0_1.index t 0 * 512 + 1 * (j 0).val = (t.val * 512 + (j 0).val) % 8192
    rw [hi.1]; omega
  · show win0_1.index t 1 * 512 + 1 * (j 1).val = (j 1).val
    rw [hi.2]; omega

theorem index_2 : ∀ t : Fin cfg0.N, win0_2.index t 0 = t.val ∧ win0_2.index t 1 = 0 := by decide +kernel

/-- Window 2 at point `t` holds that point's rows of argument 2. -/
theorem block_2 (c : Dev nD) (t : Fin cfg0.N) {A : Long} (h : m ((c : Thread nD τ).loc main_arg2) = up .f32 A) :
    (iblk m c 2 t : Vec Ideal S512x512 .f32) = up .f32 (blockOf A t.val) := by
  have ht := point_lt t
  have hi := index_2 t
  funext j
  unfold iblk
  rw [View.read_apply]
  show V m c main_arg2 _ = _
  unfold V
  refine (congrFun h _).trans ?_
  have h0 : (j 0).val < 512 := (j 0).isLt
  refine congrArg (fun x : ℝ => (x : EReal)) (congr (congrArg A (Fin.ext ?_)) (Fin.ext ?_))
  · show win0_2.index t 0 * 512 + 1 * (j 0).val = (t.val * 512 + (j 0).val) % 8192
    rw [hi.1]; omega
  · show win0_2.index t 1 * 512 + 1 * (j 1).val = (j 1).val
    rw [hi.2]; omega

theorem index_4 : ∀ t : Fin cfg0.N, win0_4.index t 0 = t.val ∧ win0_4.index t 1 = 0 := by decide +kernel

/-- Window 4 at point `t` holds that point's rows of argument 4. -/
theorem block_4 (c : Dev nD) (t : Fin cfg0.N) {A : Long} (h : m ((c : Thread nD τ).loc main_arg4) = up .f32 A) :
    (iblk m c 4 t : Vec Ideal S512x512 .f32) = up .f32 (blockOf A t.val) := by
  have ht := point_lt t
  have hi := index_4 t
  funext j
  unfold iblk
  rw [View.read_apply]
  show V m c main_arg4 _ = _
  unfold V
  refine (congrFun h _).trans ?_
  have h0 : (j 0).val < 512 := (j 0).isLt
  refine congrArg (fun x : ℝ => (x : EReal)) (congr (congrArg A (Fin.ext ?_)) (Fin.ext ?_))
  · show win0_4.index t 0 * 512 + 1 * (j 0).val = (t.val * 512 + (j 0).val) % 8192
    rw [hi.1]; omega
  · show win0_4.index t 1 * 512 + 1 * (j 1).val = (j 1).val
    rw [hi.2]; omega

theorem index_5 : ∀ t : Fin cfg0.N, win0_5.index t 0 = t.val ∧ win0_5.index t 1 = 0 := by decide +kernel

/-- Window 5 at point `t` holds that point's rows of argument 5. -/
theorem block_5 (c : Dev nD) (t : Fin cfg0.N) {A : Long} (h : m ((c : Thread nD τ).loc main_arg5) = up .f32 A) :
    (iblk m c 5 t : Vec Ideal S512x512 .f32) = up .f32 (blockOf A t.val) := by
  have ht := point_lt t
  have hi := index_5 t
  funext j
  unfold iblk
  rw [View.read_apply]
  show V m c main_arg5 _ = _
  unfold V
  refine (congrFun h _).trans ?_
  have h0 : (j 0).val < 512 := (j 0).isLt
  refine congrArg (fun x : ℝ => (x : EReal)) (congr (congrArg A (Fin.ext ?_)) (Fin.ext ?_))
  · show win0_5.index t 0 * 512 + 1 * (j 0).val = (t.val * 512 + (j 0).val) % 8192
    rw [hi.1]; omega
  · show win0_5.index t 1 * 512 + 1 * (j 1).val = (j 1).val
    rw [hi.2]; omega

theorem index_6 : ∀ t : Fin cfg0.N, win0_6.index t 0 = t.val ∧ win0_6.index t 1 = 0 := by decide +kernel

/-- Window 6 at point `t` holds that point's rows of argument 6. -/
theorem block_6 (c : Dev nD) (t : Fin cfg0.N) {A : Long} (h : m ((c : Thread nD τ).loc main_arg6) = up .f32 A) :
    (iblk m c 6 t : Vec Ideal S512x512 .f32) = up .f32 (blockOf A t.val) := by
  have ht := point_lt t
  have hi := index_6 t
  funext j
  unfold iblk
  rw [View.read_apply]
  show V m c main_arg6 _ = _
  unfold V
  refine (congrFun h _).trans ?_
  have h0 : (j 0).val < 512 := (j 0).isLt
  refine congrArg (fun x : ℝ => (x : EReal)) (congr (congrArg A (Fin.ext ?_)) (Fin.ext ?_))
  · show win0_6.index t 0 * 512 + 1 * (j 0).val = (t.val * 512 + (j 0).val) % 8192
    rw [hi.1]; omega
  · show win0_6.index t 1 * 512 + 1 * (j 1).val = (j 1).val
    rw [hi.2]; omega

theorem index_7 : ∀ t : Fin cfg0.N, win0_7.index t 0 = t.val ∧ win0_7.index t 1 = 0 := by decide +kernel

/-- Window 7 at point `t` holds that point's rows of argument 7. -/
theorem block_7 (c : Dev nD) (t : Fin cfg0.N) {A : Long} (h : m ((c : Thread nD τ).loc main_arg7) = up .f32 A) :
    (iblk m c 7 t : Vec Ideal S512x512 .f32) = up .f32 (blockOf A t.val) := by
  have ht := point_lt t
  have hi := index_7 t
  funext j
  unfold iblk
  rw [View.read_apply]
  show V m c main_arg7 _ = _
  unfold V
  refine (congrFun h _).trans ?_
  have h0 : (j 0).val < 512 := (j 0).isLt
  refine congrArg (fun x : ℝ => (x : EReal)) (congr (congrArg A (Fin.ext ?_)) (Fin.ext ?_))
  · show win0_7.index t 0 * 512 + 1 * (j 0).val = (t.val * 512 + (j 0).val) % 8192
    rw [hi.1]; omega
  · show win0_7.index t 1 * 512 + 1 * (j 1).val = (j 1).val
    rw [hi.2]; omega

theorem index_8 : ∀ t : Fin cfg0.N, win0_8.index t 0 = t.val ∧ win0_8.index t 1 = 0 := by decide +kernel

/-- Window 8 at point `t` holds that point's rows of argument 8. -/
theorem block_8 (c : Dev nD) (t : Fin cfg0.N) {A : Long} (h : m ((c : Thread nD τ).loc main_arg8) = up .f32 A) :
    (iblk m c 8 t : Vec Ideal S512x512 .f32) = up .f32 (blockOf A t.val) := by
  have ht := point_lt t
  have hi := index_8 t
  funext j
  unfold iblk
  rw [View.read_apply]
  show V m c main_arg8 _ = _
  unfold V
  refine (congrFun h _).trans ?_
  have h0 : (j 0).val < 512 := (j 0).isLt
  refine congrArg (fun x : ℝ => (x : EReal)) (congr (congrArg A (Fin.ext ?_)) (Fin.ext ?_))
  · show win0_8.index t 0 * 512 + 1 * (j 0).val = (t.val * 512 + (j 0).val) % 8192
    rw [hi.1]; omega
  · show win0_8.index t 1 * 512 + 1 * (j 1).val = (j 1).val
    rw [hi.2]; omega

theorem index_9 : ∀ t : Fin cfg0.N, win0_9.index t 0 = t.val ∧ win0_9.index t 1 = 0 := by decide +kernel

/-- Window 9 at point `t` holds that point's rows of argument 9. -/
theorem block_9 (c : Dev nD) (t : Fin cfg0.N) {A : Long} (h : m ((c : Thread nD τ).loc main_arg9) = up .f32 A) :
    (iblk m c 9 t : Vec Ideal S512x512 .f32) = up .f32 (blockOf A t.val) := by
  have ht := point_lt t
  have hi := index_9 t
  funext j
  unfold iblk
  rw [View.read_apply]
  show V m c main_arg9 _ = _
  unfold V
  refine (congrFun h _).trans ?_
  have h0 : (j 0).val < 512 := (j 0).isLt
  refine congrArg (fun x : ℝ => (x : EReal)) (congr (congrArg A (Fin.ext ?_)) (Fin.ext ?_))
  · show win0_9.index t 0 * 512 + 1 * (j 0).val = (t.val * 512 + (j 0).val) % 8192
    rw [hi.1]; omega
  · show win0_9.index t 1 * 512 + 1 * (j 1).val = (j 1).val
    rw [hi.2]; omega

/-- The array of states in one direction: sequence `n` is one of the two of grid point `n / 2`. -/
def leftAll (d : Bool) (lw kk b k v : Long) : FVec Ideal S32x4x128x128 .f32 := fun y =>
  ((runS d (blockOf lw ((y 0).val / 2)) (blockOf kk ((y 0).val / 2)) (blockOf b ((y 0).val / 2)) (blockOf k ((y 0).val / 2))
    (blockOf v ((y 0).val / 2)) (fun _ _ => 0) 4 ⟨(y 0).val % 2, by omega⟩ (y 1) (y 2) (y 3) : ℝ) : EReal)

theorem leftAll_at (d : Bool) (lw kk b k v : Long) (t : ℕ) (y : S32x4x128x128.Idx) (z : S2x4x128x128.Idx)
    (h0 : (y 0).val = t * 2 + (z 0).val) (h1 : (y 1).val = (z 1).val) (h2 : (y 2).val = (z 2).val) (h3 : (y 3).val = (z 3).val) :
    upS (runS d (blockOf lw t) (blockOf kk t) (blockOf b t) (blockOf k t) (blockOf v t) (fun _ _ => 0) 4) z = leftAll d lw kk b k v y := by
  have hz : (z 0).val < 2 := (z 0).isLt
  have e1 : (y 0).val / 2 = t := by omega
  have e2 : (⟨(y 0).val % 2, by omega⟩ : Fin 2) = z 0 := Fin.ext (show (y 0).val % 2 = (z 0).val by omega)
  have e3 : (y 1 : Fin 4) = z 1 := Fin.ext h1
  have e4 : (y 2 : Fin 128) = z 2 := Fin.ext h2
  have e5 : (y 3 : Fin 128) = z 3 := Fin.ext h3
  unfold leftAll upS
  rw [e1, e2, e3, e4, e5]

theorem index_11 : ∀ t : Fin cfg0.N, win0_11.index t 0 = t.val ∧ win0_11.index t 1 = 0 ∧ win0_11.index t 2 = 0 ∧ win0_11.index t 3 = 0 := by decide +kernel

/-- The block of states that point `t` writes in the first array. -/
theorem point_11 (c : Dev nD) (t : Fin cfg0.N) {v kk lw k b : Long}
    (hv : m ((c : Thread nD τ).loc main_arg1) = up .f32 v)
    (hkk : m ((c : Thread nD τ).loc main_arg2) = up .f32 kk) (hlw : m ((c : Thread nD τ).loc main_arg4) = up .f32 lw)
    (hk : m ((c : Thread nD τ).loc main_arg6) = up .f32 k) (hb : m ((c : Thread nD τ).loc main_arg8) = up .f32 b) :
    (outsAt0 m c t).2.1 = upS (runS false (blockOf lw t.val) (blockOf kk t.val) (blockOf b t.val) (blockOf k t.val) (blockOf v t.val) (fun _ _ => 0) 4) :=
  leftF c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t)
    (block_1 m c t hv) (block_2 m c t hkk) (block_4 m c t hlw) (block_6 m c t hk) (block_8 m c t hb)

theorem final_11 (c : Dev nD) {v kk lw k b : Long}
    (hv : m ((c : Thread nD τ).loc main_arg1) = up .f32 v)
    (hkk : m ((c : Thread nD τ).loc main_arg2) = up .f32 kk) (hlw : m ((c : Thread nD τ).loc main_arg4) = up .f32 lw)
    (hk : m ((c : Thread nD τ).loc main_arg6) = up .f32 k) (hb : m ((c : Thread nD τ).loc main_arg8) = up .f32 b) :
    (dats m 0 c).arrAt 11 cfg0.N = leftAll false lw kk b k v := by
  refine (dats m 0 c).arrAt_eq_of_cover 11 (leftAll false lw kk b k v) (fun t _ => ?_) fun i => ?_
  · show (cfg0.win 11).cut (grid0.coords t) ((dats m 0 c).after 11 t) = _
    rw [after0_11, point_11 m c t hv hkk hlw hk hb]
    funext z
    have hi := index_11 t
    rw [View.read_apply]
    refine leftAll_at false lw kk b k v t.val _ z ?_ ?_ ?_ ?_
    · show win0_11.index t 0 * 2 + 1 * (z 0).val = t.val * 2 + (z 0).val
      rw [hi.1]; omega
    · show win0_11.index t 1 * 4 + 1 * (z 1).val = (z 1).val
      rw [hi.2.1]; omega
    · show win0_11.index t 2 * 128 + 1 * (z 2).val = (z 2).val
      rw [hi.2.2.1]; omega
    · show win0_11.index t 3 * 128 + 1 * (z 3).val = (z 3).val
      rw [hi.2.2.2]; omega
  · have h0 : (i 0 : ℕ) < 32 := (i 0).isLt
    have h1 : (i 1 : ℕ) < 4 := (i 1).isLt
    have h2 : (i 2 : ℕ) < 128 := (i 2).isLt
    have h3 : (i 3 : ℕ) < 128 := (i 3).isLt
    have hN : cfg0.N = 16 := N_0
    refine ⟨⟨(i 0).val / 2, by rw [hN]; omega⟩, flush0_11 _, ?_⟩
    generalize hd : (⟨(i 0).val / 2, _⟩ : Fin cfg0.N) = t
    have htv : t.val = (i 0).val / 2 := by rw [← hd]
    have hi := index_11 t
    show i ∈ ((View.whole main_v0_1).slice (win0_11.rect t)).set
    rw [View.set_slice_whole, Rect.mem_set_unit]
    intro a
    match a with
    | ⟨0, _⟩ =>
      show win0_11.index t 0 * 2 ≤ (i 0 : Nat) ∧ (i 0 : Nat) < win0_11.index t 0 * 2 + 2
      rw [hi.1]; omega
    | ⟨1, _⟩ =>
      show win0_11.index t 1 * 4 ≤ (i 1 : Nat) ∧ (i 1 : Nat) < win0_11.index t 1 * 4 + 4
      rw [hi.2.1]; omega
    | ⟨2, _⟩ =>
      show win0_11.index t 2 * 128 ≤ (i 2 : Nat) ∧ (i 2 : Nat) < win0_11.index t 2 * 128 + 128
      rw [hi.2.2.1]; omega
    | ⟨3, _⟩ =>
      show win0_11.index t 3 * 128 ≤ (i 3 : Nat) ∧ (i 3 : Nat) < win0_11.index t 3 * 128 + 128
      rw [hi.2.2.2]; omega

theorem index_12 : ∀ t : Fin cfg0.N, win0_12.index t 0 = t.val ∧ win0_12.index t 1 = 0 ∧ win0_12.index t 2 = 0 ∧ win0_12.index t 3 = 0 := by decide +kernel

/-- The block of states that point `t` writes in the second array. -/
theorem point_12 (c : Dev nD) (t : Fin cfg0.N) {v kk lw k b : Long}
    (hv : m ((c : Thread nD τ).loc main_arg1) = up .f32 v)
    (hkk : m ((c : Thread nD τ).loc main_arg2) = up .f32 kk) (hlw : m ((c : Thread nD τ).loc main_arg5) = up .f32 lw)
    (hk : m ((c : Thread nD τ).loc main_arg7) = up .f32 k) (hb : m ((c : Thread nD τ).loc main_arg9) = up .f32 b) :
    (outsAt0 m c t).2.2 = upS (runS true (blockOf lw t.val) (blockOf kk t.val) (blockOf b t.val) (blockOf k t.val) (blockOf v t.val) (fun _ _ => 0) 4) :=
  leftB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t)
    (block_1 m c t hv) (block_2 m c t hkk) (block_5 m c t hlw) (block_7 m c t hk) (block_9 m c t hb)

theorem final_12 (c : Dev nD) {v kk lw k b : Long}
    (hv : m ((c : Thread nD τ).loc main_arg1) = up .f32 v)
    (hkk : m ((c : Thread nD τ).loc main_arg2) = up .f32 kk) (hlw : m ((c : Thread nD τ).loc main_arg5) = up .f32 lw)
    (hk : m ((c : Thread nD τ).loc main_arg7) = up .f32 k) (hb : m ((c : Thread nD τ).loc main_arg9) = up .f32 b) :
    (dats m 0 c).arrAt 12 cfg0.N = leftAll true lw kk b k v := by
  refine (dats m 0 c).arrAt_eq_of_cover 12 (leftAll true lw kk b k v) (fun t _ => ?_) fun i => ?_
  · show (cfg0.win 12).cut (grid0.coords t) ((dats m 0 c).after 12 t) = _
    rw [after0_12, point_12 m c t hv hkk hlw hk hb]
    funext z
    have hi := index_12 t
    rw [View.read_apply]
    refine leftAll_at true lw kk b k v t.val _ z ?_ ?_ ?_ ?_
    · show win0_12.index t 0 * 2 + 1 * (z 0).val = t.val * 2 + (z 0).val
      rw [hi.1]; omega
    · show win0_12.index t 1 * 4 + 1 * (z 1).val = (z 1).val
      rw [hi.2.1]; omega
    · show win0_12.index t 2 * 128 + 1 * (z 2).val = (z 2).val
      rw [hi.2.2.1]; omega
    · show win0_12.index t 3 * 128 + 1 * (z 3).val = (z 3).val
      rw [hi.2.2.2]; omega
  · have h0 : (i 0 : ℕ) < 32 := (i 0).isLt
    have h1 : (i 1 : ℕ) < 4 := (i 1).isLt
    have h2 : (i 2 : ℕ) < 128 := (i 2).isLt
    have h3 : (i 3 : ℕ) < 128 := (i 3).isLt
    have hN : cfg0.N = 16 := N_0
    refine ⟨⟨(i 0).val / 2, by rw [hN]; omega⟩, flush0_12 _, ?_⟩
    generalize hd : (⟨(i 0).val / 2, _⟩ : Fin cfg0.N) = t
    have htv : t.val = (i 0).val / 2 := by rw [← hd]
    have hi := index_12 t
    show i ∈ ((View.whole main_v0_2).slice (win0_12.rect t)).set
    rw [View.set_slice_whole, Rect.mem_set_unit]
    intro a
    match a with
    | ⟨0, _⟩ =>
      show win0_12.index t 0 * 2 ≤ (i 0 : Nat) ∧ (i 0 : Nat) < win0_12.index t 0 * 2 + 2
      rw [hi.1]; omega
    | ⟨1, _⟩ =>
      show win0_12.index t 1 * 4 ≤ (i 1 : Nat) ∧ (i 1 : Nat) < win0_12.index t 1 * 4 + 4
      rw [hi.2.1]; omega
    | ⟨2, _⟩ =>
      show win0_12.index t 2 * 128 ≤ (i 2 : Nat) ∧ (i 2 : Nat) < win0_12.index t 2 * 128 + 128
      rw [hi.2.2.1]; omega
    | ⟨3, _⟩ =>
      show win0_12.index t 3 * 128 ≤ (i 3 : Nat) ∧ (i 3 : Nat) < win0_12.index t 3 * 128 + 128
      rw [hi.2.2.2]; omega

end Cert.KernelIdeal.Scan

end
-- ==== Proof.ScanTail.lean ====
/- The kernel's two results: the arrays of states, which hold two heads to a block, taken apart into heads. -/
module

public import proofs.«01_k».proof.Proof.ScanBlocks
public import Idealize.ShloMosaic.Lib.StableHlo.RunRead

@[expose] public section

set_option maxRecDepth 8192
set_option maxHeartbeats 4000000

noncomputable section

namespace Cert.KernelIdeal.Scan

open Cert.KernelIdeal Cert.KernelIdeal.Gen Cert.ScanMath
open Idealize.ShloMosaic Idealize.ShloMosaic.TcCoe Idealize.ShloMosaic.Pointwise Idealize.SL.Sem
open Idealize.ShloMosaic.StableHlo Idealize.ShloMosaic.Pipeline

/-- One head of every pair, on its own axis. -/
def oneOf (o : Fin 4 → ℕ) (h : S32x4x128x128.Slices o S32x4x64x64) (x : FVec Ideal S32x4x128x128 .f32) : FVec Ideal S32x4x1x64x64 .f32 :=
  broadcastInDim S32x4x1x64x64 ![0, 1, 3, 4] bcast_S32x4x64x64_S32x4x1x64x64_0_1_3_4 (extractStridedSlice S32x4x64x64 o x h)

/-- The two heads of every block of states, one after the other. -/
def taken (x : FVec Ideal S32x4x128x128 .f32) : FVec Ideal S32x1x8x64x64 .f32 :=
  shapeCast S32x1x8x64x64
    (concatenate S32x4x2x64x64 2 [⟨S32x4x1x64x64, oneOf ![0, 0, 0, 0] slices_S32x4x128x128_S32x4x64x64_0_0_0_0 x⟩,
      ⟨S32x4x1x64x64, oneOf ![0, 0, 64, 64] slices_S32x4x128x128_S32x4x64x64_0_0_64_64 x⟩]
      concatenates_S32x4x1x64x64_S32x4x1x64x64_S32x4x2x64x64_d2)
    shapeCasts_S32x4x2x64x64_S32x1x8x64x64

theorem oneOf_apply (o : Fin 4 → ℕ) (h : S32x4x128x128.Slices o S32x4x64x64) (x : FVec Ideal S32x4x128x128 .f32) (q : Fin 2)
    (ho : o = ![0, 0, 64 * q.val, 64 * q.val]) (n : Fin 32) (p : Fin 4) (a c : Fin 64) :
    oneOf o h x (ix5 n p 0 a c) = x (ix4 n p (at2 q a) (at2 q c)) := by
  subst ho
  refine (broadcastInDim_apply (s := S32x4x64x64) _ _ _ (ix5 n p 0 a c) (ix4 n p a c) fun b => ?_).trans ?_
  · match b with | ⟨0, _⟩ => rfl | ⟨1, _⟩ => rfl | ⟨2, _⟩ => rfl | ⟨3, _⟩ => rfl
  · refine extractStridedSlice_apply (s := S32x4x128x128) _ x h (ix4 n p a c) (ix4 n p (at2 q a) (at2 q c)) fun b => ?_
    match b with
    | ⟨0, _⟩ => exact (Nat.zero_add _).symm
    | ⟨1, _⟩ => exact (Nat.zero_add _).symm
    | ⟨2, _⟩ => rfl
    | ⟨3, _⟩ => rfl

/-- Head `2p + q` of a sequence is the `q`-th diagonal block of pair `p`. -/
theorem taken_apply (x : FVec Ideal S32x4x128x128 .f32) (n : Fin 32) (z : Fin 1) (p : Fin 4) (q : Fin 2) (h : Fin 8) (hh : h.val = 2 * p.val + q.val)
    (a c : Fin 64) : taken x (ix5 n z h a c) = x (ix4 n p (at2 q a) (at2 q c)) := by
  unfold taken
  refine (Idealize.ShloMosaic.shapeCast_apply (s := S32x4x2x64x64) (t := S32x1x8x64x64) _ _ (ix5 n z h a c) (ix5 n p q a c) ?_).trans ?_
  · rw [Shape.rowMajor_val_five, Shape.rowMajor_val_five]
    show (((n.val * 4 + p.val) * 2 + q.val) * 64 + a.val) * 64 + c.val = (((n.val * 1 + z.val) * 8 + h.val) * 64 + a.val) * 64 + c.val
    have := z.isLt
    omega
  · by_cases e : q = 0
    · subst e
      refine (concatenate_pair_apply_left (t := S32x4x2x64x64) (s₁ := S32x4x1x64x64) (s₂ := S32x4x1x64x64) 2 _ _ _ (ix5 n p 0 a c) rfl (ix5 n p 0 a c) fun b => ?_).trans ?_
      swap
      · exact oneOf_apply _ _ x 0 rfl n p a c
      match b with | ⟨0, _⟩ => rfl | ⟨1, _⟩ => rfl | ⟨2, _⟩ => rfl | ⟨3, _⟩ => rfl | ⟨4, _⟩ => rfl
    · obtain rfl : q = 1 := by omega
      refine (concatenate_pair_apply_right (t := S32x4x2x64x64) (s₁ := S32x4x1x64x64) (s₂ := S32x4x1x64x64) 2 _ _ _ (ix5 n p 1 a c) rfl rfl (ix5 n p 0 a c) (fun b hb => ?_) ?_).trans ?_
      rotate_left 2
      · exact oneOf_apply _ _ x 1 rfl n p a c
      · match b, hb with
        | ⟨0, _⟩, _ => rfl
        | ⟨1, _⟩, _ => rfl
        | ⟨2, _⟩, hb => exact absurd rfl hb
        | ⟨3, _⟩, _ => rfl
        | ⟨4, _⟩, _ => rfl
      · rfl

/-- The lines after the call take the first array apart … -/
theorem tail_6 (W : Valuation τ sig (Elt Ideal)) :
    StableHlo.after (hostOps1 (F := Ideal)) W (Proc.devRef .tc main_v6) = taken (W (Proc.devRef .tc main_v0_1)) := by
  after_reads_simp
  rfl

/-- … and the second. -/
theorem tail_12 (W : Valuation τ sig (Elt Ideal)) :
    StableHlo.after (hostOps1 (F := Ideal)) W (Proc.devRef .tc main_v12) = taken (W (Proc.devRef .tc main_v0_2)) := by
  after_reads_simp
  rfl

variable (m : (ℓ : Loc nD τ sig) → Buf (Elt Ideal) ℓ)

theorem arrays_distinct : Function.Injective (arrRef (cfgs 0).spec) := launch0.win.arr_inj

/-- What the run leaves in the two results. -/
theorem run_results (g : Dev nD → PrngReg) :
    θ_run defs (onTc (τ := τ) (main (F := Ideal))) ⟨m, fun _ => 0, g⟩ fun r => ∀ c : Dev nD,
      r.2.mem ((c : Thread nD τ).loc main_v6) = taken ((dats m 0 c).arrAt 11 cfg0.N)
      ∧ r.2.mem ((c : Thread nD τ).loc main_v12) = taken ((dats m 0 c).arrAt 12 cfg0.N) := by
  refine (θ_run defs _ _).mono (fun r h c => ⟨?_, ?_⟩) (run_main m g)
  · refine ((h c).2 main_v6 (by decide)).trans ?_
    refine (tail_6 _).trans (congrArg taken ?_)
    exact withArrays_arr (cfgs 0).spec arrays_distinct c _ _ 11
  · refine ((h c).2 main_v12 (by decide)).trans ?_
    refine (tail_12 _).trans (congrArg taken ?_)
    exact withArrays_arr (cfgs 0).spec arrays_distinct c _ _ 12

end Cert.KernelIdeal.Scan

end
-- ==== Proof.ScanRefStep.lean ====
/- One step of the reference's recurrence at the ideal numbers: on real numbers it is the step over the reals, for every sequence and
   head. -/
module

public import proofs.«01_k».proof.Proof.Gen.ReferenceIdeal.Run
public import proofs.«01_k».proof.Proof.ScanMath
public import Idealize.ShloMosaic.Lib.Pointwise

@[expose] public section

set_option maxRecDepth 8192
set_option maxHeartbeats 1000000

noncomputable section

namespace Cert.ReferenceIdeal.Scan

open Cert.ReferenceIdeal Cert.ReferenceIdeal.Gen Cert.ReferenceIdeal.Value Cert.ScanMath
open Idealize.ShloMosaic Idealize.ShloMosaic.TcCoe Idealize.ShloMosaic.Pointwise
open Idealize.SL Idealize.SL.Sem
open scoped BigOperators

section
variable {F : FTy → Type} [FloatOps F]

/-- One step's rows out of an array of all steps. -/
def rowAt (X : FVec F S256x32x8x64 .f32) (t : IVec S_ 32) : FVec F S32x8x64 .f32 :=
  shapeCast S32x8x64 (Host.dynamicSlice S1x32x8x64 X (fun k => (((![t, constantI S_ 32 0#32, constantI S_ 32 0#32, constantI S_ 32 0#32] :
    Fin 4 → (⟨S_, .i32⟩ : BufTy).Contents (Elt F))) k (Shape.Idx.first h_S_)).toInt) sliceFits_S256x32x8x64_S1x32x8x64) shapeCasts_S1x32x8x64_S32x8x64

/-- A row spread over the state's rows. -/
def along (x : FVec F S32x8x64 .f32) : FVec F S32x8x64x64 .f32 :=
  broadcastInDim S32x8x64x64 ![0, 1, 2, 3] bcast_S32x8x1x64_S32x8x64x64_0_1_2_3 (broadcastInDim S32x8x1x64 ![0, 1, 3] bcast_S32x8x64_S32x8x1x64_0_1_3 x)

/-- A row spread over the state's columns. -/
def down (x : FVec F S32x8x64 .f32) : FVec F S32x8x64x64 .f32 :=
  broadcastInDim S32x8x64x64 ![0, 1, 2, 3] bcast_S32x8x64x1_S32x8x64x64_0_1_2_3 (broadcastInDim S32x8x64x1 ![0, 1, 2] bcast_S32x8x64_S32x8x64x1_0_1_2 x)

/-- One step. -/
def stepV (S : FVec F S32x8x64x64 .f32) (w kk b v k : FVec F S32x8x64 .f32) : FVec F S32x8x64x64 .f32 :=
  addf (addf (mulf S (along w))
    (mulf (down (Host.dotGeneral dot_S32x8x64x64_S32x8x64_S32x8x64_3_2_2_n_01_01 none S (Host.negf kk))) (along b))) (mulf (down v) (along k))

variable (V0 : Valuation τ sig (Elt F))

theorem stepF_eq : step_main_v28_11 V0 = stepV (V0 (Proc.devRef .tc main_v28_11))
    (rowAt (V0 (Proc.devRef .tc main_v28_0)) (V0 (Proc.devRef .tc main_v28_10))) (rowAt (V0 (Proc.devRef .tc main_v28_3)) (V0 (Proc.devRef .tc main_v28_10)))
    (rowAt (V0 (Proc.devRef .tc main_v28_4)) (V0 (Proc.devRef .tc main_v28_10))) (rowAt (V0 (Proc.devRef .tc main_v28_2)) (V0 (Proc.devRef .tc main_v28_10)))
    (rowAt (V0 (Proc.devRef .tc main_v28_1)) (V0 (Proc.devRef .tc main_v28_10))) := rfl

theorem stepB_eq : step_main_v28_12 V0 = stepV (V0 (Proc.devRef .tc main_v28_12))
    (rowAt (V0 (Proc.devRef .tc main_v28_5)) (V0 (Proc.devRef .tc main_v28_10))) (rowAt (V0 (Proc.devRef .tc main_v28_8)) (V0 (Proc.devRef .tc main_v28_10)))
    (rowAt (V0 (Proc.devRef .tc main_v28_9)) (V0 (Proc.devRef .tc main_v28_10))) (rowAt (V0 (Proc.devRef .tc main_v28_7)) (V0 (Proc.devRef .tc main_v28_10)))
    (rowAt (V0 (Proc.devRef .tc main_v28_6)) (V0 (Proc.devRef .tc main_v28_10))) := rfl
end

/-- One step's rows over the reals, and all steps' rows, and all states, as arrays at the ideal numbers. -/
def up3 (A : Fin 32 → Fin 8 → Fin 64 → ℝ) : FVec Ideal S32x8x64 .f32 := fun y => ((A (y 0) (y 1) (y 2) : ℝ) : EReal)
def upT (A : Fin 256 → Fin 32 → Fin 8 → Fin 64 → ℝ) : FVec Ideal S256x32x8x64 .f32 := fun y => ((A (y 0) (y 1) (y 2) (y 3) : ℝ) : EReal)
def up4 (A : Fin 32 → Fin 8 → Fin 64 → Fin 64 → ℝ) : FVec Ideal S32x8x64x64 .f32 := fun y => ((A (y 0) (y 1) (y 2) (y 3) : ℝ) : EReal)

theorem coe_sum' {ι : Type} [Fintype ι] (f : ι → ℝ) : ((∑ i, f i : ℝ) : EReal) = ∑ i, ((f i : ℝ) : EReal) := by
  classical
  have key : ∀ s : Finset ι, ((∑ i ∈ s, f i : ℝ) : EReal) = ∑ i ∈ s, ((f i : ℝ) : EReal) := by
    intro s
    induction s using Finset.induction_on with
    | empty => simp
    | insert a s h e => rw [Finset.sum_insert h, Finset.sum_insert h, EReal.coe_add, e]
  exact key Finset.univ

theorem along_up (A : Fin 32 → Fin 8 → Fin 64 → ℝ) : along (up3 A) = up4 fun n h _ c => A n h c := by
  funext y
  rw [eq_ix4 y]
  rfl

theorem down_up (A : Fin 32 → Fin 8 → Fin 64 → ℝ) : down (up3 A) = up4 fun n h a _ => A n h a := by
  funext y
  rw [eq_ix4 y]
  rfl

theorem neg_up (A : Fin 32 → Fin 8 → Fin 64 → ℝ) : Host.negf (up3 A) = up3 fun n h c => -A n h c := rfl

theorem dot_up (T : Fin 32 → Fin 8 → Fin 64 → Fin 64 → ℝ) (A : Fin 32 → Fin 8 → Fin 64 → ℝ) :
    Host.dotGeneral dot_S32x8x64x64_S32x8x64_S32x8x64_3_2_2_n_01_01 none (up4 T) (up3 A) = up3 fun n h a => ∑ x, T n h a x * A n h x := by
  funext y
  pointwise
  show (∑ x, ((T (y 0) (y 1) (y 2) x : ℝ) : EReal) * ((A (y 0) (y 1) x : ℝ) : EReal)) = ((∑ x, T (y 0) (y 1) (y 2) x * A (y 0) (y 1) x : ℝ) : EReal)
  rw [coe_sum']
  exact Finset.sum_congr rfl fun x _ => (EReal.coe_mul _ _).symm

theorem stepV_up (T : Fin 32 → Fin 8 → Fin 64 → Fin 64 → ℝ) (w kk b v k : Fin 32 → Fin 8 → Fin 64 → ℝ) :
    stepV (up4 T) (up3 w) (up3 kk) (up3 b) (up3 v) (up3 k)
      = up4 fun n h a c => T n h a c * w n h c + (∑ x, T n h a x * -kk n h x) * b n h c + v n h a * k n h c := by
  rw [stepV, neg_up, dot_up, along_up, down_up, along_up, down_up, along_up]
  funext y
  show ((_ : ℝ) : EReal) * ((_ : ℝ) : EReal) + ((_ : ℝ) : EReal) * ((_ : ℝ) : EReal) + ((_ : ℝ) : EReal) * ((_ : ℝ) : EReal) = ((_ : ℝ) : EReal)
  rw [← EReal.coe_mul, ← EReal.coe_mul, ← EReal.coe_mul, ← EReal.coe_add, ← EReal.coe_add]

theorem rowAt_up (X : Fin 256 → Fin 32 → Fin 8 → Fin 64 → ℝ) (t : IVec S_ 32) (j : Fin 256) (h : (t (Shape.Idx.first h_S_)).toInt = j.val) :
    rowAt (upT X) t = up3 (X j) := by
  funext y
  rw [rowAt]
  pointwise
  refine congrArg (fun z : ℝ => (z : EReal)) ?_
  have e0 : Host.clampedStart S256x32x8x64 S1x32x8x64 rfl (fun k => BitVec.toInt
      (![t, constantI S_ 32 0#32, constantI S_ 32 0#32, constantI S_ 32 0#32] k (Shape.Idx.first h_S_))) 0 = j.val :=
    Host.clampedStart_of_le _ _ 0 j.val h (by have := j.isLt; show j.val + 1 ≤ 256; omega)
  have z (a : Fin 4) (ha : a ≠ 0) : Host.clampedStart S256x32x8x64 S1x32x8x64 rfl (fun k => BitVec.toInt
      (![t, constantI S_ 32 0#32, constantI S_ 32 0#32, constantI S_ 32 0#32] k (Shape.Idx.first h_S_))) a = 0 := by
    fin_cases a
    · exact absurd rfl ha
    · exact Host.clampedStart_of_le _ _ _ 0 rfl (by decide)
    · exact Host.clampedStart_of_le _ _ _ 0 rfl (by decide)
    · exact Host.clampedStart_of_le _ _ _ 0 rfl (by decide)
  have e1 := z 1 (by decide)
  have e2 := z 2 (by decide)
  have e3 := z 3 (by decide)
  simp only [ix4_0, ix4_1, ix4_2, ix4_3, e0, e1, e2, e3, Nat.zero_add]
  rfl

end Cert.ReferenceIdeal.Scan
-- ==== Proof.ScanRef.lean ====
/- The reference at the ideal numbers: on finite arguments its loop leaves, for every sequence and head, the states after 256 steps, in
   token order in one direction and in reverse order in the other. -/
module

public import proofs.«01_k».proof.Proof.ScanRefStep

@[expose] public section

set_option maxRecDepth 8192
set_option maxHeartbeats 1000000

noncomputable section

namespace Cert.ReferenceIdeal.Scan

open Cert.ReferenceIdeal Cert.ReferenceIdeal.Gen Cert.ReferenceIdeal.Value Cert.ScanMath
open Idealize.ShloMosaic Idealize.ShloMosaic.TcCoe Idealize.ShloMosaic.Pointwise Idealize.ShloMosaic.Tactic
open Idealize.SL Idealize.SL.RA Idealize.SL.BI
open Idealize.SL.BI.BIBase Idealize.SL.BI.Laws Idealize.SL.ProofMode Idealize.SL.Sem
open Idealize.ShloMosaic.StableHlo

section
variable {F : FTy → Type} [FloatOps F] (m : (ℓ : Loc nD τ sig) → Buf (Elt F) ℓ)

/-- The rows of all sequences, step by step. -/
def perStep (x : FVec F S8192x512 .f32) : FVec F S256x32x8x64 .f32 :=
  transpose S256x32x8x64 [1, 0, 2, 3] (shapeCast S32x256x8x64 x shapeCasts_S8192x512_S32x256x8x64) transposes_S32x256x8x64_S256x32x8x64_1_0_2_3

/-- An argument as the memory holds it. -/
abbrev argOf (c : Dev nD) (a : Ref sig .tc) : a.ty.Contents (Elt F) := m ((c.tc : Thread nD τ).loc a)

theorem entry_0 (c : Dev nD) : entryContents preI m c (Proc.devRef .tc main_v28_0) = Host.exp (perStep (argOf m c main_arg4)) := by
  simp only [entryContents, afterL_cons, afterL_nil]
  after_reads_simp
  rfl
theorem entry_1 (c : Dev nD) : entryContents preI m c (Proc.devRef .tc main_v28_1) = perStep (argOf m c main_arg6) := by
  simp only [entryContents, afterL_cons, afterL_nil]
  after_reads_simp
  rfl
theorem entry_2 (c : Dev nD) : entryContents preI m c (Proc.devRef .tc main_v28_2) = perStep (argOf m c main_arg1) := by
  simp only [entryContents, afterL_cons, afterL_nil]
  after_reads_simp
  rfl
theorem entry_3 (c : Dev nD) : entryContents preI m c (Proc.devRef .tc main_v28_3) = perStep (argOf m c main_arg2) := by
  simp only [entryContents, afterL_cons, afterL_nil]
  after_reads_simp
  rfl
theorem entry_4 (c : Dev nD) : entryContents preI m c (Proc.devRef .tc main_v28_4) = perStep (argOf m c main_arg8) := by
  simp only [entryContents, afterL_cons, afterL_nil]
  after_reads_simp
  rfl
theorem entry_5 (c : Dev nD) : entryContents preI m c (Proc.devRef .tc main_v28_5) = Host.reverse [0] (Host.exp (perStep (argOf m c main_arg5))) := by
  simp only [entryContents, afterL_cons, afterL_nil]
  after_reads_simp
  rfl
theorem entry_6 (c : Dev nD) : entryContents preI m c (Proc.devRef .tc main_v28_6) = Host.reverse [0] (perStep (argOf m c main_arg7)) := by
  simp only [entryContents, afterL_cons, afterL_nil]
  after_reads_simp
  rfl
theorem entry_7 (c : Dev nD) : entryContents preI m c (Proc.devRef .tc main_v28_7) = Host.reverse [0] (perStep (argOf m c main_arg1)) := by
  simp only [entryContents, afterL_cons, afterL_nil]
  after_reads_simp
  rfl
theorem entry_8 (c : Dev nD) : entryContents preI m c (Proc.devRef .tc main_v28_8) = Host.reverse [0] (perStep (argOf m c main_arg2)) := by
  simp only [entryContents, afterL_cons, afterL_nil]
  after_reads_simp
  rfl
theorem entry_9 (c : Dev nD) : entryContents preI m c (Proc.devRef .tc main_v28_9) = Host.reverse [0] (perStep (argOf m c main_arg9)) := by
  simp only [entryContents, afterL_cons, afterL_nil]
  after_reads_simp
  rfl
theorem entry_11 (c : Dev nD) : entryContents preI m c (Proc.devRef .tc main_v28_11)
    = broadcastInDim S32x8x64x64 ![] bcast_S_S32x8x64x64 (constant S_ .f32 0#32) := by
  simp only [entryContents, afterL_cons, afterL_nil]
  after_reads_simp
  rfl
theorem entry_12 (c : Dev nD) : entryContents preI m c (Proc.devRef .tc main_v28_12)
    = broadcastInDim S32x8x64x64 ![] bcast_S_S32x8x64x64 (constant S_ .f32 0#32) := by
  simp only [entryContents, afterL_cons, afterL_nil]
  after_reads_simp
  rfl

/-- The argument arrays of the loop stay, and the counter counts. -/
theorem iter_keeps (c : Dev nD) (r : Ref sig .tc) (h : ∀ V0 : Valuation τ sig (Elt F), STEP V0 (Proc.devRef .tc r) = V0 (Proc.devRef .tc r)) (k : ℕ) :
    (STEP^[k] (entryContents preI m c)) (Proc.devRef .tc r) = entryContents preI m c (Proc.devRef .tc r) := by
  induction k with
  | zero => rfl
  | succ k ih => rw [Function.iterate_succ_apply', h, ih]

theorem iter_counts (c : Dev nD) (k : ℕ) :
    (STEP^[k] (entryContents preI m c)) (Proc.devRef .tc main_v28_10) = fun _ => BitVec.ofNat 32 k := by
  induction k with
  | zero => exact ctr_entry m c
  | succ k ih =>
    rw [Function.iterate_succ_apply', STEP_main_v28_10, step_main_v28_10, ih]
    funext j
    show BitVec.ofNat 32 k + 1#32 = BitVec.ofNat 32 (k + 1)
    exact (BitVec.ofNat_add k 1).symm
end

/-- The arguments over the reals, one row per token. -/
abbrev Tall := Fin 8192 → Fin 512 → ℝ

/-- An argument of real numbers at the ideal numbers. -/
def upA (A : Tall) : FVec Ideal S8192x512 .f32 := fun y => ((A (y 0) (y 1) : ℝ) : EReal)

/-- Its rows step by step, in the direction's order. -/
def stepRows (d : Bool) (A : Tall) (t : Fin 256) (n : Fin 32) (h : Fin 8) (c : Fin 64) : ℝ :=
  A ⟨256 * n.val + (if d then 255 - t.val else t.val), by split <;> omega⟩ ⟨64 * h.val + c.val, by omega⟩

theorem perStep_up (A : Tall) : perStep (upA A) = upT (stepRows false A) := by
  funext y
  obtain ⟨t, n, h, c, rfl⟩ : ∃ t n h c, y = ix4 t n h c := ⟨y 0, y 1, y 2, y 3, eq_ix4 y⟩
  rw [perStep, Idealize.ShloMosaic.transpose_apply _ _ _ _ (ix4 n t h c) fun b => by
      match b with | ⟨0, _⟩ => rfl | ⟨1, _⟩ => rfl | ⟨2, _⟩ => rfl | ⟨3, _⟩ => rfl,
    Idealize.ShloMosaic.shapeCast_apply _ _ _ (ix2 (⟨256 * n.val + t.val, by omega⟩ : Fin 8192) (⟨64 * h.val + c.val, by omega⟩ : Fin 512)) (by
      rw [Shape.rowMajor_val_four, Shape.rowMajor_val_two]
      show (256 * n.val + t.val) * 512 + (64 * h.val + c.val) = ((n.val * 256 + t.val) * 8 + h.val) * 64 + c.val
      omega)]
  rfl

theorem reverse_upT (X : Fin 256 → Fin 32 → Fin 8 → Fin 64 → ℝ) : Host.reverse [0] (upT X) = upT fun t => X t.rev := by
  funext y
  obtain ⟨t, n, h, c, rfl⟩ : ∃ t n h c, y = ix4 t n h c := ⟨y 0, y 1, y 2, y 3, eq_ix4 y⟩
  pointwise
  rfl

theorem stepRows_rev (A : Tall) (t : Fin 256) : stepRows false A t.rev = stepRows true A t := by
  funext n h c
  refine congrArg (fun i => A i _) (Fin.ext ?_)
  show 256 * n.val + (256 - (t.val + 1)) = 256 * n.val + (255 - t.val)
  omega

theorem reverse_up (A : Tall) : Host.reverse [0] (upT (stepRows false A)) = upT (stepRows true A) :=
  (reverse_upT _).trans (congrArg upT (funext fun t => stepRows_rev A t))

theorem reverse_exp_up (A : Tall) : Host.reverse [0] (upT fun t n h c => Real.exp (stepRows false A t n h c))
    = upT fun t n h c => Real.exp (stepRows true A t n h c) :=
  (reverse_upT _).trans (congrArg upT (funext fun t => funext fun n => funext fun h => funext fun c =>
    congrArg Real.exp (congrFun (congrFun (congrFun (stepRows_rev A t) n) h) c)))

theorem exp_up (X : Fin 256 → Fin 32 → Fin 8 → Fin 64 → ℝ) : Host.exp (upT X) = upT fun t n h c => Real.exp (X t n h c) := rfl

theorem zero_up : (broadcastInDim S32x8x64x64 ![] bcast_S_S32x8x64x64 (constant S_ .f32 0#32) : FVec Ideal S32x8x64x64 .f32)
    = up4 fun _ _ _ _ => 0 := by
  funext y
  exact Ideal.ofBits_zero_f32

/-- One head's rows in order. -/
def headSeq (d : Bool) (A : Tall) (n : Fin 32) (h : Fin 8) : ℕ → Fin 64 → ℝ := fun t c => stepRows d A ⟨t % 256, by omega⟩ n h c

/-- The states after `t` steps. -/
def states (d : Bool) (lw kk b k v : Tall) (t : ℕ) (n : Fin 32) (h : Fin 8) (a c : Fin 64) : ℝ :=
  steps (headSeq d lw n h) (headSeq d kk n h) (headSeq d b n h) (headSeq d k n h) (headSeq d v n h) (fun _ _ => 0) t a c

theorem states_succ (d : Bool) (lw kk b k v : Tall) (t : ℕ) (ht : t < 256) :
    stepV (up4 (states d lw kk b k v t)) (up3 fun n h c => Real.exp (stepRows d lw ⟨t, ht⟩ n h c)) (up3 (stepRows d kk ⟨t, ht⟩))
        (up3 (stepRows d b ⟨t, ht⟩)) (up3 (stepRows d v ⟨t, ht⟩)) (up3 (stepRows d k ⟨t, ht⟩))
      = up4 (states d lw kk b k v (t + 1)) := by
  rw [stepV_up]
  have e : (⟨t % 256, by omega⟩ : Fin 256) = ⟨t, ht⟩ := Fin.ext (Nat.mod_eq_of_lt ht)
  refine congrArg up4 (funext fun n => funext fun h => funext fun a => funext fun c => ?_)
  show _ = steps _ _ _ _ _ _ t a c * Real.exp (stepRows d lw ⟨t % 256, _⟩ n h c)
    + (∑ x, steps _ _ _ _ _ _ t a x * -(stepRows d kk ⟨t % 256, _⟩ n h x)) * stepRows d b ⟨t % 256, _⟩ n h c
    + stepRows d v ⟨t % 256, _⟩ n h a * stepRows d k ⟨t % 256, _⟩ n h c
  rw [e]
  rfl

section
variable (m : (ℓ : Loc nD τ sig) → Buf (Elt Ideal) ℓ)

theorem row_of {c : Dev nD} {X : FVec Ideal S256x32x8x64 .f32} {Y : Fin 256 → Fin 32 → Fin 8 → Fin 64 → ℝ}
    (hX : X = upT Y) (t : ℕ) (ht : t < 256) :
    rowAt X ((STEP^[t] (entryContents preI m c)) (Proc.devRef .tc main_v28_10)) = up3 (Y ⟨t, ht⟩) := by
  subst hX
  refine rowAt_up Y _ ⟨t, ht⟩ ?_
  rw [iter_counts]
  show (BitVec.ofNat 32 t).toInt = (t : Int)
  exact (by decide +kernel : ∀ t : Fin 256, (BitVec.ofNat 32 t.val).toInt = (t.val : Int)) ⟨t, ht⟩

theorem ref_fwd (c : Dev nD) {lw kk b k v : Tall} (hlw : argOf m c main_arg4 = upA lw) (hkk : argOf m c main_arg2 = upA kk)
    (hb : argOf m c main_arg8 = upA b) (hk : argOf m c main_arg6 = upA k) (hv : argOf m c main_arg1 = upA v) (t : ℕ) (ht : t ≤ 256) :
    (STEP^[t] (entryContents preI m c)) (Proc.devRef .tc main_v28_11) = up4 (states false lw kk b k v t) := by
  induction t with
  | zero => exact (entry_11 m c).trans zero_up
  | succ t ih =>
    rw [Function.iterate_succ_apply', STEP_main_v28_11, stepF_eq, ih (by omega),
      iter_keeps m c main_v28_0 STEP_main_v28_0, iter_keeps m c main_v28_1 STEP_main_v28_1, iter_keeps m c main_v28_2 STEP_main_v28_2,
      iter_keeps m c main_v28_3 STEP_main_v28_3, iter_keeps m c main_v28_4 STEP_main_v28_4,
      entry_0, entry_1, entry_2, entry_3, entry_4, hlw, hkk, hb, hk, hv, perStep_up, perStep_up, perStep_up, perStep_up, perStep_up, exp_up,
      row_of m rfl t ht, row_of m rfl t ht, row_of m rfl t ht, row_of m rfl t ht, row_of m rfl t ht]
    exact states_succ false lw kk b k v t ht

theorem ref_bwd (c : Dev nD) {lw kk b k v : Tall} (hlw : argOf m c main_arg5 = upA lw) (hkk : argOf m c main_arg2 = upA kk)
    (hb : argOf m c main_arg9 = upA b) (hk : argOf m c main_arg7 = upA k) (hv : argOf m c main_arg1 = upA v) (t : ℕ) (ht : t ≤ 256) :
    (STEP^[t] (entryContents preI m c)) (Proc.devRef .tc main_v28_12) = up4 (states true lw kk b k v t) := by
  induction t with
  | zero => exact (entry_12 m c).trans zero_up
  | succ t ih =>
    rw [Function.iterate_succ_apply', STEP_main_v28_12, stepB_eq, ih (by omega),
      iter_keeps m c main_v28_5 STEP_main_v28_5, iter_keeps m c main_v28_6 STEP_main_v28_6, iter_keeps m c main_v28_7 STEP_main_v28_7,
      iter_keeps m c main_v28_8 STEP_main_v28_8, iter_keeps m c main_v28_9 STEP_main_v28_9,
      entry_5, entry_6, entry_7, entry_8, entry_9, hlw, hkk, hb, hk, hv, perStep_up, perStep_up, perStep_up, perStep_up, perStep_up, exp_up,
      reverse_exp_up, reverse_up, reverse_up, reverse_up, reverse_up,
      row_of m rfl t ht, row_of m rfl t ht, row_of m rfl t ht, row_of m rfl t ht, row_of m rfl t ht]
    exact states_succ true lw kk b k v t ht
end

end Cert.ReferenceIdeal.Scan
-- ==== Proof.ScanValue.lean ====
/- The scan's two results, kernel and reference, as one term: the states after a sequence's 256 steps. -/
module

public import proofs.«01_k».proof.Proof.ScanTail
public import proofs.«01_k».proof.Proof.ScanRef

@[expose] public section

set_option maxRecDepth 8192

noncomputable section

namespace Cert.Proof

open Cert.KernelIdeal.Scan Cert.ScanMath
open Cert.ReferenceIdeal.Scan (headSeq states up4)
open Idealize.ShloMosaic Idealize.ShloMosaic.TcCoe Idealize.ShloMosaic.Pointwise Idealize.SL.Sem

/-- The states of every sequence and head at the end. -/
def endStates (d : Bool) (lw kk b k v : Long) : FVec Ideal Cert.KernelIdeal.S32x1x8x64x64 .f32 := fun y =>
  ((states d lw kk b k v 256 (y 0) (y 2) (y 3) (y 4) : ℝ) : EReal)

/-- A grid point's rows for a pair's head are the sequence's rows for that head. -/
theorem tok_block (d : Bool) (A : Long) (n : Fin 32) (p : Fin 4) (q : Fin 2) (h : Fin 8) (hh : h.val = 2 * p.val + q.val) (t : ℕ) (ht : t < 256) :
    tok d (blockOf A (n.val / 2)) ⟨n.val % 2, by omega⟩ p q t = headSeq d A n h t := by
  funext c
  have hn := n.isLt
  have hc := c.isLt
  unfold tok blockOf headSeq Cert.ReferenceIdeal.Scan.stepRows
  refine congr (congrArg A (Fin.ext ?_)) (Fin.ext ?_)
  · cases d
    · show (n.val / 2 * 512 + (256 * (n.val % 2) + t % 256)) % 8192 = 256 * n.val + t % 256
      omega
    · show (n.val / 2 * 512 + (256 * (n.val % 2) + (255 - t))) % 8192 = 256 * n.val + (255 - t % 256)
      omega
  · show 128 * p.val + (64 * q.val + c.val) = 64 * h.val + c.val
    omega

/-- What the kernel leaves, taken apart into heads, is the states at the end. -/
theorem taken_left (d : Bool) (lw kk b k v : Long) : taken (leftAll d lw kk b k v) = endStates d lw kk b k v := by
  funext y
  obtain ⟨n, z, h, a, c, rfl⟩ : ∃ (n : Fin 32) (z : Fin 1) (h : Fin 8) (a c : Fin 64), y = ix5 n z h a c := ⟨y 0, y 1, y 2, y 3, y 4, eq_ix5 y⟩
  have hh : h.val = 2 * (h.val / 2) + h.val % 2 := by omega
  refine (taken_apply _ n z ⟨h.val / 2, by omega⟩ ⟨h.val % 2, by omega⟩ h hh a c).trans ?_
  show ((runS d (blockOf lw (n.val / 2)) (blockOf kk (n.val / 2)) (blockOf b (n.val / 2)) (blockOf k (n.val / 2)) (blockOf v (n.val / 2))
      (fun _ _ => 0) 4 ⟨n.val % 2, by omega⟩ ⟨h.val / 2, by omega⟩ (at2 ⟨h.val % 2, by omega⟩ a) (at2 ⟨h.val % 2, by omega⟩ c) : ℝ) : EReal)
    = ((states d lw kk b k v 256 n h a c : ℝ) : EReal)
  rw [runS_steps d _ _ _ _ _ _ _ _ 4 le_rfl]
  refine congrArg Real.toEReal ?_
  unfold states
  have key := fun (A : Long) t (ht : t < 256) => tok_block d A n ⟨h.val / 2, by omega⟩ ⟨h.val % 2, by omega⟩ h hh t ht
  exact congrFun (congrFun (steps_congr (fun _ _ => 0) 256 (key lw) (key kk) (key b) (key k) (key v)) a) c

/-- What the reference leaves, with its unit axis, is the states at the end. -/
theorem lifted_states (d : Bool) (lw kk b k v : Long)
    (hb : Cert.ReferenceIdeal.S32x8x64x64.BroadcastsInDim Cert.ReferenceIdeal.S32x1x8x64x64 ![0, 2, 3, 4]) :
    broadcastInDim Cert.ReferenceIdeal.S32x1x8x64x64 ![0, 2, 3, 4] hb (up4 (states d lw kk b k v 256)) = endStates d lw kk b k v := by
  funext y
  refine (broadcastInDim_apply (s := Cert.ReferenceIdeal.S32x8x64x64) _ hb _ y (ix4 (y 0) (y 2) (y 3) (y 4)) fun a => ?_).trans rfl
  match a with | ⟨0, _⟩ => rfl | ⟨1, _⟩ => rfl | ⟨2, _⟩ => rfl | ⟨3, _⟩ => rfl

end Cert.Proof

end
-- ==== Proof.ScanClaims.lean ====
/- The claims about the recurrent scan: the frames of the kernel over both number systems and of the reference, and the equality of
   the states that the two leave at the ideal numbers. -/
module

public import proofs.«01_k».proof.Defs
public import proofs.«01_k».proof.Proof.ScanPre
public import proofs.«01_k».proof.Proof.ScanValue
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem
open Cert.KernelIdeal.Scan (Long up)

/-- The scan's frame over the bit-exact numbers. -/
theorem scan_frame_bits : Cert.quiescent_Kernel (hKernel := Cert.Kernel.Gen.facts) := fun m ρ _ => Cert.Kernel.Gen.frame m ρ

/-- The scan's frame over the ideal numbers. -/
theorem scan_frame_ideal : Cert.quiescent_KernelIdeal (hKernelIdeal := Cert.KernelIdeal.Gen.facts) := fun m ρ _ => Cert.KernelIdeal.Gen.frame m ρ

/-- The same where the arguments are finite. -/
theorem scan_frame_ideal_pre : Cert.quiescent_KernelIdeal_pre_finite (hKernelIdeal := Cert.KernelIdeal.Gen.facts)
    (hPre_finite := Cert.Pre_finite.Gen.facts) := fun m ρ _ => Cert.KernelIdeal.Gen.frame m ρ

/-- The step-by-step reference's frame. -/
theorem scan_frame_ref : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same where the arguments are finite. -/
theorem scan_frame_ref_pre : Cert.quiescent_ReferenceIdeal_pre_finite (hReferenceIdeal := Cert.ReferenceIdeal.Gen.facts)
    (hPre_finite := Cert.Pre_finite.Gen.facts) := fun m ρ _ => scan_frame_ref m ρ trivial

/-- At the ideal numbers, from finite arguments, the chunked kernel and the step-by-step reference leave the same states in both directions. -/
theorem scan_value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' h hargs
  obtain ⟨⟨v, hv⟩, ⟨kk, hkk⟩, ⟨lwf, hlwf⟩, ⟨lwb, hlwb⟩, ⟨kf, hkf⟩, ⟨kb, hkb⟩, ⟨bf, hbf⟩, ⟨bb, hbb⟩⟩ :=
    Cert.Pre_finite.Scan.reals_of_pre _ _ _ _ _ _ _ _ _ _ (h 0)
  refine ⟨fun _ => endStates false lwf kk bf kf v, fun _ => endStates true lwb kk bb kb v, ?_, ?_⟩
  · refine (θ_run Cert.KernelIdeal.defs _ _).mono (fun r hr c => ?_)
      (θ_run_and (Cert.KernelIdeal.Scan.run_results m g) (Cert.KernelIdeal.Gen.unchanged m g))
    obtain rfl : c = 0 := Subsingleton.elim _ _
    refine ⟨(hr.1 0).1.trans ?_, (hr.1 0).2.trans ?_, hr.2 0⟩
    · exact (congrArg Cert.KernelIdeal.Scan.taken (Cert.KernelIdeal.Scan.final_11 m 0 hv hkk hlwf hkf hbf)).trans (taken_left false lwf kk bf kf v)
    · exact (congrArg Cert.KernelIdeal.Scan.taken (Cert.KernelIdeal.Scan.final_12 m 0 hv hkk hlwb hkb hbb)).trans (taken_left true lwb kk bb kb v)
  · refine (θ_run Cert.ReferenceIdeal.defs _ _).mono (fun r hr c => ⟨(hr c).1.trans ?_, (hr c).2.1.trans ?_, (hr c).2.2⟩)
      (Cert.ReferenceIdeal.Value.run (F := Ideal) m' g')
    · obtain rfl : c = 0 := Subsingleton.elim _ _
      obtain ⟨_, h1, h2, _, h4, h5, h6, h7, h8, h9⟩ := hargs 0
      refine Eq.trans ?_ (lifted_states false lwf kk bf kf v Cert.ReferenceIdeal.Gen.bcast_S32x8x64x64_S32x1x8x64x64_0_2_3_4)
      exact congrArg (broadcastInDim _ _ _) (Cert.ReferenceIdeal.Scan.ref_fwd m' 0 (h4.trans hlwf) (h2.trans hkk) (h8.trans hbf) (h6.trans hkf) (h1.trans hv) 256 le_rfl)
    · obtain rfl : c = 0 := Subsingleton.elim _ _
      obtain ⟨_, h1, h2, _, h4, h5, h6, h7, h8, h9⟩ := hargs 0
      refine Eq.trans ?_ (lifted_states true lwb kk bb kb v Cert.ReferenceIdeal.Gen.bcast_S32x8x64x64_S32x1x8x64x64_0_2_3_4)
      exact congrArg (broadcastInDim _ _ _) (Cert.ReferenceIdeal.Scan.ref_bwd m' 0 (h5.trans hlwb) (h2.trans hkk) (h9.trans hbb) (h7.trans hkb) (h1.trans hv) 256 le_rfl)

end Cert.Proof

end
-- ==== Proof.lean ====
/- The certificate's claims, assembled. -/
module

public import proofs.«01_k».proof.Defs
public import proofs.«01_k».proof.Proof.FfnClaims
public import proofs.«01_k».proof.Proof.PostClaims
public import proofs.«01_k».proof.Proof.ProjClaims
public import proofs.«01_k».proof.Proof.ScanClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite.Gen.facts, Cert.Pre_tables_ok.Gen.facts, Cert.Pre_y_finite.Gen.facts,
    scan_frame_bits, scan_frame_ideal, scan_frame_ideal_pre, scan_frame_ref, scan_frame_ref_pre,
    ffn_frame_bits, ffn_frame_ideal, ffn_frame_ref, ffn_frame_ref_pre,
    proj_frame_bits, proj_frame_ideal, proj_frame_ref,
    post_frame_bits, post_frame_ideal, post_frame_ideal_pre, post_frame_ref, post_frame_ref_pre,
    trivial, scan_value, trivial, ffn_value, trivial, proj_value, trivial, post_value⟩

end Cert.Proof

end
